-- ==== Defs.lean ====
def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_RefDaIdeal (m : (ℓ : Loc Cert.RefDaIdeal.nD Cert.RefDaIdeal.τ Cert.RefDaIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_RefDhIdeal (m : (ℓ : Loc Cert.RefDhIdeal.nD Cert.RefDhIdeal.τ Cert.RefDhIdeal.sig) → Buf (Elt Ideal) ℓ) : Prop :=
  True

def Pre_Grad (m : (ℓ : Loc Cert.Grad.nD Cert.Grad.τ Cert.Grad.sig) → Buf (Elt Bits) ℓ) : Prop :=
  True

def Pre_GradIdeal (m : (ℓ : Loc Cert.GradIdeal.nD Cert.GradIdeal.τ Cert.GradIdeal.sig) → Buf (Elt Ideal) ℓ) : Prop :=
  True

def Pre_RefGradIdeal (m : (ℓ : Loc Cert.RefGradIdeal.nD Cert.RefGradIdeal.τ Cert.RefGradIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_RefDwInIdeal (m : (ℓ : Loc Cert.RefDwInIdeal.nD Cert.RefDwInIdeal.τ Cert.RefDwInIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_RefDwOutIdeal (m : (ℓ : Loc Cert.RefDwOutIdeal.nD Cert.RefDwOutIdeal.τ Cert.RefDwOutIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_RefDwQkvIdeal (m : (ℓ : Loc Cert.RefDwQkvIdeal.nD Cert.RefDwQkvIdeal.τ Cert.RefDwQkvIdeal.sig) → Buf (Elt Ideal) ℓ) : Prop :=
  True

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2)
      ∧ r.2.mem ((c.tc : Thread Cert.Da.nD Cert.Da.τ).loc Cert.Da.main_arg3) = m ((c.tc : Thread Cert.Da.nD Cert.Da.τ).loc Cert.Da.main_arg3)
      ∧ r.2.mem ((c.tc : Thread Cert.Da.nD Cert.Da.τ).loc Cert.Da.main_arg4) = m ((c.tc : Thread Cert.Da.nD Cert.Da.τ).loc Cert.Da.main_arg4)
      ∧ r.2.mem ((c.tc : Thread Cert.Da.nD Cert.Da.τ).loc Cert.Da.main_arg5) = m ((c.tc : Thread Cert.Da.nD Cert.Da.τ).loc Cert.Da.main_arg5))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
      ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
      ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
      ∧ r.2.mem ((c.tc : Thread Cert.DaIdeal.nD Cert.DaIdeal.τ).loc Cert.DaIdeal.main_arg5) = m ((c.tc : Thread Cert.DaIdeal.nD Cert.DaIdeal.τ).loc Cert.DaIdeal.main_arg5))
      ∧ r.2.sem = fun _ => 0)

def quiescent_RefDaIdeal [hRefDaIdeal : Cert.RefDaIdeal.Facts] : Prop :=
  ∀ (m : (ℓ : Loc Cert.RefDaIdeal.nD Cert.RefDaIdeal.τ Cert.RefDaIdeal.sig) → Buf (Elt Ideal) ℓ) (g : Dev Cert.RefDaIdeal.nD → PrngReg), Pre_RefDaIdeal m →
    θ_run (Cert.RefDaIdeal.defs (F := Ideal)) (onTc (τ := Cert.RefDaIdeal.τ) (Cert.RefDaIdeal.main (F := Ideal))) ⟨m, fun _ => 0, g⟩ (fun r => (∀ c : Dev Cert.RefDaIdeal.nD,
      r.2.mem ((c.tc : Thread Cert.RefDaIdeal.nD Cert.RefDaIdeal.τ).loc Cert.RefDaIdeal.main_arg0) = m ((c.tc : Thread Cert.RefDaIdeal.nD Cert.RefDaIdeal.τ).loc Cert.RefDaIdeal.main_arg0)
      ∧ r.2.mem ((c.tc : Thread Cert.RefDaIdeal.nD Cert.RefDaIdeal.τ).loc Cert.RefDaIdeal.main_arg1) = m ((c.tc : Thread Cert.RefDaIdeal.nD Cert.RefDaIdeal.τ).loc Cert.RefDaIdeal.main_arg1)
      ∧ r.2.mem ((c.tc : Thread Cert.RefDaIdeal.nD Cert.RefDaIdeal.τ).loc Cert.RefDaIdeal.main_arg2) = m ((c.tc : Thread Cert.RefDaIdeal.nD Cert.RefDaIdeal.τ).loc Cert.RefDaIdeal.main_arg2)
      ∧ r.2.mem ((c.tc : Thread Cert.RefDaIdeal.nD Cert.RefDaIdeal.τ).loc Cert.RefDaIdeal.main_arg3) = m ((c.tc : Thread Cert.RefDaIdeal.nD Cert.RefDaIdeal.τ).loc Cert.RefDaIdeal.main_arg3)
      ∧ r.2.mem ((c.tc : Thread Cert.RefDaIdeal.nD Cert.RefDaIdeal.τ).loc Cert.RefDaIdeal.main_arg4) = m ((c.tc : Thread Cert.RefDaIdeal.nD Cert.RefDaIdeal.τ).loc Cert.RefDaIdeal.main_arg4)
      ∧ r.2.mem ((c.tc : Thread Cert.RefDaIdeal.nD Cert.RefDaIdeal.τ).loc Cert.RefDaIdeal.main_arg5) = m ((c.tc : Thread Cert.RefDaIdeal.nD Cert.RefDaIdeal.τ).loc Cert.RefDaIdeal.main_arg5))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4)
      ∧ r.2.mem ((c.tc : Thread Cert.Dh.nD Cert.Dh.τ).loc Cert.Dh.main_arg5) = m ((c.tc : Thread Cert.Dh.nD Cert.Dh.τ).loc Cert.Dh.main_arg5)
      ∧ r.2.mem ((c.tc : Thread Cert.Dh.nD Cert.Dh.τ).loc Cert.Dh.main_arg6) = m ((c.tc : Thread Cert.Dh.nD Cert.Dh.τ).loc Cert.Dh.main_arg6)
      ∧ r.2.mem ((c.tc : Thread Cert.Dh.nD Cert.Dh.τ).loc Cert.Dh.main_arg7) = m ((c.tc : Thread Cert.Dh.nD Cert.Dh.τ).loc Cert.Dh.main_arg7)
      ∧ r.2.mem ((c.tc : Thread Cert.Dh.nD Cert.Dh.τ).loc Cert.Dh.main_arg8) = m ((c.tc : Thread Cert.Dh.nD Cert.Dh.τ).loc Cert.Dh.main_arg8)
      ∧ r.2.mem ((c.tc : Thread Cert.Dh.nD Cert.Dh.τ).loc Cert.Dh.main_arg9) = m ((c.tc : Thread Cert.Dh.nD Cert.Dh.τ).loc Cert.Dh.main_arg9)
      ∧ r.2.mem ((c.tc : Thread Cert.Dh.nD Cert.Dh.τ).loc Cert.Dh.main_arg10) = m ((c.tc : Thread Cert.Dh.nD Cert.Dh.τ).loc Cert.Dh.main_arg10)
      ∧ r.2.mem ((c.tc : Thread Cert.Dh.nD Cert.Dh.τ).loc Cert.Dh.main_arg11) = m ((c.tc : Thread Cert.Dh.nD Cert.Dh.τ).loc Cert.Dh.main_arg11)
      ∧ r.2.mem ((c.tc : Thread Cert.Dh.nD Cert.Dh.τ).loc Cert.Dh.main_arg12) = m ((c.tc : Thread Cert.Dh.nD Cert.Dh.τ).loc Cert.Dh.main_arg12)
      ∧ r.2.mem ((c.tc : Thread Cert.Dh.nD Cert.Dh.τ).loc Cert.Dh.main_arg13) = m ((c.tc : Thread Cert.Dh.nD Cert.Dh.τ).loc Cert.Dh.main_arg13))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
      ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
      ∧ r.2.mem ((c.tc : Thread Cert.DhIdeal.nD Cert.DhIdeal.τ).loc Cert.DhIdeal.main_arg7) = m ((c.tc : Thread Cert.DhIdeal.nD Cert.DhIdeal.τ).loc Cert.DhIdeal.main_arg7)
      ∧ r.2.mem ((c.tc : Thread Cert.DhIdeal.nD Cert.DhIdeal.τ).loc Cert.DhIdeal.main_arg8) = m ((c.tc : Thread Cert.DhIdeal.nD Cert.DhIdeal.τ).loc Cert.DhIdeal.main_arg8)
      ∧ r.2.mem ((c.tc : Thread Cert.DhIdeal.nD Cert.DhIdeal.τ).loc Cert.DhIdeal.main_arg9) = m ((c.tc : Thread Cert.DhIdeal.nD Cert.DhIdeal.τ).loc Cert.DhIdeal.main_arg9)
      ∧ r.2.mem ((c.tc : Thread Cert.DhIdeal.nD Cert.DhIdeal.τ).loc Cert.DhIdeal.main_arg10) = m ((c.tc : Thread Cert.DhIdeal.nD Cert.DhIdeal.τ).loc Cert.DhIdeal.main_arg10)
      ∧ r.2.mem ((c.tc : Thread Cert.DhIdeal.nD Cert.DhIdeal.τ).loc Cert.DhIdeal.main_arg11) = m ((c.tc : Thread Cert.DhIdeal.nD Cert.DhIdeal.τ).loc Cert.DhIdeal.main_arg11)
      ∧ r.2.mem ((c.tc : Thread Cert.DhIdeal.nD Cert.DhIdeal.τ).loc Cert.DhIdeal.main_arg12) = m ((c.tc : Thread Cert.DhIdeal.nD Cert.DhIdeal.τ).loc Cert.DhIdeal.main_arg12)
      ∧ r.2.mem ((c.tc : Thread Cert.DhIdeal.nD Cert.DhIdeal.τ).loc Cert.DhIdeal.main_arg13) = m ((c.tc : Thread Cert.DhIdeal.nD Cert.DhIdeal.τ).loc Cert.DhIdeal.main_arg13))
      ∧ r.2.sem = fun _ => 0)

def quiescent_RefDhIdeal [hRefDhIdeal : Cert.RefDhIdeal.Facts] : Prop :=
  ∀ (m : (ℓ : Loc Cert.RefDhIdeal.nD Cert.RefDhIdeal.τ Cert.RefDhIdeal.sig) → Buf (Elt Ideal) ℓ) (g : Dev Cert.RefDhIdeal.nD → PrngReg), Pre_RefDhIdeal m →
    θ_run (Cert.RefDhIdeal.defs (F := Ideal)) (onTc (τ := Cert.RefDhIdeal.τ) (Cert.RefDhIdeal.main (F := Ideal))) ⟨m, fun _ => 0, g⟩ (fun r => (∀ c : Dev Cert.RefDhIdeal.nD,
      r.2.mem ((c.tc : Thread Cert.RefDhIdeal.nD Cert.RefDhIdeal.τ).loc Cert.RefDhIdeal.main_arg0) = m ((c.tc : Thread Cert.RefDhIdeal.nD Cert.RefDhIdeal.τ).loc Cert.RefDhIdeal.main_arg0)
      ∧ r.2.mem ((c.tc : Thread Cert.RefDhIdeal.nD Cert.RefDhIdeal.τ).loc Cert.RefDhIdeal.main_arg1) = m ((c.tc : Thread Cert.RefDhIdeal.nD Cert.RefDhIdeal.τ).loc Cert.RefDhIdeal.main_arg1)
      ∧ r.2.mem ((c.tc : Thread Cert.RefDhIdeal.nD Cert.RefDhIdeal.τ).loc Cert.RefDhIdeal.main_arg2) = m ((c.tc : Thread Cert.RefDhIdeal.nD Cert.RefDhIdeal.τ).loc Cert.RefDhIdeal.main_arg2)
      ∧ r.2.mem ((c.tc : Thread Cert.RefDhIdeal.nD Cert.RefDhIdeal.τ).loc Cert.RefDhIdeal.main_arg3) = m ((c.tc : Thread Cert.RefDhIdeal.nD Cert.RefDhIdeal.τ).loc Cert.RefDhIdeal.main_arg3)
      ∧ r.2.mem ((c.tc : Thread Cert.RefDhIdeal.nD Cert.RefDhIdeal.τ).loc Cert.RefDhIdeal.main_arg4) = m ((c.tc : Thread Cert.RefDhIdeal.nD Cert.RefDhIdeal.τ).loc Cert.RefDhIdeal.main_arg4)
      ∧ r.2.mem ((c.tc : Thread Cert.RefDhIdeal.nD Cert.RefDhIdeal.τ).loc Cert.RefDhIdeal.main_arg5) = m ((c.tc : Thread Cert.RefDhIdeal.nD Cert.RefDhIdeal.τ).loc Cert.RefDhIdeal.main_arg5)
      ∧ r.2.mem ((c.tc : Thread Cert.RefDhIdeal.nD Cert.RefDhIdeal.τ).loc Cert.RefDhIdeal.main_arg6) = m ((c.tc : Thread Cert.RefDhIdeal.nD Cert.RefDhIdeal.τ).loc Cert.RefDhIdeal.main_arg6)
      ∧ r.2.mem ((c.tc : Thread Cert.RefDhIdeal.nD Cert.RefDhIdeal.τ).loc Cert.RefDhIdeal.main_arg7) = m ((c.tc : Thread Cert.RefDhIdeal.nD Cert.RefDhIdeal.τ).loc Cert.RefDhIdeal.main_arg7)
      ∧ r.2.mem ((c.tc : Thread Cert.RefDhIdeal.nD Cert.RefDhIdeal.τ).loc Cert.RefDhIdeal.main_arg8) = m ((c.tc : Thread Cert.RefDhIdeal.nD Cert.RefDhIdeal.τ).loc Cert.RefDhIdeal.main_arg8)
      ∧ r.2.mem ((c.tc : Thread Cert.RefDhIdeal.nD Cert.RefDhIdeal.τ).loc Cert.RefDhIdeal.main_arg9) = m ((c.tc : Thread Cert.RefDhIdeal.nD Cert.RefDhIdeal.τ).loc Cert.RefDhIdeal.main_arg9)
      ∧ r.2.mem ((c.tc : Thread Cert.RefDhIdeal.nD Cert.RefDhIdeal.τ).loc Cert.RefDhIdeal.main_arg10) = m ((c.tc : Thread Cert.RefDhIdeal.nD Cert.RefDhIdeal.τ).loc Cert.RefDhIdeal.main_arg10)
      ∧ r.2.mem ((c.tc : Thread Cert.RefDhIdeal.nD Cert.RefDhIdeal.τ).loc Cert.RefDhIdeal.main_arg11) = m ((c.tc : Thread Cert.RefDhIdeal.nD Cert.RefDhIdeal.τ).loc Cert.RefDhIdeal.main_arg11)
      ∧ r.2.mem ((c.tc : Thread Cert.RefDhIdeal.nD Cert.RefDhIdeal.τ).loc Cert.RefDhIdeal.main_arg12) = m ((c.tc : Thread Cert.RefDhIdeal.nD Cert.RefDhIdeal.τ).loc Cert.RefDhIdeal.main_arg12)
      ∧ r.2.mem ((c.tc : Thread Cert.RefDhIdeal.nD Cert.RefDhIdeal.τ).loc Cert.RefDhIdeal.main_arg13) = m ((c.tc : Thread Cert.RefDhIdeal.nD Cert.RefDhIdeal.τ).loc Cert.RefDhIdeal.main_arg13))
      ∧ r.2.sem = fun _ => 0)

def quiescent_Grad [hGrad : Cert.Grad.Facts] : Prop :=
  ∀ (m : (ℓ : Loc Cert.Grad.nD Cert.Grad.τ Cert.Grad.sig) → Buf (Elt Bits) ℓ) (g : Dev Cert.Grad.nD → PrngReg), Pre_Grad m →
    θ_run (Cert.Grad.defs (F := Bits)) (onTc (τ := Cert.Grad.τ) (Cert.Grad.main (F := Bits))) ⟨m, fun _ => 0, g⟩ (fun r => (∀ c : Dev Cert.Grad.nD,
      r.2.mem ((c.tc : Thread Cert.Grad.nD Cert.Grad.τ).loc Cert.Grad.main_arg0) = m ((c.tc : Thread Cert.Grad.nD Cert.Grad.τ).loc Cert.Grad.main_arg0)
      ∧ r.2.mem ((c.tc : Thread Cert.Grad.nD Cert.Grad.τ).loc Cert.Grad.main_arg1) = m ((c.tc : Thread Cert.Grad.nD Cert.Grad.τ).loc Cert.Grad.main_arg1)
      ∧ r.2.mem ((c.tc : Thread Cert.Grad.nD Cert.Grad.τ).loc Cert.Grad.main_arg2) = m ((c.tc : Thread Cert.Grad.nD Cert.Grad.τ).loc Cert.Grad.main_arg2)
      ∧ r.2.mem ((c.tc : Thread Cert.Grad.nD Cert.Grad.τ).loc Cert.Grad.main_arg3) = m ((c.tc : Thread Cert.Grad.nD Cert.Grad.τ).loc Cert.Grad.main_arg3)
      ∧ r.2.mem ((c.tc : Thread Cert.Grad.nD Cert.Grad.τ).loc Cert.Grad.main_arg4) = m ((c.tc : Thread Cert.Grad.nD Cert.Grad.τ).loc Cert.Grad.main_arg4)
      ∧ r.2.mem ((c.tc : Thread Cert.Grad.nD Cert.Grad.τ).loc Cert.Grad.main_arg5) = m ((c.tc : Thread Cert.Grad.nD Cert.Grad.τ).loc Cert.Grad.main_arg5)
      ∧ r.2.mem ((c.tc : Thread Cert.Grad.nD Cert.Grad.τ).loc Cert.Grad.main_arg6) = m ((c.tc : Thread Cert.Grad.nD Cert.Grad.τ).loc Cert.Grad.main_arg6)
      ∧ r.2.mem ((c.tc : Thread Cert.Grad.nD Cert.Grad.τ).loc Cert.Grad.main_arg7) = m ((c.tc : Thread Cert.Grad.nD Cert.Grad.τ).loc Cert.Grad.main_arg7)
      ∧ r.2.mem ((c.tc : Thread Cert.Grad.nD Cert.Grad.τ).loc Cert.Grad.main_arg8) = m ((c.tc : Thread Cert.Grad.nD Cert.Grad.τ).loc Cert.Grad.main_arg8)
      ∧ r.2.mem ((c.tc : Thread Cert.Grad.nD Cert.Grad.τ).loc Cert.Grad.main_arg9) = m ((c.tc : Thread Cert.Grad.nD Cert.Grad.τ).loc Cert.Grad.main_arg9)
      ∧ r.2.mem ((c.tc : Thread Cert.Grad.nD Cert.Grad.τ).loc Cert.Grad.main_arg10) = m ((c.tc : Thread Cert.Grad.nD Cert.Grad.τ).loc Cert.Grad.main_arg10)
      ∧ r.2.mem ((c.tc : Thread Cert.Grad.nD Cert.Grad.τ).loc Cert.Grad.main_arg11) = m ((c.tc : Thread Cert.Grad.nD Cert.Grad.τ).loc Cert.Grad.main_arg11)
      ∧ r.2.mem ((c.tc : Thread Cert.Grad.nD Cert.Grad.τ).loc Cert.Grad.main_arg12) = m ((c.tc : Thread Cert.Grad.nD Cert.Grad.τ).loc Cert.Grad.main_arg12)
      ∧ r.2.mem ((c.tc : Thread Cert.Grad.nD Cert.Grad.τ).loc Cert.Grad.main_arg13) = m ((c.tc : Thread Cert.Grad.nD Cert.Grad.τ).loc Cert.Grad.main_arg13)
      ∧ r.2.mem ((c.tc : Thread Cert.Grad.nD Cert.Grad.τ).loc Cert.Grad.main_arg14) = m ((c.tc : Thread Cert.Grad.nD Cert.Grad.τ).loc Cert.Grad.main_arg14)
      ∧ r.2.mem ((c.tc : Thread Cert.Grad.nD Cert.Grad.τ).loc Cert.Grad.main_arg15) = m ((c.tc : Thread Cert.Grad.nD Cert.Grad.τ).loc Cert.Grad.main_arg15))
      ∧ r.2.sem = fun _ => 0)

def quiescent_GradIdeal [hGradIdeal : Cert.GradIdeal.Facts] : Prop :=
  ∀ (m : (ℓ : Loc Cert.GradIdeal.nD Cert.GradIdeal.τ Cert.GradIdeal.sig) → Buf (Elt Ideal) ℓ) (g : Dev Cert.GradIdeal.nD → PrngReg), Pre_GradIdeal m →
    θ_run (Cert.GradIdeal.defs (F := Ideal)) (onTc (τ := Cert.GradIdeal.τ) (Cert.GradIdeal.main (F := Ideal))) ⟨m, fun _ => 0, g⟩ (fun r => (∀ c : Dev Cert.GradIdeal.nD,
      r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
      ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
      ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
      ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
      ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
      ∧ r.2.mem ((c.tc : Thread Cert.GradIdeal.nD Cert.GradIdeal.τ).loc Cert.GradIdeal.main_arg7) = m ((c.tc : Thread Cert.GradIdeal.nD Cert.GradIdeal.τ).loc Cert.GradIdeal.main_arg7)
      ∧ r.2.mem ((c.tc : Thread Cert.GradIdeal.nD Cert.GradIdeal.τ).loc Cert.GradIdeal.main_arg8) = m ((c.tc : Thread Cert.GradIdeal.nD Cert.GradIdeal.τ).loc Cert.GradIdeal.main_arg8)
      ∧ r.2.mem ((c.tc : Thread Cert.GradIdeal.nD Cert.GradIdeal.τ).loc Cert.GradIdeal.main_arg9) = m ((c.tc : Thread Cert.GradIdeal.nD Cert.GradIdeal.τ).loc Cert.GradIdeal.main_arg9)
      ∧ r.2.mem ((c.tc : Thread Cert.GradIdeal.nD Cert.GradIdeal.τ).loc Cert.GradIdeal.main_arg10) = m ((c.tc : Thread Cert.GradIdeal.nD Cert.GradIdeal.τ).loc Cert.GradIdeal.main_arg10)
      ∧ r.2.mem ((c.tc : Thread Cert.GradIdeal.nD Cert.GradIdeal.τ).loc Cert.GradIdeal.main_arg11) = m ((c.tc : Thread Cert.GradIdeal.nD Cert.GradIdeal.τ).loc Cert.GradIdeal.main_arg11)
      ∧ r.2.mem ((c.tc : Thread Cert.GradIdeal.nD Cert.GradIdeal.τ).loc Cert.GradIdeal.main_arg12) = m ((c.tc : Thread Cert.GradIdeal.nD Cert.GradIdeal.τ).loc Cert.GradIdeal.main_arg12)
      ∧ r.2.mem ((c.tc : Thread Cert.GradIdeal.nD Cert.GradIdeal.τ).loc Cert.GradIdeal.main_arg13) = m ((c.tc : Thread Cert.GradIdeal.nD Cert.GradIdeal.τ).loc Cert.GradIdeal.main_arg13)
      ∧ r.2.mem ((c.tc : Thread Cert.GradIdeal.nD Cert.GradIdeal.τ).loc Cert.GradIdeal.main_arg14) = m ((c.tc : Thread Cert.GradIdeal.nD Cert.GradIdeal.τ).loc Cert.GradIdeal.main_arg14)
      ∧ r.2.mem ((c.tc : Thread Cert.GradIdeal.nD Cert.GradIdeal.τ).loc Cert.GradIdeal.main_arg15) = m ((c.tc : Thread Cert.GradIdeal.nD Cert.GradIdeal.τ).loc Cert.GradIdeal.main_arg15))
      ∧ r.2.sem = fun _ => 0)

def quiescent_RefGradIdeal [hRefGradIdeal : Cert.RefGradIdeal.Facts] : Prop :=
  ∀ (m : (ℓ : Loc Cert.RefGradIdeal.nD Cert.RefGradIdeal.τ Cert.RefGradIdeal.sig) → Buf (Elt Ideal) ℓ) (g : Dev Cert.RefGradIdeal.nD → PrngReg), Pre_RefGradIdeal m →
    θ_run (Cert.RefGradIdeal.defs (F := Ideal)) (onTc (τ := Cert.RefGradIdeal.τ) (Cert.RefGradIdeal.main (F := Ideal))) ⟨m, fun _ => 0, g⟩ (fun r => (∀ c : Dev Cert.RefGradIdeal.nD,
      r.2.mem ((c.tc : Thread Cert.RefGradIdeal.nD Cert.RefGradIdeal.τ).loc Cert.RefGradIdeal.main_arg0) = m ((c.tc : Thread Cert.RefGradIdeal.nD Cert.RefGradIdeal.τ).loc Cert.RefGradIdeal.main_arg0)
      ∧ r.2.mem ((c.tc : Thread Cert.RefGradIdeal.nD Cert.RefGradIdeal.τ).loc Cert.RefGradIdeal.main_arg1) = m ((c.tc : Thread Cert.RefGradIdeal.nD Cert.RefGradIdeal.τ).loc Cert.RefGradIdeal.main_arg1)
      ∧ r.2.mem ((c.tc : Thread Cert.RefGradIdeal.nD Cert.RefGradIdeal.τ).loc Cert.RefGradIdeal.main_arg2) = m ((c.tc : Thread Cert.RefGradIdeal.nD Cert.RefGradIdeal.τ).loc Cert.RefGradIdeal.main_arg2)
      ∧ r.2.mem ((c.tc : Thread Cert.RefGradIdeal.nD Cert.RefGradIdeal.τ).loc Cert.RefGradIdeal.main_arg3) = m ((c.tc : Thread Cert.RefGradIdeal.nD Cert.RefGradIdeal.τ).loc Cert.RefGradIdeal.main_arg3)
      ∧ r.2.mem ((c.tc : Thread Cert.RefGradIdeal.nD Cert.RefGradIdeal.τ).loc Cert.RefGradIdeal.main_arg4) = m ((c.tc : Thread Cert.RefGradIdeal.nD Cert.RefGradIdeal.τ).loc Cert.RefGradIdeal.main_arg4)
      ∧ r.2.mem ((c.tc : Thread Cert.RefGradIdeal.nD Cert.RefGradIdeal.τ).loc Cert.RefGradIdeal.main_arg5) = m ((c.tc : Thread Cert.RefGradIdeal.nD Cert.RefGradIdeal.τ).loc Cert.RefGradIdeal.main_arg5)
      ∧ r.2.mem ((c.tc : Thread Cert.RefGradIdeal.nD Cert.RefGradIdeal.τ).loc Cert.RefGradIdeal.main_arg6) = m ((c.tc : Thread Cert.RefGradIdeal.nD Cert.RefGradIdeal.τ).loc Cert.RefGradIdeal.main_arg6)
      ∧ r.2.mem ((c.tc : Thread Cert.RefGradIdeal.nD Cert.RefGradIdeal.τ).loc Cert.RefGradIdeal.main_arg7) = m ((c.tc : Thread Cert.RefGradIdeal.nD Cert.RefGradIdeal.τ).loc Cert.RefGradIdeal.main_arg7)
      ∧ r.2.mem ((c.tc : Thread Cert.RefGradIdeal.nD Cert.RefGradIdeal.τ).loc Cert.RefGradIdeal.main_arg8) = m ((c.tc : Thread Cert.RefGradIdeal.nD Cert.RefGradIdeal.τ).loc Cert.RefGradIdeal.main_arg8)
      ∧ r.2.mem ((c.tc : Thread Cert.RefGradIdeal.nD Cert.RefGradIdeal.τ).loc Cert.RefGradIdeal.main_arg9) = m ((c.tc : Thread Cert.RefGradIdeal.nD Cert.RefGradIdeal.τ).loc Cert.RefGradIdeal.main_arg9)
      ∧ r.2.mem ((c.tc : Thread Cert.RefGradIdeal.nD Cert.RefGradIdeal.τ).loc Cert.RefGradIdeal.main_arg10) = m ((c.tc : Thread Cert.RefGradIdeal.nD Cert.RefGradIdeal.τ).loc Cert.RefGradIdeal.main_arg10)
      ∧ r.2.mem ((c.tc : Thread Cert.RefGradIdeal.nD Cert.RefGradIdeal.τ).loc Cert.RefGradIdeal.main_arg11) = m ((c.tc : Thread Cert.RefGradIdeal.nD Cert.RefGradIdeal.τ).loc Cert.RefGradIdeal.main_arg11)
      ∧ r.2.mem ((c.tc : Thread Cert.RefGradIdeal.nD Cert.RefGradIdeal.τ).loc Cert.RefGradIdeal.main_arg12) = m ((c.tc : Thread Cert.RefGradIdeal.nD Cert.RefGradIdeal.τ).loc Cert.RefGradIdeal.main_arg12)
      ∧ r.2.mem ((c.tc : Thread Cert.RefGradIdeal.nD Cert.RefGradIdeal.τ).loc Cert.RefGradIdeal.main_arg13) = m ((c.tc : Thread Cert.RefGradIdeal.nD Cert.RefGradIdeal.τ).loc Cert.RefGradIdeal.main_arg13)
      ∧ r.2.mem ((c.tc : Thread Cert.RefGradIdeal.nD Cert.RefGradIdeal.τ).loc Cert.RefGradIdeal.main_arg14) = m ((c.tc : Thread Cert.RefGradIdeal.nD Cert.RefGradIdeal.τ).loc Cert.RefGradIdeal.main_arg14)
      ∧ r.2.mem ((c.tc : Thread Cert.RefGradIdeal.nD Cert.RefGradIdeal.τ).loc Cert.RefGradIdeal.main_arg15) = m ((c.tc : Thread Cert.RefGradIdeal.nD Cert.RefGradIdeal.τ).loc Cert.RefGradIdeal.main_arg15))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3)
      ∧ r.2.mem ((c.tc : Thread Cert.DwIn.nD Cert.DwIn.τ).loc Cert.DwIn.main_arg4) = m ((c.tc : Thread Cert.DwIn.nD Cert.DwIn.τ).loc Cert.DwIn.main_arg4))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4))
      ∧ r.2.sem = fun _ => 0)

def quiescent_RefDwInIdeal [hRefDwInIdeal : Cert.RefDwInIdeal.Facts] : Prop :=
  ∀ (m : (ℓ : Loc Cert.RefDwInIdeal.nD Cert.RefDwInIdeal.τ Cert.RefDwInIdeal.sig) → Buf (Elt Ideal) ℓ) (g : Dev Cert.RefDwInIdeal.nD → PrngReg), Pre_RefDwInIdeal m →
    θ_run (Cert.RefDwInIdeal.defs (F := Ideal)) (onTc (τ := Cert.RefDwInIdeal.τ) (Cert.RefDwInIdeal.main (F := Ideal))) ⟨m, fun _ => 0, g⟩ (fun r => (∀ c : Dev Cert.RefDwInIdeal.nD,
      r.2.mem ((c.tc : Thread Cert.RefDwInIdeal.nD Cert.RefDwInIdeal.τ).loc Cert.RefDwInIdeal.main_arg0) = m ((c.tc : Thread Cert.RefDwInIdeal.nD Cert.RefDwInIdeal.τ).loc Cert.RefDwInIdeal.main_arg0)
      ∧ r.2.mem ((c.tc : Thread Cert.RefDwInIdeal.nD Cert.RefDwInIdeal.τ).loc Cert.RefDwInIdeal.main_arg1) = m ((c.tc : Thread Cert.RefDwInIdeal.nD Cert.RefDwInIdeal.τ).loc Cert.RefDwInIdeal.main_arg1)
      ∧ r.2.mem ((c.tc : Thread Cert.RefDwInIdeal.nD Cert.RefDwInIdeal.τ).loc Cert.RefDwInIdeal.main_arg2) = m ((c.tc : Thread Cert.RefDwInIdeal.nD Cert.RefDwInIdeal.τ).loc Cert.RefDwInIdeal.main_arg2)
      ∧ r.2.mem ((c.tc : Thread Cert.RefDwInIdeal.nD Cert.RefDwInIdeal.τ).loc Cert.RefDwInIdeal.main_arg3) = m ((c.tc : Thread Cert.RefDwInIdeal.nD Cert.RefDwInIdeal.τ).loc Cert.RefDwInIdeal.main_arg3)
      ∧ r.2.mem ((c.tc : Thread Cert.RefDwInIdeal.nD Cert.RefDwInIdeal.τ).loc Cert.RefDwInIdeal.main_arg4) = m ((c.tc : Thread Cert.RefDwInIdeal.nD Cert.RefDwInIdeal.τ).loc Cert.RefDwInIdeal.main_arg4))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2)
      ∧ r.2.mem ((c.tc : Thread Cert.DwOut.nD Cert.DwOut.τ).loc Cert.DwOut.main_arg3) = m ((c.tc : Thread Cert.DwOut.nD Cert.DwOut.τ).loc Cert.DwOut.main_arg3))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
      ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ r.2.sem = fun _ => 0)

def quiescent_RefDwOutIdeal [hRefDwOutIdeal : Cert.RefDwOutIdeal.Facts] : Prop :=
  ∀ (m : (ℓ : Loc Cert.RefDwOutIdeal.nD Cert.RefDwOutIdeal.τ Cert.RefDwOutIdeal.sig) → Buf (Elt Ideal) ℓ) (g : Dev Cert.RefDwOutIdeal.nD → PrngReg), Pre_RefDwOutIdeal m →
    θ_run (Cert.RefDwOutIdeal.defs (F := Ideal)) (onTc (τ := Cert.RefDwOutIdeal.τ) (Cert.RefDwOutIdeal.main (F := Ideal))) ⟨m, fun _ => 0, g⟩ (fun r => (∀ c : Dev Cert.RefDwOutIdeal.nD,
      r.2.mem ((c.tc : Thread Cert.RefDwOutIdeal.nD Cert.RefDwOutIdeal.τ).loc Cert.RefDwOutIdeal.main_arg0) = m ((c.tc : Thread Cert.RefDwOutIdeal.nD Cert.RefDwOutIdeal.τ).loc Cert.RefDwOutIdeal.main_arg0)
      ∧ r.2.mem ((c.tc : Thread Cert.RefDwOutIdeal.nD Cert.RefDwOutIdeal.τ).loc Cert.RefDwOutIdeal.main_arg1) = m ((c.tc : Thread Cert.RefDwOutIdeal.nD Cert.RefDwOutIdeal.τ).loc Cert.RefDwOutIdeal.main_arg1)
      ∧ r.2.mem ((c.tc : Thread Cert.RefDwOutIdeal.nD Cert.RefDwOutIdeal.τ).loc Cert.RefDwOutIdeal.main_arg2) = m ((c.tc : Thread Cert.RefDwOutIdeal.nD Cert.RefDwOutIdeal.τ).loc Cert.RefDwOutIdeal.main_arg2)
      ∧ r.2.mem ((c.tc : Thread Cert.RefDwOutIdeal.nD Cert.RefDwOutIdeal.τ).loc Cert.RefDwOutIdeal.main_arg3) = m ((c.tc : Thread Cert.RefDwOutIdeal.nD Cert.RefDwOutIdeal.τ).loc Cert.RefDwOutIdeal.main_arg3))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1)
      ∧ r.2.mem ((c.tc : Thread Cert.DwQkv.nD Cert.DwQkv.τ).loc Cert.DwQkv.main_arg2) = m ((c.tc : Thread Cert.DwQkv.nD Cert.DwQkv.τ).loc Cert.DwQkv.main_arg2)
      ∧ r.2.mem ((c.tc : Thread Cert.DwQkv.nD Cert.DwQkv.τ).loc Cert.DwQkv.main_arg3) = m ((c.tc : Thread Cert.DwQkv.nD Cert.DwQkv.τ).loc Cert.DwQkv.main_arg3)
      ∧ r.2.mem ((c.tc : Thread Cert.DwQkv.nD Cert.DwQkv.τ).loc Cert.DwQkv.main_arg4) = m ((c.tc : Thread Cert.DwQkv.nD Cert.DwQkv.τ).loc Cert.DwQkv.main_arg4))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
      ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
      ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3)
      ∧ r.2.mem ((c.tc : Thread Cert.DwQkvIdeal.nD Cert.DwQkvIdeal.τ).loc Cert.DwQkvIdeal.main_arg4) = m ((c.tc : Thread Cert.DwQkvIdeal.nD Cert.DwQkvIdeal.τ).loc Cert.DwQkvIdeal.main_arg4))
      ∧ r.2.sem = fun _ => 0)

def quiescent_RefDwQkvIdeal [hRefDwQkvIdeal : Cert.RefDwQkvIdeal.Facts] : Prop :=
  ∀ (m : (ℓ : Loc Cert.RefDwQkvIdeal.nD Cert.RefDwQkvIdeal.τ Cert.RefDwQkvIdeal.sig) → Buf (Elt Ideal) ℓ) (g : Dev Cert.RefDwQkvIdeal.nD → PrngReg), Pre_RefDwQkvIdeal m →
    θ_run (Cert.RefDwQkvIdeal.defs (F := Ideal)) (onTc (τ := Cert.RefDwQkvIdeal.τ) (Cert.RefDwQkvIdeal.main (F := Ideal))) ⟨m, fun _ => 0, g⟩ (fun r => (∀ c : Dev Cert.RefDwQkvIdeal.nD,
      r.2.mem ((c.tc : Thread Cert.RefDwQkvIdeal.nD Cert.RefDwQkvIdeal.τ).loc Cert.RefDwQkvIdeal.main_arg0) = m ((c.tc : Thread Cert.RefDwQkvIdeal.nD Cert.RefDwQkvIdeal.τ).loc Cert.RefDwQkvIdeal.main_arg0)
      ∧ r.2.mem ((c.tc : Thread Cert.RefDwQkvIdeal.nD Cert.RefDwQkvIdeal.τ).loc Cert.RefDwQkvIdeal.main_arg1) = m ((c.tc : Thread Cert.RefDwQkvIdeal.nD Cert.RefDwQkvIdeal.τ).loc Cert.RefDwQkvIdeal.main_arg1)
      ∧ r.2.mem ((c.tc : Thread Cert.RefDwQkvIdeal.nD Cert.RefDwQkvIdeal.τ).loc Cert.RefDwQkvIdeal.main_arg2) = m ((c.tc : Thread Cert.RefDwQkvIdeal.nD Cert.RefDwQkvIdeal.τ).loc Cert.RefDwQkvIdeal.main_arg2)
      ∧ r.2.mem ((c.tc : Thread Cert.RefDwQkvIdeal.nD Cert.RefDwQkvIdeal.τ).loc Cert.RefDwQkvIdeal.main_arg3) = m ((c.tc : Thread Cert.RefDwQkvIdeal.nD Cert.RefDwQkvIdeal.τ).loc Cert.RefDwQkvIdeal.main_arg3)
      ∧ r.2.mem ((c.tc : Thread Cert.RefDwQkvIdeal.nD Cert.RefDwQkvIdeal.τ).loc Cert.RefDwQkvIdeal.main_arg4) = m ((c.tc : Thread Cert.RefDwQkvIdeal.nD Cert.RefDwQkvIdeal.τ).loc Cert.RefDwQkvIdeal.main_arg4))
      ∧ r.2.sem = fun _ => 0)

def preserves_Da_DaIdeal : Prop :=
  True

def algebraic_DaIdeal_RefDaIdeal [hDaIdeal : Cert.DaIdeal.Facts] [hRefDaIdeal : Cert.RefDaIdeal.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.RefDaIdeal.nD Cert.RefDaIdeal.τ Cert.RefDaIdeal.sig) → Buf (Elt Ideal) ℓ) (g' : Dev Cert.RefDaIdeal.nD → PrngReg), Pre_DaIdeal m →
    (∀ c : Dev Cert.DaIdeal.nD,
      m' ((c.tc : Thread Cert.RefDaIdeal.nD Cert.RefDaIdeal.τ).loc Cert.RefDaIdeal.main_arg0) = m ((c.tc : Thread Cert.DaIdeal.nD Cert.DaIdeal.τ).loc Cert.DaIdeal.main_arg0)
      ∧ m' ((c.tc : Thread Cert.RefDaIdeal.nD Cert.RefDaIdeal.τ).loc Cert.RefDaIdeal.main_arg1) = m ((c.tc : Thread Cert.DaIdeal.nD Cert.DaIdeal.τ).loc Cert.DaIdeal.main_arg1)
      ∧ m' ((c.tc : Thread Cert.RefDaIdeal.nD Cert.RefDaIdeal.τ).loc Cert.RefDaIdeal.main_arg2) = m ((c.tc : Thread Cert.DaIdeal.nD Cert.DaIdeal.τ).loc Cert.DaIdeal.main_arg2)
      ∧ m' ((c.tc : Thread Cert.RefDaIdeal.nD Cert.RefDaIdeal.τ).loc Cert.RefDaIdeal.main_arg3) = m ((c.tc : Thread Cert.DaIdeal.nD Cert.DaIdeal.τ).loc Cert.DaIdeal.main_arg3)
      ∧ m' ((c.tc : Thread Cert.RefDaIdeal.nD Cert.RefDaIdeal.τ).loc Cert.RefDaIdeal.main_arg4) = m ((c.tc : Thread Cert.DaIdeal.nD Cert.DaIdeal.τ).loc Cert.DaIdeal.main_arg4)
      ∧ m' ((c.tc : Thread Cert.RefDaIdeal.nD Cert.RefDaIdeal.τ).loc Cert.RefDaIdeal.main_arg5) = m ((c.tc : Thread Cert.DaIdeal.nD Cert.DaIdeal.τ).loc Cert.DaIdeal.main_arg5)) →
    ∃ (v0 : (c : Dev Cert.DaIdeal.nD) → Buf (Elt Ideal) ((c.tc : Thread Cert.DaIdeal.nD Cert.DaIdeal.τ).loc Cert.DaIdeal.main_v5_0)) (v1 : (c : Dev Cert.DaIdeal.nD) → Buf (Elt Ideal) ((c.tc : Thread Cert.DaIdeal.nD Cert.DaIdeal.τ).loc Cert.DaIdeal.main_v5_1)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v5_0) = v0 c
          ∧ r.2.mem ((c.tc : Thread Cert.DaIdeal.nD Cert.DaIdeal.τ).loc Cert.DaIdeal.main_v5_1) = v1 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
          ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
          ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
          ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
          ∧ r.2.mem ((c.tc : Thread Cert.DaIdeal.nD Cert.DaIdeal.τ).loc Cert.DaIdeal.main_arg5) = m ((c.tc : Thread Cert.DaIdeal.nD Cert.DaIdeal.τ).loc Cert.DaIdeal.main_arg5))
      ∧ θ_run (Cert.RefDaIdeal.defs (F := Ideal)) (onTc (τ := Cert.RefDaIdeal.τ) (Cert.RefDaIdeal.main (F := Ideal))) ⟨m', fun _ => 0, g'⟩ (fun r => ∀ c : Dev Cert.RefDaIdeal.nD,
          r.2.mem ((c.tc : Thread Cert.RefDaIdeal.nD Cert.RefDaIdeal.τ).loc Cert.RefDaIdeal.main_v10_0) = v0 c
          ∧ r.2.mem ((c.tc : Thread Cert.RefDaIdeal.nD Cert.RefDaIdeal.τ).loc Cert.RefDaIdeal.main_v10_1) = v1 c
          ∧ r.2.mem ((c.tc : Thread Cert.RefDaIdeal.nD Cert.RefDaIdeal.τ).loc Cert.RefDaIdeal.main_arg0) = m' ((c.tc : Thread Cert.RefDaIdeal.nD Cert.RefDaIdeal.τ).loc Cert.RefDaIdeal.main_arg0)
          ∧ r.2.mem ((c.tc : Thread Cert.RefDaIdeal.nD Cert.RefDaIdeal.τ).loc Cert.RefDaIdeal.main_arg1) = m' ((c.tc : Thread Cert.RefDaIdeal.nD Cert.RefDaIdeal.τ).loc Cert.RefDaIdeal.main_arg1)
          ∧ r.2.mem ((c.tc : Thread Cert.RefDaIdeal.nD Cert.RefDaIdeal.τ).loc Cert.RefDaIdeal.main_arg2) = m' ((c.tc : Thread Cert.RefDaIdeal.nD Cert.RefDaIdeal.τ).loc Cert.RefDaIdeal.main_arg2)
          ∧ r.2.mem ((c.tc : Thread Cert.RefDaIdeal.nD Cert.RefDaIdeal.τ).loc Cert.RefDaIdeal.main_arg3) = m' ((c.tc : Thread Cert.RefDaIdeal.nD Cert.RefDaIdeal.τ).loc Cert.RefDaIdeal.main_arg3)
          ∧ r.2.mem ((c.tc : Thread Cert.RefDaIdeal.nD Cert.RefDaIdeal.τ).loc Cert.RefDaIdeal.main_arg4) = m' ((c.tc : Thread Cert.RefDaIdeal.nD Cert.RefDaIdeal.τ).loc Cert.RefDaIdeal.main_arg4)
          ∧ r.2.mem ((c.tc : Thread Cert.RefDaIdeal.nD Cert.RefDaIdeal.τ).loc Cert.RefDaIdeal.main_arg5) = m' ((c.tc : Thread Cert.RefDaIdeal.nD Cert.RefDaIdeal.τ).loc Cert.RefDaIdeal.main_arg5))

def preserves_Dh_DhIdeal : Prop :=
  True

def algebraic_DhIdeal_RefDhIdeal [hDhIdeal : Cert.DhIdeal.Facts] [hRefDhIdeal : Cert.RefDhIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.RefDhIdeal.nD Cert.RefDhIdeal.τ Cert.RefDhIdeal.sig) → Buf (Elt Ideal) ℓ) (g' : Dev Cert.RefDhIdeal.nD → PrngReg), Pre_DhIdeal m →
    (∀ c : Dev Cert.DhIdeal.nD,
      m' ((c.tc : Thread Cert.RefDhIdeal.nD Cert.RefDhIdeal.τ).loc Cert.RefDhIdeal.main_arg0) = m ((c.tc : Thread Cert.DhIdeal.nD Cert.DhIdeal.τ).loc Cert.DhIdeal.main_arg0)
      ∧ m' ((c.tc : Thread Cert.RefDhIdeal.nD Cert.RefDhIdeal.τ).loc Cert.RefDhIdeal.main_arg1) = m ((c.tc : Thread Cert.DhIdeal.nD Cert.DhIdeal.τ).loc Cert.DhIdeal.main_arg1)
      ∧ m' ((c.tc : Thread Cert.RefDhIdeal.nD Cert.RefDhIdeal.τ).loc Cert.RefDhIdeal.main_arg2) = m ((c.tc : Thread Cert.DhIdeal.nD Cert.DhIdeal.τ).loc Cert.DhIdeal.main_arg2)
      ∧ m' ((c.tc : Thread Cert.RefDhIdeal.nD Cert.RefDhIdeal.τ).loc Cert.RefDhIdeal.main_arg3) = m ((c.tc : Thread Cert.DhIdeal.nD Cert.DhIdeal.τ).loc Cert.DhIdeal.main_arg3)
      ∧ m' ((c.tc : Thread Cert.RefDhIdeal.nD Cert.RefDhIdeal.τ).loc Cert.RefDhIdeal.main_arg4) = m ((c.tc : Thread Cert.DhIdeal.nD Cert.DhIdeal.τ).loc Cert.DhIdeal.main_arg4)
      ∧ m' ((c.tc : Thread Cert.RefDhIdeal.nD Cert.RefDhIdeal.τ).loc Cert.RefDhIdeal.main_arg5) = m ((c.tc : Thread Cert.DhIdeal.nD Cert.DhIdeal.τ).loc Cert.DhIdeal.main_arg5)
      ∧ m' ((c.tc : Thread Cert.RefDhIdeal.nD Cert.RefDhIdeal.τ).loc Cert.RefDhIdeal.main_arg6) = m ((c.tc : Thread Cert.DhIdeal.nD Cert.DhIdeal.τ).loc Cert.DhIdeal.main_arg6)
      ∧ m' ((c.tc : Thread Cert.RefDhIdeal.nD Cert.RefDhIdeal.τ).loc Cert.RefDhIdeal.main_arg7) = m ((c.tc : Thread Cert.DhIdeal.nD Cert.DhIdeal.τ).loc Cert.DhIdeal.main_arg7)
      ∧ m' ((c.tc : Thread Cert.RefDhIdeal.nD Cert.RefDhIdeal.τ).loc Cert.RefDhIdeal.main_arg8) = m ((c.tc : Thread Cert.DhIdeal.nD Cert.DhIdeal.τ).loc Cert.DhIdeal.main_arg8)
      ∧ m' ((c.tc : Thread Cert.RefDhIdeal.nD Cert.RefDhIdeal.τ).loc Cert.RefDhIdeal.main_arg9) = m ((c.tc : Thread Cert.DhIdeal.nD Cert.DhIdeal.τ).loc Cert.DhIdeal.main_arg9)
      ∧ m' ((c.tc : Thread Cert.RefDhIdeal.nD Cert.RefDhIdeal.τ).loc Cert.RefDhIdeal.main_arg10) = m ((c.tc : Thread Cert.DhIdeal.nD Cert.DhIdeal.τ).loc Cert.DhIdeal.main_arg10)
      ∧ m' ((c.tc : Thread Cert.RefDhIdeal.nD Cert.RefDhIdeal.τ).loc Cert.RefDhIdeal.main_arg11) = m ((c.tc : Thread Cert.DhIdeal.nD Cert.DhIdeal.τ).loc Cert.DhIdeal.main_arg11)
      ∧ m' ((c.tc : Thread Cert.RefDhIdeal.nD Cert.RefDhIdeal.τ).loc Cert.RefDhIdeal.main_arg12) = m ((c.tc : Thread Cert.DhIdeal.nD Cert.DhIdeal.τ).loc Cert.DhIdeal.main_arg12)
      ∧ m' ((c.tc : Thread Cert.RefDhIdeal.nD Cert.RefDhIdeal.τ).loc Cert.RefDhIdeal.main_arg13) = m ((c.tc : Thread Cert.DhIdeal.nD Cert.DhIdeal.τ).loc Cert.DhIdeal.main_arg13)) →
    ∃ (v0 : (c : Dev Cert.DhIdeal.nD) → Buf (Elt Ideal) ((c.tc : Thread Cert.DhIdeal.nD Cert.DhIdeal.τ).loc Cert.DhIdeal.main_v13_0)) (v1 : (c : Dev Cert.DhIdeal.nD) → Buf (Elt Ideal) ((c.tc : Thread Cert.DhIdeal.nD Cert.DhIdeal.τ).loc Cert.DhIdeal.main_v13_1)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v13_0) = v0 c
          ∧ r.2.mem ((c.tc : Thread Cert.DhIdeal.nD Cert.DhIdeal.τ).loc Cert.DhIdeal.main_v13_1) = v1 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
          ∧ r.2.mem ((c.tc : Thread Cert.DhIdeal.nD Cert.DhIdeal.τ).loc Cert.DhIdeal.main_arg5) = m ((c.tc : Thread Cert.DhIdeal.nD Cert.DhIdeal.τ).loc Cert.DhIdeal.main_arg5)
          ∧ r.2.mem ((c.tc : Thread Cert.DhIdeal.nD Cert.DhIdeal.τ).loc Cert.DhIdeal.main_arg6) = m ((c.tc : Thread Cert.DhIdeal.nD Cert.DhIdeal.τ).loc Cert.DhIdeal.main_arg6)
          ∧ r.2.mem ((c.tc : Thread Cert.DhIdeal.nD Cert.DhIdeal.τ).loc Cert.DhIdeal.main_arg7) = m ((c.tc : Thread Cert.DhIdeal.nD Cert.DhIdeal.τ).loc Cert.DhIdeal.main_arg7)
          ∧ r.2.mem ((c.tc : Thread Cert.DhIdeal.nD Cert.DhIdeal.τ).loc Cert.DhIdeal.main_arg8) = m ((c.tc : Thread Cert.DhIdeal.nD Cert.DhIdeal.τ).loc Cert.DhIdeal.main_arg8)
          ∧ r.2.mem ((c.tc : Thread Cert.DhIdeal.nD Cert.DhIdeal.τ).loc Cert.DhIdeal.main_arg9) = m ((c.tc : Thread Cert.DhIdeal.nD Cert.DhIdeal.τ).loc Cert.DhIdeal.main_arg9)
          ∧ r.2.mem ((c.tc : Thread Cert.DhIdeal.nD Cert.DhIdeal.τ).loc Cert.DhIdeal.main_arg10) = m ((c.tc : Thread Cert.DhIdeal.nD Cert.DhIdeal.τ).loc Cert.DhIdeal.main_arg10)
          ∧ r.2.mem ((c.tc : Thread Cert.DhIdeal.nD Cert.DhIdeal.τ).loc Cert.DhIdeal.main_arg11) = m ((c.tc : Thread Cert.DhIdeal.nD Cert.DhIdeal.τ).loc Cert.DhIdeal.main_arg11)
          ∧ r.2.mem ((c.tc : Thread Cert.DhIdeal.nD Cert.DhIdeal.τ).loc Cert.DhIdeal.main_arg12) = m ((c.tc : Thread Cert.DhIdeal.nD Cert.DhIdeal.τ).loc Cert.DhIdeal.main_arg12)
          ∧ r.2.mem ((c.tc : Thread Cert.DhIdeal.nD Cert.DhIdeal.τ).loc Cert.DhIdeal.main_arg13) = m ((c.tc : Thread Cert.DhIdeal.nD Cert.DhIdeal.τ).loc Cert.DhIdeal.main_arg13))
      ∧ θ_run (Cert.RefDhIdeal.defs (F := Ideal)) (onTc (τ := Cert.RefDhIdeal.τ) (Cert.RefDhIdeal.main (F := Ideal))) ⟨m', fun _ => 0, g'⟩ (fun r => ∀ c : Dev Cert.RefDhIdeal.nD,
          r.2.mem ((c.tc : Thread Cert.RefDhIdeal.nD Cert.RefDhIdeal.τ).loc Cert.RefDhIdeal.main_v14_0) = v0 c
          ∧ r.2.mem ((c.tc : Thread Cert.RefDhIdeal.nD Cert.RefDhIdeal.τ).loc Cert.RefDhIdeal.main_v14_1) = v1 c
          ∧ r.2.mem ((c.tc : Thread Cert.RefDhIdeal.nD Cert.RefDhIdeal.τ).loc Cert.RefDhIdeal.main_arg0) = m' ((c.tc : Thread Cert.RefDhIdeal.nD Cert.RefDhIdeal.τ).loc Cert.RefDhIdeal.main_arg0)
          ∧ r.2.mem ((c.tc : Thread Cert.RefDhIdeal.nD Cert.RefDhIdeal.τ).loc Cert.RefDhIdeal.main_arg1) = m' ((c.tc : Thread Cert.RefDhIdeal.nD Cert.RefDhIdeal.τ).loc Cert.RefDhIdeal.main_arg1)
          ∧ r.2.mem ((c.tc : Thread Cert.RefDhIdeal.nD Cert.RefDhIdeal.τ).loc Cert.RefDhIdeal.main_arg2) = m' ((c.tc : Thread Cert.RefDhIdeal.nD Cert.RefDhIdeal.τ).loc Cert.RefDhIdeal.main_arg2)
          ∧ r.2.mem ((c.tc : Thread Cert.RefDhIdeal.nD Cert.RefDhIdeal.τ).loc Cert.RefDhIdeal.main_arg3) = m' ((c.tc : Thread Cert.RefDhIdeal.nD Cert.RefDhIdeal.τ).loc Cert.RefDhIdeal.main_arg3)
          ∧ r.2.mem ((c.tc : Thread Cert.RefDhIdeal.nD Cert.RefDhIdeal.τ).loc Cert.RefDhIdeal.main_arg4) = m' ((c.tc : Thread Cert.RefDhIdeal.nD Cert.RefDhIdeal.τ).loc Cert.RefDhIdeal.main_arg4)
          ∧ r.2.mem ((c.tc : Thread Cert.RefDhIdeal.nD Cert.RefDhIdeal.τ).loc Cert.RefDhIdeal.main_arg5) = m' ((c.tc : Thread Cert.RefDhIdeal.nD Cert.RefDhIdeal.τ).loc Cert.RefDhIdeal.main_arg5)
          ∧ r.2.mem ((c.tc : Thread Cert.RefDhIdeal.nD Cert.RefDhIdeal.τ).loc Cert.RefDhIdeal.main_arg6) = m' ((c.tc : Thread Cert.RefDhIdeal.nD Cert.RefDhIdeal.τ).loc Cert.RefDhIdeal.main_arg6)
          ∧ r.2.mem ((c.tc : Thread Cert.RefDhIdeal.nD Cert.RefDhIdeal.τ).loc Cert.RefDhIdeal.main_arg7) = m' ((c.tc : Thread Cert.RefDhIdeal.nD Cert.RefDhIdeal.τ).loc Cert.RefDhIdeal.main_arg7)
          ∧ r.2.mem ((c.tc : Thread Cert.RefDhIdeal.nD Cert.RefDhIdeal.τ).loc Cert.RefDhIdeal.main_arg8) = m' ((c.tc : Thread Cert.RefDhIdeal.nD Cert.RefDhIdeal.τ).loc Cert.RefDhIdeal.main_arg8)
          ∧ r.2.mem ((c.tc : Thread Cert.RefDhIdeal.nD Cert.RefDhIdeal.τ).loc Cert.RefDhIdeal.main_arg9) = m' ((c.tc : Thread Cert.RefDhIdeal.nD Cert.RefDhIdeal.τ).loc Cert.RefDhIdeal.main_arg9)
          ∧ r.2.mem ((c.tc : Thread Cert.RefDhIdeal.nD Cert.RefDhIdeal.τ).loc Cert.RefDhIdeal.main_arg10) = m' ((c.tc : Thread Cert.RefDhIdeal.nD Cert.RefDhIdeal.τ).loc Cert.RefDhIdeal.main_arg10)
          ∧ r.2.mem ((c.tc : Thread Cert.RefDhIdeal.nD Cert.RefDhIdeal.τ).loc Cert.RefDhIdeal.main_arg11) = m' ((c.tc : Thread Cert.RefDhIdeal.nD Cert.RefDhIdeal.τ).loc Cert.RefDhIdeal.main_arg11)
          ∧ r.2.mem ((c.tc : Thread Cert.RefDhIdeal.nD Cert.RefDhIdeal.τ).loc Cert.RefDhIdeal.main_arg12) = m' ((c.tc : Thread Cert.RefDhIdeal.nD Cert.RefDhIdeal.τ).loc Cert.RefDhIdeal.main_arg12)
          ∧ r.2.mem ((c.tc : Thread Cert.RefDhIdeal.nD Cert.RefDhIdeal.τ).loc Cert.RefDhIdeal.main_arg13) = m' ((c.tc : Thread Cert.RefDhIdeal.nD Cert.RefDhIdeal.τ).loc Cert.RefDhIdeal.main_arg13))

def preserves_Grad_GradIdeal : Prop :=
  True

def algebraic_GradIdeal_RefGradIdeal [hGradIdeal : Cert.GradIdeal.Facts] [hRefGradIdeal : Cert.RefGradIdeal.Facts] : Prop :=
  ∀ (m : (ℓ : Loc Cert.GradIdeal.nD Cert.GradIdeal.τ Cert.GradIdeal.sig) → Buf (Elt Ideal) ℓ) (g : Dev Cert.GradIdeal.nD → PrngReg)
    (m' : (ℓ : Loc Cert.RefGradIdeal.nD Cert.RefGradIdeal.τ Cert.RefGradIdeal.sig) → Buf (Elt Ideal) ℓ) (g' : Dev Cert.RefGradIdeal.nD → PrngReg), Pre_GradIdeal m →
    (∀ c : Dev Cert.GradIdeal.nD,
      m' ((c.tc : Thread Cert.RefGradIdeal.nD Cert.RefGradIdeal.τ).loc Cert.RefGradIdeal.main_arg0) = m ((c.tc : Thread Cert.GradIdeal.nD Cert.GradIdeal.τ).loc Cert.GradIdeal.main_arg0)
      ∧ m' ((c.tc : Thread Cert.RefGradIdeal.nD Cert.RefGradIdeal.τ).loc Cert.RefGradIdeal.main_arg1) = m ((c.tc : Thread Cert.GradIdeal.nD Cert.GradIdeal.τ).loc Cert.GradIdeal.main_arg1)
      ∧ m' ((c.tc : Thread Cert.RefGradIdeal.nD Cert.RefGradIdeal.τ).loc Cert.RefGradIdeal.main_arg2) = m ((c.tc : Thread Cert.GradIdeal.nD Cert.GradIdeal.τ).loc Cert.GradIdeal.main_arg2)
      ∧ m' ((c.tc : Thread Cert.RefGradIdeal.nD Cert.RefGradIdeal.τ).loc Cert.RefGradIdeal.main_arg3) = m ((c.tc : Thread Cert.GradIdeal.nD Cert.GradIdeal.τ).loc Cert.GradIdeal.main_arg3)
      ∧ m' ((c.tc : Thread Cert.RefGradIdeal.nD Cert.RefGradIdeal.τ).loc Cert.RefGradIdeal.main_arg4) = m ((c.tc : Thread Cert.GradIdeal.nD Cert.GradIdeal.τ).loc Cert.GradIdeal.main_arg4)
      ∧ m' ((c.tc : Thread Cert.RefGradIdeal.nD Cert.RefGradIdeal.τ).loc Cert.RefGradIdeal.main_arg5) = m ((c.tc : Thread Cert.GradIdeal.nD Cert.GradIdeal.τ).loc Cert.GradIdeal.main_arg5)
      ∧ m' ((c.tc : Thread Cert.RefGradIdeal.nD Cert.RefGradIdeal.τ).loc Cert.RefGradIdeal.main_arg6) = m ((c.tc : Thread Cert.GradIdeal.nD Cert.GradIdeal.τ).loc Cert.GradIdeal.main_arg6)
      ∧ m' ((c.tc : Thread Cert.RefGradIdeal.nD Cert.RefGradIdeal.τ).loc Cert.RefGradIdeal.main_arg7) = m ((c.tc : Thread Cert.GradIdeal.nD Cert.GradIdeal.τ).loc Cert.GradIdeal.main_arg7)
      ∧ m' ((c.tc : Thread Cert.RefGradIdeal.nD Cert.RefGradIdeal.τ).loc Cert.RefGradIdeal.main_arg8) = m ((c.tc : Thread Cert.GradIdeal.nD Cert.GradIdeal.τ).loc Cert.GradIdeal.main_arg8)
      ∧ m' ((c.tc : Thread Cert.RefGradIdeal.nD Cert.RefGradIdeal.τ).loc Cert.RefGradIdeal.main_arg9) = m ((c.tc : Thread Cert.GradIdeal.nD Cert.GradIdeal.τ).loc Cert.GradIdeal.main_arg9)
      ∧ m' ((c.tc : Thread Cert.RefGradIdeal.nD Cert.RefGradIdeal.τ).loc Cert.RefGradIdeal.main_arg10) = m ((c.tc : Thread Cert.GradIdeal.nD Cert.GradIdeal.τ).loc Cert.GradIdeal.main_arg10)
      ∧ m' ((c.tc : Thread Cert.RefGradIdeal.nD Cert.RefGradIdeal.τ).loc Cert.RefGradIdeal.main_arg11) = m ((c.tc : Thread Cert.GradIdeal.nD Cert.GradIdeal.τ).loc Cert.GradIdeal.main_arg11)
      ∧ m' ((c.tc : Thread Cert.RefGradIdeal.nD Cert.RefGradIdeal.τ).loc Cert.RefGradIdeal.main_arg12) = m ((c.tc : Thread Cert.GradIdeal.nD Cert.GradIdeal.τ).loc Cert.GradIdeal.main_arg12)
      ∧ m' ((c.tc : Thread Cert.RefGradIdeal.nD Cert.RefGradIdeal.τ).loc Cert.RefGradIdeal.main_arg13) = m ((c.tc : Thread Cert.GradIdeal.nD Cert.GradIdeal.τ).loc Cert.GradIdeal.main_arg13)
      ∧ m' ((c.tc : Thread Cert.RefGradIdeal.nD Cert.RefGradIdeal.τ).loc Cert.RefGradIdeal.main_arg14) = m ((c.tc : Thread Cert.GradIdeal.nD Cert.GradIdeal.τ).loc Cert.GradIdeal.main_arg14)
      ∧ m' ((c.tc : Thread Cert.RefGradIdeal.nD Cert.RefGradIdeal.τ).loc Cert.RefGradIdeal.main_arg15) = m ((c.tc : Thread Cert.GradIdeal.nD Cert.GradIdeal.τ).loc Cert.GradIdeal.main_arg15)) →
    ∃ (v0 : (c : Dev Cert.GradIdeal.nD) → Buf (Elt Ideal) ((c.tc : Thread Cert.GradIdeal.nD Cert.GradIdeal.τ).loc Cert.GradIdeal.main_v18_0)) (v1 : (c : Dev Cert.GradIdeal.nD) → Buf (Elt Ideal) ((c.tc : Thread Cert.GradIdeal.nD Cert.GradIdeal.τ).loc Cert.GradIdeal.main_v18_1)) (v2 : (c : Dev Cert.GradIdeal.nD) → Buf (Elt Ideal) ((c.tc : Thread Cert.GradIdeal.nD Cert.GradIdeal.τ).loc Cert.GradIdeal.main_v11_0)) (v3 : (c : Dev Cert.GradIdeal.nD) → Buf (Elt Ideal) ((c.tc : Thread Cert.GradIdeal.nD Cert.GradIdeal.τ).loc Cert.GradIdeal.main_v11_1)),
      θ_run (Cert.GradIdeal.defs (F := Ideal)) (onTc (τ := Cert.GradIdeal.τ) (Cert.GradIdeal.main (F := Ideal))) ⟨m, fun _ => 0, g⟩ (fun r => ∀ c : Dev Cert.GradIdeal.nD,
          r.2.mem ((c.tc : Thread Cert.GradIdeal.nD Cert.GradIdeal.τ).loc Cert.GradIdeal.main_v18_0) = v0 c
          ∧ r.2.mem ((c.tc : Thread Cert.GradIdeal.nD Cert.GradIdeal.τ).loc Cert.GradIdeal.main_v18_1) = v1 c
          ∧ r.2.mem ((c.tc : Thread Cert.GradIdeal.nD Cert.GradIdeal.τ).loc Cert.GradIdeal.main_v11_0) = v2 c
          ∧ r.2.mem ((c.tc : Thread Cert.GradIdeal.nD Cert.GradIdeal.τ).loc Cert.GradIdeal.main_v11_1) = v3 c
          ∧ r.2.mem ((c.tc : Thread Cert.GradIdeal.nD Cert.GradIdeal.τ).loc Cert.GradIdeal.main_arg0) = m ((c.tc : Thread Cert.GradIdeal.nD Cert.GradIdeal.τ).loc Cert.GradIdeal.main_arg0)
          ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
          ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
          ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
          ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
          ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
          ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
          ∧ r.2.mem ((c.tc : Thread Cert.GradIdeal.nD Cert.GradIdeal.τ).loc Cert.GradIdeal.main_arg7) = m ((c.tc : Thread Cert.GradIdeal.nD Cert.GradIdeal.τ).loc Cert.GradIdeal.main_arg7)
          ∧ r.2.mem ((c.tc : Thread Cert.GradIdeal.nD Cert.GradIdeal.τ).loc Cert.GradIdeal.main_arg8) = m ((c.tc : Thread Cert.GradIdeal.nD Cert.GradIdeal.τ).loc Cert.GradIdeal.main_arg8)
          ∧ r.2.mem ((c.tc : Thread Cert.GradIdeal.nD Cert.GradIdeal.τ).loc Cert.GradIdeal.main_arg9) = m ((c.tc : Thread Cert.GradIdeal.nD Cert.GradIdeal.τ).loc Cert.GradIdeal.main_arg9)
          ∧ r.2.mem ((c.tc : Thread Cert.GradIdeal.nD Cert.GradIdeal.τ).loc Cert.GradIdeal.main_arg10) = m ((c.tc : Thread Cert.GradIdeal.nD Cert.GradIdeal.τ).loc Cert.GradIdeal.main_arg10)
          ∧ r.2.mem ((c.tc : Thread Cert.GradIdeal.nD Cert.GradIdeal.τ).loc Cert.GradIdeal.main_arg11) = m ((c.tc : Thread Cert.GradIdeal.nD Cert.GradIdeal.τ).loc Cert.GradIdeal.main_arg11)
          ∧ r.2.mem ((c.tc : Thread Cert.GradIdeal.nD Cert.GradIdeal.τ).loc Cert.GradIdeal.main_arg12) = m ((c.tc : Thread Cert.GradIdeal.nD Cert.GradIdeal.τ).loc Cert.GradIdeal.main_arg12)
          ∧ r.2.mem ((c.tc : Thread Cert.GradIdeal.nD Cert.GradIdeal.τ).loc Cert.GradIdeal.main_arg13) = m ((c.tc : Thread Cert.GradIdeal.nD Cert.GradIdeal.τ).loc Cert.GradIdeal.main_arg13)
          ∧ r.2.mem ((c.tc : Thread Cert.GradIdeal.nD Cert.GradIdeal.τ).loc Cert.GradIdeal.main_arg14) = m ((c.tc : Thread Cert.GradIdeal.nD Cert.GradIdeal.τ).loc Cert.GradIdeal.main_arg14)
          ∧ r.2.mem ((c.tc : Thread Cert.GradIdeal.nD Cert.GradIdeal.τ).loc Cert.GradIdeal.main_arg15) = m ((c.tc : Thread Cert.GradIdeal.nD Cert.GradIdeal.τ).loc Cert.GradIdeal.main_arg15))
      ∧ θ_run (Cert.RefGradIdeal.defs (F := Ideal)) (onTc (τ := Cert.RefGradIdeal.τ) (Cert.RefGradIdeal.main (F := Ideal))) ⟨m', fun _ => 0, g'⟩ (fun r => ∀ c : Dev Cert.RefGradIdeal.nD,
          r.2.mem ((c.tc : Thread Cert.RefGradIdeal.nD Cert.RefGradIdeal.τ).loc Cert.RefGradIdeal.main_v24_0) = v0 c
          ∧ r.2.mem ((c.tc : Thread Cert.RefGradIdeal.nD Cert.RefGradIdeal.τ).loc Cert.RefGradIdeal.main_v24_1) = v1 c
          ∧ r.2.mem ((c.tc : Thread Cert.RefGradIdeal.nD Cert.RefGradIdeal.τ).loc Cert.RefGradIdeal.main_v24_2) = v2 c
          ∧ r.2.mem ((c.tc : Thread Cert.RefGradIdeal.nD Cert.RefGradIdeal.τ).loc Cert.RefGradIdeal.main_v24_3) = v3 c
          ∧ r.2.mem ((c.tc : Thread Cert.RefGradIdeal.nD Cert.RefGradIdeal.τ).loc Cert.RefGradIdeal.main_arg0) = m' ((c.tc : Thread Cert.RefGradIdeal.nD Cert.RefGradIdeal.τ).loc Cert.RefGradIdeal.main_arg0)
          ∧ r.2.mem ((c.tc : Thread Cert.RefGradIdeal.nD Cert.RefGradIdeal.τ).loc Cert.RefGradIdeal.main_arg1) = m' ((c.tc : Thread Cert.RefGradIdeal.nD Cert.RefGradIdeal.τ).loc Cert.RefGradIdeal.main_arg1)
          ∧ r.2.mem ((c.tc : Thread Cert.RefGradIdeal.nD Cert.RefGradIdeal.τ).loc Cert.RefGradIdeal.main_arg2) = m' ((c.tc : Thread Cert.RefGradIdeal.nD Cert.RefGradIdeal.τ).loc Cert.RefGradIdeal.main_arg2)
          ∧ r.2.mem ((c.tc : Thread Cert.RefGradIdeal.nD Cert.RefGradIdeal.τ).loc Cert.RefGradIdeal.main_arg3) = m' ((c.tc : Thread Cert.RefGradIdeal.nD Cert.RefGradIdeal.τ).loc Cert.RefGradIdeal.main_arg3)
          ∧ r.2.mem ((c.tc : Thread Cert.RefGradIdeal.nD Cert.RefGradIdeal.τ).loc Cert.RefGradIdeal.main_arg4) = m' ((c.tc : Thread Cert.RefGradIdeal.nD Cert.RefGradIdeal.τ).loc Cert.RefGradIdeal.main_arg4)
          ∧ r.2.mem ((c.tc : Thread Cert.RefGradIdeal.nD Cert.RefGradIdeal.τ).loc Cert.RefGradIdeal.main_arg5) = m' ((c.tc : Thread Cert.RefGradIdeal.nD Cert.RefGradIdeal.τ).loc Cert.RefGradIdeal.main_arg5)
          ∧ r.2.mem ((c.tc : Thread Cert.RefGradIdeal.nD Cert.RefGradIdeal.τ).loc Cert.RefGradIdeal.main_arg6) = m' ((c.tc : Thread Cert.RefGradIdeal.nD Cert.RefGradIdeal.τ).loc Cert.RefGradIdeal.main_arg6)
          ∧ r.2.mem ((c.tc : Thread Cert.RefGradIdeal.nD Cert.RefGradIdeal.τ).loc Cert.RefGradIdeal.main_arg7) = m' ((c.tc : Thread Cert.RefGradIdeal.nD Cert.RefGradIdeal.τ).loc Cert.RefGradIdeal.main_arg7)
          ∧ r.2.mem ((c.tc : Thread Cert.RefGradIdeal.nD Cert.RefGradIdeal.τ).loc Cert.RefGradIdeal.main_arg8) = m' ((c.tc : Thread Cert.RefGradIdeal.nD Cert.RefGradIdeal.τ).loc Cert.RefGradIdeal.main_arg8)
          ∧ r.2.mem ((c.tc : Thread Cert.RefGradIdeal.nD Cert.RefGradIdeal.τ).loc Cert.RefGradIdeal.main_arg9) = m' ((c.tc : Thread Cert.RefGradIdeal.nD Cert.RefGradIdeal.τ).loc Cert.RefGradIdeal.main_arg9)
          ∧ r.2.mem ((c.tc : Thread Cert.RefGradIdeal.nD Cert.RefGradIdeal.τ).loc Cert.RefGradIdeal.main_arg10) = m' ((c.tc : Thread Cert.RefGradIdeal.nD Cert.RefGradIdeal.τ).loc Cert.RefGradIdeal.main_arg10)
          ∧ r.2.mem ((c.tc : Thread Cert.RefGradIdeal.nD Cert.RefGradIdeal.τ).loc Cert.RefGradIdeal.main_arg11) = m' ((c.tc : Thread Cert.RefGradIdeal.nD Cert.RefGradIdeal.τ).loc Cert.RefGradIdeal.main_arg11)
          ∧ r.2.mem ((c.tc : Thread Cert.RefGradIdeal.nD Cert.RefGradIdeal.τ).loc Cert.RefGradIdeal.main_arg12) = m' ((c.tc : Thread Cert.RefGradIdeal.nD Cert.RefGradIdeal.τ).loc Cert.RefGradIdeal.main_arg12)
          ∧ r.2.mem ((c.tc : Thread Cert.RefGradIdeal.nD Cert.RefGradIdeal.τ).loc Cert.RefGradIdeal.main_arg13) = m' ((c.tc : Thread Cert.RefGradIdeal.nD Cert.RefGradIdeal.τ).loc Cert.RefGradIdeal.main_arg13)
          ∧ r.2.mem ((c.tc : Thread Cert.RefGradIdeal.nD Cert.RefGradIdeal.τ).loc Cert.RefGradIdeal.main_arg14) = m' ((c.tc : Thread Cert.RefGradIdeal.nD Cert.RefGradIdeal.τ).loc Cert.RefGradIdeal.main_arg14)
          ∧ r.2.mem ((c.tc : Thread Cert.RefGradIdeal.nD Cert.RefGradIdeal.τ).loc Cert.RefGradIdeal.main_arg15) = m' ((c.tc : Thread Cert.RefGradIdeal.nD Cert.RefGradIdeal.τ).loc Cert.RefGradIdeal.main_arg15))

def preserves_DwIn_DwInIdeal : Prop :=
  True

def algebraic_DwInIdeal_RefDwInIdeal [hDwInIdeal : Cert.DwInIdeal.Facts] [hRefDwInIdeal : Cert.RefDwInIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.RefDwInIdeal.nD Cert.RefDwInIdeal.τ Cert.RefDwInIdeal.sig) → Buf (Elt Ideal) ℓ) (g' : Dev Cert.RefDwInIdeal.nD → PrngReg), Pre_DwInIdeal m →
    (∀ c : Dev Cert.DwInIdeal.nD,
      m' ((c.tc : Thread Cert.RefDwInIdeal.nD Cert.RefDwInIdeal.τ).loc Cert.RefDwInIdeal.main_arg0) = m ((c.tc : Thread Cert.DwInIdeal.nD Cert.DwInIdeal.τ).loc Cert.DwInIdeal.main_arg0)
      ∧ m' ((c.tc : Thread Cert.RefDwInIdeal.nD Cert.RefDwInIdeal.τ).loc Cert.RefDwInIdeal.main_arg1) = m ((c.tc : Thread Cert.DwInIdeal.nD Cert.DwInIdeal.τ).loc Cert.DwInIdeal.main_arg1)
      ∧ m' ((c.tc : Thread Cert.RefDwInIdeal.nD Cert.RefDwInIdeal.τ).loc Cert.RefDwInIdeal.main_arg2) = m ((c.tc : Thread Cert.DwInIdeal.nD Cert.DwInIdeal.τ).loc Cert.DwInIdeal.main_arg2)
      ∧ m' ((c.tc : Thread Cert.RefDwInIdeal.nD Cert.RefDwInIdeal.τ).loc Cert.RefDwInIdeal.main_arg3) = m ((c.tc : Thread Cert.DwInIdeal.nD Cert.DwInIdeal.τ).loc Cert.DwInIdeal.main_arg3)
      ∧ m' ((c.tc : Thread Cert.RefDwInIdeal.nD Cert.RefDwInIdeal.τ).loc Cert.RefDwInIdeal.main_arg4) = m ((c.tc : Thread Cert.DwInIdeal.nD Cert.DwInIdeal.τ).loc Cert.DwInIdeal.main_arg4)) →
    ∃ (v0 : (c : Dev Cert.DwInIdeal.nD) → Buf (Elt Ideal) ((c.tc : Thread Cert.DwInIdeal.nD Cert.DwInIdeal.τ).loc Cert.DwInIdeal.main_v3)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v3) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
          ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4))
      ∧ θ_run (Cert.RefDwInIdeal.defs (F := Ideal)) (onTc (τ := Cert.RefDwInIdeal.τ) (Cert.RefDwInIdeal.main (F := Ideal))) ⟨m', fun _ => 0, g'⟩ (fun r => ∀ c : Dev Cert.RefDwInIdeal.nD,
          r.2.mem ((c.tc : Thread Cert.RefDwInIdeal.nD Cert.RefDwInIdeal.τ).loc Cert.RefDwInIdeal.main_v5) = v0 c
          ∧ r.2.mem ((c.tc : Thread Cert.RefDwInIdeal.nD Cert.RefDwInIdeal.τ).loc Cert.RefDwInIdeal.main_arg0) = m' ((c.tc : Thread Cert.RefDwInIdeal.nD Cert.RefDwInIdeal.τ).loc Cert.RefDwInIdeal.main_arg0)
          ∧ r.2.mem ((c.tc : Thread Cert.RefDwInIdeal.nD Cert.RefDwInIdeal.τ).loc Cert.RefDwInIdeal.main_arg1) = m' ((c.tc : Thread Cert.RefDwInIdeal.nD Cert.RefDwInIdeal.τ).loc Cert.RefDwInIdeal.main_arg1)
          ∧ r.2.mem ((c.tc : Thread Cert.RefDwInIdeal.nD Cert.RefDwInIdeal.τ).loc Cert.RefDwInIdeal.main_arg2) = m' ((c.tc : Thread Cert.RefDwInIdeal.nD Cert.RefDwInIdeal.τ).loc Cert.RefDwInIdeal.main_arg2)
          ∧ r.2.mem ((c.tc : Thread Cert.RefDwInIdeal.nD Cert.RefDwInIdeal.τ).loc Cert.RefDwInIdeal.main_arg3) = m' ((c.tc : Thread Cert.RefDwInIdeal.nD Cert.RefDwInIdeal.τ).loc Cert.RefDwInIdeal.main_arg3)
          ∧ r.2.mem ((c.tc : Thread Cert.RefDwInIdeal.nD Cert.RefDwInIdeal.τ).loc Cert.RefDwInIdeal.main_arg4) = m' ((c.tc : Thread Cert.RefDwInIdeal.nD Cert.RefDwInIdeal.τ).loc Cert.RefDwInIdeal.main_arg4))

def preserves_DwOut_DwOutIdeal : Prop :=
  True

def algebraic_DwOutIdeal_RefDwOutIdeal [hDwOutIdeal : Cert.DwOutIdeal.Facts] [hRefDwOutIdeal : Cert.RefDwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.RefDwOutIdeal.nD Cert.RefDwOutIdeal.τ Cert.RefDwOutIdeal.sig) → Buf (Elt Ideal) ℓ) (g' : Dev Cert.RefDwOutIdeal.nD → PrngReg), Pre_DwOutIdeal m →
    (∀ c : Dev Cert.DwOutIdeal.nD,
      m' ((c.tc : Thread Cert.RefDwOutIdeal.nD Cert.RefDwOutIdeal.τ).loc Cert.RefDwOutIdeal.main_arg0) = m ((c.tc : Thread Cert.DwOutIdeal.nD Cert.DwOutIdeal.τ).loc Cert.DwOutIdeal.main_arg0)
      ∧ m' ((c.tc : Thread Cert.RefDwOutIdeal.nD Cert.RefDwOutIdeal.τ).loc Cert.RefDwOutIdeal.main_arg1) = m ((c.tc : Thread Cert.DwOutIdeal.nD Cert.DwOutIdeal.τ).loc Cert.DwOutIdeal.main_arg1)
      ∧ m' ((c.tc : Thread Cert.RefDwOutIdeal.nD Cert.RefDwOutIdeal.τ).loc Cert.RefDwOutIdeal.main_arg2) = m ((c.tc : Thread Cert.DwOutIdeal.nD Cert.DwOutIdeal.τ).loc Cert.DwOutIdeal.main_arg2)
      ∧ m' ((c.tc : Thread Cert.RefDwOutIdeal.nD Cert.RefDwOutIdeal.τ).loc Cert.RefDwOutIdeal.main_arg3) = m ((c.tc : Thread Cert.DwOutIdeal.nD Cert.DwOutIdeal.τ).loc Cert.DwOutIdeal.main_arg3)) →
    ∃ (v0 : (c : Dev Cert.DwOutIdeal.nD) → Buf (Elt Ideal) ((c.tc : Thread Cert.DwOutIdeal.nD Cert.DwOutIdeal.τ).loc Cert.DwOutIdeal.main_v5)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v5) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
          ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ θ_run (Cert.RefDwOutIdeal.defs (F := Ideal)) (onTc (τ := Cert.RefDwOutIdeal.τ) (Cert.RefDwOutIdeal.main (F := Ideal))) ⟨m', fun _ => 0, g'⟩ (fun r => ∀ c : Dev Cert.RefDwOutIdeal.nD,
          r.2.mem ((c.tc : Thread Cert.RefDwOutIdeal.nD Cert.RefDwOutIdeal.τ).loc Cert.RefDwOutIdeal.main_v4) = v0 c
          ∧ r.2.mem ((c.tc : Thread Cert.RefDwOutIdeal.nD Cert.RefDwOutIdeal.τ).loc Cert.RefDwOutIdeal.main_arg0) = m' ((c.tc : Thread Cert.RefDwOutIdeal.nD Cert.RefDwOutIdeal.τ).loc Cert.RefDwOutIdeal.main_arg0)
          ∧ r.2.mem ((c.tc : Thread Cert.RefDwOutIdeal.nD Cert.RefDwOutIdeal.τ).loc Cert.RefDwOutIdeal.main_arg1) = m' ((c.tc : Thread Cert.RefDwOutIdeal.nD Cert.RefDwOutIdeal.τ).loc Cert.RefDwOutIdeal.main_arg1)
          ∧ r.2.mem ((c.tc : Thread Cert.RefDwOutIdeal.nD Cert.RefDwOutIdeal.τ).loc Cert.RefDwOutIdeal.main_arg2) = m' ((c.tc : Thread Cert.RefDwOutIdeal.nD Cert.RefDwOutIdeal.τ).loc Cert.RefDwOutIdeal.main_arg2)
          ∧ r.2.mem ((c.tc : Thread Cert.RefDwOutIdeal.nD Cert.RefDwOutIdeal.τ).loc Cert.RefDwOutIdeal.main_arg3) = m' ((c.tc : Thread Cert.RefDwOutIdeal.nD Cert.RefDwOutIdeal.τ).loc Cert.RefDwOutIdeal.main_arg3))

def preserves_DwQkv_DwQkvIdeal : Prop :=
  True

def algebraic_DwQkvIdeal_RefDwQkvIdeal [hDwQkvIdeal : Cert.DwQkvIdeal.Facts] [hRefDwQkvIdeal : Cert.RefDwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.RefDwQkvIdeal.nD Cert.RefDwQkvIdeal.τ Cert.RefDwQkvIdeal.sig) → Buf (Elt Ideal) ℓ) (g' : Dev Cert.RefDwQkvIdeal.nD → PrngReg), Pre_DwQkvIdeal m →
    (∀ c : Dev Cert.DwQkvIdeal.nD,
      m' ((c.tc : Thread Cert.RefDwQkvIdeal.nD Cert.RefDwQkvIdeal.τ).loc Cert.RefDwQkvIdeal.main_arg0) = m ((c.tc : Thread Cert.DwQkvIdeal.nD Cert.DwQkvIdeal.τ).loc Cert.DwQkvIdeal.main_arg0)
      ∧ m' ((c.tc : Thread Cert.RefDwQkvIdeal.nD Cert.RefDwQkvIdeal.τ).loc Cert.RefDwQkvIdeal.main_arg1) = m ((c.tc : Thread Cert.DwQkvIdeal.nD Cert.DwQkvIdeal.τ).loc Cert.DwQkvIdeal.main_arg1)
      ∧ m' ((c.tc : Thread Cert.RefDwQkvIdeal.nD Cert.RefDwQkvIdeal.τ).loc Cert.RefDwQkvIdeal.main_arg2) = m ((c.tc : Thread Cert.DwQkvIdeal.nD Cert.DwQkvIdeal.τ).loc Cert.DwQkvIdeal.main_arg2)
      ∧ m' ((c.tc : Thread Cert.RefDwQkvIdeal.nD Cert.RefDwQkvIdeal.τ).loc Cert.RefDwQkvIdeal.main_arg3) = m ((c.tc : Thread Cert.DwQkvIdeal.nD Cert.DwQkvIdeal.τ).loc Cert.DwQkvIdeal.main_arg3)
      ∧ m' ((c.tc : Thread Cert.RefDwQkvIdeal.nD Cert.RefDwQkvIdeal.τ).loc Cert.RefDwQkvIdeal.main_arg4) = m ((c.tc : Thread Cert.DwQkvIdeal.nD Cert.DwQkvIdeal.τ).loc Cert.DwQkvIdeal.main_arg4)) →
    ∃ (v0 : (c : Dev Cert.DwQkvIdeal.nD) → Buf (Elt Ideal) ((c.tc : Thread Cert.DwQkvIdeal.nD Cert.DwQkvIdeal.τ).loc Cert.DwQkvIdeal.main_v6)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v6) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
          ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
          ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3)
          ∧ r.2.mem ((c.tc : Thread Cert.DwQkvIdeal.nD Cert.DwQkvIdeal.τ).loc Cert.DwQkvIdeal.main_arg4) = m ((c.tc : Thread Cert.DwQkvIdeal.nD Cert.DwQkvIdeal.τ).loc Cert.DwQkvIdeal.main_arg4))
      ∧ θ_run (Cert.RefDwQkvIdeal.defs (F := Ideal)) (onTc (τ := Cert.RefDwQkvIdeal.τ) (Cert.RefDwQkvIdeal.main (F := Ideal))) ⟨m', fun _ => 0, g'⟩ (fun r => ∀ c : Dev Cert.RefDwQkvIdeal.nD,
          r.2.mem ((c.tc : Thread Cert.RefDwQkvIdeal.nD Cert.RefDwQkvIdeal.τ).loc Cert.RefDwQkvIdeal.main_v5) = v0 c
          ∧ r.2.mem ((c.tc : Thread Cert.RefDwQkvIdeal.nD Cert.RefDwQkvIdeal.τ).loc Cert.RefDwQkvIdeal.main_arg0) = m' ((c.tc : Thread Cert.RefDwQkvIdeal.nD Cert.RefDwQkvIdeal.τ).loc Cert.RefDwQkvIdeal.main_arg0)
          ∧ r.2.mem ((c.tc : Thread Cert.RefDwQkvIdeal.nD Cert.RefDwQkvIdeal.τ).loc Cert.RefDwQkvIdeal.main_arg1) = m' ((c.tc : Thread Cert.RefDwQkvIdeal.nD Cert.RefDwQkvIdeal.τ).loc Cert.RefDwQkvIdeal.main_arg1)
          ∧ r.2.mem ((c.tc : Thread Cert.RefDwQkvIdeal.nD Cert.RefDwQkvIdeal.τ).loc Cert.RefDwQkvIdeal.main_arg2) = m' ((c.tc : Thread Cert.RefDwQkvIdeal.nD Cert.RefDwQkvIdeal.τ).loc Cert.RefDwQkvIdeal.main_arg2)
          ∧ r.2.mem ((c.tc : Thread Cert.RefDwQkvIdeal.nD Cert.RefDwQkvIdeal.τ).loc Cert.RefDwQkvIdeal.main_arg3) = m' ((c.tc : Thread Cert.RefDwQkvIdeal.nD Cert.RefDwQkvIdeal.τ).loc Cert.RefDwQkvIdeal.main_arg3)
          ∧ r.2.mem ((c.tc : Thread Cert.RefDwQkvIdeal.nD Cert.RefDwQkvIdeal.τ).loc Cert.RefDwQkvIdeal.main_arg4) = m' ((c.tc : Thread Cert.RefDwQkvIdeal.nD Cert.RefDwQkvIdeal.τ).loc Cert.RefDwQkvIdeal.main_arg4))

def Claim : Prop :=
  ∃ (hDa : Cert.Da.Facts) (hDaIdeal : Cert.DaIdeal.Facts) (hRefDaIdeal : Cert.RefDaIdeal.Facts) (hDh : Cert.Dh.Facts) (hDhIdeal : Cert.DhIdeal.Facts) (hRefDhIdeal : Cert.RefDhIdeal.Facts) (hGrad : Cert.Grad.Facts) (hGradIdeal : Cert.GradIdeal.Facts) (hRefGradIdeal : Cert.RefGradIdeal.Facts) (hDwIn : Cert.DwIn.Facts) (hDwInIdeal : Cert.DwInIdeal.Facts) (hRefDwInIdeal : Cert.RefDwInIdeal.Facts) (hDwOut : Cert.DwOut.Facts) (hDwOutIdeal : Cert.DwOutIdeal.Facts) (hRefDwOutIdeal : Cert.RefDwOutIdeal.Facts) (hDwQkv : Cert.DwQkv.Facts) (hDwQkvIdeal : Cert.DwQkvIdeal.Facts) (hRefDwQkvIdeal : Cert.RefDwQkvIdeal.Facts),
    quiescent_Da (hDa := hDa)
    ∧ quiescent_DaIdeal (hDaIdeal := hDaIdeal)
    ∧ quiescent_RefDaIdeal (hRefDaIdeal := hRefDaIdeal)
    ∧ quiescent_Dh (hDh := hDh)
    ∧ quiescent_DhIdeal (hDhIdeal := hDhIdeal)
    ∧ quiescent_RefDhIdeal (hRefDhIdeal := hRefDhIdeal)
    ∧ quiescent_Grad (hGrad := hGrad)
    ∧ quiescent_GradIdeal (hGradIdeal := hGradIdeal)
    ∧ quiescent_RefGradIdeal (hRefGradIdeal := hRefGradIdeal)
    ∧ quiescent_DwIn (hDwIn := hDwIn)
    ∧ quiescent_DwInIdeal (hDwInIdeal := hDwInIdeal)
    ∧ quiescent_RefDwInIdeal (hRefDwInIdeal := hRefDwInIdeal)
    ∧ quiescent_DwOut (hDwOut := hDwOut)
    ∧ quiescent_DwOutIdeal (hDwOutIdeal := hDwOutIdeal)
    ∧ quiescent_RefDwOutIdeal (hRefDwOutIdeal := hRefDwOutIdeal)
    ∧ quiescent_DwQkv (hDwQkv := hDwQkv)
    ∧ quiescent_DwQkvIdeal (hDwQkvIdeal := hDwQkvIdeal)
    ∧ quiescent_RefDwQkvIdeal (hRefDwQkvIdeal := hRefDwQkvIdeal)
    ∧ preserves_Da_DaIdeal
    ∧ algebraic_DaIdeal_RefDaIdeal (hDaIdeal := hDaIdeal) (hRefDaIdeal := hRefDaIdeal)
    ∧ preserves_Dh_DhIdeal
    ∧ algebraic_DhIdeal_RefDhIdeal (hDhIdeal := hDhIdeal) (hRefDhIdeal := hRefDhIdeal)
    ∧ preserves_Grad_GradIdeal
    ∧ algebraic_GradIdeal_RefGradIdeal (hGradIdeal := hGradIdeal) (hRefGradIdeal := hRefGradIdeal)
    ∧ preserves_DwIn_DwInIdeal
    ∧ algebraic_DwInIdeal_RefDwInIdeal (hDwInIdeal := hDwInIdeal) (hRefDwInIdeal := hRefDwInIdeal)
    ∧ preserves_DwOut_DwOutIdeal
    ∧ algebraic_DwOutIdeal_RefDwOutIdeal (hDwOutIdeal := hDwOutIdeal) (hRefDwOutIdeal := hRefDwOutIdeal)
    ∧ preserves_DwQkv_DwQkvIdeal
    ∧ algebraic_DwQkvIdeal_RefDwQkvIdeal (hDwQkvIdeal := hDwQkvIdeal) (hRefDwQkvIdeal := hRefDwQkvIdeal)
-- ==== Da.lean ====
abbrev S6x4096x2048 : Shape := ⟨3, ![6, 4096, 2048]⟩
abbrev S6x4096 : Shape := ⟨2, ![6, 4096]⟩
abbrev S6x4096x2x5632 : Shape := ⟨4, ![6, 4096, 2, 5632]⟩
abbrev S5632x2048 : Shape := ⟨2, ![5632, 2048]⟩
abbrev S2048 : Shape := ⟨1, ![2048]⟩
abbrev S24576x2048 : Shape := ⟨2, ![24576, 2048]⟩
abbrev S6x2x4096x5632 : Shape := ⟨4, ![6, 2, 4096, 5632]⟩
abbrev S24576x1 : Shape := ⟨2, ![24576, 1]⟩
abbrev S1x2048 : Shape := ⟨2, ![1, 2048]⟩
abbrev S256x2048 : Shape := ⟨2, ![256, 2048]⟩
abbrev S256x1 : Shape := ⟨2, ![256, 1]⟩
abbrev S1x2x256x5632 : Shape := ⟨4, ![1, 2, 256, 5632]⟩
abbrev S2x256x5632 : Shape := ⟨3, ![2, 256, 5632]⟩
abbrev S256x128 : Shape := ⟨2, ![256, 128]⟩
abbrev S512x2048 : Shape := ⟨2, ![512, 2048]⟩
abbrev S256x512 : Shape := ⟨2, ![256, 512]⟩
abbrev S1x1x256x512 : Shape := ⟨4, ![1, 1, 256, 512]⟩
abbrev S1x256x512 : Shape := ⟨3, ![1, 256, 512]⟩
abbrev S256 : Shape := ⟨1, ![256]⟩

abbrev nBuf : Space → Nat
  | .hbm => 13
  | .vmem => 15
  | .smem => 0
  | _ => 0

abbrev bufTy : (tb : Table) → Fin (tcTables nBuf tb) → BufTy
  | .hbm, ⟨0, _⟩ => ⟨S6x4096x2048, .fp8e5m2⟩
  | .hbm, ⟨1, _⟩ => ⟨S6x4096, .f32⟩
  | .hbm, ⟨2, _⟩ => ⟨S6x4096x2x5632, .fp8e4m3⟩
  | .hbm, ⟨3, _⟩ => ⟨S6x4096, .f32⟩
  | .hbm, ⟨4, _⟩ => ⟨S5632x2048, .fp8e4m3⟩
  | .hbm, ⟨5, _⟩ => ⟨S2048, .f32⟩
  | .hbm, ⟨6, _⟩ => ⟨S24576x2048, .fp8e5m2⟩
  | .hbm, ⟨7, _⟩ => ⟨S6x2x4096x5632, .fp8e4m3⟩
  | .hbm, ⟨8, _⟩ => ⟨S24576x1, .f32⟩
  | .hbm, ⟨9, _⟩ => ⟨S24576x1, .f32⟩
  | .hbm, ⟨10, _⟩ => ⟨S1x2048, .f32⟩
  | .hbm, ⟨11, _⟩ => ⟨S6x2x4096x5632, .fp8e5m2⟩
  | .hbm, ⟨12, _⟩ => ⟨S24576x1, .f32⟩
  | .local _ .vmem, ⟨0, _⟩ => ⟨S256x2048, .fp8e5m2⟩
  | .local _ .vmem, ⟨1, _⟩ => ⟨S256x2048, .fp8e5m2⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S1x2x256x5632, .fp8e4m3⟩
  | .local _ .vmem, ⟨8, _⟩ => ⟨S1x2x256x5632, .fp8e4m3⟩
  | .local _ .vmem, ⟨9, _⟩ => ⟨S5632x2048, .fp8e4m3⟩
  | .local _ .vmem, ⟨10, _⟩ => ⟨S1x2x256x5632, .fp8e5m2⟩
  | .local _ .vmem, ⟨11, _⟩ => ⟨S1x2x256x5632, .fp8e5m2⟩
  | .local _ .vmem, ⟨12, _⟩ => ⟨S256x1, .f32⟩
  | .local _ .vmem, ⟨13, _⟩ => ⟨S256x1, .f32⟩
  | .local _ .vmem, ⟨14, _⟩ => ⟨S2x256x5632, .f32⟩
  | _, _ => ⟨S6x4096x2048, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2x256x5632 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5632x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2x256x5632 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefDaIdeal.lean ====
abbrev S6x4096x2048 : Shape := ⟨3, ![6, 4096, 2048]⟩
abbrev S6x4096 : Shape := ⟨2, ![6, 4096]⟩
abbrev S6x4096x2x5632 : Shape := ⟨4, ![6, 4096, 2, 5632]⟩
abbrev S5632x2048 : Shape := ⟨2, ![5632, 2048]⟩
abbrev S2048 : Shape := ⟨1, ![2048]⟩
abbrev S24576x2048 : Shape := ⟨2, ![24576, 2048]⟩
abbrev S24576x1 : Shape := ⟨2, ![24576, 1]⟩
abbrev S6x4096x1x5632 : Shape := ⟨4, ![6, 4096, 1, 5632]⟩
abbrev S6x4096x5632 : Shape := ⟨3, ![6, 4096, 5632]⟩
abbrev S24576x5632 : Shape := ⟨2, ![24576, 5632]⟩
abbrev S1x2048 : Shape := ⟨2, ![1, 2048]⟩
abbrev S6x2x4096x5632 : Shape := ⟨4, ![6, 2, 4096, 5632]⟩
abbrev S24576 : Shape := ⟨1, ![24576]⟩
abbrev S1x253 : Shape := ⟨2, ![1, 253]⟩
abbrev S24576x253 : Shape := ⟨2, ![24576, 253]⟩
abbrev S6x1x4096x5632 : Shape := ⟨4, ![6, 1, 4096, 5632]⟩

abbrev nBuf : Space → Nat
  | .hbm => 18
  | .vmem => 9
  | .smem => 0
  | _ => 0

abbrev bufTy : (tb : Table) → Fin (tcTables nBuf tb) → BufTy
  | .hbm, ⟨0, _⟩ => ⟨S6x4096x2048, .fp8e5m2⟩
  | .hbm, ⟨1, _⟩ => ⟨S6x4096, .f32⟩
  | .hbm, ⟨2, _⟩ => ⟨S6x4096x2x5632, .fp8e4m3⟩
  | .hbm, ⟨3, _⟩ => ⟨S6x4096, .f32⟩
  | .hbm, ⟨4, _⟩ => ⟨S5632x2048, .fp8e4m3⟩
  | .hbm, ⟨5, _⟩ => ⟨S2048, .f32⟩
  | .hbm, ⟨6, _⟩ => ⟨S24576x2048, .fp8e5m2⟩
  | .hbm, ⟨7, _⟩ => ⟨S24576x1, .f32⟩
  | .hbm, ⟨8, _⟩ => ⟨S6x4096x1x5632, .fp8e4m3⟩
  | .hbm, ⟨9, _⟩ => ⟨S6x4096x5632, .fp8e4m3⟩
  | .hbm, ⟨10, _⟩ => ⟨S24576x5632, .fp8e4m3⟩
  | .hbm, ⟨11, _⟩ => ⟨S6x4096x1x5632, .fp8e4m3⟩
  | .hbm, ⟨12, _⟩ => ⟨S6x4096x5632, .fp8e4m3⟩
  | .hbm, ⟨13, _⟩ => ⟨S24576x5632, .fp8e4m3⟩
  | .hbm, ⟨14, _⟩ => ⟨S24576x1, .f32⟩
  | .hbm, ⟨15, _⟩ => ⟨S1x2048, .f32⟩
  | .hbm, ⟨16, _⟩ => ⟨S6x2x4096x5632, .fp8e5m2⟩
  | .hbm, ⟨17, _⟩ => ⟨S24576x1, .f32⟩
  | .local _ .vmem, ⟨0, _⟩ => ⟨S24576x2048, .fp8e5m2⟩
  | .local _ .vmem, ⟨1, _⟩ => ⟨S24576x1, .f32⟩
  | .local _ .vmem, ⟨2, _⟩ => ⟨S24576x5632, .fp8e4m3⟩
  | .local _ .vmem, ⟨3, _⟩ => ⟨S24576x5632, .fp8e4m3⟩
  | .local _ .vmem, ⟨4, _⟩ => ⟨S24576x1, .f32⟩
  | .local _ .vmem, ⟨5, _⟩ => ⟨S5632x2048, .fp8e4m3⟩
  | .local _ .vmem, ⟨6, _⟩ => ⟨S1x2048, .f32⟩
  | .local _ .vmem, ⟨7, _⟩ => ⟨S6x2x4096x5632, .fp8e5m2⟩
  | .local _ .vmem, ⟨8, _⟩ => ⟨S24576x1, .f32⟩
  | _, _ => ⟨S6x4096x2048, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S24576x2048 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x5632 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x5632 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5632x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x2x4096x5632 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24576x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Dh.lean ====
abbrev S6x2x4096x5632 : Shape := ⟨4, ![6, 2, 4096, 5632]⟩
abbrev S24576x1 : Shape := ⟨2, ![24576, 1]⟩
abbrev S6x4096x3x32x64 : Shape := ⟨5, ![6, 4096, 3, 32, 64]⟩
abbrev S6x4096 : Shape := ⟨2, ![6, 4096]⟩
abbrev S6x4096x2048 : Shape := ⟨3, ![6, 4096, 2048]⟩
abbrev S2048 : Shape := ⟨1, ![2048]⟩
abbrev S2048x2x5632 : Shape := ⟨3, ![2048, 2, 5632]⟩
abbrev S2x5632 : Shape := ⟨2, ![2, 5632]⟩
abbrev S2048x3x32x64 : Shape := ⟨4, ![2048, 3, 32, 64]⟩
abbrev S3x32x64 : Shape := ⟨3, ![3, 32, 64]⟩
abbrev S24576x2048 : Shape := ⟨2, ![24576, 2048]⟩
abbrev S6x3x32x64x4096 : Shape := ⟨5, ![6, 3, 32, 64, 4096]⟩
abbrev S6x6144x4096 : Shape := ⟨3, ![6, 6144, 4096]⟩
abbrev S2x2048x5632 : Shape := ⟨3, ![2, 2048, 5632]⟩
abbrev S3x32x64x2048 : Shape := ⟨4, ![3, 32, 64, 2048]⟩
abbrev S6144x2048 : Shape := ⟨2, ![6144, 2048]⟩
abbrev S1x2048 : Shape := ⟨2, ![1, 2048]⟩
abbrev S6144x1 : Shape := ⟨2, ![6144, 1]⟩
abbrev S1x2x256x5632 : Shape := ⟨4, ![1, 2, 256, 5632]⟩
abbrev S256x1 : Shape := ⟨2, ![256, 1]⟩
abbrev S1x6144x256 : Shape := ⟨3, ![1, 6144, 256]⟩
abbrev S256x2048 : Shape := ⟨2, ![256, 2048]⟩
abbrev S1x1x256x512 : Shape := ⟨4, ![1, 1, 256, 512]⟩
abbrev S256x512 : Shape := ⟨2, ![256, 512]⟩
abbrev S1x512 : Shape := ⟨2, ![1, 512]⟩
abbrev S1x2048x512 : Shape := ⟨3, ![1, 2048, 512]⟩
abbrev S2048x512 : Shape := ⟨2, ![2048, 512]⟩
abbrev S1x512x256 : Shape := ⟨3, ![1, 512, 256]⟩
abbrev S512x256 : Shape := ⟨2, ![512, 256]⟩
abbrev S512x1 : Shape := ⟨2, ![512, 1]⟩
abbrev S512x2048 : Shape := ⟨2, ![512, 2048]⟩
abbrev S256 : Shape := ⟨1, ![256]⟩

abbrev nBuf : Space → Nat
  | .hbm => 29
  | .vmem => 26
  | .smem => 0
  | _ => 0

abbrev bufTy : (tb : Table) → Fin (tcTables nBuf tb) → BufTy
  | .hbm, ⟨0, _⟩ => ⟨S6x2x4096x5632, .fp8e5m2⟩
  | .hbm, ⟨1, _⟩ => ⟨S24576x1, .f32⟩
  | .hbm, ⟨2, _⟩ => ⟨S6x4096x3x32x64, .fp8e5m2⟩
  | .hbm, ⟨3, _⟩ => ⟨S6x4096, .f32⟩
  | .hbm, ⟨4, _⟩ => ⟨S6x4096x2048, .fp8e4m3⟩
  | .hbm, ⟨5, _⟩ => ⟨S6x4096, .f32⟩
  | .hbm, ⟨6, _⟩ => ⟨S6x4096x2048, .fp8e5m2⟩
  | .hbm, ⟨7, _⟩ => ⟨S6x4096, .f32⟩
  | .hbm, ⟨8, _⟩ => ⟨S6x4096, .f32⟩
  | .hbm, ⟨9, _⟩ => ⟨S2048, .f32⟩
  | .hbm, ⟨10, _⟩ => ⟨S2048x2x5632, .fp8e4m3⟩
  | .hbm, ⟨11, _⟩ => ⟨S2x5632, .f32⟩
  | .hbm, ⟨12, _⟩ => ⟨S2048x3x32x64, .fp8e4m3⟩
  | .hbm, ⟨13, _⟩ => ⟨S3x32x64, .f32⟩
  | .hbm, ⟨14, _⟩ => ⟨S24576x2048, .fp8e5m2⟩
  | .hbm, ⟨15, _⟩ => ⟨S24576x2048, .fp8e4m3⟩
  | .hbm, ⟨16, _⟩ => ⟨S6x3x32x64x4096, .fp8e5m2⟩
  | .hbm, ⟨17, _⟩ => ⟨S6x6144x4096, .fp8e5m2⟩
  | .hbm, ⟨18, _⟩ => ⟨S2x2048x5632, .fp8e4m3⟩
  | .hbm, ⟨19, _⟩ => ⟨S3x32x64x2048, .fp8e4m3⟩
  | .hbm, ⟨20, _⟩ => ⟨S6144x2048, .fp8e4m3⟩
  | .hbm, ⟨21, _⟩ => ⟨S24576x1, .f32⟩
  | .hbm, ⟨22, _⟩ => ⟨S24576x1, .f32⟩
  | .hbm, ⟨23, _⟩ => ⟨S24576x1, .f32⟩
  | .hbm, ⟨24, _⟩ => ⟨S24576x1, .f32⟩
  | .hbm, ⟨25, _⟩ => ⟨S1x2048, .f32⟩
  | .hbm, ⟨26, _⟩ => ⟨S6144x1, .f32⟩
  | .hbm, ⟨27, _⟩ => ⟨S24576x2048, .bf16⟩
  | .hbm, ⟨28, _⟩ => ⟨S1x2048, .f32⟩
  | .local _ .vmem, ⟨0, _⟩ => ⟨S1x2x256x5632, .fp8e5m2⟩
  | .local _ .vmem, ⟨1, _⟩ => ⟨S1x2x256x5632, .fp8e5m2⟩
  | .local _ .vmem, ⟨2, _⟩ => ⟨S256x1, .f32⟩
  | .local _ .vmem, ⟨3, _⟩ => ⟨S256x1, .f32⟩
  | .local _ .vmem, ⟨4, _⟩ => ⟨S1x6144x256, .fp8e5m2⟩
  | .local _ .vmem, ⟨5, _⟩ => ⟨S1x6144x256, .fp8e5m2⟩
  | .local _ .vmem, ⟨6, _⟩ => ⟨S256x1, .f32⟩
  | .local _ .vmem, ⟨7, _⟩ => ⟨S256x1, .f32⟩
  | .local _ .vmem, ⟨8, _⟩ => ⟨S256x2048, .fp8e4m3⟩
  | .local _ .vmem, ⟨9, _⟩ => ⟨S256x2048, .fp8e4m3⟩
  | .local _ .vmem, ⟨10, _⟩ => ⟨S256x1, .f32⟩
  | .local _ .vmem, ⟨11, _⟩ => ⟨S256x1, .f32⟩
  | .local _ .vmem, ⟨12, _⟩ => ⟨S256x2048, .fp8e5m2⟩
  | .local _ .vmem, ⟨13, _⟩ => ⟨S256x2048, .fp8e5m2⟩
  | .local _ .vmem, ⟨14, _⟩ => ⟨S256x1, .f32⟩
  | .local _ .vmem, ⟨15, _⟩ => ⟨S256x1, .f32⟩
  | .local _ .vmem, ⟨16, _⟩ => ⟨S256x1, .f32⟩
  | .local _ .vmem, ⟨17, _⟩ => ⟨S256x1, .f32⟩
  | .local _ .vmem, ⟨18, _⟩ => ⟨S1x2048, .f32⟩
  | .local _ .vmem, ⟨19, _⟩ => ⟨S2x2048x5632, .fp8e4m3⟩
  | .local _ .vmem, ⟨20, _⟩ => ⟨S6144x2048, .fp8e4m3⟩
  | .local _ .vmem, ⟨21, _⟩ => ⟨S2x5632, .f32⟩
  | .local _ .vmem, ⟨22, _⟩ => ⟨S6144x1, .f32⟩
  | .local _ .vmem, ⟨23, _⟩ => ⟨S256x2048, .bf16⟩
  | .local _ .vmem, ⟨24, _⟩ => ⟨S256x2048, .bf16⟩
  | .local _ .vmem, ⟨25, _⟩ => ⟨S1x2048, .f32⟩
  | _, _ => ⟨S6x2x4096x5632, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨1, ![96], ![false]⟩

def cc0_transform_0 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2x256x5632 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6144x256 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x2048x5632 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6144x2048 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S6144x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== RefDhIdeal.lean ====
abbrev S6x2x4096x5632 : Shape := ⟨4, ![6, 2, 4096, 5632]⟩
abbrev S24576x1 : Shape := ⟨2, ![24576, 1]⟩
abbrev S6x4096x3x32x64 : Shape := ⟨5, ![6, 4096, 3, 32, 64]⟩
abbrev S6x4096 : Shape := ⟨2, ![6, 4096]⟩
abbrev S6x4096x2048 : Shape := ⟨3, ![6, 4096, 2048]⟩
abbrev S2048 : Shape := ⟨1, ![2048]⟩
abbrev S2048x2x5632 : Shape := ⟨3, ![2048, 2, 5632]⟩
abbrev S2x5632 : Shape := ⟨2, ![2, 5632]⟩
abbrev S2048x3x32x64 : Shape := ⟨4, ![2048, 3, 32, 64]⟩
abbrev S3x32x64 : Shape := ⟨3, ![3, 32, 64]⟩
abbrev S6x4096x2x5632 : Shape := ⟨4, ![6, 4096, 2, 5632]⟩
abbrev S24576x11264 : Shape := ⟨2, ![24576, 11264]⟩
abbrev S24576x6144 : Shape := ⟨2, ![24576, 6144]⟩
abbrev S24576x2048 : Shape := ⟨2, ![24576, 2048]⟩
abbrev S1x2048 : Shape := ⟨2, ![1, 2048]⟩
abbrev S2048x11264 : Shape := ⟨2, ![2048, 11264]⟩
abbrev S1x11264 : Shape := ⟨2, ![1, 11264]⟩
abbrev S2048x6144 : Shape := ⟨2, ![2048, 6144]⟩
abbrev S1x6144 : Shape := ⟨2, ![1, 6144]⟩
abbrev S24576 : Shape := ⟨1, ![24576]⟩

abbrev nBuf : Space → Nat
  | .hbm => 30
  | .vmem => 16
  | .smem => 0
  | _ => 0

abbrev bufTy : (tb : Table) → Fin (tcTables nBuf tb) → BufTy
  | .hbm, ⟨0, _⟩ => ⟨S6x2x4096x5632, .fp8e5m2⟩
  | .hbm, ⟨1, _⟩ => ⟨S24576x1, .f32⟩
  | .hbm, ⟨2, _⟩ => ⟨S6x4096x3x32x64, .fp8e5m2⟩
  | .hbm, ⟨3, _⟩ => ⟨S6x4096, .f32⟩
  | .hbm, ⟨4, _⟩ => ⟨S6x4096x2048, .fp8e4m3⟩
  | .hbm, ⟨5, _⟩ => ⟨S6x4096, .f32⟩
  | .hbm, ⟨6, _⟩ => ⟨S6x4096x2048, .fp8e5m2⟩
  | .hbm, ⟨7, _⟩ => ⟨S6x4096, .f32⟩
  | .hbm, ⟨8, _⟩ => ⟨S6x4096, .f32⟩
  | .hbm, ⟨9, _⟩ => ⟨S2048, .f32⟩
  | .hbm, ⟨10, _⟩ => ⟨S2048x2x5632, .fp8e4m3⟩
  | .hbm, ⟨11, _⟩ => ⟨S2x5632, .f32⟩
  | .hbm, ⟨12, _⟩ => ⟨S2048x3x32x64, .fp8e4m3⟩
  | .hbm, ⟨13, _⟩ => ⟨S3x32x64, .f32⟩
  | .hbm, ⟨14, _⟩ => ⟨S6x4096x2x5632, .fp8e5m2⟩
  | .hbm, ⟨15, _⟩ => ⟨S24576x11264, .fp8e5m2⟩
  | .hbm, ⟨16, _⟩ => ⟨S24576x6144, .fp8e5m2⟩
  | .hbm, ⟨17, _⟩ => ⟨S24576x1, .f32⟩
  | .hbm, ⟨18, _⟩ => ⟨S24576x2048, .fp8e4m3⟩
  | .hbm, ⟨19, _⟩ => ⟨S24576x1, .f32⟩
  | .hbm, ⟨20, _⟩ => ⟨S24576x2048, .fp8e5m2⟩
  | .hbm, ⟨21, _⟩ => ⟨S24576x1, .f32⟩
  | .hbm, ⟨22, _⟩ => ⟨S24576x1, .f32⟩
  | .hbm, ⟨23, _⟩ => ⟨S1x2048, .f32⟩
  | .hbm, ⟨24, _⟩ => ⟨S2048x11264, .fp8e4m3⟩
  | .hbm, ⟨25, _⟩ => ⟨S1x11264, .f32⟩
  | .hbm, ⟨26, _⟩ => ⟨S2048x6144, .fp8e4m3⟩
  | .hbm, ⟨27, _⟩ => ⟨S1x6144, .f32⟩
  | .hbm, ⟨28, _⟩ => ⟨S24576x2048, .bf16⟩
  | .hbm, ⟨29, _⟩ => ⟨S1x2048, .f32⟩
  | .local _ .vmem, ⟨0, _⟩ => ⟨S24576x11264, .fp8e5m2⟩
  | .local _ .vmem, ⟨1, _⟩ => ⟨S24576x1, .f32⟩
  | .local _ .vmem, ⟨2, _⟩ => ⟨S24576x6144, .fp8e5m2⟩
  | .local _ .vmem, ⟨3, _⟩ => ⟨S24576x1, .f32⟩
  | .local _ .vmem, ⟨4, _⟩ => ⟨S24576x2048, .fp8e4m3⟩
  | .local _ .vmem, ⟨5, _⟩ => ⟨S24576x1, .f32⟩
  | .local _ .vmem, ⟨6, _⟩ => ⟨S24576x2048, .fp8e5m2⟩
  | .local _ .vmem, ⟨7, _⟩ => ⟨S24576x1, .f32⟩
  | .local _ .vmem, ⟨8, _⟩ => ⟨S24576x1, .f32⟩
  | .local _ .vmem, ⟨9, _⟩ => ⟨S1x2048, .f32⟩
  | .local _ .vmem, ⟨10, _⟩ => ⟨S2048x11264, .fp8e4m3⟩
  | .local _ .vmem, ⟨11, _⟩ => ⟨S1x11264, .f32⟩
  | .local _ .vmem, ⟨12, _⟩ => ⟨S2048x6144, .fp8e4m3⟩
  | .local _ .vmem, ⟨13, _⟩ => ⟨S1x6144, .f32⟩
  | .local _ .vmem, ⟨14, _⟩ => ⟨S24576x2048, .bf16⟩
  | .local _ .vmem, ⟨15, _⟩ => ⟨S1x2048, .f32⟩
  | _, _ => ⟨S6x2x4096x5632, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S24576x11264 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x6144 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x2048 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24576x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x11264 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x11264 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x6144 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x6144 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S24576x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Grad.lean ====
abbrev S6x4096x2048 : Shape := ⟨3, ![6, 4096, 2048]⟩
abbrev S6x4096 : Shape := ⟨2, ![6, 4096]⟩
abbrev S6x4096x3x32x64 : Shape := ⟨5, ![6, 4096, 3, 32, 64]⟩
abbrev S2048 : Shape := ⟨1, ![2048]⟩
abbrev S6x4096x2x5632 : Shape := ⟨4, ![6, 4096, 2, 5632]⟩
abbrev S2048x2x5632 : Shape := ⟨3, ![2048, 2, 5632]⟩
abbrev S2x5632 : Shape := ⟨2, ![2, 5632]⟩
abbrev S5632x2048 : Shape := ⟨2, ![5632, 2048]⟩
abbrev S2048x3x32x64 : Shape := ⟨4, ![2048, 3, 32, 64]⟩
abbrev S3x32x64 : Shape := ⟨3, ![3, 32, 64]⟩
abbrev S24576x2048 : Shape := ⟨2, ![24576, 2048]⟩
abbrev S6x2x4096x5632 : Shape := ⟨4, ![6, 2, 4096, 5632]⟩
abbrev S6x3x32x64x4096 : Shape := ⟨5, ![6, 3, 32, 64, 4096]⟩
abbrev S6x6144x4096 : Shape := ⟨3, ![6, 6144, 4096]⟩
abbrev S2x2048x5632 : Shape := ⟨3, ![2, 2048, 5632]⟩
abbrev S3x32x64x2048 : Shape := ⟨4, ![3, 32, 64, 2048]⟩
abbrev S6144x2048 : Shape := ⟨2, ![6144, 2048]⟩
abbrev S24576x1 : Shape := ⟨2, ![24576, 1]⟩
abbrev S1x2048 : Shape := ⟨2, ![1, 2048]⟩
abbrev S256x2048 : Shape := ⟨2, ![256, 2048]⟩
abbrev S256x1 : Shape := ⟨2, ![256, 1]⟩
abbrev S1x2x256x5632 : Shape := ⟨4, ![1, 2, 256, 5632]⟩
abbrev S2x256x5632 : Shape := ⟨3, ![2, 256, 5632]⟩
abbrev S256x128 : Shape := ⟨2, ![256, 128]⟩
abbrev S512x2048 : Shape := ⟨2, ![512, 2048]⟩
abbrev S256x512 : Shape := ⟨2, ![256, 512]⟩
abbrev S1x1x256x512 : Shape := ⟨4, ![1, 1, 256, 512]⟩
abbrev S1x256x512 : Shape := ⟨3, ![1, 256, 512]⟩
abbrev S256 : Shape := ⟨1, ![256]⟩
abbrev S6144x1 : Shape := ⟨2, ![6144, 1]⟩
abbrev S1x6144x256 : Shape := ⟨3, ![1, 6144, 256]⟩
abbrev S1x512 : Shape := ⟨2, ![1, 512]⟩
abbrev S1x2048x512 : Shape := ⟨3, ![1, 2048, 512]⟩
abbrev S2048x512 : Shape := ⟨2, ![2048, 512]⟩
abbrev S1x512x256 : Shape := ⟨3, ![1, 512, 256]⟩
abbrev S512x256 : Shape := ⟨2, ![512, 256]⟩
abbrev S512x1 : Shape := ⟨2, ![512, 1]⟩

abbrev nBuf : Space → Nat
  | .hbm => 37
  | .vmem => 41
  | .smem => 0
  | _ => 0

abbrev bufTy : (tb : Table) → Fin (tcTables nBuf tb) → BufTy
  | .hbm, ⟨0, _⟩ => ⟨S6x4096x2048, .fp8e5m2⟩
  | .hbm, ⟨1, _⟩ => ⟨S6x4096, .f32⟩
  | .hbm, ⟨2, _⟩ => ⟨S6x4096x3x32x64, .fp8e5m2⟩
  | .hbm, ⟨3, _⟩ => ⟨S6x4096, .f32⟩
  | .hbm, ⟨4, _⟩ => ⟨S6x4096x2048, .fp8e4m3⟩
  | .hbm, ⟨5, _⟩ => ⟨S6x4096, .f32⟩
  | .hbm, ⟨6, _⟩ => ⟨S6x4096, .f32⟩
  | .hbm, ⟨7, _⟩ => ⟨S2048, .f32⟩
  | .hbm, ⟨8, _⟩ => ⟨S6x4096x2x5632, .fp8e4m3⟩
  | .hbm, ⟨9, _⟩ => ⟨S6x4096, .f32⟩
  | .hbm, ⟨10, _⟩ => ⟨S2048x2x5632, .fp8e4m3⟩
  | .hbm, ⟨11, _⟩ => ⟨S2x5632, .f32⟩
  | .hbm, ⟨12, _⟩ => ⟨S5632x2048, .fp8e4m3⟩
  | .hbm, ⟨13, _⟩ => ⟨S2048, .f32⟩
  | .hbm, ⟨14, _⟩ => ⟨S2048x3x32x64, .fp8e4m3⟩
  | .hbm, ⟨15, _⟩ => ⟨S3x32x64, .f32⟩
  | .hbm, ⟨16, _⟩ => ⟨S24576x2048, .fp8e5m2⟩
  | .hbm, ⟨17, _⟩ => ⟨S24576x2048, .fp8e4m3⟩
  | .hbm, ⟨18, _⟩ => ⟨S6x2x4096x5632, .fp8e4m3⟩
  | .hbm, ⟨19, _⟩ => ⟨S6x3x32x64x4096, .fp8e5m2⟩
  | .hbm, ⟨20, _⟩ => ⟨S6x6144x4096, .fp8e5m2⟩
  | .hbm, ⟨21, _⟩ => ⟨S2x2048x5632, .fp8e4m3⟩
  | .hbm, ⟨22, _⟩ => ⟨S3x32x64x2048, .fp8e4m3⟩
  | .hbm, ⟨23, _⟩ => ⟨S6144x2048, .fp8e4m3⟩
  | .hbm, ⟨24, _⟩ => ⟨S24576x1, .f32⟩
  | .hbm, ⟨25, _⟩ => ⟨S24576x1, .f32⟩
  | .hbm, ⟨26, _⟩ => ⟨S1x2048, .f32⟩
  | .hbm, ⟨27, _⟩ => ⟨S6x2x4096x5632, .fp8e5m2⟩
  | .hbm, ⟨28, _⟩ => ⟨S24576x1, .f32⟩
  | .hbm, ⟨29, _⟩ => ⟨S24576x1, .f32⟩
  | .hbm, ⟨30, _⟩ => ⟨S24576x1, .f32⟩
  | .hbm, ⟨31, _⟩ => ⟨S24576x1, .f32⟩
  | .hbm, ⟨32, _⟩ => ⟨S24576x1, .f32⟩
  | .hbm, ⟨33, _⟩ => ⟨S1x2048, .f32⟩
  | .hbm, ⟨34, _⟩ => ⟨S6144x1, .f32⟩
  | .hbm, ⟨35, _⟩ => ⟨S24576x2048, .bf16⟩
  | .hbm, ⟨36, _⟩ => ⟨S1x2048, .f32⟩
  | .local _ .vmem, ⟨0, _⟩ => ⟨S256x2048, .fp8e5m2⟩
  | .local _ .vmem, ⟨1, _⟩ => ⟨S256x2048, .fp8e5m2⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S1x2x256x5632, .fp8e4m3⟩
  | .local _ .vmem, ⟨8, _⟩ => ⟨S1x2x256x5632, .fp8e4m3⟩
  | .local _ .vmem, ⟨9, _⟩ => ⟨S5632x2048, .fp8e4m3⟩
  | .local _ .vmem, ⟨10, _⟩ => ⟨S1x2x256x5632, .fp8e5m2⟩
  | .local _ .vmem, ⟨11, _⟩ => ⟨S1x2x256x5632, .fp8e5m2⟩
  | .local _ .vmem, ⟨12, _⟩ => ⟨S256x1, .f32⟩
  | .local _ .vmem, ⟨13, _⟩ => ⟨S256x1, .f32⟩
  | .local _ .vmem, ⟨14, _⟩ => ⟨S2x256x5632, .f32⟩
  | .local _ .vmem, ⟨15, _⟩ => ⟨S1x2x256x5632, .fp8e5m2⟩
  | .local _ .vmem, ⟨16, _⟩ => ⟨S1x2x256x5632, .fp8e5m2⟩
  | .local _ .vmem, ⟨17, _⟩ => ⟨S256x1, .f32⟩
  | .local _ .vmem, ⟨18, _⟩ => ⟨S256x1, .f32⟩
  | .local _ .vmem, ⟨19, _⟩ => ⟨S1x6144x256, .fp8e5m2⟩
  | .local _ .vmem, ⟨20, _⟩ => ⟨S1x6144x256, .fp8e5m2⟩
  | .local _ .vmem, ⟨21, _⟩ => ⟨S256x1, .f32⟩
  | .local _ .vmem, ⟨22, _⟩ => ⟨S256x1, .f32⟩
  | .local _ .vmem, ⟨23, _⟩ => ⟨S256x2048, .fp8e4m3⟩
  | .local _ .vmem, ⟨24, _⟩ => ⟨S256x2048, .fp8e4m3⟩
  | .local _ .vmem, ⟨25, _⟩ => ⟨S256x1, .f32⟩
  | .local _ .vmem, ⟨26, _⟩ => ⟨S256x1, .f32⟩
  | .local _ .vmem, ⟨27, _⟩ => ⟨S256x2048, .fp8e5m2⟩
  | .local _ .vmem, ⟨28, _⟩ => ⟨S256x2048, .fp8e5m2⟩
  | .local _ .vmem, ⟨29, _⟩ => ⟨S256x1, .f32⟩
  | .local _ .vmem, ⟨30, _⟩ => ⟨S256x1, .f32⟩
  | .local _ .vmem, ⟨31, _⟩ => ⟨S256x1, .f32⟩
  | .local _ .vmem, ⟨32, _⟩ => ⟨S256x1, .f32⟩
  | .local _ .vmem, ⟨33, _⟩ => ⟨S1x2048, .f32⟩
  | .local _ .vmem, ⟨34, _⟩ => ⟨S2x2048x5632, .fp8e4m3⟩
  | .local _ .vmem, ⟨35, _⟩ => ⟨S6144x2048, .fp8e4m3⟩
  | .local _ .vmem, ⟨36, _⟩ => ⟨S2x5632, .f32⟩
  | .local _ .vmem, ⟨37, _⟩ => ⟨S6144x1, .f32⟩
  | .local _ .vmem, ⟨38, _⟩ => ⟨S256x2048, .bf16⟩
  | .local _ .vmem, ⟨39, _⟩ => ⟨S256x2048, .bf16⟩
  | .local _ .vmem, ⟨40, _⟩ => ⟨S1x2048, .f32⟩
  | _, _ => ⟨S6x4096x2048, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg10_0 : Ref sig .tc := ⟨.vmem, 34, rfl⟩
abbrev cc1_stg11_0 : Ref sig .tc := ⟨.vmem, 35, rfl⟩
abbrev cc1_stg12_0 : Ref sig .tc := ⟨.vmem, 36, rfl⟩
abbrev cc1_stg13_0 : Ref sig .tc := ⟨.vmem, 37, rfl⟩
abbrev cc1_stg14_0 : Ref sig .tc := ⟨.vmem, 38, rfl⟩
abbrev cc1_stg14_1 : Ref sig .tc := ⟨.vmem, 39, rfl⟩
abbrev cc1_stg15_0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem10_0 : DmaSem sig := 33
abbrev cc1_sem11_0 : DmaSem sig := 34
abbrev cc1_sem12_0 : DmaSem sig := 35
abbrev cc1_sem13_0 : DmaSem sig := 36
abbrev cc1_sem14_0 : DmaSem sig := 37
abbrev cc1_sem14_1 : DmaSem sig := 38
abbrev cc1_sem15_0 : DmaSem sig := 39

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2x256x5632 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5632x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2x256x5632 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![96], ![false]⟩

def cc1_transform_0 (i : grid1.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x2x256x5632 .fp8e5m2 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x6144x256 .fp8e5m2 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2048 .fp8e5m2 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S2x2048x5632 .fp8e4m3 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S6144x2048 .fp8e4m3 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S2x5632 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S6144x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S256x2048 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 1 → Memref sig .tc .vmem S1x2048 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]
-- ==== RefGradIdeal.lean ====
abbrev S6x4096x2048 : Shape := ⟨3, ![6, 4096, 2048]⟩
abbrev S6x4096 : Shape := ⟨2, ![6, 4096]⟩
abbrev S6x4096x3x32x64 : Shape := ⟨5, ![6, 4096, 3, 32, 64]⟩
abbrev S2048 : Shape := ⟨1, ![2048]⟩
abbrev S6x4096x2x5632 : Shape := ⟨4, ![6, 4096, 2, 5632]⟩
abbrev S2048x2x5632 : Shape := ⟨3, ![2048, 2, 5632]⟩
abbrev S2x5632 : Shape := ⟨2, ![2, 5632]⟩
abbrev S5632x2048 : Shape := ⟨2, ![5632, 2048]⟩
abbrev S2048x3x32x64 : Shape := ⟨4, ![2048, 3, 32, 64]⟩
abbrev S3x32x64 : Shape := ⟨3, ![3, 32, 64]⟩
abbrev S24576x2048 : Shape := ⟨2, ![24576, 2048]⟩
abbrev S24576x1 : Shape := ⟨2, ![24576, 1]⟩
abbrev S24576x6144 : Shape := ⟨2, ![24576, 6144]⟩
abbrev S1x2048 : Shape := ⟨2, ![1, 2048]⟩
abbrev S6x4096x1x5632 : Shape := ⟨4, ![6, 4096, 1, 5632]⟩
abbrev S6x4096x5632 : Shape := ⟨3, ![6, 4096, 5632]⟩
abbrev S24576x5632 : Shape := ⟨2, ![24576, 5632]⟩
abbrev S2048x1x5632 : Shape := ⟨3, ![2048, 1, 5632]⟩
abbrev S2048x5632 : Shape := ⟨2, ![2048, 5632]⟩
abbrev S1x5632 : Shape := ⟨2, ![1, 5632]⟩
abbrev S2048x6144 : Shape := ⟨2, ![2048, 6144]⟩
abbrev S1x6144 : Shape := ⟨2, ![1, 6144]⟩
abbrev S6x2x4096x5632 : Shape := ⟨4, ![6, 2, 4096, 5632]⟩
abbrev S24576 : Shape := ⟨1, ![24576]⟩
abbrev S1x253 : Shape := ⟨2, ![1, 253]⟩
abbrev S24576x253 : Shape := ⟨2, ![24576, 253]⟩
abbrev S6x1x4096x5632 : Shape := ⟨4, ![6, 1, 4096, 5632]⟩

abbrev nBuf : Space → Nat
  | .hbm => 44
  | .vmem => 23
  | .smem => 0
  | _ => 0

abbrev bufTy : (tb : Table) → Fin (tcTables nBuf tb) → BufTy
  | .hbm, ⟨0, _⟩ => ⟨S6x4096x2048, .fp8e5m2⟩
  | .hbm, ⟨1, _⟩ => ⟨S6x4096, .f32⟩
  | .hbm, ⟨2, _⟩ => ⟨S6x4096x3x32x64, .fp8e5m2⟩
  | .hbm, ⟨3, _⟩ => ⟨S6x4096, .f32⟩
  | .hbm, ⟨4, _⟩ => ⟨S6x4096x2048, .fp8e4m3⟩
  | .hbm, ⟨5, _⟩ => ⟨S6x4096, .f32⟩
  | .hbm, ⟨6, _⟩ => ⟨S6x4096, .f32⟩
  | .hbm, ⟨7, _⟩ => ⟨S2048, .f32⟩
  | .hbm, ⟨8, _⟩ => ⟨S6x4096x2x5632, .fp8e4m3⟩
  | .hbm, ⟨9, _⟩ => ⟨S6x4096, .f32⟩
  | .hbm, ⟨10, _⟩ => ⟨S2048x2x5632, .fp8e4m3⟩
  | .hbm, ⟨11, _⟩ => ⟨S2x5632, .f32⟩
  | .hbm, ⟨12, _⟩ => ⟨S5632x2048, .fp8e4m3⟩
  | .hbm, ⟨13, _⟩ => ⟨S2048, .f32⟩
  | .hbm, ⟨14, _⟩ => ⟨S2048x3x32x64, .fp8e4m3⟩
  | .hbm, ⟨15, _⟩ => ⟨S3x32x64, .f32⟩
  | .hbm, ⟨16, _⟩ => ⟨S24576x2048, .fp8e5m2⟩
  | .hbm, ⟨17, _⟩ => ⟨S24576x1, .f32⟩
  | .hbm, ⟨18, _⟩ => ⟨S24576x6144, .fp8e5m2⟩
  | .hbm, ⟨19, _⟩ => ⟨S24576x1, .f32⟩
  | .hbm, ⟨20, _⟩ => ⟨S24576x2048, .fp8e4m3⟩
  | .hbm, ⟨21, _⟩ => ⟨S24576x1, .f32⟩
  | .hbm, ⟨22, _⟩ => ⟨S24576x1, .f32⟩
  | .hbm, ⟨23, _⟩ => ⟨S1x2048, .f32⟩
  | .hbm, ⟨24, _⟩ => ⟨S6x4096x1x5632, .fp8e4m3⟩
  | .hbm, ⟨25, _⟩ => ⟨S6x4096x5632, .fp8e4m3⟩
  | .hbm, ⟨26, _⟩ => ⟨S24576x5632, .fp8e4m3⟩
  | .hbm, ⟨27, _⟩ => ⟨S6x4096x1x5632, .fp8e4m3⟩
  | .hbm, ⟨28, _⟩ => ⟨S6x4096x5632, .fp8e4m3⟩
  | .hbm, ⟨29, _⟩ => ⟨S24576x5632, .fp8e4m3⟩
  | .hbm, ⟨30, _⟩ => ⟨S24576x1, .f32⟩
  | .hbm, ⟨31, _⟩ => ⟨S2048x1x5632, .fp8e4m3⟩
  | .hbm, ⟨32, _⟩ => ⟨S2048x5632, .fp8e4m3⟩
  | .hbm, ⟨33, _⟩ => ⟨S2048x1x5632, .fp8e4m3⟩
  | .hbm, ⟨34, _⟩ => ⟨S2048x5632, .fp8e4m3⟩
  | .hbm, ⟨35, _⟩ => ⟨S1x5632, .f32⟩
  | .hbm, ⟨36, _⟩ => ⟨S1x5632, .f32⟩
  | .hbm, ⟨37, _⟩ => ⟨S1x2048, .f32⟩
  | .hbm, ⟨38, _⟩ => ⟨S2048x6144, .fp8e4m3⟩
  | .hbm, ⟨39, _⟩ => ⟨S1x6144, .f32⟩
  | .hbm, ⟨40, _⟩ => ⟨S24576x2048, .bf16⟩
  | .hbm, ⟨41, _⟩ => ⟨S1x2048, .f32⟩
  | .hbm, ⟨42, _⟩ => ⟨S6x2x4096x5632, .fp8e5m2⟩
  | .hbm, ⟨43, _⟩ => ⟨S24576x1, .f32⟩
  | .local _ .vmem, ⟨0, _⟩ => ⟨S24576x2048, .fp8e5m2⟩
  | .local _ .vmem, ⟨1, _⟩ => ⟨S24576x1, .f32⟩
  | .local _ .vmem, ⟨2, _⟩ => ⟨S24576x6144, .fp8e5m2⟩
  | .local _ .vmem, ⟨3, _⟩ => ⟨S24576x1, .f32⟩
  | .local _ .vmem, ⟨4, _⟩ => ⟨S24576x2048, .fp8e4m3⟩
  | .local _ .vmem, ⟨5, _⟩ => ⟨S24576x1, .f32⟩
  | .local _ .vmem, ⟨6, _⟩ => ⟨S24576x1, .f32⟩
  | .local _ .vmem, ⟨7, _⟩ => ⟨S1x2048, .f32⟩
  | .local _ .vmem, ⟨8, _⟩ => ⟨S24576x5632, .fp8e4m3⟩
  | .local _ .vmem, ⟨9, _⟩ => ⟨S24576x5632, .fp8e4m3⟩
  | .local _ .vmem, ⟨10, _⟩ => ⟨S24576x1, .f32⟩
  | .local _ .vmem, ⟨11, _⟩ => ⟨S2048x5632, .fp8e4m3⟩
  | .local _ .vmem, ⟨12, _⟩ => ⟨S2048x5632, .fp8e4m3⟩
  | .local _ .vmem, ⟨13, _⟩ => ⟨S1x5632, .f32⟩
  | .local _ .vmem, ⟨14, _⟩ => ⟨S1x5632, .f32⟩
  | .local _ .vmem, ⟨15, _⟩ => ⟨S5632x2048, .fp8e4m3⟩
  | .local _ .vmem, ⟨16, _⟩ => ⟨S1x2048, .f32⟩
  | .local _ .vmem, ⟨17, _⟩ => ⟨S2048x6144, .fp8e4m3⟩
  | .local _ .vmem, ⟨18, _⟩ => ⟨S1x6144, .f32⟩
  | .local _ .vmem, ⟨19, _⟩ => ⟨S24576x2048, .bf16⟩
  | .local _ .vmem, ⟨20, _⟩ => ⟨S1x2048, .f32⟩
  | .local _ .vmem, ⟨21, _⟩ => ⟨S6x2x4096x5632, .fp8e5m2⟩
  | .local _ .vmem, ⟨22, _⟩ => ⟨S24576x1, .f32⟩
  | _, _ => ⟨S6x4096x2048, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_v24_2 : Ref sig .tc := ⟨.hbm, 42, rfl⟩
abbrev main_v24_3 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := .none

abbrev stage0_0 : Fin 1 → Memref sig .tc .vmem S24576x2048 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x6144 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24576x5632 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24576x5632 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24576x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x5632 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x5632 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S5632x2048 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2048x6144 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x6144 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S24576x2048 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S6x2x4096x5632 .fp8e5m2 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S24576x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
-- ==== DwIn.lean ====
abbrev S6x4096x2048 : Shape := ⟨3, ![6, 4096, 2048]⟩
abbrev S6x4096 : Shape := ⟨2, ![6, 4096]⟩
abbrev S6x2x4096x5632 : Shape := ⟨4, ![6, 2, 4096, 5632]⟩
abbrev S24576x1 : Shape := ⟨2, ![24576, 1]⟩
abbrev S2048 : Shape := ⟨1, ![2048]⟩
abbrev S24576x2048 : Shape := ⟨2, ![24576, 2048]⟩
abbrev S2048x1 : Shape := ⟨2, ![2048, 1]⟩
abbrev S2048x11264 : Shape := ⟨2, ![2048, 11264]⟩
abbrev S512x2048 : Shape := ⟨2, ![512, 2048]⟩
abbrev S512x1 : Shape := ⟨2, ![512, 1]⟩
abbrev S1x1x512x512 : Shape := ⟨4, ![1, 1, 512, 512]⟩
abbrev S2048x512 : Shape := ⟨2, ![2048, 512]⟩
abbrev S512x512 : Shape := ⟨2, ![512, 512]⟩

abbrev nBuf : Space → Nat
  | .hbm => 9
  | .vmem => 12
  | .smem => 0
  | _ => 0

abbrev bufTy : (tb : Table) → Fin (tcTables nBuf tb) → BufTy
  | .hbm, ⟨0, _⟩ => ⟨S6x4096x2048, .fp8e4m3⟩
  | .hbm, ⟨1, _⟩ => ⟨S6x4096, .f32⟩
  | .hbm, ⟨2, _⟩ => ⟨S6x2x4096x5632, .fp8e5m2⟩
  | .hbm, ⟨3, _⟩ => ⟨S24576x1, .f32⟩
  | .hbm, ⟨4, _⟩ => ⟨S2048, .f32⟩
  | .hbm, ⟨5, _⟩ => ⟨S24576x2048, .fp8e4m3⟩
  | .hbm, ⟨6, _⟩ => ⟨S24576x1, .f32⟩
  | .hbm, ⟨7, _⟩ => ⟨S2048x1, .f32⟩
  | .hbm, ⟨8, _⟩ => ⟨S2048x11264, .bf16⟩
  | .local _ .vmem, ⟨0, _⟩ => ⟨S512x2048, .fp8e4m3⟩
  | .local _ .vmem, ⟨1, _⟩ => ⟨S512x2048, .fp8e4m3⟩
  | .local _ .vmem, ⟨2, _⟩ => ⟨S512x1, .f32⟩
  | .local _ .vmem, ⟨3, _⟩ => ⟨S512x1, .f32⟩
  | .local _ .vmem, ⟨4, _⟩ => ⟨S1x1x512x512, .fp8e5m2⟩
  | .local _ .vmem, ⟨5, _⟩ => ⟨S1x1x512x512, .fp8e5m2⟩
  | .local _ .vmem, ⟨6, _⟩ => ⟨S512x1, .f32⟩
  | .local _ .vmem, ⟨7, _⟩ => ⟨S512x1, .f32⟩
  | .local _ .vmem, ⟨8, _⟩ => ⟨S2048x1, .f32⟩
  | .local _ .vmem, ⟨9, _⟩ => ⟨S2048x512, .bf16⟩
  | .local _ .vmem, ⟨10, _⟩ => ⟨S2048x512, .bf16⟩
  | .local _ .vmem, ⟨11, _⟩ => ⟨S2048x512, .f32⟩
  | _, _ => ⟨S6x4096x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![1, 22, 48], ![false, false, false]⟩

def k0_cond2 (i : grid0.Coords) : BitVec 1 :=
  let arg2 : BitVec 32 := BitVec.ofNat 32 (i 2).val
  let c47_i32 : BitVec 32 := 47#32
  let v22 : BitVec 1 := Scalar.cmpi .eq arg2 c47_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg2 c8_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg2 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32 : BitVec 32 := 11#32
  let v17 : BitVec 32 := Scalar.divsi arg1 c11_i32
  let c0_i32_4 : BitVec 32 := 0#32
  let v18 : BitVec 1 := Scalar.cmpi .sgt arg1 c0_i32_4
  let v19 : BitVec 32 := Scalar.extui v18
  let c0_i32_5 : BitVec 32 := 0#32
  let v20 : BitVec 1 := Scalar.cmpi .slt arg1 c0_i32_5
  let v21 : BitVec 32 := Scalar.extui v20
  let v22 : BitVec 32 := Scalar.subi v19 v21
  let c0_i32_6 : BitVec 32 := 0#32
  let v23 : BitVec 1 := Scalar.cmpi .sgt c11_i32 c0_i32_6
  let v24 : BitVec 32 := Scalar.extui v23
  let c0_i32_7 : BitVec 32 := 0#32
  let v25 : BitVec 1 := Scalar.cmpi .slt c11_i32 c0_i32_7
  let v26 : BitVec 32 := Scalar.extui v25
  let v27 : BitVec 32 := Scalar.subi v24 v26
  let v28 : BitVec 1 := Scalar.cmpi .ne v22 v27
  let v29 : BitVec 32 := Scalar.remsi arg1 c11_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c8_i32_10 : BitVec 32 := 8#32
  let c0_i32_11 : BitVec 32 := 0#32
  let v34 : BitVec 1 := Scalar.cmpi .eq c8_i32_10 c0_i32_11
  let c1_i32_12 : BitVec 32 := 1#32
  let v35 : BitVec 32 := Scalar.select v34 c1_i32_12 c8_i32_10
  let v36 : BitVec 32 := Scalar.remsi arg2 v35
  let c0_i32_13 : BitVec 32 := 0#32
  let v37 : BitVec 1 := Scalar.cmpi .ne v36 c0_i32_13
  let c0_i32_14 : BitVec 32 := 0#32
  let v38 : BitVec 1 := Scalar.cmpi .slt v36 c0_i32_14
  let c0_i32_15 : BitVec 32 := 0#32
  let v39 : BitVec 1 := Scalar.cmpi .slt v35 c0_i32_15
  let v40 : BitVec 1 := Scalar.xori v38 v39
  let v41 : BitVec 1 := Scalar.andi v40 v37
  let v42 : BitVec 32 := Scalar.addi v36 v35
  let v43 : BitVec 32 := Scalar.select v41 v42 v36
  let c11_i32_16 : BitVec 32 := 11#32
  let c0_i32_17 : BitVec 32 := 0#32
  let v44 : BitVec 1 := Scalar.cmpi .eq c11_i32_16 c0_i32_17
  let c1_i32_18 : BitVec 32 := 1#32
  let v45 : BitVec 32 := Scalar.select v44 c1_i32_18 c11_i32_16
  let v46 : BitVec 32 := Scalar.remsi arg1 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  ![v16.toNat, v33.toNat, v43.toNat, v53.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1x512x512 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RefDwInIdeal.lean ====
abbrev S6x4096x2048 : Shape := ⟨3, ![6, 4096, 2048]⟩
abbrev S6x4096 : Shape := ⟨2, ![6, 4096]⟩
abbrev S6x2x4096x5632 : Shape := ⟨4, ![6, 2, 4096, 5632]⟩
abbrev S24576x1 : Shape := ⟨2, ![24576, 1]⟩
abbrev S2048 : Shape := ⟨1, ![2048]⟩
abbrev S24576x2048 : Shape := ⟨2, ![24576, 2048]⟩
abbrev S6x4096x2x5632 : Shape := ⟨4, ![6, 4096, 2, 5632]⟩
abbrev S24576x11264 : Shape := ⟨2, ![24576, 11264]⟩
abbrev S2048x1 : Shape := ⟨2, ![2048, 1]⟩
abbrev S2048x11264 : Shape := ⟨2, ![2048, 11264]⟩

abbrev nBuf : Space → Nat
  | .hbm => 11
  | .vmem => 6
  | .smem => 0
  | _ => 0

abbrev bufTy : (tb : Table) → Fin (tcTables nBuf tb) → BufTy
  | .hbm, ⟨0, _⟩ => ⟨S6x4096x2048, .fp8e4m3⟩
  | .hbm, ⟨1, _⟩ => ⟨S6x4096, .f32⟩
  | .hbm, ⟨2, _⟩ => ⟨S6x2x4096x5632, .fp8e5m2⟩
  | .hbm, ⟨3, _⟩ => ⟨S24576x1, .f32⟩
  | .hbm, ⟨4, _⟩ => ⟨S2048, .f32⟩
  | .hbm, ⟨5, _⟩ => ⟨S24576x2048, .fp8e4m3⟩
  | .hbm, ⟨6, _⟩ => ⟨S24576x1, .f32⟩
  | .hbm, ⟨7, _⟩ => ⟨S6x4096x2x5632, .fp8e5m2⟩
  | .hbm, ⟨8, _⟩ => ⟨S24576x11264, .fp8e5m2⟩
  | .hbm, ⟨9, _⟩ => ⟨S2048x1, .f32⟩
  | .hbm, ⟨10, _⟩ => ⟨S2048x11264, .bf16⟩
  | .local _ .vmem, ⟨0, _⟩ => ⟨S24576x2048, .fp8e4m3⟩
  | .local _ .vmem, ⟨1, _⟩ => ⟨S24576x1, .f32⟩
  | .local _ .vmem, ⟨2, _⟩ => ⟨S24576x11264, .fp8e5m2⟩
  | .local _ .vmem, ⟨3, _⟩ => ⟨S24576x1, .f32⟩
  | .local _ .vmem, ⟨4, _⟩ => ⟨S2048x1, .f32⟩
  | .local _ .vmem, ⟨5, _⟩ => ⟨S2048x11264, .bf16⟩
  | _, _ => ⟨S6x4096x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x11264 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x11264 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== DwOut.lean ====
abbrev S6x4096x5632 : Shape := ⟨3, ![6, 4096, 5632]⟩
abbrev S6x4096 : Shape := ⟨2, ![6, 4096]⟩
abbrev S6x4096x2048 : Shape := ⟨3, ![6, 4096, 2048]⟩
abbrev S24576x2048 : Shape := ⟨2, ![24576, 2048]⟩
abbrev S24576x5632 : Shape := ⟨2, ![24576, 5632]⟩
abbrev S24576x1 : Shape := ⟨2, ![24576, 1]⟩
abbrev S_ : Shape := ⟨0, ![]⟩
abbrev S5632x1 : Shape := ⟨2, ![5632, 1]⟩
abbrev S5632x2048 : Shape := ⟨2, ![5632, 2048]⟩
abbrev S512x512 : Shape := ⟨2, ![512, 512]⟩
abbrev S512x1 : Shape := ⟨2, ![512, 1]⟩
abbrev S512x2048 : Shape := ⟨2, ![512, 2048]⟩

abbrev nBuf : Space → Nat
  | .hbm => 11
  | .vmem => 13
  | .smem => 0
  | _ => 0

abbrev bufTy : (tb : Table) → Fin (tcTables nBuf tb) → BufTy
  | .hbm, ⟨0, _⟩ => ⟨S6x4096x5632, .fp8e4m3⟩
  | .hbm, ⟨1, _⟩ => ⟨S6x4096, .f32⟩
  | .hbm, ⟨2, _⟩ => ⟨S6x4096x2048, .fp8e5m2⟩
  | .hbm, ⟨3, _⟩ => ⟨S6x4096, .f32⟩
  | .hbm, ⟨4, _⟩ => ⟨S24576x2048, .fp8e5m2⟩
  | .hbm, ⟨5, _⟩ => ⟨S24576x5632, .fp8e4m3⟩
  | .hbm, ⟨6, _⟩ => ⟨S24576x1, .f32⟩
  | .hbm, ⟨7, _⟩ => ⟨S24576x1, .f32⟩
  | .hbm, ⟨8, _⟩ => ⟨S_, .f32⟩
  | .hbm, ⟨9, _⟩ => ⟨S5632x1, .f32⟩
  | .hbm, ⟨10, _⟩ => ⟨S5632x2048, .bf16⟩
  | .local _ .vmem, ⟨0, _⟩ => ⟨S512x512, .fp8e4m3⟩
  | .local _ .vmem, ⟨1, _⟩ => ⟨S512x512, .fp8e4m3⟩
  | .local _ .vmem, ⟨2, _⟩ => ⟨S512x1, .f32⟩
  | .local _ .vmem, ⟨3, _⟩ => ⟨S512x1, .f32⟩
  | .local _ .vmem, ⟨4, _⟩ => ⟨S512x2048, .fp8e5m2⟩
  | .local _ .vmem, ⟨5, _⟩ => ⟨S512x2048, .fp8e5m2⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S6x4096x5632, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![11, 1, 48], ![false, false, false]⟩

def k0_cond2 (i : grid0.Coords) : BitVec 1 :=
  let arg2 : BitVec 32 := BitVec.ofNat 32 (i 2).val
  let c47_i32 : BitVec 32 := 47#32
  let v23 : BitVec 1 := Scalar.cmpi .eq arg2 c47_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RefDwOutIdeal.lean ====
abbrev S6x4096x5632 : Shape := ⟨3, ![6, 4096, 5632]⟩
abbrev S6x4096 : Shape := ⟨2, ![6, 4096]⟩
abbrev S6x4096x2048 : Shape := ⟨3, ![6, 4096, 2048]⟩
abbrev S24576x5632 : Shape := ⟨2, ![24576, 5632]⟩
abbrev S24576x1 : Shape := ⟨2, ![24576, 1]⟩
abbrev S24576x2048 : Shape := ⟨2, ![24576, 2048]⟩
abbrev S5632x2048 : Shape := ⟨2, ![5632, 2048]⟩

abbrev nBuf : Space → Nat
  | .hbm => 9
  | .vmem => 5
  | .smem => 0
  | _ => 0

abbrev bufTy : (tb : Table) → Fin (tcTables nBuf tb) → BufTy
  | .hbm, ⟨0, _⟩ => ⟨S6x4096x5632, .fp8e4m3⟩
  | .hbm, ⟨1, _⟩ => ⟨S6x4096, .f32⟩
  | .hbm, ⟨2, _⟩ => ⟨S6x4096x2048, .fp8e5m2⟩
  | .hbm, ⟨3, _⟩ => ⟨S6x4096, .f32⟩
  | .hbm, ⟨4, _⟩ => ⟨S24576x5632, .fp8e4m3⟩
  | .hbm, ⟨5, _⟩ => ⟨S24576x1, .f32⟩
  | .hbm, ⟨6, _⟩ => ⟨S24576x2048, .fp8e5m2⟩
  | .hbm, ⟨7, _⟩ => ⟨S24576x1, .f32⟩
  | .hbm, ⟨8, _⟩ => ⟨S5632x2048, .bf16⟩
  | .local _ .vmem, ⟨0, _⟩ => ⟨S24576x5632, .fp8e4m3⟩
  | .local _ .vmem, ⟨1, _⟩ => ⟨S24576x1, .f32⟩
  | .local _ .vmem, ⟨2, _⟩ => ⟨S24576x2048, .fp8e5m2⟩
  | .local _ .vmem, ⟨3, _⟩ => ⟨S24576x1, .f32⟩
  | .local _ .vmem, ⟨4, _⟩ => ⟨S5632x2048, .bf16⟩
  | _, _ => ⟨S6x4096x5632, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S24576x5632 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x2048 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5632x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DwQkv.lean ====
abbrev S6x4096x3x32x64 : Shape := ⟨5, ![6, 4096, 3, 32, 64]⟩
abbrev S6x4096 : Shape := ⟨2, ![6, 4096]⟩
abbrev S6x4096x2048 : Shape := ⟨3, ![6, 4096, 2048]⟩
abbrev S2048 : Shape := ⟨1, ![2048]⟩
abbrev S24576x2048 : Shape := ⟨2, ![24576, 2048]⟩
abbrev S6x3x32x64x4096 : Shape := ⟨5, ![6, 3, 32, 64, 4096]⟩
abbrev S6x6144x4096 : Shape := ⟨3, ![6, 6144, 4096]⟩
abbrev S1x24576 : Shape := ⟨2, ![1, 24576]⟩
abbrev S1x2048 : Shape := ⟨2, ![1, 2048]⟩
abbrev S6144x2048 : Shape := ⟨2, ![6144, 2048]⟩
abbrev S1x2048x512 : Shape := ⟨3, ![1, 2048, 512]⟩
abbrev S1x512 : Shape := ⟨2, ![1, 512]⟩
abbrev S512x2048 : Shape := ⟨2, ![512, 2048]⟩
abbrev S2048x2048 : Shape := ⟨2, ![2048, 2048]⟩
abbrev S2048x512 : Shape := ⟨2, ![2048, 512]⟩

abbrev nBuf : Space → Nat
  | .hbm => 12
  | .vmem => 12
  | .smem => 0
  | _ => 0

abbrev bufTy : (tb : Table) → Fin (tcTables nBuf tb) → BufTy
  | .hbm, ⟨0, _⟩ => ⟨S6x4096x3x32x64, .fp8e5m2⟩
  | .hbm, ⟨1, _⟩ => ⟨S6x4096, .f32⟩
  | .hbm, ⟨2, _⟩ => ⟨S6x4096x2048, .fp8e4m3⟩
  | .hbm, ⟨3, _⟩ => ⟨S6x4096, .f32⟩
  | .hbm, ⟨4, _⟩ => ⟨S2048, .f32⟩
  | .hbm, ⟨5, _⟩ => ⟨S24576x2048, .fp8e4m3⟩
  | .hbm, ⟨6, _⟩ => ⟨S6x3x32x64x4096, .fp8e5m2⟩
  | .hbm, ⟨7, _⟩ => ⟨S6x6144x4096, .fp8e5m2⟩
  | .hbm, ⟨8, _⟩ => ⟨S1x24576, .f32⟩
  | .hbm, ⟨9, _⟩ => ⟨S1x24576, .f32⟩
  | .hbm, ⟨10, _⟩ => ⟨S1x2048, .f32⟩
  | .hbm, ⟨11, _⟩ => ⟨S6144x2048, .bf16⟩
  | .local _ .vmem, ⟨0, _⟩ => ⟨S1x2048x512, .fp8e5m2⟩
  | .local _ .vmem, ⟨1, _⟩ => ⟨S1x2048x512, .fp8e5m2⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x2048, .fp8e4m3⟩
  | .local _ .vmem, ⟨7, _⟩ => ⟨S512x2048, .fp8e4m3⟩
  | .local _ .vmem, ⟨8, _⟩ => ⟨S1x2048, .f32⟩
  | .local _ .vmem, ⟨9, _⟩ => ⟨S2048x2048, .bf16⟩
  | .local _ .vmem, ⟨10, _⟩ => ⟨S2048x2048, .bf16⟩
  | .local _ .vmem, ⟨11, _⟩ => ⟨S2048x2048, .f32⟩
  | _, _ => ⟨S6x4096x3x32x64, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![3, 1, 48], ![false, false, false]⟩

def k0_cond2 (i : grid0.Coords) : BitVec 1 :=
  let arg2 : BitVec 32 := BitVec.ofNat 32 (i 2).val
  let c47_i32 : BitVec 32 := 47#32
  let v23 : BitVec 1 := Scalar.cmpi .eq arg2 c47_i32
  let v24 : BitVec 32 := Scalar.extui v23
  let c0_i32_13 : BitVec 32 := 0#32
  let v25 : BitVec 1 := Scalar.cmpi .ne v24 c0_i32_13
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg2 c8_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg2 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x2048x512 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S2048x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== RefDwQkvIdeal.lean ====
abbrev S6x4096x3x32x64 : Shape := ⟨5, ![6, 4096, 3, 32, 64]⟩
abbrev S6x4096 : Shape := ⟨2, ![6, 4096]⟩
abbrev S6x4096x2048 : Shape := ⟨3, ![6, 4096, 2048]⟩
abbrev S2048 : Shape := ⟨1, ![2048]⟩
abbrev S24576x6144 : Shape := ⟨2, ![24576, 6144]⟩
abbrev S24576x1 : Shape := ⟨2, ![24576, 1]⟩
abbrev S24576x2048 : Shape := ⟨2, ![24576, 2048]⟩
abbrev S1x2048 : Shape := ⟨2, ![1, 2048]⟩
abbrev S6144x2048 : Shape := ⟨2, ![6144, 2048]⟩

abbrev nBuf : Space → Nat
  | .hbm => 11
  | .vmem => 6
  | .smem => 0
  | _ => 0

abbrev bufTy : (tb : Table) → Fin (tcTables nBuf tb) → BufTy
  | .hbm, ⟨0, _⟩ => ⟨S6x4096x3x32x64, .fp8e5m2⟩
  | .hbm, ⟨1, _⟩ => ⟨S6x4096, .f32⟩
  | .hbm, ⟨2, _⟩ => ⟨S6x4096x2048, .fp8e4m3⟩
  | .hbm, ⟨3, _⟩ => ⟨S6x4096, .f32⟩
  | .hbm, ⟨4, _⟩ => ⟨S2048, .f32⟩
  | .hbm, ⟨5, _⟩ => ⟨S24576x6144, .fp8e5m2⟩
  | .hbm, ⟨6, _⟩ => ⟨S24576x1, .f32⟩
  | .hbm, ⟨7, _⟩ => ⟨S24576x2048, .fp8e4m3⟩
  | .hbm, ⟨8, _⟩ => ⟨S24576x1, .f32⟩
  | .hbm, ⟨9, _⟩ => ⟨S1x2048, .f32⟩
  | .hbm, ⟨10, _⟩ => ⟨S6144x2048, .bf16⟩
  | .local _ .vmem, ⟨0, _⟩ => ⟨S24576x6144, .fp8e5m2⟩
  | .local _ .vmem, ⟨1, _⟩ => ⟨S24576x1, .f32⟩
  | .local _ .vmem, ⟨2, _⟩ => ⟨S24576x2048, .fp8e4m3⟩
  | .local _ .vmem, ⟨3, _⟩ => ⟨S24576x1, .f32⟩
  | .local _ .vmem, ⟨4, _⟩ => ⟨S1x2048, .f32⟩
  | .local _ .vmem, ⟨5, _⟩ => ⟨S6144x2048, .bf16⟩
  | _, _ => ⟨S6x4096x3x32x64, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x6144 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.DaMath.lean ====
module

public import Idealize.ShloMosaic.Lib.Pipeline.ValueKit
public import Idealize.ShloMosaic.Lib.Pointwise
public import Idealize.ShloMosaic.Lib.Claim

@[expose] public section

set_option maxRecDepth 16384

noncomputable section

namespace Cert.DaMath

open Idealize.ShloMosaic

/-! ## The activation's gradient -/

/-- The gradient at the gate from the gradient at the product, the gate and the up projection. -/
def dGate (dg gate up : EReal) : EReal :=
  ((dg * up) * Ideal.logistic gate) * (1 + gate * (1 - Ideal.logistic gate))

/-- The gradient at the up projection. -/
def dUp (dg gate : EReal) : EReal := (dg * gate) * Ideal.logistic gate

/-- The absolute value over the extended reals. -/
def abs (x : EReal) : EReal := max x (-x)

/-- An absolute value is not negative. -/
theorem abs_nonneg (x : EReal) : 0 ≤ abs x := by
  rcases le_total 0 x with h | h
  · exact le_max_of_le_left h
  · exact le_max_of_le_right (by simpa using EReal.neg_le_neg_iff.mpr h)

/-- The kernel's absolute value is this one. -/
theorem absf_eq (x : EReal) : (FloatOps.absf (F := Ideal) (φ := .f32) x : EReal) = abs x := rfl

/-- The logistic function written with an exponential. -/
theorem logistic_eq (x : EReal) : Ideal.div 1 (1 + Ideal.exp (0 - x)) = Ideal.logistic x := by
  rw [Ideal.logistic, zero_sub]

/-! ## Powers of two -/

/-- The value of the float word with exponent field `k` and nothing else. -/
def pow (k : ℕ) : EReal := Ideal.ofBits .f32 (BitVec.ofNat 32 (k * 2 ^ 23))

/-- It is a power of two. -/
theorem pow_eq (k : ℕ) (h1 : 1 ≤ k) (h2 : k ≤ 254) : pow k = (((2 : ℝ) ^ ((k : ℤ) - 127) : ℝ) : EReal) := by
  have hn : (BitVec.ofNat 32 (k * 2 ^ 23)).toNat = k * 2 ^ 23 := by
    rw [BitVec.toNat_ofNat, Nat.mod_eq_of_lt (by omega)]
  have he : ((BitVec.ofNat 32 (k * 2 ^ 23)).extractLsb' 23 8).toNat = k := by
    rw [BitVec.extractLsb'_toNat, hn, Nat.shiftRight_eq_div_pow]; omega
  have hf : ((BitVec.ofNat 32 (k * 2 ^ 23)).extractLsb' 0 23).toNat = 0 := by
    rw [BitVec.extractLsb'_toNat, hn, Nat.shiftRight_eq_div_pow]; omega
  have hs : ((BitVec.ofNat 32 (k * 2 ^ 23)).extractLsb' 31 1 == 1#1) = false := by
    rw [beq_eq_false_iff_ne]; intro h
    have := congrArg BitVec.toNat h
    rw [BitVec.extractLsb'_toNat, hn, Nat.shiftRight_eq_div_pow] at this
    simp at this; omega
  unfold pow Ideal.ofBits Ideal.ieee
  simp only [he, hf, hs, Nat.reduceAdd]
  rw [if_neg (by omega), if_neg (by omega)]
  congr 1
  simp only [Bool.false_eq_true, if_false, one_mul, add_zero]
  push_cast
  rw [zpow_sub₀ (by norm_num : (2 : ℝ) ≠ 0) ((k : ℤ) - 127) 23]
  norm_num
  ring

/-- The word with all exponent bits set is infinity. -/
theorem pow_255 : pow 255 = ⊤ := by
  unfold pow Ideal.ofBits Ideal.ieee
  simp

/-- The word of minus infinity. -/
theorem neg_inf : Ideal.ofBits .f32 0xFF800000#32 = ⊥ := by
  unfold Ideal.ofBits Ideal.ieee
  simp

/-- The word of infinity. -/
theorem pos_inf : Ideal.ofBits .f32 0x7F800000#32 = ⊤ := by
  unfold Ideal.ofBits Ideal.ieee
  simp

/-- A larger exponent field is a larger power. -/
theorem pow_le {a b : ℕ} (h1 : 1 ≤ a) (h : a ≤ b) (h2 : b ≤ 255) : pow a ≤ pow b := by
  rcases Nat.lt_or_ge 254 b with hb | hb
  · rw [show b = 255 by omega, pow_255]; exact le_top
  · rw [pow_eq a h1 (by omega), pow_eq b (by omega) hb, EReal.coe_le_coe_iff]
    exact zpow_le_zpow_right₀ (by norm_num) (by omega)

/-- One is a power of two. -/
theorem pow_127 : pow 127 = 1 := by
  rw [pow_eq 127 (by norm_num) (by norm_num)]; norm_num

/-- The inverse of a power of two is a power of two. -/
theorem div_pow (k : ℕ) (h1 : 1 ≤ k) (h2 : k ≤ 253) : Ideal.div 1 (pow k) = pow (254 - k) := by
  have hp : (0 : ℝ) < (2 : ℝ) ^ ((k : ℤ) - 127) := by positivity
  rw [pow_eq k h1 (by omega), pow_eq (254 - k) (by omega) (by omega), Ideal.div,
    if_neg (by rw [← EReal.coe_zero, EReal.coe_eq_coe_iff]; exact hp.ne'), one_mul, ← EReal.coe_inv, ← zpow_neg]
  congr 2
  omega

/-! ## The exponent of a quotient -/

/-- One step of the search for the exponent field: keep the bit when the power with it does not exceed the value. -/
def step (x : EReal) (d n : ℕ) : ℕ := if pow (n + d) ≤ x then n + d else n

/-- The exponent field of a non-negative value, at most 252: bit by bit from the highest. -/
def field (x : EReal) : ℕ :=
  min (step x 1 (step x 2 (step x 4 (step x 8 (step x 16 (step x 32 (step x 64 (step x 128 0)))))))) 252

/-- What the search keeps: the value lies between the powers of the field found and of the field with the open bits added. -/
def Between (x : EReal) (d n : ℕ) : Prop := n + d ≤ 256 ∧ (n = 0 ∨ pow n ≤ x) ∧ (n + d = 256 ∨ x < pow (n + d))

/-- A step halves the open interval. -/
theorem step_between {x : EReal} {d n : ℕ} (h : Between x (2 * d) n) : Between x d (step x d n) := by
  obtain ⟨h1, h2, h3⟩ := h
  unfold step
  split
  · rename_i hp
    refine ⟨by omega, .inr hp, ?_⟩
    rw [show n + d + d = n + 2 * d by omega]; exact h3
  · rename_i hp
    exact ⟨by omega, h2, .inr (lt_of_not_ge hp)⟩

/-- The search ends at the field whose power is the last one not above the value. -/
theorem search_between (x : EReal) :
    Between x 1 (step x 1 (step x 2 (step x 4 (step x 8 (step x 16 (step x 32 (step x 64 (step x 128 0)))))))) :=
  step_between (d := 1) <| step_between (d := 2) <| step_between (d := 4) <| step_between (d := 8) <|
    step_between (d := 16) <| step_between (d := 32) <| step_between (d := 64) <| step_between (d := 128)
      ⟨by norm_num, .inl rfl, .inl rfl⟩

/-- The field is at most 252. -/
theorem field_le (x : EReal) : field x ≤ 252 := min_le_right _ _

/-- The field's power does not exceed the value. -/
theorem pow_field_le (x : EReal) : field x = 0 ∨ pow (field x) ≤ x := by
  obtain ⟨h1, h2, -⟩ := search_between x
  unfold field
  generalize step x 1 _ = n at h1 h2 ⊢
  rcases h2 with h2 | h2
  · left; omega
  · rcases Nat.eq_zero_or_pos n with h0 | h0
    · left; omega
    · right
      exact (pow_le (by omega) (min_le_left _ _) (by omega)).trans h2

/-- The next power exceeds it, unless the field is the largest. -/
theorem lt_pow_field (x : EReal) : field x = 252 ∨ x < pow (field x + 1) := by
  obtain ⟨h1, -, h3⟩ := search_between x
  unfold field
  generalize step x 1 _ = n at h1 h3 ⊢
  rcases Nat.lt_or_ge n 252 with h | h
  · right
    rw [min_eq_left h.le]
    exact h3.resolve_left (by omega)
  · left; omega

/-- The least of the powers above the value, the largest power when there is none, is the one after the field's. -/
theorem least_power (x : EReal) :
    (Finset.univ : Finset (Fin 253)).fold min ⊤ (fun k => if x < pow (k.val + 1) then pow (k.val + 1) else pow 253) = pow (field x + 1) := by
  have hm := field_le x
  apply le_antisymm
  · rw [Finset.fold_min_le]
    right
    refine ⟨⟨field x, by omega⟩, Finset.mem_univ _, ?_⟩
    dsimp only
    split
    · exact le_rfl
    · rename_i h
      rw [(lt_pow_field x).resolve_right h]
  · rw [Finset.le_fold_min]
    refine ⟨le_top, fun k _ => ?_⟩
    have hk := k.isLt
    split
    · rename_i h
      rcases pow_field_le x with h0 | h0
      · rw [h0]; exact pow_le (by omega) (by omega) (by omega)
      · refine pow_le (by omega) ?_ (by omega)
        by_contra hc
        exact absurd ((pow_le (by omega) (by omega : k.val + 1 ≤ field x) (by omega)).trans h0) (not_le.mpr h)
    · exact pow_le (by omega) (by omega) (by omega)

/-- A row's scale from its largest absolute value: the power of two above its quotient by the codes' largest value, one for a row of zeros. -/
def scale (a : EReal) : EReal :=
  if a = 0 then 1 else pow (field (a * Ideal.ofBits .f32 0x37924925#32) + 1)

/-- The inverse of the scale. -/
def inv (a : EReal) : EReal :=
  if a = 0 then 1 else pow (253 - field (a * Ideal.ofBits .f32 0x37924925#32))

/-- The inverse is one over the scale. -/
theorem div_scale (a : EReal) : Ideal.div 1 (scale a) = inv a := by
  unfold scale inv
  split
  · have h := div_pow 127 (by norm_num) (by norm_num)
    rw [show 254 - 127 = 127 from rfl, pow_127] at h
    exact h
  · have := field_le (a * Ideal.ofBits .f32 0x37924925#32)
    rw [div_pow _ (by omega) (by omega)]
    congr 1
    omega

/-- A value clipped to the codes' range. -/
def clip (x : EReal) : EReal := min (Ideal.ofBits .f32 0x47600000#32) (max (Ideal.ofBits .f32 0xC7600000#32) x)

/-! ## The largest absolute value of a row -/

/-- A column of a chunk of 512 columns. -/
def col (c : ℕ) (x : Fin 512) : Fin 5632 := if h : 512 * c + x.val < 5632 then ⟨512 * c + x.val, h⟩ else 0

/-- A column inside the array. -/
theorem col_eq (c : ℕ) (x : Fin 512) (h : 512 * c + x.val < 5632) : col c x = ⟨512 * c + x.val, h⟩ := dif_pos h

/-- A running maximum of one lane joined by the lane's four entries of a chunk. -/
def lane (f : Fin 512 → EReal) (a : EReal) (l : Fin 128) : EReal :=
  max (max (max (max a (f ⟨l.val, by omega⟩)) (f ⟨128 + l.val, by omega⟩)) (f ⟨256 + l.val, by omega⟩)) (f ⟨384 + l.val, by omega⟩)

/-- One lane's running maximum after the first `n` chunks. -/
def lanes (G : Fin 5632 → EReal) (l : Fin 128) : ℕ → EReal
  | 0 => 0
  | n + 1 => lane (fun x => G (col n x)) (lanes G l n) l

/-- What bounds a lane's maximum. -/
theorem lanes_le (G : Fin 5632 → EReal) (l : Fin 128) (z : EReal) (n : ℕ) :
    lanes G l n ≤ z ↔ 0 ≤ z ∧ ∀ c < n, ∀ s : Fin 4, G (col c ⟨128 * s.val + l.val, by omega⟩) ≤ z := by
  induction n with
  | zero => simp [lanes]
  | succ n ih =>
    rw [lanes, lane]
    simp only [max_le_iff, ih, Nat.lt_succ_iff_lt_or_eq, or_imp, forall_and, forall_eq, Fin.forall_fin_succ, IsEmpty.forall_iff, and_true]
    simp
    tauto

/-- The lanes' maxima together are the maximum of the row. -/
theorem lanes_eq (A B : Fin 5632 → EReal) :
    (Finset.univ : Finset (Fin 128)).fold max ⊥ (fun l => lanes (fun j => max (abs (A j)) (abs (B j))) l 11)
      = max ((Finset.univ : Finset (Fin 5632)).fold max ⊥ fun j => abs (A j)) ((Finset.univ : Finset (Fin 5632)).fold max ⊥ fun j => abs (B j)) := by
  refine eq_of_forall_ge_iff fun z => ?_
  simp only [Finset.fold_max_le, max_le_iff, lanes_le, bot_le, true_and, Finset.mem_univ, true_implies]
  constructor
  · intro h
    have key : ∀ j : Fin 5632, abs (A j) ≤ z ∧ abs (B j) ≤ z := fun j => by
      have hj := j.isLt
      have := (h ⟨j.val % 128, by omega⟩).2 (j.val / 512) (by omega) ⟨j.val % 512 / 128, by omega⟩
      rwa [show col (j.val / 512) ⟨128 * (j.val % 512 / 128) + j.val % 128, by omega⟩ = j from by
        unfold col; rw [dif_pos (by dsimp only; omega)]; exact Fin.ext (by dsimp only; omega)] at this
    exact ⟨fun j => (key j).1, fun j => (key j).2⟩
  · rintro ⟨hA, hB⟩ l
    exact ⟨(abs_nonneg _).trans (hA 0), fun c _ s => ⟨hA _, hB _⟩⟩

/-! ## One row of the gradient -/

section Row

variable (dy s : Fin 2048 → EReal) (w : Fin 5632 → Fin 2048 → EReal) (ds a : EReal) (gate up : Fin 5632 → EReal)

/-- A row's gradient at the activation's product. -/
def rowDg (f : Fin 5632) : EReal := (∑ k : Fin 2048, (dy k * s k) * w f k) * ds

/-- The row's gradient at the gate (half 0) and at the up projection (half 1). -/
def rowDa (q : ℕ) (f : Fin 5632) : EReal :=
  if q = 0 then dGate (rowDg dy s w ds f) (gate f * a) (up f * a) else dUp (rowDg dy s w ds f) (gate f * a)

/-- The row's largest absolute value. -/
def rowMax : EReal :=
  max ((Finset.univ : Finset (Fin 5632)).fold max ⊥ fun f => abs (rowDa dy s w ds a gate up 0 f))
    ((Finset.univ : Finset (Fin 5632)).fold max ⊥ fun f => abs (rowDa dy s w ds a gate up 1 f))

/-- The row's scale. -/
def rowScale : EReal := scale (rowMax dy s w ds a gate up)

/-- The row's codes. -/
def rowCode (q : ℕ) (f : Fin 5632) : EReal := clip (rowDa dy s w ds a gate up q f * inv (rowMax dy s w ds a gate up))

end Row

end Cert.DaMath
-- ==== Proof.DaRef.lean ====
module

public import proofs.«01_k».proof.Proof.Gen.RefDaIdeal.Frame
public import proofs.«01_k».proof.Proof.Gen.RefDaIdeal.Value
public import proofs.«01_k».proof.Proof.DaMath
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.RefDaIdeal.Val

open Cert.RefDaIdeal Cert.RefDaIdeal.Gen Idealize.ShloMosaic Idealize.ShloMosaic.TcCoe Idealize.SL.Sem
open Idealize.ShloMosaic.Pipeline (Dat)

/-- A token's scale, from the arrays the reference's call is given. -/
def scaleAll (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) : EReal :=
  DaMath.rowScale (fun k => x0 (ix2 t k)) (fun k => x6 (ix2 0 k)) (fun f k => x5 (ix2 f k)) (x1 (ix2 t 0)) (x4 (ix2 t 0)) (fun f => x2 (ix2 t f)) (fun f => x3 (ix2 t f))

/-- A token's codes, from the arrays the reference's call is given. -/
def codeAll (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) (q : ℕ) (f : Fin 5632) : EReal :=
  DaMath.rowCode (fun k => x0 (ix2 t k)) (fun k => x6 (ix2 0 k)) (fun f k => x5 (ix2 f k)) (x1 (ix2 t 0)) (x4 (ix2 t 0)) (fun f => x2 (ix2 t f)) (fun f => x3 (ix2 t f)) q f

/-- The reference's matrix product, scaled by rows: it multiplies the weights' scales into the weights. -/
theorem dg_pay (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) (f : Fin 5632) :
    (k0_pay2 (F := Ideal) x0 x1 x5 x6 (ix2 t f) : EReal) = DaMath.rowDg (fun k => x0 (ix2 t k)) (fun k => x6 (ix2 0 k)) (fun f k => x5 (ix2 f k)) (x1 (ix2 t 0)) f := by
  pointwise [k0_pay2, DaMath.rowDg]
  refine congrArg (· * _) (Fin.sum_fin_congr fun k => ?_)
  show (_ : EReal) = _
  rw [mul_assoc, mul_comm (x6 (ix2 0 k))]

/-- The reference's gradient at the gate. -/
theorem gate_pay (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) (f : Fin 5632) :
    (k0_pay5 (F := Ideal) x0 x1 x2 x3 x4 x5 x6 (ix2 t f) : EReal) = DaMath.rowDa (fun k => x0 (ix2 t k)) (fun k => x6 (ix2 0 k)) (fun f k => x5 (ix2 f k)) (x1 (ix2 t 0)) (x4 (ix2 t 0)) (fun f => x2 (ix2 t f)) (fun f => x3 (ix2 t f)) 0 f := by
  unfold DaMath.rowDa
  rw [if_pos rfl, ← dg_pay x0 x1 x2 x3 x4 x5 x6]
  pointwise [k0_pay5, k0_pay4, k0_pay3, k0_pay1, DaMath.dGate]

/-- The reference's gradient at the up projection. -/
theorem up_pay (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) (f : Fin 5632) :
    (k0_pay6 (F := Ideal) x0 x1 x2 x4 x5 x6 (ix2 t f) : EReal) = DaMath.rowDa (fun k => x0 (ix2 t k)) (fun k => x6 (ix2 0 k)) (fun f k => x5 (ix2 f k)) (x1 (ix2 t 0)) (x4 (ix2 t 0)) (fun f => x2 (ix2 t f)) (fun f => x3 (ix2 t f)) 1 f := by
  unfold DaMath.rowDa
  rw [if_neg one_ne_zero, ← dg_pay x0 x1 x2 x3 x4 x5 x6]
  pointwise [k0_pay6, k0_pay4, k0_pay3, k0_pay1, DaMath.dUp]

/-- The reference's largest absolute value of a row of the gradient at the gate. -/
theorem gmax_pay (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) :
    (k0_pay7 (F := Ideal) x0 x1 x2 x3 x4 x5 x6 (ix2 t 0) : EReal)
      = (Finset.univ : Finset (Fin 5632)).fold max ⊥ fun f => DaMath.abs (DaMath.rowDa (fun k => x0 (ix2 t k)) (fun k => x6 (ix2 0 k)) (fun f k => x5 (ix2 f k)) (x1 (ix2 t 0)) (x4 (ix2 t 0)) (fun f => x2 (ix2 t f)) (fun f => x3 (ix2 t f)) 0 f) := by
  simp only [← gate_pay x0 x1 x2 x3 x4 x5 x6 t]
  rw [← DaMath.neg_inf]
  pointwise [k0_pay7, DaMath.absf_eq]

/-- The reference's absolute values of the gradient at the up projection. -/
theorem uabs_pay (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) (f : Fin 5632) :
    (k0_pay8 (F := Ideal) x0 x1 x2 x4 x5 x6 (ix2 t f) : EReal) = DaMath.abs (DaMath.rowDa (fun k => x0 (ix2 t k)) (fun k => x6 (ix2 0 k)) (fun f k => x5 (ix2 f k)) (x1 (ix2 t 0)) (x4 (ix2 t 0)) (fun f => x2 (ix2 t f)) (fun f => x3 (ix2 t f)) 1 f) := by
  rw [← up_pay x0 x1 x2 x3 x4 x5 x6 t f]
  rfl

/-- The exponents of the reference's table, as integers. -/
theorem table_word : ∀ k : Fin 253, (IntOp.subi (BitVec.ofNat 32 k.val) 126#32).toInt = (k.val : ℤ) - 126 := by decide +kernel

/-- The reference's table of powers of two. -/
theorem table_pay (k : Fin 253) :
    (FloatOps.exp2 (F := Ideal) (φ := .f32) (FloatOps.sitofp .f32 (IntOp.subi (BitVec.ofNat 32 k.val) 126#32)) : EReal) = DaMath.pow (k.val + 1) := by
  rw [DaMath.pow_eq _ (by omega) (by omega)]
  show Ideal.exp2 (((IntOp.subi (BitVec.ofNat 32 k.val) 126#32).toInt : ℝ) : EReal) = _
  rw [table_word]
  show (((2 : ℝ) ^ (((k.val : ℤ) - 126 : ℤ) : ℝ) : ℝ) : EReal) = _
  rw [Real.rpow_intCast]
  congr 2
  push_cast
  ring

/-- The reference's scale from its maxima. -/
theorem scale_pay (v : FVec Ideal S24576x1 .f32) (w : FVec Ideal S24576x5632 .f32) (t : Fin 24576) :
    (k0_pay9 (F := Ideal) v w (ix2 t 0) : EReal)
      = DaMath.scale (max (v (ix2 t 0)) ((Finset.univ : Finset (Fin 5632)).fold max ⊥ fun f => w (ix2 t f))) := by
  unfold DaMath.scale
  rw [← DaMath.least_power, ← DaMath.neg_inf, ← DaMath.pos_inf]
  pointwise [k0_pay9]
  simp only [table_pay]
  rfl

/-- The reference's codes from the gradient and its maxima. -/
theorem code_pay (g u : FVec Ideal S24576x5632 .f32) (v : FVec Ideal S24576x1 .f32) (w : FVec Ideal S24576x5632 .f32) (j : S6x2x4096x5632.Idx) (hj : (j 0).val * 4096 + (j 2).val < 24576) :
    (k0_pay10 (F := Ideal) g u v w j : EReal)
      = DaMath.clip ((if (j 1).val = 0 then g (ix2 ⟨(j 0).val * 4096 + (j 2).val, hj⟩ (j 3)) else u (ix2 ⟨(j 0).val * 4096 + (j 2).val, hj⟩ (j 3)))
          * Ideal.div 1 (k0_pay9 (F := Ideal) v w (ix2 ⟨(j 0).val * 4096 + (j 2).val, hj⟩ 0))) := by
  idx_vars j
  fin_cases j1
  · pointwise [k0_pay10, DaMath.clip]
  · pointwise [k0_pay10, DaMath.clip]

/-- The reference's maxima at the gate, as its call's term names them. -/
theorem pay11_eq (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) : k0_pay11 (F := Ideal) x0 x1 x2 x3 x4 x5 x6 = k0_pay7 x0 x1 x2 x3 x4 x5 x6 := by
  simp (disch := decide) only [k0_pay11, View.ld_unit_lit']

/-- The reference's absolute values at the up projection, as its call's term names them. -/
theorem pay12_eq (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) : k0_pay12 (F := Ideal) x0 x1 x2 x3 x4 x5 x6 = k0_pay8 x0 x1 x2 x4 x5 x6 := by
  simp (disch := decide) only [k0_pay12, View.ld_unit_lit']

/-- The reference's scale of a token. -/
theorem scale_eq (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) :
    (k0_pay9 (F := Ideal) (k0_pay7 x0 x1 x2 x3 x4 x5 x6) (k0_pay8 x0 x1 x2 x4 x5 x6) (ix2 t 0) : EReal) = scaleAll x0 x1 x2 x3 x4 x5 x6 t := by
  rw [scale_pay, gmax_pay]
  simp only [uabs_pay x0 x1 x2 x3 x4 x5 x6 t]
  rfl

/-- The reference's code of one element of a token's row. -/
theorem code_row (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) (q : ℕ) (f : Fin 5632) (hq : q < 2) :
    DaMath.clip ((if q = 0 then k0_pay5 (F := Ideal) x0 x1 x2 x3 x4 x5 x6 (ix2 t f) else k0_pay6 (F := Ideal) x0 x1 x2 x4 x5 x6 (ix2 t f)) * Ideal.div 1 (k0_pay9 (F := Ideal) (k0_pay7 x0 x1 x2 x3 x4 x5 x6) (k0_pay8 x0 x1 x2 x4 x5 x6) (ix2 t 0)))
      = codeAll x0 x1 x2 x3 x4 x5 x6 t q f := by
  rw [scale_eq, gate_pay, up_pay x0 x1 x2 x3]
  unfold scaleAll DaMath.rowScale codeAll DaMath.rowCode
  rw [DaMath.div_scale]
  have h : q = 0 ∨ q = 1 := by omega
  rcases h with h | h
  · rw [h, if_pos rfl]
  · rw [h, if_neg one_ne_zero]

/-- The reference's codes. -/
theorem code_eq (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (j : S6x2x4096x5632.Idx) (hj : (j 0).val * 4096 + (j 2).val < 24576) :
    (k0_pay10 (F := Ideal) (k0_pay5 x0 x1 x2 x3 x4 x5 x6) (k0_pay6 x0 x1 x2 x4 x5 x6) (k0_pay7 x0 x1 x2 x3 x4 x5 x6) (k0_pay8 x0 x1 x2 x4 x5 x6) j : EReal)
      = codeAll x0 x1 x2 x3 x4 x5 x6 ⟨(j 0).val * 4096 + (j 2).val, hj⟩ (j 1).val (j 3) :=
  (code_pay _ _ _ _ j hj).trans (code_row x0 x1 x2 x3 x4 x5 x6 _ _ (j 3) (j 1).isLt)

variable (m : (ℓ : Loc nD τ sig) → Buf (Elt Ideal) ℓ)

/-- The one grid point reads and writes whole arrays. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0, 0, 0]
    ∧ win0_8.index t = ![0, 0] :=
  (by decide +kernel : ∀ t : Fin grid0.N, _)

/-- The block of window 0 is its whole array. -/
theorem blk_0 (c : Dev nD) : iblk m c 0 t0_0 = V m c main_v0 := by
  funext i
  blk_ext [iblk, idx t0_0]

/-- The block of window 1 is its whole array. -/
theorem blk_1 (c : Dev nD) : iblk m c 1 t0_0 = V m c main_v1 := by
  funext i
  blk_ext [iblk, idx t0_0]

/-- The block of window 2 is its whole array. -/
theorem blk_2 (c : Dev nD) : iblk m c 2 t0_0 = V m c main_v4 := by
  funext i
  blk_ext [iblk, idx t0_0]

/-- The block of window 3 is its whole array. -/
theorem blk_3 (c : Dev nD) : iblk m c 3 t0_0 = V m c main_v7 := by
  funext i
  blk_ext [iblk, idx t0_0]

/-- The block of window 4 is its whole array. -/
theorem blk_4 (c : Dev nD) : iblk m c 4 t0_0 = V m c main_v8 := by
  funext i
  blk_ext [iblk, idx t0_0]

/-- The block of window 5 is its whole array. -/
theorem blk_5 (c : Dev nD) : iblk m c 5 t0_0 = V m c main_arg4 := by
  funext i
  blk_ext [iblk, idx t0_0]

/-- The block of window 6 is its whole array. -/
theorem blk_6 (c : Dev nD) : iblk m c 6 t0_0 = V m c main_v9 := by
  funext i
  blk_ext [iblk, idx t0_0]

/-- The reference's array of codes, from the arrays its call is given. -/
theorem final_codes (c : Dev nD) : (dats m 0 c).arrAt 7 cfg0.N
    = (show FVec Ideal S6x2x4096x5632 .fp8e5m2 from fun j => codeAll (V m c main_v0) (V m c main_v1) (V m c main_v4) (V m c main_v7) (V m c main_v8) (V m c main_arg4) (V m c main_v9) ⟨(j 0).val * 4096 + (j 2).val, by
        have h0 : (j 0).val < 6 := (j 0).isLt
        have h2 : (j 2).val < 4096 := (j 2).isLt
        omega⟩ (j 1).val (j 3)) := by
  refine (dats m 0 c).arrAt_eq_of_after_last 7 t0_0 (by decide +kernel) _ fun j => ?_
  blk_simp
  rw [after0_7]
  frame_out
  rw [blk_0, blk_1, blk_2, blk_3, blk_4, blk_5, blk_6]
  rw [pay11_eq, pay12_eq]
  exact code_eq _ _ _ _ _ _ _ j _

/-- The reference's array of scales, from the arrays its call is given. -/
theorem final_scale (c : Dev nD) : (dats m 0 c).arrAt 8 cfg0.N
    = (show FVec Ideal S24576x1 .f32 from fun j => scaleAll (V m c main_v0) (V m c main_v1) (V m c main_v4) (V m c main_v7) (V m c main_v8) (V m c main_arg4) (V m c main_v9) (j 0)) := by
  refine (dats m 0 c).arrAt_eq_of_after_last 8 t0_0 (by decide +kernel) _ fun j => ?_
  blk_simp
  rw [after0_8]
  frame_out
  rw [blk_0, blk_1, blk_2, blk_3, blk_4, blk_5, blk_6]
  rw [pay11_eq, pay12_eq]
  idx_vars j
  fin_cases j1
  exact scale_eq _ _ _ _ _ _ _ _

/-- The incoming gradient's codes, one row per token, from the argument. -/
theorem V_v0 (c : Dev nD) : V m c main_v0 = shapeCast S24576x2048 (m ((c : Thread nD τ).loc main_arg0)) shapeCasts_S6x4096x2048_S24576x2048 := by
  entry_read
  try rfl

/-- The incoming gradient's scales as a column, from the argument. -/
theorem V_v1 (c : Dev nD) : V m c main_v1 = shapeCast S24576x1 (m ((c : Thread nD τ).loc main_arg1)) shapeCasts_S6x4096_S24576x1 := by
  entry_read
  try rfl

/-- The gate's codes, one row per token, from the argument. -/
theorem V_v4 (c : Dev nD) : V m c main_v4 = shapeCast S24576x5632 (shapeCast S6x4096x5632 (extractStridedSlice S6x4096x1x5632 ![0, 0, 0, 0] (m ((c : Thread nD τ).loc main_arg2)) slices_S6x4096x2x5632_S6x4096x1x5632_0_0_0_0) shapeCasts_S6x4096x1x5632_S6x4096x5632) shapeCasts_S6x4096x5632_S24576x5632 := by
  entry_read
  try rfl

/-- The up projection's codes, one row per token, from the argument. -/
theorem V_v7 (c : Dev nD) : V m c main_v7 = shapeCast S24576x5632 (shapeCast S6x4096x5632 (extractStridedSlice S6x4096x1x5632 ![0, 0, 1, 0] (m ((c : Thread nD τ).loc main_arg2)) slices_S6x4096x2x5632_S6x4096x1x5632_0_0_1_0) shapeCasts_S6x4096x1x5632_S6x4096x5632) shapeCasts_S6x4096x5632_S24576x5632 := by
  entry_read
  try rfl

/-- The activation's scales as a column, from the argument. -/
theorem V_v8 (c : Dev nD) : V m c main_v8 = shapeCast S24576x1 (m ((c : Thread nD τ).loc main_arg3)) shapeCasts_S6x4096_S24576x1 := by
  entry_read
  try rfl

/-- The output projection's scales as a row, from the argument. -/
theorem V_v9 (c : Dev nD) : V m c main_v9 = shapeCast S1x2048 (m ((c : Thread nD τ).loc main_arg5)) shapeCasts_S2048_S1x2048 := by
  entry_read
  try rfl

end Cert.RefDaIdeal.Val
-- ==== Proof.DaPay.lean ====
module

public import proofs.«01_k».proof.Proof.Gen.DaIdeal.Skeleton
public import proofs.«01_k».proof.Proof.DaMath
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.DaIdeal.Val

open Cert.DaIdeal Cert.DaIdeal.Gen Idealize.ShloMosaic Idealize.ShloMosaic.TcCoe Idealize.SL.Sem
open Idealize.ShloMosaic.Pipeline (Dat)

/-- A block's gradient at the activation's product. -/
def dgB (x0 : Vec Ideal S256x2048 .fp8e5m2) (x1 : Vec Ideal S256x1 .f32) (x3 : Vec Ideal S1x2048 .f32) (x5 : Vec Ideal S5632x2048 .fp8e4m3) (r : Fin 256) (f : Fin 5632) : EReal :=
  (∑ k : Fin 2048, (x0 (ix2 r k) * x3 (ix2 0 k)) * x5 (ix2 f k)) * x1 (ix2 r 0)

/-- A block's gate (half 0) and up projection (half 1). -/
def aB (x2 : Vec Ideal S256x1 .f32) (x4 : Vec Ideal S1x2x256x5632 .fp8e4m3) (q : Fin 2) (r : Fin 256) (f : Fin 5632) : EReal :=
  x4 (ix4 0 q r f) * x2 (ix2 r 0)

/-- A block's gradient at the gate. -/
def gateB (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) (r : Fin 256) (f : Fin 5632) : EReal :=
  DaMath.dGate (dgB x0 x1 x3 x5 r f) (aB x2 x4 0 r f) (aB x2 x4 1 r f)

/-- A block's gradient at the up projection. -/
def upB (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) (r : Fin 256) (f : Fin 5632) : EReal :=
  DaMath.dUp (dgB x0 x1 x3 x5 r f) (aB x2 x4 0 r f)

/-- Both, as the kernel's scratch array holds them. -/
def daS (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) : Vec Ideal S2x256x5632 .f32 := fun j =>
  if (j 0).val = 0 then gateB x0 x1 x2 x3 x4 x5 (j 1) (j 2) else upB x0 x1 x2 x3 x4 x5 (j 1) (j 2)

/-- The running maximum of every lane after `n` chunks. -/
def lanesV (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) (n : ℕ) : FVec Ideal S256x128 .f32 := fun j =>
  DaMath.lanes (fun f => max (DaMath.abs (gateB x0 x1 x2 x3 x4 x5 (j 0) f)) (DaMath.abs (upB x0 x1 x2 x3 x4 x5 (j 0) f))) (j 1) n

/-- A block's rows' largest absolute value. -/
def amaxB (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) (r : Fin 256) : EReal :=
  max ((Finset.univ : Finset (Fin 5632)).fold max ⊥ fun f => DaMath.abs (gateB x0 x1 x2 x3 x4 x5 r f)) ((Finset.univ : Finset (Fin 5632)).fold max ⊥ fun f => DaMath.abs (upB x0 x1 x2 x3 x4 x5 r f))

/-- What the kernel stores for chunk 0 of the gradient at the gate. -/
theorem scratch_0_0 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay13 (k0_pay8 x2 (View.ld x4 (Rect.unit ![0, 0, 0, 0] ![1, 1, 256, 512] inb_S1x2x256x5632_S1x1x256x512_0_0_0_0))) (k0_pay9 x2 (View.ld x4 (Rect.unit ![0, 0, 0, 0] ![1, 1, 256, 512] inb_S1x2x256x5632_S1x1x256x512_0_0_0_0))) (k0_pay10 x0 x3 x1 x2 (View.ld x5 (Rect.unit ![0, 0] ![512, 2048] inb_S5632x2048_S512x2048_0_0)) (View.ld x4 (Rect.unit ![0, 1, 0, 0] ![1, 1, 256, 512] inb_S1x2x256x5632_S1x1x256x512_0_1_0_0))) = View.ld (daS x0 x1 x2 x3 x4 x5) (Rect.unit ![0, 0, 0] ![1, 256, 512] inb_S2x256x5632_S1x256x512_0_0_0) := by
  funext j
  idx_vars j
  pointwise [k0_pay3, k0_pay4, k0_pay5, k0_pay7, k0_pay8, k0_pay9, k0_pay10, k0_pay11, k0_pay13, daS, gateB, dgB, aB, DaMath.dGate, DaMath.logistic_eq]

/-- What the kernel stores for chunk 0 of the gradient at the up projection. -/
theorem scratch_1_0 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay14 (k0_pay7 x0 x3 x1 (View.ld x5 (Rect.unit ![0, 0] ![512, 2048] inb_S5632x2048_S512x2048_0_0))) (k0_pay8 x2 (View.ld x4 (Rect.unit ![0, 0, 0, 0] ![1, 1, 256, 512] inb_S1x2x256x5632_S1x1x256x512_0_0_0_0))) (k0_pay9 x2 (View.ld x4 (Rect.unit ![0, 0, 0, 0] ![1, 1, 256, 512] inb_S1x2x256x5632_S1x1x256x512_0_0_0_0))) = View.ld (daS x0 x1 x2 x3 x4 x5) (Rect.unit ![1, 0, 0] ![1, 256, 512] inb_S2x256x5632_S1x256x512_1_0_0) := by
  funext j
  idx_vars j
  pointwise [k0_pay3, k0_pay4, k0_pay5, k0_pay7, k0_pay8, k0_pay9, k0_pay12, k0_pay14, daS, upB, dgB, aB, DaMath.dUp, DaMath.logistic_eq]

/-- What the kernel stores for chunk 1 of the gradient at the gate. -/
theorem scratch_0_1 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay22 (k0_pay5 x2) (k0_pay16 (k0_pay3 x0 x3) (k0_pay4 x1) (View.ld x5 (Rect.unit ![512, 0] ![512, 2048] inb_S5632x2048_S512x2048_512_0))) (k0_pay17 (k0_pay5 x2) (View.ld x4 (Rect.unit ![0, 0, 0, 512] ![1, 1, 256, 512] inb_S1x2x256x5632_S1x1x256x512_0_0_0_512))) (k0_pay18 (View.ld x4 (Rect.unit ![0, 1, 0, 512] ![1, 1, 256, 512] inb_S1x2x256x5632_S1x1x256x512_0_1_0_512))) = View.ld (daS x0 x1 x2 x3 x4 x5) (Rect.unit ![0, 0, 512] ![1, 256, 512] inb_S2x256x5632_S1x256x512_0_0_512) := by
  funext j
  idx_vars j
  pointwise [k0_pay3, k0_pay4, k0_pay5, k0_pay16, k0_pay17, k0_pay18, k0_pay19, k0_pay20, k0_pay22, daS, gateB, dgB, aB, DaMath.dGate, DaMath.logistic_eq]

/-- What the kernel stores for chunk 1 of the gradient at the up projection. -/
theorem scratch_1_1 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay23 (k0_pay16 (k0_pay3 x0 x3) (k0_pay4 x1) (View.ld x5 (Rect.unit ![512, 0] ![512, 2048] inb_S5632x2048_S512x2048_512_0))) (k0_pay17 (k0_pay5 x2) (View.ld x4 (Rect.unit ![0, 0, 0, 512] ![1, 1, 256, 512] inb_S1x2x256x5632_S1x1x256x512_0_0_0_512))) = View.ld (daS x0 x1 x2 x3 x4 x5) (Rect.unit ![1, 0, 512] ![1, 256, 512] inb_S2x256x5632_S1x256x512_1_0_512) := by
  funext j
  idx_vars j
  pointwise [k0_pay3, k0_pay4, k0_pay5, k0_pay16, k0_pay17, k0_pay19, k0_pay21, k0_pay23, daS, upB, dgB, aB, DaMath.dUp, DaMath.logistic_eq]

/-- What the kernel stores for chunk 2 of the gradient at the gate. -/
theorem scratch_0_2 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay30 (k0_pay5 x2) (k0_pay25 (k0_pay3 x0 x3) (k0_pay4 x1) (View.ld x5 (Rect.unit ![1024, 0] ![512, 2048] inb_S5632x2048_S512x2048_1024_0))) (View.ld x4 (Rect.unit ![0, 0, 0, 1024] ![1, 1, 256, 512] inb_S1x2x256x5632_S1x1x256x512_0_0_0_1024)) (View.ld x4 (Rect.unit ![0, 1, 0, 1024] ![1, 1, 256, 512] inb_S1x2x256x5632_S1x1x256x512_0_1_0_1024)) = View.ld (daS x0 x1 x2 x3 x4 x5) (Rect.unit ![0, 0, 1024] ![1, 256, 512] inb_S2x256x5632_S1x256x512_0_0_1024) := by
  funext j
  idx_vars j
  pointwise [k0_pay3, k0_pay4, k0_pay5, k0_pay25, k0_pay26, k0_pay27, k0_pay28, k0_pay30, daS, gateB, dgB, aB, DaMath.dGate, DaMath.logistic_eq]

/-- What the kernel stores for chunk 2 of the gradient at the up projection. -/
theorem scratch_1_2 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay31 (k0_pay5 x2) (k0_pay25 (k0_pay3 x0 x3) (k0_pay4 x1) (View.ld x5 (Rect.unit ![1024, 0] ![512, 2048] inb_S5632x2048_S512x2048_1024_0))) (View.ld x4 (Rect.unit ![0, 0, 0, 1024] ![1, 1, 256, 512] inb_S1x2x256x5632_S1x1x256x512_0_0_0_1024)) = View.ld (daS x0 x1 x2 x3 x4 x5) (Rect.unit ![1, 0, 1024] ![1, 256, 512] inb_S2x256x5632_S1x256x512_1_0_1024) := by
  funext j
  idx_vars j
  pointwise [k0_pay3, k0_pay4, k0_pay5, k0_pay25, k0_pay26, k0_pay27, k0_pay29, k0_pay31, daS, upB, dgB, aB, DaMath.dUp, DaMath.logistic_eq]

/-- What the kernel stores for chunk 3 of the gradient at the gate. -/
theorem scratch_0_3 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay40 (k0_pay3 x0 x3) (k0_pay4 x1) (k0_pay5 x2) (View.ld x5 (Rect.unit ![1536, 0] ![512, 2048] inb_S5632x2048_S512x2048_1536_0)) (View.ld x4 (Rect.unit ![0, 0, 0, 1536] ![1, 1, 256, 512] inb_S1x2x256x5632_S1x1x256x512_0_0_0_1536)) (View.ld x4 (Rect.unit ![0, 1, 0, 1536] ![1, 1, 256, 512] inb_S1x2x256x5632_S1x1x256x512_0_1_0_1536)) = View.ld (daS x0 x1 x2 x3 x4 x5) (Rect.unit ![0, 0, 1536] ![1, 256, 512] inb_S2x256x5632_S1x256x512_0_0_1536) := by
  funext j
  idx_vars j
  pointwise [k0_pay3, k0_pay4, k0_pay5, k0_pay35, k0_pay36, k0_pay37, k0_pay38, k0_pay40, daS, gateB, dgB, aB, DaMath.dGate, DaMath.logistic_eq]

/-- What the kernel stores for chunk 3 of the gradient at the up projection. -/
theorem scratch_1_3 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay41 (k0_pay39 (k0_pay3 x0 x3) (k0_pay4 x1) (k0_pay5 x2) (View.ld x5 (Rect.unit ![1536, 0] ![512, 2048] inb_S5632x2048_S512x2048_1536_0)) (View.ld x4 (Rect.unit ![0, 0, 0, 1536] ![1, 1, 256, 512] inb_S1x2x256x5632_S1x1x256x512_0_0_0_1536))) = View.ld (daS x0 x1 x2 x3 x4 x5) (Rect.unit ![1, 0, 1536] ![1, 256, 512] inb_S2x256x5632_S1x256x512_1_0_1536) := by
  funext j
  idx_vars j
  pointwise [k0_pay3, k0_pay4, k0_pay5, k0_pay35, k0_pay36, k0_pay37, k0_pay39, k0_pay41, daS, upB, dgB, aB, DaMath.dUp, DaMath.logistic_eq]

/-- What the kernel stores for chunk 4 of the gradient at the gate. -/
theorem scratch_0_4 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay50 (k0_pay46 (k0_pay3 x0 x3) (k0_pay4 x1) (k0_pay5 x2) (View.ld x5 (Rect.unit ![2048, 0] ![512, 2048] inb_S5632x2048_S512x2048_2048_0)) (View.ld x4 (Rect.unit ![0, 0, 0, 2048] ![1, 1, 256, 512] inb_S1x2x256x5632_S1x1x256x512_0_0_0_2048)) (View.ld x4 (Rect.unit ![0, 1, 0, 2048] ![1, 1, 256, 512] inb_S1x2x256x5632_S1x1x256x512_0_1_0_2048))) (k0_pay47 (k0_pay5 x2) (View.ld x4 (Rect.unit ![0, 0, 0, 2048] ![1, 1, 256, 512] inb_S1x2x256x5632_S1x1x256x512_0_0_0_2048))) = View.ld (daS x0 x1 x2 x3 x4 x5) (Rect.unit ![0, 0, 2048] ![1, 256, 512] inb_S2x256x5632_S1x256x512_0_0_2048) := by
  funext j
  idx_vars j
  pointwise [k0_pay3, k0_pay4, k0_pay5, k0_pay43, k0_pay44, k0_pay45, k0_pay46, k0_pay47, k0_pay48, k0_pay50, daS, gateB, dgB, aB, DaMath.dGate, DaMath.logistic_eq]

/-- What the kernel stores for chunk 4 of the gradient at the up projection. -/
theorem scratch_1_4 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay51 (k0_pay43 (k0_pay3 x0 x3) (k0_pay4 x1) (View.ld x5 (Rect.unit ![2048, 0] ![512, 2048] inb_S5632x2048_S512x2048_2048_0))) (k0_pay44 (k0_pay5 x2) (View.ld x4 (Rect.unit ![0, 0, 0, 2048] ![1, 1, 256, 512] inb_S1x2x256x5632_S1x1x256x512_0_0_0_2048))) (k0_pay45 (k0_pay5 x2) (View.ld x4 (Rect.unit ![0, 0, 0, 2048] ![1, 1, 256, 512] inb_S1x2x256x5632_S1x1x256x512_0_0_0_2048))) = View.ld (daS x0 x1 x2 x3 x4 x5) (Rect.unit ![1, 0, 2048] ![1, 256, 512] inb_S2x256x5632_S1x256x512_1_0_2048) := by
  funext j
  idx_vars j
  pointwise [k0_pay3, k0_pay4, k0_pay5, k0_pay43, k0_pay44, k0_pay45, k0_pay49, k0_pay51, daS, upB, dgB, aB, DaMath.dUp, DaMath.logistic_eq]

/-- What the kernel stores for chunk 5 of the gradient at the gate. -/
theorem scratch_0_5 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay61 (k0_pay53 (k0_pay3 x0 x3) (k0_pay4 x1) (View.ld x5 (Rect.unit ![2560, 0] ![512, 2048] inb_S5632x2048_S512x2048_2560_0))) (k0_pay54 (k0_pay5 x2) (View.ld x4 (Rect.unit ![0, 0, 0, 2560] ![1, 1, 256, 512] inb_S1x2x256x5632_S1x1x256x512_0_0_0_2560))) (k0_pay55 (k0_pay5 x2) (View.ld x4 (Rect.unit ![0, 1, 0, 2560] ![1, 1, 256, 512] inb_S1x2x256x5632_S1x1x256x512_0_1_0_2560))) (k0_pay56 (k0_pay5 x2) (View.ld x4 (Rect.unit ![0, 0, 0, 2560] ![1, 1, 256, 512] inb_S1x2x256x5632_S1x1x256x512_0_0_0_2560))) k0_pay57 = View.ld (daS x0 x1 x2 x3 x4 x5) (Rect.unit ![0, 0, 2560] ![1, 256, 512] inb_S2x256x5632_S1x256x512_0_0_2560) := by
  funext j
  idx_vars j
  pointwise [k0_pay3, k0_pay4, k0_pay5, k0_pay53, k0_pay54, k0_pay55, k0_pay56, k0_pay57, k0_pay58, k0_pay59, k0_pay61, daS, gateB, dgB, aB, DaMath.dGate, DaMath.logistic_eq]

/-- What the kernel stores for chunk 5 of the gradient at the up projection. -/
theorem scratch_1_5 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay62 (k0_pay53 (k0_pay3 x0 x3) (k0_pay4 x1) (View.ld x5 (Rect.unit ![2560, 0] ![512, 2048] inb_S5632x2048_S512x2048_2560_0))) (k0_pay54 (k0_pay5 x2) (View.ld x4 (Rect.unit ![0, 0, 0, 2560] ![1, 1, 256, 512] inb_S1x2x256x5632_S1x1x256x512_0_0_0_2560))) (k0_pay56 (k0_pay5 x2) (View.ld x4 (Rect.unit ![0, 0, 0, 2560] ![1, 1, 256, 512] inb_S1x2x256x5632_S1x1x256x512_0_0_0_2560))) k0_pay57 = View.ld (daS x0 x1 x2 x3 x4 x5) (Rect.unit ![1, 0, 2560] ![1, 256, 512] inb_S2x256x5632_S1x256x512_1_0_2560) := by
  funext j
  idx_vars j
  pointwise [k0_pay3, k0_pay4, k0_pay5, k0_pay53, k0_pay54, k0_pay56, k0_pay57, k0_pay58, k0_pay60, k0_pay62, daS, upB, dgB, aB, DaMath.dUp, DaMath.logistic_eq]

/-- What the kernel stores for chunk 6 of the gradient at the gate. -/
theorem scratch_0_6 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay69 (k0_pay5 x2) (k0_pay64 (k0_pay3 x0 x3) (k0_pay4 x1) (View.ld x5 (Rect.unit ![3072, 0] ![512, 2048] inb_S5632x2048_S512x2048_3072_0))) (k0_pay65 (k0_pay5 x2) (View.ld x4 (Rect.unit ![0, 0, 0, 3072] ![1, 1, 256, 512] inb_S1x2x256x5632_S1x1x256x512_0_0_0_3072))) (View.ld x4 (Rect.unit ![0, 1, 0, 3072] ![1, 1, 256, 512] inb_S1x2x256x5632_S1x1x256x512_0_1_0_3072)) = View.ld (daS x0 x1 x2 x3 x4 x5) (Rect.unit ![0, 0, 3072] ![1, 256, 512] inb_S2x256x5632_S1x256x512_0_0_3072) := by
  funext j
  idx_vars j
  pointwise [k0_pay3, k0_pay4, k0_pay5, k0_pay64, k0_pay65, k0_pay66, k0_pay67, k0_pay69, daS, gateB, dgB, aB, DaMath.dGate, DaMath.logistic_eq]

/-- What the kernel stores for chunk 6 of the gradient at the up projection. -/
theorem scratch_1_6 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay70 (k0_pay64 (k0_pay3 x0 x3) (k0_pay4 x1) (View.ld x5 (Rect.unit ![3072, 0] ![512, 2048] inb_S5632x2048_S512x2048_3072_0))) (k0_pay65 (k0_pay5 x2) (View.ld x4 (Rect.unit ![0, 0, 0, 3072] ![1, 1, 256, 512] inb_S1x2x256x5632_S1x1x256x512_0_0_0_3072))) = View.ld (daS x0 x1 x2 x3 x4 x5) (Rect.unit ![1, 0, 3072] ![1, 256, 512] inb_S2x256x5632_S1x256x512_1_0_3072) := by
  funext j
  idx_vars j
  pointwise [k0_pay3, k0_pay4, k0_pay5, k0_pay64, k0_pay65, k0_pay66, k0_pay68, k0_pay70, daS, upB, dgB, aB, DaMath.dUp, DaMath.logistic_eq]

/-- What the kernel stores for chunk 7 of the gradient at the gate. -/
theorem scratch_0_7 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay78 (k0_pay4 x1) (k0_pay5 x2) (k0_pay72 (k0_pay3 x0 x3) (View.ld x5 (Rect.unit ![3584, 0] ![512, 2048] inb_S5632x2048_S512x2048_3584_0))) (View.ld x4 (Rect.unit ![0, 0, 0, 3584] ![1, 1, 256, 512] inb_S1x2x256x5632_S1x1x256x512_0_0_0_3584)) (View.ld x4 (Rect.unit ![0, 1, 0, 3584] ![1, 1, 256, 512] inb_S1x2x256x5632_S1x1x256x512_0_1_0_3584)) = View.ld (daS x0 x1 x2 x3 x4 x5) (Rect.unit ![0, 0, 3584] ![1, 256, 512] inb_S2x256x5632_S1x256x512_0_0_3584) := by
  funext j
  idx_vars j
  pointwise [k0_pay3, k0_pay4, k0_pay5, k0_pay72, k0_pay73, k0_pay74, k0_pay75, k0_pay76, k0_pay78, daS, gateB, dgB, aB, DaMath.dGate, DaMath.logistic_eq]

/-- What the kernel stores for chunk 7 of the gradient at the up projection. -/
theorem scratch_1_7 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay79 (k0_pay4 x1) (k0_pay5 x2) (k0_pay72 (k0_pay3 x0 x3) (View.ld x5 (Rect.unit ![3584, 0] ![512, 2048] inb_S5632x2048_S512x2048_3584_0))) (View.ld x4 (Rect.unit ![0, 0, 0, 3584] ![1, 1, 256, 512] inb_S1x2x256x5632_S1x1x256x512_0_0_0_3584)) = View.ld (daS x0 x1 x2 x3 x4 x5) (Rect.unit ![1, 0, 3584] ![1, 256, 512] inb_S2x256x5632_S1x256x512_1_0_3584) := by
  funext j
  idx_vars j
  pointwise [k0_pay3, k0_pay4, k0_pay5, k0_pay72, k0_pay73, k0_pay74, k0_pay75, k0_pay77, k0_pay79, daS, upB, dgB, aB, DaMath.dUp, DaMath.logistic_eq]

/-- What the kernel stores for chunk 8 of the gradient at the gate. -/
theorem scratch_0_8 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay88 (k0_pay86 (k0_pay3 x0 x3) (k0_pay4 x1) (k0_pay5 x2) (View.ld x5 (Rect.unit ![4096, 0] ![512, 2048] inb_S5632x2048_S512x2048_4096_0)) (View.ld x4 (Rect.unit ![0, 0, 0, 4096] ![1, 1, 256, 512] inb_S1x2x256x5632_S1x1x256x512_0_0_0_4096)) (View.ld x4 (Rect.unit ![0, 1, 0, 4096] ![1, 1, 256, 512] inb_S1x2x256x5632_S1x1x256x512_0_1_0_4096))) = View.ld (daS x0 x1 x2 x3 x4 x5) (Rect.unit ![0, 0, 4096] ![1, 256, 512] inb_S2x256x5632_S1x256x512_0_0_4096) := by
  funext j
  idx_vars j
  pointwise [k0_pay3, k0_pay4, k0_pay5, k0_pay83, k0_pay84, k0_pay85, k0_pay86, k0_pay88, daS, gateB, dgB, aB, DaMath.dGate, DaMath.logistic_eq]

/-- What the kernel stores for chunk 8 of the gradient at the up projection. -/
theorem scratch_1_8 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay89 (k0_pay87 (k0_pay3 x0 x3) (k0_pay4 x1) (k0_pay5 x2) (View.ld x5 (Rect.unit ![4096, 0] ![512, 2048] inb_S5632x2048_S512x2048_4096_0)) (View.ld x4 (Rect.unit ![0, 0, 0, 4096] ![1, 1, 256, 512] inb_S1x2x256x5632_S1x1x256x512_0_0_0_4096))) = View.ld (daS x0 x1 x2 x3 x4 x5) (Rect.unit ![1, 0, 4096] ![1, 256, 512] inb_S2x256x5632_S1x256x512_1_0_4096) := by
  funext j
  idx_vars j
  pointwise [k0_pay3, k0_pay4, k0_pay5, k0_pay83, k0_pay84, k0_pay85, k0_pay87, k0_pay89, daS, upB, dgB, aB, DaMath.dUp, DaMath.logistic_eq]

/-- What the kernel stores for chunk 9 of the gradient at the gate. -/
theorem scratch_0_9 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay98 (k0_pay92 (k0_pay5 x2) (View.ld x4 (Rect.unit ![0, 0, 0, 4608] ![1, 1, 256, 512] inb_S1x2x256x5632_S1x1x256x512_0_0_0_4608))) (k0_pay93 (k0_pay5 x2) (View.ld x4 (Rect.unit ![0, 0, 0, 4608] ![1, 1, 256, 512] inb_S1x2x256x5632_S1x1x256x512_0_0_0_4608))) (k0_pay94 (k0_pay3 x0 x3) (k0_pay4 x1) (k0_pay5 x2) (View.ld x5 (Rect.unit ![4608, 0] ![512, 2048] inb_S5632x2048_S512x2048_4608_0)) (View.ld x4 (Rect.unit ![0, 0, 0, 4608] ![1, 1, 256, 512] inb_S1x2x256x5632_S1x1x256x512_0_0_0_4608)) (View.ld x4 (Rect.unit ![0, 1, 0, 4608] ![1, 1, 256, 512] inb_S1x2x256x5632_S1x1x256x512_0_1_0_4608))) k0_pay95 = View.ld (daS x0 x1 x2 x3 x4 x5) (Rect.unit ![0, 0, 4608] ![1, 256, 512] inb_S2x256x5632_S1x256x512_0_0_4608) := by
  funext j
  idx_vars j
  pointwise [k0_pay3, k0_pay4, k0_pay5, k0_pay91, k0_pay92, k0_pay93, k0_pay94, k0_pay95, k0_pay96, k0_pay98, daS, gateB, dgB, aB, DaMath.dGate, DaMath.logistic_eq]

/-- What the kernel stores for chunk 9 of the gradient at the up projection. -/
theorem scratch_1_9 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay99 (k0_pay91 (k0_pay3 x0 x3) (k0_pay4 x1) (View.ld x5 (Rect.unit ![4608, 0] ![512, 2048] inb_S5632x2048_S512x2048_4608_0))) (k0_pay92 (k0_pay5 x2) (View.ld x4 (Rect.unit ![0, 0, 0, 4608] ![1, 1, 256, 512] inb_S1x2x256x5632_S1x1x256x512_0_0_0_4608))) (k0_pay93 (k0_pay5 x2) (View.ld x4 (Rect.unit ![0, 0, 0, 4608] ![1, 1, 256, 512] inb_S1x2x256x5632_S1x1x256x512_0_0_0_4608))) = View.ld (daS x0 x1 x2 x3 x4 x5) (Rect.unit ![1, 0, 4608] ![1, 256, 512] inb_S2x256x5632_S1x256x512_1_0_4608) := by
  funext j
  idx_vars j
  pointwise [k0_pay3, k0_pay4, k0_pay5, k0_pay91, k0_pay92, k0_pay93, k0_pay97, k0_pay99, daS, upB, dgB, aB, DaMath.dUp, DaMath.logistic_eq]

/-- What the kernel stores for chunk 10 of the gradient at the gate. -/
theorem scratch_0_10 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay107 (k0_pay101 (k0_pay3 x0 x3) (k0_pay4 x1) (View.ld x5 (Rect.unit ![5120, 0] ![512, 2048] inb_S5632x2048_S512x2048_5120_0))) (k0_pay102 (k0_pay5 x2) (View.ld x4 (Rect.unit ![0, 0, 0, 5120] ![1, 1, 256, 512] inb_S1x2x256x5632_S1x1x256x512_0_0_0_5120))) (k0_pay103 (k0_pay5 x2) (View.ld x4 (Rect.unit ![0, 1, 0, 5120] ![1, 1, 256, 512] inb_S1x2x256x5632_S1x1x256x512_0_1_0_5120))) (FloatOps.ofBits FTy.f32 0#32) = View.ld (daS x0 x1 x2 x3 x4 x5) (Rect.unit ![0, 0, 5120] ![1, 256, 512] inb_S2x256x5632_S1x256x512_0_0_5120) := by
  funext j
  idx_vars j
  pointwise [k0_pay3, k0_pay4, k0_pay5, k0_pay101, k0_pay102, k0_pay103, k0_pay104, k0_pay105, k0_pay107, daS, gateB, dgB, aB, DaMath.dGate, DaMath.logistic_eq]

/-- What the kernel stores for chunk 10 of the gradient at the up projection. -/
theorem scratch_1_10 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay108 (k0_pay101 (k0_pay3 x0 x3) (k0_pay4 x1) (View.ld x5 (Rect.unit ![5120, 0] ![512, 2048] inb_S5632x2048_S512x2048_5120_0))) (k0_pay102 (k0_pay5 x2) (View.ld x4 (Rect.unit ![0, 0, 0, 5120] ![1, 1, 256, 512] inb_S1x2x256x5632_S1x1x256x512_0_0_0_5120))) (FloatOps.ofBits FTy.f32 0#32) = View.ld (daS x0 x1 x2 x3 x4 x5) (Rect.unit ![1, 0, 5120] ![1, 256, 512] inb_S2x256x5632_S1x256x512_1_0_5120) := by
  funext j
  idx_vars j
  pointwise [k0_pay3, k0_pay4, k0_pay5, k0_pay101, k0_pay102, k0_pay104, k0_pay106, k0_pay108, daS, upB, dgB, aB, DaMath.dUp, DaMath.logistic_eq]

/-- The lanes' maxima after chunk 0. -/
theorem lane_0 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay15 k0_pay6 (k0_pay7 x0 x3 x1 (View.ld x5 (Rect.unit ![0, 0] ![512, 2048] inb_S5632x2048_S512x2048_0_0))) (k0_pay8 x2 (View.ld x4 (Rect.unit ![0, 0, 0, 0] ![1, 1, 256, 512] inb_S1x2x256x5632_S1x1x256x512_0_0_0_0))) (k0_pay9 x2 (View.ld x4 (Rect.unit ![0, 0, 0, 0] ![1, 1, 256, 512] inb_S1x2x256x5632_S1x1x256x512_0_0_0_0))) (k0_pay10 x0 x3 x1 x2 (View.ld x5 (Rect.unit ![0, 0] ![512, 2048] inb_S5632x2048_S512x2048_0_0)) (View.ld x4 (Rect.unit ![0, 1, 0, 0] ![1, 1, 256, 512] inb_S1x2x256x5632_S1x1x256x512_0_1_0_0))) = lanesV x0 x1 x2 x3 x4 x5 1 := by
  funext j
  idx_vars j
  pointwise [k0_pay3, k0_pay4, k0_pay5, k0_pay6, k0_pay7, k0_pay8, k0_pay9, k0_pay10, k0_pay11, k0_pay12, k0_pay15, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The lanes' maxima after chunk 1. -/
theorem lane_1 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay24 (k0_pay5 x2) (lanesV x0 x1 x2 x3 x4 x5 1) (k0_pay16 (k0_pay3 x0 x3) (k0_pay4 x1) (View.ld x5 (Rect.unit ![512, 0] ![512, 2048] inb_S5632x2048_S512x2048_512_0))) (k0_pay17 (k0_pay5 x2) (View.ld x4 (Rect.unit ![0, 0, 0, 512] ![1, 1, 256, 512] inb_S1x2x256x5632_S1x1x256x512_0_0_0_512))) (k0_pay18 (View.ld x4 (Rect.unit ![0, 1, 0, 512] ![1, 1, 256, 512] inb_S1x2x256x5632_S1x1x256x512_0_1_0_512))) = lanesV x0 x1 x2 x3 x4 x5 2 := by
  funext j
  idx_vars j
  pointwise [k0_pay3, k0_pay4, k0_pay5, k0_pay16, k0_pay17, k0_pay18, k0_pay19, k0_pay20, k0_pay21, k0_pay24, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The lanes' maxima after chunk 2. -/
theorem lane_2 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay34 (k0_pay32 (k0_pay5 x2) (k0_pay25 (k0_pay3 x0 x3) (k0_pay4 x1) (View.ld x5 (Rect.unit ![1024, 0] ![512, 2048] inb_S5632x2048_S512x2048_1024_0))) (View.ld x4 (Rect.unit ![0, 0, 0, 1024] ![1, 1, 256, 512] inb_S1x2x256x5632_S1x1x256x512_0_0_0_1024)) (View.ld x4 (Rect.unit ![0, 1, 0, 1024] ![1, 1, 256, 512] inb_S1x2x256x5632_S1x1x256x512_0_1_0_1024))) (k0_pay33 (k0_pay5 x2) (lanesV x0 x1 x2 x3 x4 x5 2) (k0_pay25 (k0_pay3 x0 x3) (k0_pay4 x1) (View.ld x5 (Rect.unit ![1024, 0] ![512, 2048] inb_S5632x2048_S512x2048_1024_0))) (View.ld x4 (Rect.unit ![0, 0, 0, 1024] ![1, 1, 256, 512] inb_S1x2x256x5632_S1x1x256x512_0_0_0_1024)) (View.ld x4 (Rect.unit ![0, 1, 0, 1024] ![1, 1, 256, 512] inb_S1x2x256x5632_S1x1x256x512_0_1_0_1024))) = lanesV x0 x1 x2 x3 x4 x5 3 := by
  funext j
  idx_vars j
  pointwise [k0_pay3, k0_pay4, k0_pay5, k0_pay25, k0_pay26, k0_pay27, k0_pay28, k0_pay29, k0_pay32, k0_pay33, k0_pay34, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The lanes' maxima after chunk 3. -/
theorem lane_3 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay42 (lanesV x0 x1 x2 x3 x4 x5 3) (k0_pay38 (k0_pay3 x0 x3) (k0_pay4 x1) (k0_pay5 x2) (View.ld x5 (Rect.unit ![1536, 0] ![512, 2048] inb_S5632x2048_S512x2048_1536_0)) (View.ld x4 (Rect.unit ![0, 0, 0, 1536] ![1, 1, 256, 512] inb_S1x2x256x5632_S1x1x256x512_0_0_0_1536)) (View.ld x4 (Rect.unit ![0, 1, 0, 1536] ![1, 1, 256, 512] inb_S1x2x256x5632_S1x1x256x512_0_1_0_1536))) (k0_pay39 (k0_pay3 x0 x3) (k0_pay4 x1) (k0_pay5 x2) (View.ld x5 (Rect.unit ![1536, 0] ![512, 2048] inb_S5632x2048_S512x2048_1536_0)) (View.ld x4 (Rect.unit ![0, 0, 0, 1536] ![1, 1, 256, 512] inb_S1x2x256x5632_S1x1x256x512_0_0_0_1536))) = lanesV x0 x1 x2 x3 x4 x5 4 := by
  funext j
  idx_vars j
  pointwise [k0_pay3, k0_pay4, k0_pay5, k0_pay35, k0_pay36, k0_pay37, k0_pay38, k0_pay39, k0_pay42, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The lanes' maxima after chunk 4. -/
theorem lane_4 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay52 (lanesV x0 x1 x2 x3 x4 x5 4) (k0_pay43 (k0_pay3 x0 x3) (k0_pay4 x1) (View.ld x5 (Rect.unit ![2048, 0] ![512, 2048] inb_S5632x2048_S512x2048_2048_0))) (k0_pay44 (k0_pay5 x2) (View.ld x4 (Rect.unit ![0, 0, 0, 2048] ![1, 1, 256, 512] inb_S1x2x256x5632_S1x1x256x512_0_0_0_2048))) (k0_pay45 (k0_pay5 x2) (View.ld x4 (Rect.unit ![0, 0, 0, 2048] ![1, 1, 256, 512] inb_S1x2x256x5632_S1x1x256x512_0_0_0_2048))) (k0_pay46 (k0_pay3 x0 x3) (k0_pay4 x1) (k0_pay5 x2) (View.ld x5 (Rect.unit ![2048, 0] ![512, 2048] inb_S5632x2048_S512x2048_2048_0)) (View.ld x4 (Rect.unit ![0, 0, 0, 2048] ![1, 1, 256, 512] inb_S1x2x256x5632_S1x1x256x512_0_0_0_2048)) (View.ld x4 (Rect.unit ![0, 1, 0, 2048] ![1, 1, 256, 512] inb_S1x2x256x5632_S1x1x256x512_0_1_0_2048))) (k0_pay47 (k0_pay5 x2) (View.ld x4 (Rect.unit ![0, 0, 0, 2048] ![1, 1, 256, 512] inb_S1x2x256x5632_S1x1x256x512_0_0_0_2048))) = lanesV x0 x1 x2 x3 x4 x5 5 := by
  funext j
  idx_vars j
  pointwise [k0_pay3, k0_pay4, k0_pay5, k0_pay43, k0_pay44, k0_pay45, k0_pay46, k0_pay47, k0_pay48, k0_pay49, k0_pay52, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The lanes' maxima after chunk 5. -/
theorem lane_5 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay63 (lanesV x0 x1 x2 x3 x4 x5 5) (k0_pay53 (k0_pay3 x0 x3) (k0_pay4 x1) (View.ld x5 (Rect.unit ![2560, 0] ![512, 2048] inb_S5632x2048_S512x2048_2560_0))) (k0_pay54 (k0_pay5 x2) (View.ld x4 (Rect.unit ![0, 0, 0, 2560] ![1, 1, 256, 512] inb_S1x2x256x5632_S1x1x256x512_0_0_0_2560))) (k0_pay55 (k0_pay5 x2) (View.ld x4 (Rect.unit ![0, 1, 0, 2560] ![1, 1, 256, 512] inb_S1x2x256x5632_S1x1x256x512_0_1_0_2560))) (k0_pay56 (k0_pay5 x2) (View.ld x4 (Rect.unit ![0, 0, 0, 2560] ![1, 1, 256, 512] inb_S1x2x256x5632_S1x1x256x512_0_0_0_2560))) k0_pay57 = lanesV x0 x1 x2 x3 x4 x5 6 := by
  funext j
  idx_vars j
  pointwise [k0_pay3, k0_pay4, k0_pay5, k0_pay53, k0_pay54, k0_pay55, k0_pay56, k0_pay57, k0_pay58, k0_pay59, k0_pay60, k0_pay63, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The lanes' maxima after chunk 6. -/
theorem lane_6 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay71 (k0_pay5 x2) (lanesV x0 x1 x2 x3 x4 x5 6) (k0_pay64 (k0_pay3 x0 x3) (k0_pay4 x1) (View.ld x5 (Rect.unit ![3072, 0] ![512, 2048] inb_S5632x2048_S512x2048_3072_0))) (k0_pay65 (k0_pay5 x2) (View.ld x4 (Rect.unit ![0, 0, 0, 3072] ![1, 1, 256, 512] inb_S1x2x256x5632_S1x1x256x512_0_0_0_3072))) (View.ld x4 (Rect.unit ![0, 1, 0, 3072] ![1, 1, 256, 512] inb_S1x2x256x5632_S1x1x256x512_0_1_0_3072)) = lanesV x0 x1 x2 x3 x4 x5 7 := by
  funext j
  idx_vars j
  pointwise [k0_pay3, k0_pay4, k0_pay5, k0_pay64, k0_pay65, k0_pay66, k0_pay67, k0_pay68, k0_pay71, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The lanes' maxima after chunk 7. -/
theorem lane_7 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay82 (lanesV x0 x1 x2 x3 x4 x5 7) (k0_pay80 (k0_pay4 x1) (k0_pay5 x2) (k0_pay72 (k0_pay3 x0 x3) (View.ld x5 (Rect.unit ![3584, 0] ![512, 2048] inb_S5632x2048_S512x2048_3584_0))) (View.ld x4 (Rect.unit ![0, 0, 0, 3584] ![1, 1, 256, 512] inb_S1x2x256x5632_S1x1x256x512_0_0_0_3584)) (View.ld x4 (Rect.unit ![0, 1, 0, 3584] ![1, 1, 256, 512] inb_S1x2x256x5632_S1x1x256x512_0_1_0_3584))) (k0_pay81 (k0_pay4 x1) (k0_pay5 x2) (k0_pay72 (k0_pay3 x0 x3) (View.ld x5 (Rect.unit ![3584, 0] ![512, 2048] inb_S5632x2048_S512x2048_3584_0))) (View.ld x4 (Rect.unit ![0, 0, 0, 3584] ![1, 1, 256, 512] inb_S1x2x256x5632_S1x1x256x512_0_0_0_3584)) (View.ld x4 (Rect.unit ![0, 1, 0, 3584] ![1, 1, 256, 512] inb_S1x2x256x5632_S1x1x256x512_0_1_0_3584))) = lanesV x0 x1 x2 x3 x4 x5 8 := by
  funext j
  idx_vars j
  pointwise [k0_pay3, k0_pay4, k0_pay5, k0_pay72, k0_pay73, k0_pay74, k0_pay75, k0_pay76, k0_pay77, k0_pay80, k0_pay81, k0_pay82, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The lanes' maxima after chunk 8. -/
theorem lane_8 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay90 (lanesV x0 x1 x2 x3 x4 x5 8) (k0_pay86 (k0_pay3 x0 x3) (k0_pay4 x1) (k0_pay5 x2) (View.ld x5 (Rect.unit ![4096, 0] ![512, 2048] inb_S5632x2048_S512x2048_4096_0)) (View.ld x4 (Rect.unit ![0, 0, 0, 4096] ![1, 1, 256, 512] inb_S1x2x256x5632_S1x1x256x512_0_0_0_4096)) (View.ld x4 (Rect.unit ![0, 1, 0, 4096] ![1, 1, 256, 512] inb_S1x2x256x5632_S1x1x256x512_0_1_0_4096))) (k0_pay87 (k0_pay3 x0 x3) (k0_pay4 x1) (k0_pay5 x2) (View.ld x5 (Rect.unit ![4096, 0] ![512, 2048] inb_S5632x2048_S512x2048_4096_0)) (View.ld x4 (Rect.unit ![0, 0, 0, 4096] ![1, 1, 256, 512] inb_S1x2x256x5632_S1x1x256x512_0_0_0_4096))) = lanesV x0 x1 x2 x3 x4 x5 9 := by
  funext j
  idx_vars j
  pointwise [k0_pay3, k0_pay4, k0_pay5, k0_pay83, k0_pay84, k0_pay85, k0_pay86, k0_pay87, k0_pay90, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The lanes' maxima after chunk 9. -/
theorem lane_9 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay100 (lanesV x0 x1 x2 x3 x4 x5 9) (k0_pay91 (k0_pay3 x0 x3) (k0_pay4 x1) (View.ld x5 (Rect.unit ![4608, 0] ![512, 2048] inb_S5632x2048_S512x2048_4608_0))) (k0_pay92 (k0_pay5 x2) (View.ld x4 (Rect.unit ![0, 0, 0, 4608] ![1, 1, 256, 512] inb_S1x2x256x5632_S1x1x256x512_0_0_0_4608))) (k0_pay93 (k0_pay5 x2) (View.ld x4 (Rect.unit ![0, 0, 0, 4608] ![1, 1, 256, 512] inb_S1x2x256x5632_S1x1x256x512_0_0_0_4608))) (k0_pay94 (k0_pay3 x0 x3) (k0_pay4 x1) (k0_pay5 x2) (View.ld x5 (Rect.unit ![4608, 0] ![512, 2048] inb_S5632x2048_S512x2048_4608_0)) (View.ld x4 (Rect.unit ![0, 0, 0, 4608] ![1, 1, 256, 512] inb_S1x2x256x5632_S1x1x256x512_0_0_0_4608)) (View.ld x4 (Rect.unit ![0, 1, 0, 4608] ![1, 1, 256, 512] inb_S1x2x256x5632_S1x1x256x512_0_1_0_4608))) k0_pay95 = lanesV x0 x1 x2 x3 x4 x5 10 := by
  funext j
  idx_vars j
  pointwise [k0_pay3, k0_pay4, k0_pay5, k0_pay91, k0_pay92, k0_pay93, k0_pay94, k0_pay95, k0_pay96, k0_pay97, k0_pay100, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The maximum over the lanes after the last chunk is the rows' largest absolute value. -/
theorem amax_pay (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay109 (lanesV x0 x1 x2 x3 x4 x5 10) (k0_pay101 (k0_pay3 x0 x3) (k0_pay4 x1) (View.ld x5 (Rect.unit ![5120, 0] ![512, 2048] inb_S5632x2048_S512x2048_5120_0))) (k0_pay102 (k0_pay5 x2) (View.ld x4 (Rect.unit ![0, 0, 0, 5120] ![1, 1, 256, 512] inb_S1x2x256x5632_S1x1x256x512_0_0_0_5120))) (k0_pay103 (k0_pay5 x2) (View.ld x4 (Rect.unit ![0, 1, 0, 5120] ![1, 1, 256, 512] inb_S1x2x256x5632_S1x1x256x512_0_1_0_5120))) (FloatOps.ofBits FTy.f32 0#32) = fun j => amaxB x0 x1 x2 x3 x4 x5 (j 0) := by
  funext j
  idx_vars j
  unfold amaxB
  rw [← DaMath.lanes_eq]
  pointwise [k0_pay3, k0_pay4, k0_pay5, k0_pay101, k0_pay102, k0_pay103, k0_pay104, k0_pay105, k0_pay106, k0_pay109, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]
  rw [DaMath.neg_inf]

/-- Times the inverse of the codes' largest value. -/
theorem top_pay (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay110 (lanesV x0 x1 x2 x3 x4 x5 10) (k0_pay101 (k0_pay3 x0 x3) (k0_pay4 x1) (View.ld x5 (Rect.unit ![5120, 0] ![512, 2048] inb_S5632x2048_S512x2048_5120_0))) (k0_pay102 (k0_pay5 x2) (View.ld x4 (Rect.unit ![0, 0, 0, 5120] ![1, 1, 256, 512] inb_S1x2x256x5632_S1x1x256x512_0_0_0_5120))) (k0_pay103 (k0_pay5 x2) (View.ld x4 (Rect.unit ![0, 1, 0, 5120] ![1, 1, 256, 512] inb_S1x2x256x5632_S1x1x256x512_0_1_0_5120))) (FloatOps.ofBits FTy.f32 0#32) = fun j => amaxB x0 x1 x2 x3 x4 x5 (j 0) * Ideal.ofBits .f32 0x37924925#32 := by
  funext j
  rw [← congrFun (amax_pay x0 x1 x2 x3 x4 x5) j]
  rfl

end Cert.DaIdeal.Val
-- ==== Proof.DaScale.lean ====
module

public import proofs.«01_k».proof.Proof.Gen.DaIdeal.Skeleton
public import proofs.«01_k».proof.Proof.DaMath
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.DaIdeal.Val

open Cert.DaIdeal Cert.DaIdeal.Gen Idealize.ShloMosaic Idealize.ShloMosaic.TcCoe Idealize.SL.Sem
open Idealize.ShloMosaic.Pipeline (Dat)

/-- One step of the kernel's search: try the bit `d`, where `c` is `d` less the exponent's bias. -/
def stepV (T : FVec Ideal S256x1 .f32) (d c : BitVec 32) (w : IVec S256x1 32) : IVec S256x1 32 :=
  select (cmpf .oge T (bitcastToFloat .f32 (shli (addi (addi w (broadcast S256x1 c)) (broadcast S256x1 127#32)) (broadcast S256x1 23#32))))
    (addi w (broadcast S256x1 d)) w

/-- The kernel's search is eight such steps. -/
theorem search_pay (T : FVec Ideal S256x1 .f32) :
    k0_pay115 T (k0_pay113 T k0_pay111 k0_pay112) (k0_pay114 T k0_pay111 k0_pay112)
      = minsi (stepV T 1#32 4294967170#32 (stepV T 2#32 4294967171#32 (stepV T 4#32 4294967173#32 (stepV T 8#32 4294967177#32
          (stepV T 16#32 4294967185#32 (stepV T 32#32 4294967201#32 (stepV T 64#32 4294967233#32 (stepV T 128#32 1#32 (broadcast S256x1 0#32))))))))) (broadcast S256x1 252#32) := rfl

/-- A small number shifted to the exponent's place. -/
theorem shift_word (k : ℕ) : IntOp.shli .vector (BitVec.ofNat 32 k) 23#32 = BitVec.ofNat 32 (k * 2 ^ 23) := by
  show (if (23#32).toNat < 32 then BitVec.ofNat 32 k <<< 23#32 else _) = _
  rw [if_pos (by decide)]
  apply BitVec.eq_of_toNat_eq
  rw [BitVec.shiftLeft_eq', BitVec.toNat_shiftLeft, Nat.shiftLeft_eq, BitVec.toNat_ofNat, BitVec.toNat_ofNat, BitVec.toNat_ofNat, show 23 % 2 ^ 32 = 23 from rfl, Nat.mod_mul_mod]

/-- The smaller of a field and 252, on words. -/
theorem cap_word : ∀ n : Fin 256, IntOp.minsi (BitVec.ofNat 32 n.val) 252#32 = BitVec.ofNat 32 (min n.val 252) := by decide +kernel

/-- The scale's word from the field. -/
theorem scale_word : ∀ n : Fin 253, IntOp.shli .vector (IntOp.addi (IntOp.subi (BitVec.ofNat 32 n.val) 126#32) 127#32) 23#32 = BitVec.ofNat 32 ((n.val + 1) * 2 ^ 23) := by decide +kernel

/-- The inverse scale's word from the field. -/
theorem inv_word : ∀ n : Fin 253, IntOp.shli .vector (IntOp.addi (IntOp.subi 0#32 (IntOp.subi (BitVec.ofNat 32 n.val) 126#32)) 127#32) 23#32 = BitVec.ofNat 32 ((253 - n.val) * 2 ^ 23) := by decide +kernel

/-- A step on the words of natural numbers is a step of the search. -/
theorem step_pay (T : FVec Ideal S256x1 .f32) (d c : BitVec 32) (D : ℕ) (w : IVec S256x1 32) (n : ℕ) (j : S256x1.Idx)
    (hw : w j = BitVec.ofNat 32 n) (hd : d = BitVec.ofNat 32 D) (hc : c + 127#32 = BitVec.ofNat 32 D) :
    stepV T d c w j = BitVec.ofNat 32 (DaMath.step (T j) D n) := by
  idx_vars j
  pointwise [stepV]
  rw [hw, hd]
  have hk : IntOp.addi (IntOp.addi (BitVec.ofNat 32 n) c) 127#32 = BitVec.ofNat 32 (n + D) := by
    show BitVec.ofNat 32 n + c + 127#32 = _
    rw [BitVec.add_assoc, hc, ← BitVec.ofNat_add]
  rw [hk, shift_word]
  show (if DaMath.pow (n + D) ≤ T (ix2 j0 j1) then BitVec.ofNat 32 n + BitVec.ofNat 32 D else BitVec.ofNat 32 n) = BitVec.ofNat 32 (DaMath.step (T (ix2 j0 j1)) D n)
  unfold DaMath.step
  split
  · rw [← BitVec.ofNat_add]
  · rfl

/-- The kernel's search finds the exponent field. -/
theorem field_pay (T : FVec Ideal S256x1 .f32) :
    k0_pay115 T (k0_pay113 T k0_pay111 k0_pay112) (k0_pay114 T k0_pay111 k0_pay112) = fun j => BitVec.ofNat 32 (DaMath.field (T j)) := by
  rw [search_pay]
  funext j
  have h := step_pay T 1#32 4294967170#32 1 _ _ j (step_pay T 2#32 4294967171#32 2 _ _ j (step_pay T 4#32 4294967173#32 4 _ _ j (step_pay T 8#32 4294967177#32 8 _ _ j
    (step_pay T 16#32 4294967185#32 16 _ _ j (step_pay T 32#32 4294967201#32 32 _ _ j (step_pay T 64#32 4294967233#32 64 _ _ j (step_pay T 128#32 1#32 128 (broadcast S256x1 0#32) 0 j
      rfl rfl (by decide)) rfl (by decide)) rfl (by decide)) rfl (by decide)) rfl (by decide)) rfl (by decide)) rfl (by decide)) rfl (by decide)
  have hb := (DaMath.search_between (T j)).1
  unfold DaMath.field
  generalize hn : DaMath.step (T j) 1 _ = n at h hb
  show IntOp.minsi _ 252#32 = _
  rw [h]
  exact cap_word ⟨n, by omega⟩

/-- The kernel's scale. -/
theorem scale_pay (a T : FVec Ideal S256x1 .f32) (h : ∀ j, T j = a j * Ideal.ofBits .f32 0x37924925#32) :
    k0_pay118 (F := Ideal) (fun j => BitVec.ofNat 32 (DaMath.field (T j))) (k0_pay116 a) = fun j => DaMath.scale (a j) := by
  funext j
  idx_vars j
  pointwise [k0_pay116, k0_pay117, k0_pay118]
  unfold DaMath.scale
  split
  · rw [show IntOp.shli .vector (IntOp.addi 0#32 127#32) 23#32 = BitVec.ofNat 32 (127 * 2 ^ 23) from by decide]
    exact DaMath.pow_127
  · rw [← h (ix2 j0 j1)]
    exact congrArg (Ideal.ofBits .f32) (scale_word ⟨DaMath.field (T (ix2 j0 j1)), by have := DaMath.field_le (T (ix2 j0 j1)); omega⟩)

/-- The kernel's inverse scale. -/
theorem inv_pay (a T : FVec Ideal S256x1 .f32) (h : ∀ j, T j = a j * Ideal.ofBits .f32 0x37924925#32) :
    k0_pay119 (F := Ideal) (fun j => BitVec.ofNat 32 (DaMath.field (T j))) (k0_pay116 a) = fun j => DaMath.inv (a j) := by
  funext j
  idx_vars j
  pointwise [k0_pay116, k0_pay117, k0_pay119]
  unfold DaMath.inv
  split
  · rw [show IntOp.shli .vector (IntOp.addi (IntOp.subi 0#32 0#32) 127#32) 23#32 = BitVec.ofNat 32 (127 * 2 ^ 23) from by decide]
    exact DaMath.pow_127
  · rw [← h (ix2 j0 j1)]
    exact congrArg (Ideal.ofBits .f32) (inv_word ⟨DaMath.field (T (ix2 j0 j1)), by have := DaMath.field_le (T (ix2 j0 j1)); omega⟩)

end Cert.DaIdeal.Val
-- ==== Proof.DaOut.lean ====
module

public import proofs.«01_k».proof.Proof.Gen.DaIdeal.Frame
public import proofs.«01_k».proof.Proof.DaPay
public import proofs.«01_k».proof.Proof.DaScale
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.DaIdeal.Val

open Cert.DaIdeal Cert.DaIdeal.Gen Idealize.ShloMosaic Idealize.ShloMosaic.TcCoe Idealize.SL.Sem
open Idealize.ShloMosaic.Pipeline (Dat)

/-- The scratch array after its 22 stores, read back: where every store left the block of one array `G`, a load reads `G`. -/
theorem read_scratch (G : Vec Ideal S2x256x5632 .f32) (r : Rect S2x256x5632) :
    (View.whole cc0_scratch0 : View sig _ _ S2x256x5632 _).readCov (Val := Elt Ideal) [⟨Rect.unit ![1, 0, 5120] ![1, 256, 512] inb_S2x256x5632_S1x256x512_1_0_5120, View.ld G (Rect.unit ![1, 0, 5120] ![1, 256, 512] inb_S2x256x5632_S1x256x512_1_0_5120)⟩,
      ⟨Rect.unit ![0, 0, 5120] ![1, 256, 512] inb_S2x256x5632_S1x256x512_0_0_5120, View.ld G (Rect.unit ![0, 0, 5120] ![1, 256, 512] inb_S2x256x5632_S1x256x512_0_0_5120)⟩,
      ⟨Rect.unit ![1, 0, 4608] ![1, 256, 512] inb_S2x256x5632_S1x256x512_1_0_4608, View.ld G (Rect.unit ![1, 0, 4608] ![1, 256, 512] inb_S2x256x5632_S1x256x512_1_0_4608)⟩,
      ⟨Rect.unit ![0, 0, 4608] ![1, 256, 512] inb_S2x256x5632_S1x256x512_0_0_4608, View.ld G (Rect.unit ![0, 0, 4608] ![1, 256, 512] inb_S2x256x5632_S1x256x512_0_0_4608)⟩,
      ⟨Rect.unit ![1, 0, 4096] ![1, 256, 512] inb_S2x256x5632_S1x256x512_1_0_4096, View.ld G (Rect.unit ![1, 0, 4096] ![1, 256, 512] inb_S2x256x5632_S1x256x512_1_0_4096)⟩,
      ⟨Rect.unit ![0, 0, 4096] ![1, 256, 512] inb_S2x256x5632_S1x256x512_0_0_4096, View.ld G (Rect.unit ![0, 0, 4096] ![1, 256, 512] inb_S2x256x5632_S1x256x512_0_0_4096)⟩,
      ⟨Rect.unit ![1, 0, 3584] ![1, 256, 512] inb_S2x256x5632_S1x256x512_1_0_3584, View.ld G (Rect.unit ![1, 0, 3584] ![1, 256, 512] inb_S2x256x5632_S1x256x512_1_0_3584)⟩,
      ⟨Rect.unit ![0, 0, 3584] ![1, 256, 512] inb_S2x256x5632_S1x256x512_0_0_3584, View.ld G (Rect.unit ![0, 0, 3584] ![1, 256, 512] inb_S2x256x5632_S1x256x512_0_0_3584)⟩,
      ⟨Rect.unit ![1, 0, 3072] ![1, 256, 512] inb_S2x256x5632_S1x256x512_1_0_3072, View.ld G (Rect.unit ![1, 0, 3072] ![1, 256, 512] inb_S2x256x5632_S1x256x512_1_0_3072)⟩,
      ⟨Rect.unit ![0, 0, 3072] ![1, 256, 512] inb_S2x256x5632_S1x256x512_0_0_3072, View.ld G (Rect.unit ![0, 0, 3072] ![1, 256, 512] inb_S2x256x5632_S1x256x512_0_0_3072)⟩,
      ⟨Rect.unit ![1, 0, 2560] ![1, 256, 512] inb_S2x256x5632_S1x256x512_1_0_2560, View.ld G (Rect.unit ![1, 0, 2560] ![1, 256, 512] inb_S2x256x5632_S1x256x512_1_0_2560)⟩,
      ⟨Rect.unit ![0, 0, 2560] ![1, 256, 512] inb_S2x256x5632_S1x256x512_0_0_2560, View.ld G (Rect.unit ![0, 0, 2560] ![1, 256, 512] inb_S2x256x5632_S1x256x512_0_0_2560)⟩,
      ⟨Rect.unit ![1, 0, 2048] ![1, 256, 512] inb_S2x256x5632_S1x256x512_1_0_2048, View.ld G (Rect.unit ![1, 0, 2048] ![1, 256, 512] inb_S2x256x5632_S1x256x512_1_0_2048)⟩,
      ⟨Rect.unit ![0, 0, 2048] ![1, 256, 512] inb_S2x256x5632_S1x256x512_0_0_2048, View.ld G (Rect.unit ![0, 0, 2048] ![1, 256, 512] inb_S2x256x5632_S1x256x512_0_0_2048)⟩,
      ⟨Rect.unit ![1, 0, 1536] ![1, 256, 512] inb_S2x256x5632_S1x256x512_1_0_1536, View.ld G (Rect.unit ![1, 0, 1536] ![1, 256, 512] inb_S2x256x5632_S1x256x512_1_0_1536)⟩,
      ⟨Rect.unit ![0, 0, 1536] ![1, 256, 512] inb_S2x256x5632_S1x256x512_0_0_1536, View.ld G (Rect.unit ![0, 0, 1536] ![1, 256, 512] inb_S2x256x5632_S1x256x512_0_0_1536)⟩,
      ⟨Rect.unit ![1, 0, 1024] ![1, 256, 512] inb_S2x256x5632_S1x256x512_1_0_1024, View.ld G (Rect.unit ![1, 0, 1024] ![1, 256, 512] inb_S2x256x5632_S1x256x512_1_0_1024)⟩,
      ⟨Rect.unit ![0, 0, 1024] ![1, 256, 512] inb_S2x256x5632_S1x256x512_0_0_1024, View.ld G (Rect.unit ![0, 0, 1024] ![1, 256, 512] inb_S2x256x5632_S1x256x512_0_0_1024)⟩,
      ⟨Rect.unit ![1, 0, 512] ![1, 256, 512] inb_S2x256x5632_S1x256x512_1_0_512, View.ld G (Rect.unit ![1, 0, 512] ![1, 256, 512] inb_S2x256x5632_S1x256x512_1_0_512)⟩,
      ⟨Rect.unit ![0, 0, 512] ![1, 256, 512] inb_S2x256x5632_S1x256x512_0_0_512, View.ld G (Rect.unit ![0, 0, 512] ![1, 256, 512] inb_S2x256x5632_S1x256x512_0_0_512)⟩,
      ⟨Rect.unit ![1, 0, 0] ![1, 256, 512] inb_S2x256x5632_S1x256x512_1_0_0, View.ld G (Rect.unit ![1, 0, 0] ![1, 256, 512] inb_S2x256x5632_S1x256x512_1_0_0)⟩,
      ⟨Rect.unit ![0, 0, 0] ![1, 256, 512] inb_S2x256x5632_S1x256x512_0_0_0, View.ld G (Rect.unit ![0, 0, 0] ![1, 256, 512] inb_S2x256x5632_S1x256x512_0_0_0)⟩] r.toLoadRect = View.ld G r := by
  rw [View.readCov_eq_canon']
  funext j
  refine View.canon_apply_of_pieces G _ (View.PiecesOf.mem ?_) _ ?_
  · exact ⟨fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, trivial⟩
  · exact View.cover_of_tiledL _ ![1, 256, 512] (by sl_kernel_rfl) _

/-- The inverse scale as the kernel computes it from the rows' maxima. -/
theorem inv_out (a : FVec Ideal S256x1 .f32) :
    k0_pay119 (F := Ideal) (fun j => BitVec.ofNat 32 (DaMath.field (a j * Ideal.ofBits .f32 0x37924925#32))) (k0_pay116 a) = fun j => DaMath.inv (a j) :=
  inv_pay a _ fun _ => rfl

/-- The codes of one array `G` whose rows have the maxima `A`. -/
def codesV (G : Vec Ideal S2x256x5632 .f32) (A : Fin 256 → EReal) : Vec Ideal S1x2x256x5632 .fp8e5m2 := fun j => DaMath.clip (G (ix3 (j 1) (j 2) (j 3)) * DaMath.inv (A (j 2)))

/-- What the kernel stores for chunk 0 of half 0 of the codes. -/
theorem code_0_0 (G : Vec Ideal S2x256x5632 .f32) (A : Fin 256 → EReal) :
    k0_pay120 (F := Ideal) (fun j => BitVec.ofNat 32 (DaMath.field (A (j 0) * Ideal.ofBits FTy.f32 932333861#32))) (k0_pay116 (F := Ideal) fun j => A (j 0)) (View.ld G (Rect.unit ![0, 0, 0] ![1, 256, 512] inb_S2x256x5632_S1x256x512_0_0_0)) = View.ld (codesV G A) (Rect.unit ![0, 0, 0, 0] ![1, 1, 256, 512] inb_S1x2x256x5632_S1x1x256x512_0_0_0_0) := by
  funext j
  idx_vars j
  have hi := congrFun (inv_out fun j => A (j 0)) (ix2 j2 0)
  pointwise [k0_pay120, codesV, DaMath.clip] at hi ⊢
  rw [hi]

/-- What the kernel stores for chunk 0 of half 1 of the codes. -/
theorem code_1_0 (G : Vec Ideal S2x256x5632 .f32) (A : Fin 256 → EReal) :
    k0_pay122 (F := Ideal) (FloatOps.ofBits FTy.f32 1197473792#32) (k0_pay121 (F := Ideal) (fun j => BitVec.ofNat 32 (DaMath.field (A (j 0) * Ideal.ofBits FTy.f32 932333861#32))) (k0_pay116 (F := Ideal) fun j => A (j 0)) (View.ld G (Rect.unit ![1, 0, 0] ![1, 256, 512] inb_S2x256x5632_S1x256x512_1_0_0))) = View.ld (codesV G A) (Rect.unit ![0, 1, 0, 0] ![1, 1, 256, 512] inb_S1x2x256x5632_S1x1x256x512_0_1_0_0) := by
  funext j
  idx_vars j
  have hi := congrFun (inv_out fun j => A (j 0)) (ix2 j2 0)
  pointwise [k0_pay121, k0_pay122, codesV, DaMath.clip] at hi ⊢
  rw [hi]

/-- What the kernel stores for chunk 1 of half 0 of the codes. -/
theorem code_0_1 (G : Vec Ideal S2x256x5632 .f32) (A : Fin 256 → EReal) :
    k0_pay123 (fun j => DaMath.inv (A (j 0))) (View.ld G (Rect.unit ![0, 0, 512] ![1, 256, 512] inb_S2x256x5632_S1x256x512_0_0_512)) = View.ld (codesV G A) (Rect.unit ![0, 0, 0, 512] ![1, 1, 256, 512] inb_S1x2x256x5632_S1x1x256x512_0_0_0_512) := by
  funext j
  idx_vars j
  pointwise [k0_pay123, codesV, DaMath.clip]

/-- What the kernel stores for chunk 1 of half 1 of the codes. -/
theorem code_1_1 (G : Vec Ideal S2x256x5632 .f32) (A : Fin 256 → EReal) :
    k0_pay124 (fun j => DaMath.inv (A (j 0))) (View.ld G (Rect.unit ![1, 0, 512] ![1, 256, 512] inb_S2x256x5632_S1x256x512_1_0_512)) = View.ld (codesV G A) (Rect.unit ![0, 1, 0, 512] ![1, 1, 256, 512] inb_S1x2x256x5632_S1x1x256x512_0_1_0_512) := by
  funext j
  idx_vars j
  pointwise [k0_pay124, codesV, DaMath.clip]

/-- What the kernel stores for chunk 2 of half 0 of the codes. -/
theorem code_0_2 (G : Vec Ideal S2x256x5632 .f32) (A : Fin 256 → EReal) :
    k0_pay126 (fun j => DaMath.inv (A (j 0))) (k0_pay125 (View.ld G (Rect.unit ![0, 0, 1024] ![1, 256, 512] inb_S2x256x5632_S1x256x512_0_0_1024))) = View.ld (codesV G A) (Rect.unit ![0, 0, 0, 1024] ![1, 1, 256, 512] inb_S1x2x256x5632_S1x1x256x512_0_0_0_1024) := by
  funext j
  idx_vars j
  pointwise [k0_pay125, k0_pay126, codesV, DaMath.clip]

/-- What the kernel stores for chunk 2 of half 1 of the codes. -/
theorem code_1_2 (G : Vec Ideal S2x256x5632 .f32) (A : Fin 256 → EReal) :
    k0_pay127 (fun j => DaMath.inv (A (j 0))) (View.ld G (Rect.unit ![1, 0, 1024] ![1, 256, 512] inb_S2x256x5632_S1x256x512_1_0_1024)) = View.ld (codesV G A) (Rect.unit ![0, 1, 0, 1024] ![1, 1, 256, 512] inb_S1x2x256x5632_S1x1x256x512_0_1_0_1024) := by
  funext j
  idx_vars j
  pointwise [k0_pay127, codesV, DaMath.clip]

/-- What the kernel stores for chunk 3 of half 0 of the codes. -/
theorem code_0_3 (G : Vec Ideal S2x256x5632 .f32) (A : Fin 256 → EReal) :
    k0_pay128 (fun j => DaMath.inv (A (j 0))) (View.ld G (Rect.unit ![0, 0, 1536] ![1, 256, 512] inb_S2x256x5632_S1x256x512_0_0_1536)) = View.ld (codesV G A) (Rect.unit ![0, 0, 0, 1536] ![1, 1, 256, 512] inb_S1x2x256x5632_S1x1x256x512_0_0_0_1536) := by
  funext j
  idx_vars j
  pointwise [k0_pay128, codesV, DaMath.clip]

/-- What the kernel stores for chunk 3 of half 1 of the codes. -/
theorem code_1_3 (G : Vec Ideal S2x256x5632 .f32) (A : Fin 256 → EReal) :
    k0_pay129 (fun j => DaMath.inv (A (j 0))) (View.ld G (Rect.unit ![1, 0, 1536] ![1, 256, 512] inb_S2x256x5632_S1x256x512_1_0_1536)) = View.ld (codesV G A) (Rect.unit ![0, 1, 0, 1536] ![1, 1, 256, 512] inb_S1x2x256x5632_S1x1x256x512_0_1_0_1536) := by
  funext j
  idx_vars j
  pointwise [k0_pay129, codesV, DaMath.clip]

/-- What the kernel stores for chunk 4 of half 0 of the codes. -/
theorem code_0_4 (G : Vec Ideal S2x256x5632 .f32) (A : Fin 256 → EReal) :
    k0_pay130 (fun j => DaMath.inv (A (j 0))) (View.ld G (Rect.unit ![0, 0, 2048] ![1, 256, 512] inb_S2x256x5632_S1x256x512_0_0_2048)) = View.ld (codesV G A) (Rect.unit ![0, 0, 0, 2048] ![1, 1, 256, 512] inb_S1x2x256x5632_S1x1x256x512_0_0_0_2048) := by
  funext j
  idx_vars j
  pointwise [k0_pay130, codesV, DaMath.clip]

/-- What the kernel stores for chunk 4 of half 1 of the codes. -/
theorem code_1_4 (G : Vec Ideal S2x256x5632 .f32) (A : Fin 256 → EReal) :
    k0_pay132 (k0_pay131 (fun j => DaMath.inv (A (j 0))) (View.ld G (Rect.unit ![1, 0, 2048] ![1, 256, 512] inb_S2x256x5632_S1x256x512_1_0_2048))) = View.ld (codesV G A) (Rect.unit ![0, 1, 0, 2048] ![1, 1, 256, 512] inb_S1x2x256x5632_S1x1x256x512_0_1_0_2048) := by
  funext j
  idx_vars j
  pointwise [k0_pay131, k0_pay132, codesV, DaMath.clip]

/-- What the kernel stores for chunk 5 of half 0 of the codes. -/
theorem code_0_5 (G : Vec Ideal S2x256x5632 .f32) (A : Fin 256 → EReal) :
    k0_pay133 (fun j => DaMath.inv (A (j 0))) (View.ld G (Rect.unit ![0, 0, 2560] ![1, 256, 512] inb_S2x256x5632_S1x256x512_0_0_2560)) = View.ld (codesV G A) (Rect.unit ![0, 0, 0, 2560] ![1, 1, 256, 512] inb_S1x2x256x5632_S1x1x256x512_0_0_0_2560) := by
  funext j
  idx_vars j
  pointwise [k0_pay133, codesV, DaMath.clip]

/-- What the kernel stores for chunk 5 of half 1 of the codes. -/
theorem code_1_5 (G : Vec Ideal S2x256x5632 .f32) (A : Fin 256 → EReal) :
    k0_pay134 (fun j => DaMath.inv (A (j 0))) (View.ld G (Rect.unit ![1, 0, 2560] ![1, 256, 512] inb_S2x256x5632_S1x256x512_1_0_2560)) = View.ld (codesV G A) (Rect.unit ![0, 1, 0, 2560] ![1, 1, 256, 512] inb_S1x2x256x5632_S1x1x256x512_0_1_0_2560) := by
  funext j
  idx_vars j
  pointwise [k0_pay134, codesV, DaMath.clip]

/-- What the kernel stores for chunk 6 of half 0 of the codes. -/
theorem code_0_6 (G : Vec Ideal S2x256x5632 .f32) (A : Fin 256 → EReal) :
    k0_pay136 (k0_pay135 (fun j => DaMath.inv (A (j 0))) (View.ld G (Rect.unit ![0, 0, 3072] ![1, 256, 512] inb_S2x256x5632_S1x256x512_0_0_3072))) (FloatOps.ofBits FTy.f32 3344957440#32) (FloatOps.ofBits FTy.f32 1197473792#32) = View.ld (codesV G A) (Rect.unit ![0, 0, 0, 3072] ![1, 1, 256, 512] inb_S1x2x256x5632_S1x1x256x512_0_0_0_3072) := by
  funext j
  idx_vars j
  pointwise [k0_pay135, k0_pay136, codesV, DaMath.clip]

/-- What the kernel stores for chunk 6 of half 1 of the codes. -/
theorem code_1_6 (G : Vec Ideal S2x256x5632 .f32) (A : Fin 256 → EReal) :
    k0_pay137 (fun j => DaMath.inv (A (j 0))) (View.ld G (Rect.unit ![1, 0, 3072] ![1, 256, 512] inb_S2x256x5632_S1x256x512_1_0_3072)) = View.ld (codesV G A) (Rect.unit ![0, 1, 0, 3072] ![1, 1, 256, 512] inb_S1x2x256x5632_S1x1x256x512_0_1_0_3072) := by
  funext j
  idx_vars j
  pointwise [k0_pay137, codesV, DaMath.clip]

/-- What the kernel stores for chunk 7 of half 0 of the codes. -/
theorem code_0_7 (G : Vec Ideal S2x256x5632 .f32) (A : Fin 256 → EReal) :
    k0_pay138 (fun j => DaMath.inv (A (j 0))) (View.ld G (Rect.unit ![0, 0, 3584] ![1, 256, 512] inb_S2x256x5632_S1x256x512_0_0_3584)) = View.ld (codesV G A) (Rect.unit ![0, 0, 0, 3584] ![1, 1, 256, 512] inb_S1x2x256x5632_S1x1x256x512_0_0_0_3584) := by
  funext j
  idx_vars j
  pointwise [k0_pay138, codesV, DaMath.clip]

/-- What the kernel stores for chunk 7 of half 1 of the codes. -/
theorem code_1_7 (G : Vec Ideal S2x256x5632 .f32) (A : Fin 256 → EReal) :
    k0_pay139 (fun j => DaMath.inv (A (j 0))) (View.ld G (Rect.unit ![1, 0, 3584] ![1, 256, 512] inb_S2x256x5632_S1x256x512_1_0_3584)) = View.ld (codesV G A) (Rect.unit ![0, 1, 0, 3584] ![1, 1, 256, 512] inb_S1x2x256x5632_S1x1x256x512_0_1_0_3584) := by
  funext j
  idx_vars j
  pointwise [k0_pay139, codesV, DaMath.clip]

/-- What the kernel stores for chunk 8 of half 0 of the codes. -/
theorem code_0_8 (G : Vec Ideal S2x256x5632 .f32) (A : Fin 256 → EReal) :
    k0_pay140 (fun j => DaMath.inv (A (j 0))) (View.ld G (Rect.unit ![0, 0, 4096] ![1, 256, 512] inb_S2x256x5632_S1x256x512_0_0_4096)) = View.ld (codesV G A) (Rect.unit ![0, 0, 0, 4096] ![1, 1, 256, 512] inb_S1x2x256x5632_S1x1x256x512_0_0_0_4096) := by
  funext j
  idx_vars j
  pointwise [k0_pay140, codesV, DaMath.clip]

/-- What the kernel stores for chunk 8 of half 1 of the codes. -/
theorem code_1_8 (G : Vec Ideal S2x256x5632 .f32) (A : Fin 256 → EReal) :
    k0_pay142 (k0_pay141 (fun j => DaMath.inv (A (j 0))) (View.ld G (Rect.unit ![1, 0, 4096] ![1, 256, 512] inb_S2x256x5632_S1x256x512_1_0_4096))) = View.ld (codesV G A) (Rect.unit ![0, 1, 0, 4096] ![1, 1, 256, 512] inb_S1x2x256x5632_S1x1x256x512_0_1_0_4096) := by
  funext j
  idx_vars j
  pointwise [k0_pay141, k0_pay142, codesV, DaMath.clip]

/-- What the kernel stores for chunk 9 of half 0 of the codes. -/
theorem code_0_9 (G : Vec Ideal S2x256x5632 .f32) (A : Fin 256 → EReal) :
    k0_pay143 (fun j => DaMath.inv (A (j 0))) (View.ld G (Rect.unit ![0, 0, 4608] ![1, 256, 512] inb_S2x256x5632_S1x256x512_0_0_4608)) = View.ld (codesV G A) (Rect.unit ![0, 0, 0, 4608] ![1, 1, 256, 512] inb_S1x2x256x5632_S1x1x256x512_0_0_0_4608) := by
  funext j
  idx_vars j
  pointwise [k0_pay143, codesV, DaMath.clip]

/-- What the kernel stores for chunk 9 of half 1 of the codes. -/
theorem code_1_9 (G : Vec Ideal S2x256x5632 .f32) (A : Fin 256 → EReal) :
    k0_pay144 (fun j => DaMath.inv (A (j 0))) (View.ld G (Rect.unit ![1, 0, 4608] ![1, 256, 512] inb_S2x256x5632_S1x256x512_1_0_4608)) = View.ld (codesV G A) (Rect.unit ![0, 1, 0, 4608] ![1, 1, 256, 512] inb_S1x2x256x5632_S1x1x256x512_0_1_0_4608) := by
  funext j
  idx_vars j
  pointwise [k0_pay144, codesV, DaMath.clip]

/-- What the kernel stores for chunk 10 of half 0 of the codes. -/
theorem code_0_10 (G : Vec Ideal S2x256x5632 .f32) (A : Fin 256 → EReal) :
    k0_pay1 (k0_pay145 (fun j => DaMath.inv (A (j 0))) (View.ld G (Rect.unit ![0, 0, 5120] ![1, 256, 512] inb_S2x256x5632_S1x256x512_0_0_5120))) = View.ld (codesV G A) (Rect.unit ![0, 0, 0, 5120] ![1, 1, 256, 512] inb_S1x2x256x5632_S1x1x256x512_0_0_0_5120) := by
  funext j
  idx_vars j
  pointwise [k0_pay1, k0_pay145, codesV, DaMath.clip]

/-- What the kernel stores for chunk 10 of half 1 of the codes. -/
theorem code_1_10 (G : Vec Ideal S2x256x5632 .f32) (A : Fin 256 → EReal) :
    k0_pay2 (fun j => DaMath.inv (A (j 0))) (View.ld G (Rect.unit ![1, 0, 5120] ![1, 256, 512] inb_S2x256x5632_S1x256x512_1_0_5120)) = View.ld (codesV G A) (Rect.unit ![0, 1, 0, 5120] ![1, 1, 256, 512] inb_S1x2x256x5632_S1x1x256x512_0_1_0_5120) := by
  funext j
  idx_vars j
  pointwise [k0_pay2, codesV, DaMath.clip]

variable (m : (ℓ : Loc nD τ sig) → Buf (Elt Ideal) ℓ)

/-- What a grid point leaves in its block of the scales. -/
theorem scale_out (c : Dev nD) (t : Fin cfg0.N) :
    (outsAt0 m c t).2 = (show FVec Ideal S256x1 .f32 from fun j => DaMath.scale (amaxB (iblk m c 0 t) (iblk m c 1 t) (iblk m c 2 t) (iblk m c 3 t) (iblk m c 4 t) (iblk m c 5 t) (j 0))) := by
  unfold outsAt0
  funext y
  frame_out
  simp only [lane_0, lane_1, lane_2, lane_3, lane_4, lane_5, lane_6, lane_7, lane_8, lane_9, amax_pay, top_pay, field_pay]
  rw [scale_pay _ _ fun _ => rfl]

/-- What a grid point leaves in its block of the codes. -/
theorem codes_out (c : Dev nD) (t : Fin cfg0.N) :
    (outsAt0 m c t).1 = codesV (daS (iblk m c 0 t) (iblk m c 1 t) (iblk m c 2 t) (iblk m c 3 t) (iblk m c 4 t) (iblk m c 5 t)) (amaxB (iblk m c 0 t) (iblk m c 1 t) (iblk m c 2 t) (iblk m c 3 t) (iblk m c 4 t) (iblk m c 5 t)) := by
  unfold outsAt0
  funext y
  frame_out
  simp only [lane_0, lane_1, lane_2, lane_3, lane_4, lane_5, lane_6, lane_7, lane_8, lane_9, scratch_0_0, scratch_1_0, scratch_0_1, scratch_1_1, scratch_0_2, scratch_1_2, scratch_0_3, scratch_1_3, scratch_0_4, scratch_1_4, scratch_0_5, scratch_1_5, scratch_0_6, scratch_1_6, scratch_0_7, scratch_1_7, scratch_0_8, scratch_1_8, scratch_0_9, scratch_1_9, scratch_0_10, scratch_1_10, amax_pay, top_pay, field_pay, inv_out]
  iterate 22 rw [read_scratch (daS (iblk m c 0 t) (iblk m c 1 t) (iblk m c 2 t) (iblk m c 3 t) (iblk m c 4 t) (iblk m c 5 t))]
  generalize daS (iblk m c 0 t) (iblk m c 1 t) (iblk m c 2 t) (iblk m c 3 t) (iblk m c 4 t) (iblk m c 5 t) = G
  generalize amaxB (iblk m c 0 t) (iblk m c 1 t) (iblk m c 2 t) (iblk m c 3 t) (iblk m c 4 t) (iblk m c 5 t) = A
  refine View.canon_apply_of_pieces (codesV G A) _ (View.PiecesOf.mem ?_) y (View.cover_of_tiledL _ ![1, 1, 256, 512] (by sl_kernel_rfl) y)
  exact ⟨congrFun (code_1_10 G A), congrFun (code_0_10 G A), congrFun (code_1_9 G A), congrFun (code_0_9 G A), congrFun (code_1_8 G A), congrFun (code_0_8 G A), congrFun (code_1_7 G A), congrFun (code_0_7 G A), congrFun (code_1_6 G A), congrFun (code_0_6 G A), congrFun (code_1_5 G A), congrFun (code_0_5 G A), congrFun (code_1_4 G A), congrFun (code_0_4 G A), congrFun (code_1_3 G A), congrFun (code_0_3 G A), congrFun (code_1_2 G A), congrFun (code_0_2 G A), congrFun (code_1_1 G A), congrFun (code_0_1 G A), congrFun (code_1_0 G A), congrFun (code_0_0 G A), trivial⟩

end Cert.DaIdeal.Val
-- ==== Proof.DaKer.lean ====
module

public import proofs.«01_k».proof.Proof.DaOut
public import proofs.«01_k».proof.Proof.Gen.DaIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.DaIdeal.Val

open Cert.DaIdeal Cert.DaIdeal.Gen Idealize.ShloMosaic Idealize.ShloMosaic.TcCoe Idealize.SL.Sem
open Idealize.ShloMosaic.Pipeline (Dat)

/-- A token's scale, from the arrays the call is given. -/
def scaleAll (x0 : FVec Ideal S24576x2048 .fp8e5m2) (x1 : FVec Ideal S24576x1 .f32) (x2 : FVec Ideal S24576x1 .f32) (x3 : FVec Ideal S1x2048 .f32) (x4 : FVec Ideal S6x2x4096x5632 .fp8e4m3) (x5 : FVec Ideal S5632x2048 .fp8e4m3) (t : Fin 24576) : EReal :=
  DaMath.rowScale (fun k => x0 (ix2 t k)) (fun k => x3 (ix2 0 k)) (fun f k => x5 (ix2 f k)) (x1 (ix2 t 0)) (x2 (ix2 t 0)) (fun f => x4 (ix4 ⟨t.val / 4096, by omega⟩ 0 ⟨t.val % 4096, by omega⟩ f)) (fun f => x4 (ix4 ⟨t.val / 4096, by omega⟩ 1 ⟨t.val % 4096, by omega⟩ f))

/-- A token's codes, from the arrays the call is given. -/
def codeAll (x0 : FVec Ideal S24576x2048 .fp8e5m2) (x1 : FVec Ideal S24576x1 .f32) (x2 : FVec Ideal S24576x1 .f32) (x3 : FVec Ideal S1x2048 .f32) (x4 : FVec Ideal S6x2x4096x5632 .fp8e4m3) (x5 : FVec Ideal S5632x2048 .fp8e4m3) (t : Fin 24576) (q : ℕ) (f : Fin 5632) : EReal :=
  DaMath.rowCode (fun k => x0 (ix2 t k)) (fun k => x3 (ix2 0 k)) (fun f k => x5 (ix2 f k)) (x1 (ix2 t 0)) (x2 (ix2 t 0)) (fun f => x4 (ix4 ⟨t.val / 4096, by omega⟩ 0 ⟨t.val % 4096, by omega⟩ f)) (fun f => x4 (ix4 ⟨t.val / 4096, by omega⟩ 1 ⟨t.val % 4096, by omega⟩ f)) q f

/-- A block's maxima are its rows'. -/
theorem amaxB_eq (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) (r : Fin 256) :
    amaxB x0 x1 x2 x3 x4 x5 r = DaMath.rowMax (fun k => x0 (ix2 r k)) (fun k => x3 (ix2 0 k)) (fun f k => x5 (ix2 f k)) (x1 (ix2 r 0)) (x2 (ix2 r 0)) (fun f => x4 (ix4 0 0 r f)) (fun f => x4 (ix4 0 1 r f)) := rfl

/-- A block's gradient is its rows'. -/
theorem daS_eq (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) (q : Fin 2) (r : Fin 256) (f : Fin 5632) :
    daS x0 x1 x2 x3 x4 x5 (ix3 q r f) = DaMath.rowDa (fun k => x0 (ix2 r k)) (fun k => x3 (ix2 0 k)) (fun f k => x5 (ix2 f k)) (x1 (ix2 r 0)) (x2 (ix2 r 0)) (fun f => x4 (ix4 0 0 r f)) (fun f => x4 (ix4 0 1 r f)) q.val f := rfl

variable (m : (ℓ : Loc nD τ sig) → Buf (Elt Ideal) ℓ)

/-- Which blocks a grid point reads and writes. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![t.val / 16, 0, t.val % 16, 0]
    ∧ win0_5.index t = ![0, 0]
    ∧ win0_6.index t = ![t.val / 16, 0, t.val % 16, 0]
    ∧ win0_7.index t = ![t.val, 0] :=
  (by decide +kernel : ∀ t : Fin grid0.N, _)

/-- A grid point's block of codes is its 256 rows of the whole. -/
theorem code_blk (c : Dev nD) (t : Fin cfg0.N) (r : Fin 256) (q : ℕ) (f : Fin 5632) (hr : t.val * 256 + r.val < 24576) :
    DaMath.rowCode (fun k => (show FVec Ideal S256x2048 .fp8e5m2 from iblk m c 0 t) (ix2 r k)) (fun k => (show FVec Ideal S1x2048 .f32 from iblk m c 3 t) (ix2 0 k)) (fun f k => (show FVec Ideal S5632x2048 .fp8e4m3 from iblk m c 5 t) (ix2 f k)) ((show FVec Ideal S256x1 .f32 from iblk m c 1 t) (ix2 r 0)) ((show FVec Ideal S256x1 .f32 from iblk m c 2 t) (ix2 r 0)) (fun f => (show FVec Ideal S1x2x256x5632 .fp8e4m3 from iblk m c 4 t) (ix4 0 0 r f)) (fun f => (show FVec Ideal S1x2x256x5632 .fp8e4m3 from iblk m c 4 t) (ix4 0 1 r f)) q f
      = codeAll (V m c main_v0) (V m c main_v2) (V m c main_v3) (V m c main_v4) (V m c main_v1) (V m c main_arg4) ⟨t.val * 256 + r.val, hr⟩ q f := by
  have e0 : (fun k => (show FVec Ideal S256x2048 .fp8e5m2 from iblk m c 0 t) (ix2 r k)) = fun k : Fin 2048 => (show FVec Ideal S24576x2048 .fp8e5m2 from V m c main_v0) (ix2 ⟨t.val * 256 + r.val, hr⟩ k) := by
    funext k
    blk_point [iblk, idx t]
  have e1 : (show FVec Ideal S256x1 .f32 from iblk m c 1 t) (ix2 r 0) = (show FVec Ideal S24576x1 .f32 from V m c main_v2) (ix2 ⟨t.val * 256 + r.val, hr⟩ 0) := by
    blk_point [iblk, idx t]
  have e2 : (show FVec Ideal S256x1 .f32 from iblk m c 2 t) (ix2 r 0) = (show FVec Ideal S24576x1 .f32 from V m c main_v3) (ix2 ⟨t.val * 256 + r.val, hr⟩ 0) := by
    blk_point [iblk, idx t]
  have e3 : (fun k => (show FVec Ideal S1x2048 .f32 from iblk m c 3 t) (ix2 0 k)) = fun k : Fin 2048 => (show FVec Ideal S1x2048 .f32 from V m c main_v4) (ix2 0 k) := by
    funext k
    blk_point [iblk, idx t]
  have e4 : (fun f => (show FVec Ideal S1x2x256x5632 .fp8e4m3 from iblk m c 4 t) (ix4 0 0 r f)) = fun f : Fin 5632 => (show FVec Ideal S6x2x4096x5632 .fp8e4m3 from V m c main_v1) (ix4 ⟨(t.val * 256 + r.val) / 4096, by omega⟩ 0 ⟨(t.val * 256 + r.val) % 4096, by omega⟩ f) := by
    funext k
    blk_point [iblk, idx t]
  have e4' : (fun f => (show FVec Ideal S1x2x256x5632 .fp8e4m3 from iblk m c 4 t) (ix4 0 1 r f)) = fun f : Fin 5632 => (show FVec Ideal S6x2x4096x5632 .fp8e4m3 from V m c main_v1) (ix4 ⟨(t.val * 256 + r.val) / 4096, by omega⟩ 1 ⟨(t.val * 256 + r.val) % 4096, by omega⟩ f) := by
    funext k
    blk_point [iblk, idx t]
  have e5 : (fun f k => (show FVec Ideal S5632x2048 .fp8e4m3 from iblk m c 5 t) (ix2 f k)) = fun (f : Fin 5632) (k : Fin 2048) => (show FVec Ideal S5632x2048 .fp8e4m3 from V m c main_arg4) (ix2 f k) := by
    funext f k
    blk_point [iblk, idx t]
  rw [e0, e1, e2, e3, e4, e4', e5]
  rfl

/-- A grid point's block of scales is its 256 rows of the whole. -/
theorem scale_blk (c : Dev nD) (t : Fin cfg0.N) (r : Fin 256) (hr : t.val * 256 + r.val < 24576) :
    DaMath.rowScale (fun k => (show FVec Ideal S256x2048 .fp8e5m2 from iblk m c 0 t) (ix2 r k)) (fun k => (show FVec Ideal S1x2048 .f32 from iblk m c 3 t) (ix2 0 k)) (fun f k => (show FVec Ideal S5632x2048 .fp8e4m3 from iblk m c 5 t) (ix2 f k)) ((show FVec Ideal S256x1 .f32 from iblk m c 1 t) (ix2 r 0)) ((show FVec Ideal S256x1 .f32 from iblk m c 2 t) (ix2 r 0)) (fun f => (show FVec Ideal S1x2x256x5632 .fp8e4m3 from iblk m c 4 t) (ix4 0 0 r f)) (fun f => (show FVec Ideal S1x2x256x5632 .fp8e4m3 from iblk m c 4 t) (ix4 0 1 r f))
      = scaleAll (V m c main_v0) (V m c main_v2) (V m c main_v3) (V m c main_v4) (V m c main_v1) (V m c main_arg4) ⟨t.val * 256 + r.val, hr⟩ := by
  have e0 : (fun k => (show FVec Ideal S256x2048 .fp8e5m2 from iblk m c 0 t) (ix2 r k)) = fun k : Fin 2048 => (show FVec Ideal S24576x2048 .fp8e5m2 from V m c main_v0) (ix2 ⟨t.val * 256 + r.val, hr⟩ k) := by
    funext k
    blk_point [iblk, idx t]
  have e1 : (show FVec Ideal S256x1 .f32 from iblk m c 1 t) (ix2 r 0) = (show FVec Ideal S24576x1 .f32 from V m c main_v2) (ix2 ⟨t.val * 256 + r.val, hr⟩ 0) := by
    blk_point [iblk, idx t]
  have e2 : (show FVec Ideal S256x1 .f32 from iblk m c 2 t) (ix2 r 0) = (show FVec Ideal S24576x1 .f32 from V m c main_v3) (ix2 ⟨t.val * 256 + r.val, hr⟩ 0) := by
    blk_point [iblk, idx t]
  have e3 : (fun k => (show FVec Ideal S1x2048 .f32 from iblk m c 3 t) (ix2 0 k)) = fun k : Fin 2048 => (show FVec Ideal S1x2048 .f32 from V m c main_v4) (ix2 0 k) := by
    funext k
    blk_point [iblk, idx t]
  have e4 : (fun f => (show FVec Ideal S1x2x256x5632 .fp8e4m3 from iblk m c 4 t) (ix4 0 0 r f)) = fun f : Fin 5632 => (show FVec Ideal S6x2x4096x5632 .fp8e4m3 from V m c main_v1) (ix4 ⟨(t.val * 256 + r.val) / 4096, by omega⟩ 0 ⟨(t.val * 256 + r.val) % 4096, by omega⟩ f) := by
    funext k
    blk_point [iblk, idx t]
  have e4' : (fun f => (show FVec Ideal S1x2x256x5632 .fp8e4m3 from iblk m c 4 t) (ix4 0 1 r f)) = fun f : Fin 5632 => (show FVec Ideal S6x2x4096x5632 .fp8e4m3 from V m c main_v1) (ix4 ⟨(t.val * 256 + r.val) / 4096, by omega⟩ 1 ⟨(t.val * 256 + r.val) % 4096, by omega⟩ f) := by
    funext k
    blk_point [iblk, idx t]
  have e5 : (fun f k => (show FVec Ideal S5632x2048 .fp8e4m3 from iblk m c 5 t) (ix2 f k)) = fun (f : Fin 5632) (k : Fin 2048) => (show FVec Ideal S5632x2048 .fp8e4m3 from V m c main_arg4) (ix2 f k) := by
    funext f k
    blk_point [iblk, idx t]
  rw [e0, e1, e2, e3, e4, e4', e5]
  rfl

/-- The kernel's array of codes, from the arrays the call is given. -/
theorem final_codes (c : Dev nD) : (dats m 0 c).arrAt 6 cfg0.N
    = (show FVec Ideal S6x2x4096x5632 .fp8e5m2 from fun j => codeAll (V m c main_v0) (V m c main_v2) (V m c main_v3) (V m c main_v4) (V m c main_v1) (V m c main_arg4) ⟨(j 0).val * 4096 + (j 2).val, by
        have h0 : (j 0).val < 6 := (j 0).isLt
        have h2 : (j 2).val < 4096 := (j 2).isLt
        omega⟩ (j 1).val (j 3)) := by
  refine (dats m 0 c).arrAt_eq_of_covers 6 _ (by decide +kernel) fun t hf y => ?_
  blk_simp
  have h0 : t.val < 96 := t.isLt
  have h1 : (y 2).val < 256 := (y 2).isLt
  have hr : t.val * 256 + (y 2).val < 24576 := by omega
  have i0 : win0_6.index t 0 = t.val / 16 := congrFun (idx t).2.2.2.2.2.2.1 0
  have i1 : win0_6.index t 1 = 0 := congrFun (idx t).2.2.2.2.2.2.1 1
  have i2 : win0_6.index t 2 = t.val % 16 := congrFun (idx t).2.2.2.2.2.2.1 2
  have e3 : (win0_6.blk t).view.emb y 3 = (y 3 : Fin 5632) := Fin.ext (by blk_point [idx t])
  rw [after0_6, codes_out m c t]
  refine (code_blk m c t (y 2) (y 1).val (y 3) hr).trans ?_
  rw [e3]
  have key : ∀ (a b : Fin 24576) (p q : ℕ) (f : Fin 5632), a.val = b.val → p = q →
      codeAll (V m c main_v0) (V m c main_v2) (V m c main_v3) (V m c main_v4) (V m c main_v1) (V m c main_arg4) a p f = codeAll (V m c main_v0) (V m c main_v2) (V m c main_v3) (V m c main_v4) (V m c main_v1) (V m c main_arg4) b q f := by
    intro a b p q f h h'
    rw [Fin.ext h, h']
  exact key _ _ _ _ _ (by dsimp only; rw [i0, i2]; omega) (by rw [i1]; omega)

/-- The kernel's array of scales, from the arrays the call is given. -/
theorem final_scale (c : Dev nD) : (dats m 0 c).arrAt 7 cfg0.N
    = (show FVec Ideal S24576x1 .f32 from fun j => scaleAll (V m c main_v0) (V m c main_v2) (V m c main_v3) (V m c main_v4) (V m c main_v1) (V m c main_arg4) (j 0)) := by
  refine (dats m 0 c).arrAt_eq_of_covers 7 _ (by decide +kernel) fun t hf y => ?_
  blk_simp
  have hr : t.val * 256 + (y 0).val < 24576 := by
    have h0 : t.val < 96 := t.isLt
    have h1 : (y 0).val < 256 := (y 0).isLt
    omega
  have e0 : (win0_7.blk t).view.emb y 0 = (⟨t.val * 256 + (y 0).val, hr⟩ : Fin 24576) := Fin.ext (by blk_point [idx t])
  rw [after0_7, scale_out m c t, e0]
  exact scale_blk m c t (y 0) hr

/-- The incoming gradient's codes, one row per token, from the argument. -/
theorem V_v0 (c : Dev nD) : V m c main_v0 = shapeCast S24576x2048 (m ((c : Thread nD τ).loc main_arg0)) shapeCasts_S6x4096x2048_S24576x2048 := by
  entry_read
  try rfl

/-- The activation's codes, one half after the other, from the argument. -/
theorem V_v1 (c : Dev nD) : V m c main_v1 = transpose S6x2x4096x5632 [0, 2, 1, 3] (m ((c : Thread nD τ).loc main_arg2)) transposes_S6x4096x2x5632_S6x2x4096x5632_0_2_1_3 := by
  entry_read
  try rfl

/-- The incoming gradient's scales as a column, from the argument. -/
theorem V_v2 (c : Dev nD) : V m c main_v2 = shapeCast S24576x1 (m ((c : Thread nD τ).loc main_arg1)) shapeCasts_S6x4096_S24576x1 := by
  entry_read
  try rfl

/-- The activation's scales as a column, from the argument. -/
theorem V_v3 (c : Dev nD) : V m c main_v3 = shapeCast S24576x1 (m ((c : Thread nD τ).loc main_arg3)) shapeCasts_S6x4096_S24576x1 := by
  entry_read
  try rfl

/-- The output projection's scales as a row, from the argument. -/
theorem V_v4 (c : Dev nD) : V m c main_v4 = shapeCast S1x2048 (m ((c : Thread nD τ).loc main_arg5)) shapeCasts_S2048_S1x2048 := by
  entry_read
  try rfl

end Cert.DaIdeal.Val
-- ==== Proof.DaClaim.lean ====
module

public import proofs.«01_k».proof.Defs
public import proofs.«01_k».proof.Proof.DaRef
public import proofs.«01_k».proof.Proof.DaKer
public import Idealize.ShloMosaic.Lib.Claim
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert

open Idealize.ShloMosaic Idealize.ShloMosaic.TcCoe Idealize.SL.Sem

/-- The gate's codes in the reference's order and in the kernel's. -/
theorem da_gate (x : FVec Ideal DaIdeal.S6x4096x2x5632 .fp8e4m3) (t : Fin 24576) (f : Fin 5632) (hh0 hh1 hh2 hh3) :
    shapeCast RefDaIdeal.S24576x5632 (shapeCast RefDaIdeal.S6x4096x5632 (extractStridedSlice RefDaIdeal.S6x4096x1x5632 ![0, 0, 0, 0] x hh0) hh1) hh2 (ix2 t f)
      = transpose DaIdeal.S6x2x4096x5632 [0, 2, 1, 3] x hh3 (ix4 ⟨t.val / 4096, by omega⟩ 0 ⟨t.val % 4096, by omega⟩ f) := by
  pointwise

/-- The up projection's codes in the reference's order and in the kernel's. -/
theorem da_up (x : FVec Ideal DaIdeal.S6x4096x2x5632 .fp8e4m3) (t : Fin 24576) (f : Fin 5632) (hh0 hh1 hh2 hh3) :
    shapeCast RefDaIdeal.S24576x5632 (shapeCast RefDaIdeal.S6x4096x5632 (extractStridedSlice RefDaIdeal.S6x4096x1x5632 ![0, 0, 1, 0] x hh0) hh1) hh2 (ix2 t f)
      = transpose DaIdeal.S6x2x4096x5632 [0, 2, 1, 3] x hh3 (ix4 ⟨t.val / 4096, by omega⟩ 1 ⟨t.val % 4096, by omega⟩ f) := by
  pointwise

/-- The scales: the kernel's arrays and the reference's hold the same rows. -/
theorem da_scale_eq (a0 : FVec Ideal DaIdeal.S24576x2048 .fp8e5m2) (a1 : FVec Ideal DaIdeal.S24576x1 .f32) (a2 : FVec Ideal DaIdeal.S6x4096x2x5632 .fp8e4m3) (a3 : FVec Ideal DaIdeal.S24576x1 .f32) (a4 : FVec Ideal DaIdeal.S5632x2048 .fp8e4m3) (a5 : FVec Ideal DaIdeal.S1x2048 .f32) (hh0 hh1 hh2 hh3 hh4 hh5 hh6) :
    RefDaIdeal.Val.scaleAll a0 a1 (shapeCast RefDaIdeal.S24576x5632 (shapeCast RefDaIdeal.S6x4096x5632 (extractStridedSlice RefDaIdeal.S6x4096x1x5632 ![0, 0, 0, 0] a2 hh0) hh1) hh2)
      (shapeCast RefDaIdeal.S24576x5632 (shapeCast RefDaIdeal.S6x4096x5632 (extractStridedSlice RefDaIdeal.S6x4096x1x5632 ![0, 0, 1, 0] a2 hh3) hh4) hh5) a3 a4 a5
    = DaIdeal.Val.scaleAll a0 a1 a3 a5 (transpose DaIdeal.S6x2x4096x5632 [0, 2, 1, 3] a2 hh6) a4 := by
  funext t
  unfold RefDaIdeal.Val.scaleAll DaIdeal.Val.scaleAll
  have hg := funext fun f => da_gate a2 t f hh0 hh1 hh2 hh6
  have hu := funext fun f => da_up a2 t f hh3 hh4 hh5 hh6
  rw [hg, hu]

/-- The codes: the kernel's arrays and the reference's hold the same rows. -/
theorem da_code_eq (a0 : FVec Ideal DaIdeal.S24576x2048 .fp8e5m2) (a1 : FVec Ideal DaIdeal.S24576x1 .f32) (a2 : FVec Ideal DaIdeal.S6x4096x2x5632 .fp8e4m3) (a3 : FVec Ideal DaIdeal.S24576x1 .f32) (a4 : FVec Ideal DaIdeal.S5632x2048 .fp8e4m3) (a5 : FVec Ideal DaIdeal.S1x2048 .f32) (hh0 hh1 hh2 hh3 hh4 hh5 hh6) :
    RefDaIdeal.Val.codeAll a0 a1 (shapeCast RefDaIdeal.S24576x5632 (shapeCast RefDaIdeal.S6x4096x5632 (extractStridedSlice RefDaIdeal.S6x4096x1x5632 ![0, 0, 0, 0] a2 hh0) hh1) hh2)
      (shapeCast RefDaIdeal.S24576x5632 (shapeCast RefDaIdeal.S6x4096x5632 (extractStridedSlice RefDaIdeal.S6x4096x1x5632 ![0, 0, 1, 0] a2 hh3) hh4) hh5) a3 a4 a5
    = DaIdeal.Val.codeAll a0 a1 a3 a5 (transpose DaIdeal.S6x2x4096x5632 [0, 2, 1, 3] a2 hh6) a4 := by
  funext t
  unfold RefDaIdeal.Val.codeAll DaIdeal.Val.codeAll
  have hg := funext fun f => da_gate a2 t f hh0 hh1 hh2 hh6
  have hu := funext fun f => da_up a2 t f hh3 hh4 hh5 hh6
  rw [hg, hu]

set_option maxHeartbeats 4000000 in
/-- The activation's gradient as codes and scales: the kernel computes the reference's values. -/
theorem algebraic_Da : algebraic_DaIdeal_RefDaIdeal (hDaIdeal := DaIdeal.Gen.facts) (hRefDaIdeal := RefDaIdeal.Gen.facts) := by
  pair_intro
  · run_from DaIdeal.Gen.run_main m g
  · run_from RefDaIdeal.Gen.run_main m' g'
    · refine (RefDaIdeal.Val.final_codes m' c).trans (Eq.trans ?_ (DaIdeal.Val.final_codes m c).symm)
      obtain ⟨e0, e1, e2, e3, e4, e5⟩ := hagree c
      have a4 : RefDaIdeal.Gen.V m' c RefDaIdeal.main_arg4 = DaIdeal.Gen.V m c DaIdeal.main_arg4 := ((RefDaIdeal.Gen.V_main_arg4 m' c).trans e4).trans (DaIdeal.Gen.V_main_arg4 m c).symm
      rw [a4, RefDaIdeal.Val.V_v0, RefDaIdeal.Val.V_v1, RefDaIdeal.Val.V_v4, RefDaIdeal.Val.V_v7, RefDaIdeal.Val.V_v8, RefDaIdeal.Val.V_v9, DaIdeal.Val.V_v0, DaIdeal.Val.V_v1, DaIdeal.Val.V_v2, DaIdeal.Val.V_v3, DaIdeal.Val.V_v4, e0, e1, e2, e3, e5]
      rw [da_code_eq]
    · refine (RefDaIdeal.Val.final_scale m' c).trans (Eq.trans ?_ (DaIdeal.Val.final_scale m c).symm)
      obtain ⟨e0, e1, e2, e3, e4, e5⟩ := hagree c
      have a4 : RefDaIdeal.Gen.V m' c RefDaIdeal.main_arg4 = DaIdeal.Gen.V m c DaIdeal.main_arg4 := ((RefDaIdeal.Gen.V_main_arg4 m' c).trans e4).trans (DaIdeal.Gen.V_main_arg4 m c).symm
      rw [a4, RefDaIdeal.Val.V_v0, RefDaIdeal.Val.V_v1, RefDaIdeal.Val.V_v4, RefDaIdeal.Val.V_v7, RefDaIdeal.Val.V_v8, RefDaIdeal.Val.V_v9, DaIdeal.Val.V_v0, DaIdeal.Val.V_v1, DaIdeal.Val.V_v2, DaIdeal.Val.V_v3, DaIdeal.Val.V_v4, e0, e1, e2, e3, e5]
      rw [da_scale_eq]

end Cert

end
-- ==== Proof.DhMath.lean ====
module

public import Idealize.ShloMosaic.Lib.Pipeline.ValueKit

@[expose] public section

set_option maxRecDepth 16384

noncomputable section

namespace Cert.DhMath

open Idealize.ShloMosaic

/-- Eleven terms written out. -/
theorem terms_11 (h : Fin 11 → EReal) : ∑ c, h c = h 0 + h 1 + h 2 + h 3 + h 4 + h 5 + h 6 + h 7 + h 8 + h 9 + h 10 := by
  simp only [Fin.sum_univ_castSucc, Finset.univ_eq_empty, Finset.sum_empty, zero_add]
  rfl

/-- Twelve terms written out. -/
theorem terms_12 (h : Fin 12 → EReal) : ∑ c, h c = h 0 + h 1 + h 2 + h 3 + h 4 + h 5 + h 6 + h 7 + h 8 + h 9 + h 10 + h 11 := by
  simp only [Fin.sum_univ_castSucc, Finset.univ_eq_empty, Finset.sum_empty, zero_add]
  rfl

/-- A sum over 5632 columns, taken in eleven stretches of 512. -/
theorem sum_11 (g : Fin 5632 → EReal) : ∑ f, g f = (∑ k : Fin 512, g ⟨k.val, by omega⟩) + (∑ k : Fin 512, g ⟨512 + k.val, by omega⟩) + (∑ k : Fin 512, g ⟨1024 + k.val, by omega⟩) + (∑ k : Fin 512, g ⟨1536 + k.val, by omega⟩) + (∑ k : Fin 512, g ⟨2048 + k.val, by omega⟩) + (∑ k : Fin 512, g ⟨2560 + k.val, by omega⟩) + (∑ k : Fin 512, g ⟨3072 + k.val, by omega⟩) + (∑ k : Fin 512, g ⟨3584 + k.val, by omega⟩) + (∑ k : Fin 512, g ⟨4096 + k.val, by omega⟩) + (∑ k : Fin 512, g ⟨4608 + k.val, by omega⟩) + (∑ k : Fin 512, g ⟨5120 + k.val, by omega⟩) := by
  refine (Fin.sum_mul_add_fin 11 512 g).symm.trans ((terms_11 _).trans ?_)
  congr! <;> simp

/-- A sum over 6144 columns, taken in twelve stretches of 512. -/
theorem sum_12 (g : Fin 6144 → EReal) : ∑ f, g f = (∑ k : Fin 512, g ⟨k.val, by omega⟩) + (∑ k : Fin 512, g ⟨512 + k.val, by omega⟩) + (∑ k : Fin 512, g ⟨1024 + k.val, by omega⟩) + (∑ k : Fin 512, g ⟨1536 + k.val, by omega⟩) + (∑ k : Fin 512, g ⟨2048 + k.val, by omega⟩) + (∑ k : Fin 512, g ⟨2560 + k.val, by omega⟩) + (∑ k : Fin 512, g ⟨3072 + k.val, by omega⟩) + (∑ k : Fin 512, g ⟨3584 + k.val, by omega⟩) + (∑ k : Fin 512, g ⟨4096 + k.val, by omega⟩) + (∑ k : Fin 512, g ⟨4608 + k.val, by omega⟩) + (∑ k : Fin 512, g ⟨5120 + k.val, by omega⟩) + (∑ k : Fin 512, g ⟨5632 + k.val, by omega⟩) := by
  refine (Fin.sum_mul_add_fin 12 512 g).symm.trans ((terms_12 _).trans ?_)
  congr! <;> simp

/-- Codes times their row's scale. -/
def rows (x : (⟨2, ![24576, 2048]⟩ : Shape).Idx → EReal) (s : (⟨2, ![24576, 1]⟩ : Shape).Idx → EReal) (t : Fin 24576) (k : Fin 2048) : EReal :=
  x (ix2 t k) * s (ix2 t 0)

/-- The gradient of the layer's input: the residual path plus the normalisation's backward pass applied to the gradient
    times gamma: the gradient less its row mean, less the normalised input times the row mean of their product. -/
def dx (dh xh : Fin 24576 → Fin 2048 → EReal) (g : Fin 2048 → EReal) (rs : Fin 24576 → EReal) (res : Fin 24576 → Fin 2048 → EReal)
    (t : Fin 24576) (k : Fin 2048) : EReal :=
  res t k + rs t * (dh t k * g k - Ideal.div (∑ l, dh t l * g l) (Ideal.ofBits FTy.f32 1157627904#32)
    - xh t k * Ideal.div (∑ l, dh t l * g l * xh t l) (Ideal.ofBits FTy.f32 1157627904#32))

/-- The same from a block's own rows. -/
theorem dx_eq {dh xh : Fin 24576 → Fin 2048 → EReal} {g : Fin 2048 → EReal} {rs : Fin 24576 → EReal} {res : Fin 24576 → Fin 2048 → EReal}
    {t : Fin 24576} (dhb xb gb resb : Fin 2048 → EReal) (rb : EReal) (hd : ∀ k, dhb k = dh t k) (hx : ∀ k, xb k = xh t k)
    (hg : ∀ k, gb k = g k) (hr : rb = rs t) (hs : ∀ k, resb k = res t k) (k : Fin 2048) :
    resb k + rb * (dhb k * gb k - Ideal.div (∑ l, dhb l * gb l) (Ideal.ofBits FTy.f32 1157627904#32)
      - xb k * Ideal.div (∑ l, dhb l * gb l * xb l) (Ideal.ofBits FTy.f32 1157627904#32)) = dx dh xh g rs res t k := by
  unfold dx
  simp only [hd, hx, hg, hr, hs]

/-- The gradient of gamma: the sum over all tokens of the gradient times the normalised input. -/
def dgamma (dh xh : Fin 24576 → Fin 2048 → EReal) (k : Fin 2048) : EReal := ∑ t, dh t k * xh t k

/-- The gradient at the layer's normalised input: what comes back through the MLP branch and through attention. -/
def dh (cod : Fin 24576 → Fin 2 → Fin 5632 → EReal) (cs : Fin 24576 → EReal) (w : Fin 2048 → Fin 2 → Fin 5632 → EReal) (ws : Fin 2 → Fin 5632 → EReal)
    (d : Fin 24576 → Fin 6144 → EReal) (ds : Fin 24576 → EReal) (v : Fin 2048 → Fin 6144 → EReal) (vs : Fin 6144 → EReal)
    (t : Fin 24576) (k : Fin 2048) : EReal :=
  (∑ q, ∑ f, cod t q f * (w k q f * ws q f)) * cs t + (∑ e, d t e * (v k e * vs e)) * ds t

end Cert.DhMath

end
-- ==== Proof.DhRef.lean ====
module

public import proofs.«01_k».proof.Proof.Gen.RefDhIdeal.Frame
public import proofs.«01_k».proof.Proof.Gen.RefDhIdeal.Value
public import proofs.«01_k».proof.Proof.DhMath
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.RefDhIdeal.Val

open Cert.RefDhIdeal Cert.RefDhIdeal.Gen Idealize.ShloMosaic Idealize.ShloMosaic.TcCoe Idealize.SL.Sem
open Idealize.ShloMosaic.Pipeline (Dat)

variable (m : (ℓ : Loc nD τ sig) → Buf (Elt Ideal) ℓ)

/-- The gradient at the normalised input, as the reference's two matrix products and their scales. -/
def dhAll (x0 : FVec Ideal S24576x11264 .fp8e5m2) (x1 : FVec Ideal S24576x1 .f32) (x2 : FVec Ideal S24576x6144 .fp8e5m2) (x3 : FVec Ideal S24576x1 .f32) (x10 : FVec Ideal S2048x11264 .fp8e4m3) (x11 : FVec Ideal S1x11264 .f32) (x12 : FVec Ideal S2048x6144 .fp8e4m3) (x13 : FVec Ideal S1x6144 .f32) (t : Fin 24576) (k : Fin 2048) : EReal :=
  (∑ e : Fin 11264, x0 (ix2 t e) * (x10 (ix2 k e) * x11 (ix2 0 e))) * x1 (ix2 t 0)
    + (∑ e : Fin 6144, x2 (ix2 t e) * (x12 (ix2 k e) * x13 (ix2 0 e))) * x3 (ix2 t 0)

/-- The reference's own term for that gradient. -/
theorem dh_pay (x0 : FVec Ideal S24576x11264 .fp8e5m2) (x1 : FVec Ideal S24576x1 .f32) (x2 : FVec Ideal S24576x6144 .fp8e5m2) (x3 : FVec Ideal S24576x1 .f32) (x10 : FVec Ideal S2048x11264 .fp8e4m3) (x11 : FVec Ideal S1x11264 .f32) (x12 : FVec Ideal S2048x6144 .fp8e4m3) (x13 : FVec Ideal S1x6144 .f32) (j : S24576x2048.Idx) :
    (k0_pay1 (F := Ideal) x1 (k0_pay5 x2) (k0_pay6 x3) (k0_pay13 x12) (k0_pay14 x13) (k0_pay15 x10 x11) (k0_pay16 x0) j : EReal) = dhAll x0 x1 x2 x3 x10 x11 x12 x13 (j 0) (j 1) := by
  idx_vars j
  pointwise [k0_pay1, k0_pay5, k0_pay6, k0_pay13, k0_pay14, k0_pay15, k0_pay16, dhAll]

/-- The reference's term for the input's gradient. -/
theorem dx_pay (x0 : FVec Ideal S24576x11264 .fp8e5m2) (x1 : FVec Ideal S24576x1 .f32) (x2 : FVec Ideal S24576x6144 .fp8e5m2) (x3 : FVec Ideal S24576x1 .f32) (x4 : FVec Ideal S24576x2048 .fp8e4m3) (x5 : FVec Ideal S24576x1 .f32) (x6 : FVec Ideal S24576x2048 .fp8e5m2) (x7 : FVec Ideal S24576x1 .f32) (x8 : FVec Ideal S24576x1 .f32) (x9 : FVec Ideal S1x2048 .f32) (x10 : FVec Ideal S2048x11264 .fp8e4m3) (x11 : FVec Ideal S1x11264 .f32) (x12 : FVec Ideal S2048x6144 .fp8e4m3) (x13 : FVec Ideal S1x6144 .f32) (j : S24576x2048.Idx) :
    (k0_pay4 (F := Ideal) x1 (k0_pay5 x2) (k0_pay6 x3) (k0_pay7 x4) (k0_pay8 x5) (k0_pay9 x6) (k0_pay10 x7) (k0_pay11 x8) (k0_pay12 x9) (k0_pay13 x12) (k0_pay14 x13) (k0_pay15 x10 x11) (k0_pay16 x0) j : EReal)
      = DhMath.dx (dhAll x0 x1 x2 x3 x10 x11 x12 x13) (DhMath.rows x4 x5) (fun k => x9 (ix2 0 k)) (fun t => x8 (ix2 t 0)) (DhMath.rows x6 x7) (j 0) (j 1) := by
  have h : dhAll x0 x1 x2 x3 x10 x11 x12 x13 = fun t k => (k0_pay1 (F := Ideal) x1 (k0_pay5 x2) (k0_pay6 x3) (k0_pay13 x12) (k0_pay14 x13) (k0_pay15 x10 x11) (k0_pay16 x0) (ix2 t k) : EReal) := by
    funext t k
    rw [dh_pay]
    rfl
  rw [h]
  generalize k0_pay5 (F := Ideal) x2 = a
  generalize k0_pay6 (F := Ideal) x3 = b
  generalize k0_pay13 (F := Ideal) x12 = d
  generalize k0_pay14 (F := Ideal) x13 = e
  generalize k0_pay15 (F := Ideal) x10 x11 = f
  generalize k0_pay16 (F := Ideal) x0 = g
  idx_vars j
  pointwise [k0_pay4, k0_pay2, k0_pay7, k0_pay8, k0_pay9, k0_pay10, k0_pay11, k0_pay12, DhMath.dx, DhMath.rows]

/-- The reference's term for gamma's gradient. -/
theorem dgamma_pay (x0 : FVec Ideal S24576x11264 .fp8e5m2) (x1 : FVec Ideal S24576x1 .f32) (x2 : FVec Ideal S24576x6144 .fp8e5m2) (x3 : FVec Ideal S24576x1 .f32) (x4 : FVec Ideal S24576x2048 .fp8e4m3) (x5 : FVec Ideal S24576x1 .f32) (x10 : FVec Ideal S2048x11264 .fp8e4m3) (x11 : FVec Ideal S1x11264 .f32) (x12 : FVec Ideal S2048x6144 .fp8e4m3) (x13 : FVec Ideal S1x6144 .f32) (j : S1x2048.Idx) :
    (k0_pay3 (F := Ideal) x1 (k0_pay5 x2) (k0_pay6 x3) (k0_pay7 x4) (k0_pay8 x5) (k0_pay13 x12) (k0_pay14 x13) (k0_pay15 x10 x11) (k0_pay16 x0) j : EReal)
      = DhMath.dgamma (dhAll x0 x1 x2 x3 x10 x11 x12 x13) (DhMath.rows x4 x5) (j 1) := by
  have h : dhAll x0 x1 x2 x3 x10 x11 x12 x13 = fun t k => (k0_pay1 (F := Ideal) x1 (k0_pay5 x2) (k0_pay6 x3) (k0_pay13 x12) (k0_pay14 x13) (k0_pay15 x10 x11) (k0_pay16 x0) (ix2 t k) : EReal) := by
    funext t k
    rw [dh_pay]
    rfl
  rw [h]
  generalize k0_pay5 (F := Ideal) x2 = a
  generalize k0_pay6 (F := Ideal) x3 = b
  generalize k0_pay13 (F := Ideal) x12 = d
  generalize k0_pay14 (F := Ideal) x13 = e
  generalize k0_pay15 (F := Ideal) x10 x11 = f
  generalize k0_pay16 (F := Ideal) x0 = g
  idx_vars j
  pointwise [k0_pay3, k0_pay2, k0_pay7, k0_pay8, DhMath.dgamma, DhMath.rows]

/-- The one grid point reads and writes whole arrays. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0] :=
  (by decide +kernel : ∀ t : Fin grid0.N, _)

/-- The block of window 0 is its whole array. -/
theorem blk_0 (c : Dev nD) : iblk m c 0 t0_0 = V m c main_v1 := by
  funext i
  blk_ext [iblk, idx t0_0]

/-- The block of window 1 is its whole array. -/
theorem blk_1 (c : Dev nD) : iblk m c 1 t0_0 = V m c main_arg1 := by
  funext i
  blk_ext [iblk, idx t0_0]

/-- The block of window 2 is its whole array. -/
theorem blk_2 (c : Dev nD) : iblk m c 2 t0_0 = V m c main_v2 := by
  funext i
  blk_ext [iblk, idx t0_0]

/-- The block of window 3 is its whole array. -/
theorem blk_3 (c : Dev nD) : iblk m c 3 t0_0 = V m c main_v3 := by
  funext i
  blk_ext [iblk, idx t0_0]

/-- The block of window 4 is its whole array. -/
theorem blk_4 (c : Dev nD) : iblk m c 4 t0_0 = V m c main_v4 := by
  funext i
  blk_ext [iblk, idx t0_0]

/-- The block of window 5 is its whole array. -/
theorem blk_5 (c : Dev nD) : iblk m c 5 t0_0 = V m c main_v5 := by
  funext i
  blk_ext [iblk, idx t0_0]

/-- The block of window 6 is its whole array. -/
theorem blk_6 (c : Dev nD) : iblk m c 6 t0_0 = V m c main_v6 := by
  funext i
  blk_ext [iblk, idx t0_0]

/-- The block of window 7 is its whole array. -/
theorem blk_7 (c : Dev nD) : iblk m c 7 t0_0 = V m c main_v7 := by
  funext i
  blk_ext [iblk, idx t0_0]

/-- The block of window 8 is its whole array. -/
theorem blk_8 (c : Dev nD) : iblk m c 8 t0_0 = V m c main_v8 := by
  funext i
  blk_ext [iblk, idx t0_0]

/-- The block of window 9 is its whole array. -/
theorem blk_9 (c : Dev nD) : iblk m c 9 t0_0 = V m c main_v9 := by
  funext i
  blk_ext [iblk, idx t0_0]

/-- The block of window 10 is its whole array. -/
theorem blk_10 (c : Dev nD) : iblk m c 10 t0_0 = V m c main_v10 := by
  funext i
  blk_ext [iblk, idx t0_0]

/-- The block of window 11 is its whole array. -/
theorem blk_11 (c : Dev nD) : iblk m c 11 t0_0 = V m c main_v11 := by
  funext i
  blk_ext [iblk, idx t0_0]

/-- The block of window 12 is its whole array. -/
theorem blk_12 (c : Dev nD) : iblk m c 12 t0_0 = V m c main_v12 := by
  funext i
  blk_ext [iblk, idx t0_0]

/-- The block of window 13 is its whole array. -/
theorem blk_13 (c : Dev nD) : iblk m c 13 t0_0 = V m c main_v13 := by
  funext i
  blk_ext [iblk, idx t0_0]

/-- The reference's array of the input's gradient, from the arrays the call is given. -/
theorem final_dx (c : Dev nD) : (dats m 0 c).arrAt 14 cfg0.N
    = (show FVec Ideal S24576x2048 .bf16 from fun j => DhMath.dx (dhAll (V m c main_v1) (V m c main_arg1) (V m c main_v2) (V m c main_v3) (V m c main_v10) (V m c main_v11) (V m c main_v12) (V m c main_v13)) (DhMath.rows (V m c main_v4) (V m c main_v5)) (fun k => (V m c main_v9) (ix2 0 k)) (fun t => (V m c main_v8) (ix2 t 0)) (DhMath.rows (V m c main_v6) (V m c main_v7)) (j 0) (j 1)) := by
  refine (dats m 0 c).arrAt_eq_of_after_last 14 t0_0 (by decide +kernel) _ fun j => ?_
  blk_simp
  rw [after0_14]
  frame_out
  rw [blk_0, blk_1, blk_2, blk_3, blk_4, blk_5, blk_6, blk_7, blk_8, blk_9, blk_10, blk_11, blk_12, blk_13]
  simp (disch := decide) only [k0_pay17, k0_pay18, k0_pay19, k0_pay20, k0_pay21, k0_pay22, k0_pay23, k0_pay24, View.ld_unit_lit']
  exact dx_pay (V m c main_v1) (V m c main_arg1) (V m c main_v2) (V m c main_v3) (V m c main_v4) (V m c main_v5) (V m c main_v6) (V m c main_v7) (V m c main_v8) (V m c main_v9) (V m c main_v10) (V m c main_v11) (V m c main_v12) (V m c main_v13) j

/-- The reference's array of gamma's gradient, from the arrays the call is given. -/
theorem final_dgamma (c : Dev nD) : (dats m 0 c).arrAt 15 cfg0.N
    = (show FVec Ideal S1x2048 .f32 from fun j => DhMath.dgamma (dhAll (V m c main_v1) (V m c main_arg1) (V m c main_v2) (V m c main_v3) (V m c main_v10) (V m c main_v11) (V m c main_v12) (V m c main_v13)) (DhMath.rows (V m c main_v4) (V m c main_v5)) (j 1)) := by
  refine (dats m 0 c).arrAt_eq_of_after_last 15 t0_0 (by decide +kernel) _ fun j => ?_
  blk_simp
  rw [after0_15]
  frame_out
  rw [blk_0, blk_1, blk_2, blk_3, blk_4, blk_5, blk_10, blk_11, blk_12, blk_13]
  simp (disch := decide) only [k0_pay17, k0_pay18, k0_pay19, k0_pay20, k0_pay21, k0_pay22, k0_pay23, k0_pay24, View.ld_unit_lit']
  exact dgamma_pay (V m c main_v1) (V m c main_arg1) (V m c main_v2) (V m c main_v3) (V m c main_v4) (V m c main_v5) (V m c main_v10) (V m c main_v11) (V m c main_v12) (V m c main_v13) j

/-- The codes, one row per token, from the argument. -/
theorem V_v1 (c : Dev nD) : V m c main_v1 = shapeCast S24576x11264 (transpose S6x4096x2x5632 [0, 2, 1, 3] (m ((c : Thread nD τ).loc main_arg0)) transposes_S6x2x4096x5632_S6x4096x2x5632_0_2_1_3) shapeCasts_S6x4096x2x5632_S24576x11264 := by
  entry_read
  try rfl

/-- The attention gradient's codes, one row per token, from the argument. -/
theorem V_v2 (c : Dev nD) : V m c main_v2 = shapeCast S24576x6144 (m ((c : Thread nD τ).loc main_arg2)) shapeCasts_S6x4096x3x32x64_S24576x6144 := by
  entry_read
  try rfl

/-- The attention gradient's scales as a column, from the argument. -/
theorem V_v3 (c : Dev nD) : V m c main_v3 = shapeCast S24576x1 (m ((c : Thread nD τ).loc main_arg3)) shapeCasts_S6x4096_S24576x1 := by
  entry_read
  try rfl

/-- The input's codes, one row per token, from the argument. -/
theorem V_v4 (c : Dev nD) : V m c main_v4 = shapeCast S24576x2048 (m ((c : Thread nD τ).loc main_arg4)) shapeCasts_S6x4096x2048_S24576x2048 := by
  entry_read
  try rfl

/-- The input's scales as a column, from the argument. -/
theorem V_v5 (c : Dev nD) : V m c main_v5 = shapeCast S24576x1 (m ((c : Thread nD τ).loc main_arg5)) shapeCasts_S6x4096_S24576x1 := by
  entry_read
  try rfl

/-- The incoming gradient's codes, one row per token, from the argument. -/
theorem V_v6 (c : Dev nD) : V m c main_v6 = shapeCast S24576x2048 (m ((c : Thread nD τ).loc main_arg6)) shapeCasts_S6x4096x2048_S24576x2048 := by
  entry_read
  try rfl

/-- The incoming gradient's scales as a column, from the argument. -/
theorem V_v7 (c : Dev nD) : V m c main_v7 = shapeCast S24576x1 (m ((c : Thread nD τ).loc main_arg7)) shapeCasts_S6x4096_S24576x1 := by
  entry_read
  try rfl

/-- The normalisation's row factors as a column, from the argument. -/
theorem V_v8 (c : Dev nD) : V m c main_v8 = shapeCast S24576x1 (m ((c : Thread nD τ).loc main_arg8)) shapeCasts_S6x4096_S24576x1 := by
  entry_read
  try rfl

/-- Gamma as a row, from the argument. -/
theorem V_v9 (c : Dev nD) : V m c main_v9 = shapeCast S1x2048 (m ((c : Thread nD τ).loc main_arg9)) shapeCasts_S2048_S1x2048 := by
  entry_read
  try rfl

/-- The input projection's weights, one row per input, from the argument. -/
theorem V_v10 (c : Dev nD) : V m c main_v10 = shapeCast S2048x11264 (m ((c : Thread nD τ).loc main_arg10)) shapeCasts_S2048x2x5632_S2048x11264 := by
  entry_read
  try rfl

/-- The input projection's scales as a row, from the argument. -/
theorem V_v11 (c : Dev nD) : V m c main_v11 = shapeCast S1x11264 (m ((c : Thread nD τ).loc main_arg11)) shapeCasts_S2x5632_S1x11264 := by
  entry_read
  try rfl

/-- The attention projection's weights, one row per input, from the argument. -/
theorem V_v12 (c : Dev nD) : V m c main_v12 = shapeCast S2048x6144 (m ((c : Thread nD τ).loc main_arg12)) shapeCasts_S2048x3x32x64_S2048x6144 := by
  entry_read
  try rfl

/-- The attention projection's scales as a row, from the argument. -/
theorem V_v13 (c : Dev nD) : V m c main_v13 = shapeCast S1x6144 (m ((c : Thread nD τ).loc main_arg13)) shapeCasts_S3x32x64_S1x6144 := by
  entry_read
  try rfl

end Cert.RefDhIdeal.Val

end
-- ==== Proof.DhPay.lean ====
module

public import proofs.«01_k».proof.Proof.Gen.DhIdeal.Skeleton
public import proofs.«01_k».proof.Proof.DhMath
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.DhIdeal.Val

open Cert.DhIdeal Cert.DhIdeal.Gen Idealize.ShloMosaic Idealize.ShloMosaic.TcCoe Idealize.SL.Sem
open Idealize.ShloMosaic.Pipeline (Dat)

/-- A block's gradient through the MLP branch: the codes times the weights, both halves and all columns, times the row's scale. -/
def mlp (x0 : Vec Ideal S1x2x256x5632 .fp8e5m2) (x1 : Vec Ideal S256x1 .f32) (x10 : Vec Ideal S2x2048x5632 .fp8e4m3) (x12 : Vec Ideal S2x5632 .f32) : FVec Ideal S256x2048 .f32 :=
  fun j => (∑ q : Fin 2, ∑ f : Fin 5632, (x0 (ix4 0 q (j 0) f) * x12 (ix2 q f)) * x10 (ix3 q (j 1) f)) * x1 (ix2 (j 0) 0)

/-- A block's gradient at the layer's normalised input: the MLP branch plus the attention branch. -/
def dh (x0 : Vec Ideal S1x2x256x5632 .fp8e5m2) (x1 : Vec Ideal S256x1 .f32) (x10 : Vec Ideal S2x2048x5632 .fp8e4m3) (x12 : Vec Ideal S2x5632 .f32) (x2 : Vec Ideal S1x6144x256 .fp8e5m2) (x3 : Vec Ideal S256x1 .f32) (x11 : Vec Ideal S6144x2048 .fp8e4m3) (x13 : Vec Ideal S6144x1 .f32) : FVec Ideal S256x2048 .f32 :=
  fun j => mlp x0 x1 x10 x12 j + (∑ e : Fin 6144, (x2 (ix3 0 e (j 0)) * x13 (ix2 e 0)) * x11 (ix2 e (j 1))) * x3 (ix2 (j 0) 0)

/-- The 22 products of the MLP branch, chunk by chunk, add up to the whole sum. -/
theorem mlp_eq (x0 : Vec Ideal S1x2x256x5632 .fp8e5m2) (x1 : Vec Ideal S256x1 .f32) (x10 : Vec Ideal S2x2048x5632 .fp8e4m3) (x12 : Vec Ideal S2x5632 .f32) :
    k0_pay16 (k0_pay14 (k0_pay12 (k0_pay11 (k0_pay8 (k0_pay6 (k0_pay5 (k0_pay3 (k0_pay1 (View.ld x0 (Rect.unit ![0, 0, 0, 0] ![1, 1, 256, 512] inb_S1x2x256x5632_S1x1x256x512_0_0_0_0)) (View.ld x12 (Rect.unit ![0, 0] ![1, 512] inb_S2x5632_S1x512_0_0)) (View.ld x10 (Rect.unit ![0, 0, 0] ![1, 2048, 512] inb_S2x2048x5632_S1x2048x512_0_0_0)) (View.ld x0 (Rect.unit ![0, 0, 0, 512] ![1, 1, 256, 512] inb_S1x2x256x5632_S1x1x256x512_0_0_0_512)) (View.ld x12 (Rect.unit ![0, 512] ![1, 512] inb_S2x5632_S1x512_0_512)) (View.ld x10 (Rect.unit ![0, 0, 512] ![1, 2048, 512] inb_S2x2048x5632_S1x2048x512_0_0_512))) (k0_pay2 (View.ld x0 (Rect.unit ![0, 0, 0, 1024] ![1, 1, 256, 512] inb_S1x2x256x5632_S1x1x256x512_0_0_0_1024)) (View.ld x12 (Rect.unit ![0, 1024] ![1, 512] inb_S2x5632_S1x512_0_1024))) (View.ld x10 (Rect.unit ![0, 0, 1024] ![1, 2048, 512] inb_S2x2048x5632_S1x2048x512_0_0_1024)) (View.ld x0 (Rect.unit ![0, 0, 0, 1536] ![1, 1, 256, 512] inb_S1x2x256x5632_S1x1x256x512_0_0_0_1536)) (View.ld x12 (Rect.unit ![0, 1536] ![1, 512] inb_S2x5632_S1x512_0_1536)) (View.ld x10 (Rect.unit ![0, 0, 1536] ![1, 2048, 512] inb_S2x2048x5632_S1x2048x512_0_0_1536)) (View.ld x0 (Rect.unit ![0, 0, 0, 2048] ![1, 1, 256, 512] inb_S1x2x256x5632_S1x1x256x512_0_0_0_2048)) (View.ld x12 (Rect.unit ![0, 2048] ![1, 512] inb_S2x5632_S1x512_0_2048)) (View.ld x10 (Rect.unit ![0, 0, 2048] ![1, 2048, 512] inb_S2x2048x5632_S1x2048x512_0_0_2048))) (k0_pay4 (View.ld x0 (Rect.unit ![0, 0, 0, 2560] ![1, 1, 256, 512] inb_S1x2x256x5632_S1x1x256x512_0_0_0_2560))) (View.ld x12 (Rect.unit ![0, 2560] ![1, 512] inb_S2x5632_S1x512_0_2560)) (View.ld x10 (Rect.unit ![0, 0, 2560] ![1, 2048, 512] inb_S2x2048x5632_S1x2048x512_0_0_2560)) (View.ld x0 (Rect.unit ![0, 0, 0, 3072] ![1, 1, 256, 512] inb_S1x2x256x5632_S1x1x256x512_0_0_0_3072)) (View.ld x12 (Rect.unit ![0, 3072] ![1, 512] inb_S2x5632_S1x512_0_3072)) (View.ld x10 (Rect.unit ![0, 0, 3072] ![1, 2048, 512] inb_S2x2048x5632_S1x2048x512_0_0_3072)) (View.ld x0 (Rect.unit ![0, 0, 0, 3584] ![1, 1, 256, 512] inb_S1x2x256x5632_S1x1x256x512_0_0_0_3584)) (View.ld x12 (Rect.unit ![0, 3584] ![1, 512] inb_S2x5632_S1x512_0_3584)) (View.ld x10 (Rect.unit ![0, 0, 3584] ![1, 2048, 512] inb_S2x2048x5632_S1x2048x512_0_0_3584))) (View.ld x0 (Rect.unit ![0, 0, 0, 4096] ![1, 1, 256, 512] inb_S1x2x256x5632_S1x1x256x512_0_0_0_4096)) (View.ld x12 (Rect.unit ![0, 4096] ![1, 512] inb_S2x5632_S1x512_0_4096)) (View.ld x10 (Rect.unit ![0, 0, 4096] ![1, 2048, 512] inb_S2x2048x5632_S1x2048x512_0_0_4096)) (View.ld x0 (Rect.unit ![0, 0, 0, 4608] ![1, 1, 256, 512] inb_S1x2x256x5632_S1x1x256x512_0_0_0_4608)) (View.ld x12 (Rect.unit ![0, 4608] ![1, 512] inb_S2x5632_S1x512_0_4608)) (View.ld x10 (Rect.unit ![0, 0, 4608] ![1, 2048, 512] inb_S2x2048x5632_S1x2048x512_0_0_4608))) (k0_pay7 (View.ld x0 (Rect.unit ![0, 0, 0, 5120] ![1, 1, 256, 512] inb_S1x2x256x5632_S1x1x256x512_0_0_0_5120)) (View.ld x12 (Rect.unit ![0, 5120] ![1, 512] inb_S2x5632_S1x512_0_5120))) (View.ld x10 (Rect.unit ![0, 0, 5120] ![1, 2048, 512] inb_S2x2048x5632_S1x2048x512_0_0_5120)) (View.ld x0 (Rect.unit ![0, 1, 0, 0] ![1, 1, 256, 512] inb_S1x2x256x5632_S1x1x256x512_0_1_0_0)) (View.ld x12 (Rect.unit ![1, 0] ![1, 512] inb_S2x5632_S1x512_1_0)) (View.ld x10 (Rect.unit ![1, 0, 0] ![1, 2048, 512] inb_S2x2048x5632_S1x2048x512_1_0_0)) (View.ld x0 (Rect.unit ![0, 1, 0, 512] ![1, 1, 256, 512] inb_S1x2x256x5632_S1x1x256x512_0_1_0_512)) (View.ld x12 (Rect.unit ![1, 512] ![1, 512] inb_S2x5632_S1x512_1_512)) (View.ld x10 (Rect.unit ![1, 0, 512] ![1, 2048, 512] inb_S2x2048x5632_S1x2048x512_1_0_512))) (k0_pay9 (View.ld x0 (Rect.unit ![0, 1, 0, 1024] ![1, 1, 256, 512] inb_S1x2x256x5632_S1x1x256x512_0_1_0_1024))) (k0_pay10 (View.ld x12 (Rect.unit ![1, 1024] ![1, 512] inb_S2x5632_S1x512_1_1024))) (View.ld x10 (Rect.unit ![1, 0, 1024] ![1, 2048, 512] inb_S2x2048x5632_S1x2048x512_1_0_1024)) (View.ld x0 (Rect.unit ![0, 1, 0, 1536] ![1, 1, 256, 512] inb_S1x2x256x5632_S1x1x256x512_0_1_0_1536)) (View.ld x12 (Rect.unit ![1, 1536] ![1, 512] inb_S2x5632_S1x512_1_1536)) (View.ld x10 (Rect.unit ![1, 0, 1536] ![1, 2048, 512] inb_S2x2048x5632_S1x2048x512_1_0_1536)) (View.ld x0 (Rect.unit ![0, 1, 0, 2048] ![1, 1, 256, 512] inb_S1x2x256x5632_S1x1x256x512_0_1_0_2048)) (View.ld x12 (Rect.unit ![1, 2048] ![1, 512] inb_S2x5632_S1x512_1_2048)) (View.ld x10 (Rect.unit ![1, 0, 2048] ![1, 2048, 512] inb_S2x2048x5632_S1x2048x512_1_0_2048))) (View.ld x0 (Rect.unit ![0, 1, 0, 2560] ![1, 1, 256, 512] inb_S1x2x256x5632_S1x1x256x512_0_1_0_2560)) (View.ld x12 (Rect.unit ![1, 2560] ![1, 512] inb_S2x5632_S1x512_1_2560)) (View.ld x10 (Rect.unit ![1, 0, 2560] ![1, 2048, 512] inb_S2x2048x5632_S1x2048x512_1_0_2560)) (View.ld x0 (Rect.unit ![0, 1, 0, 3072] ![1, 1, 256, 512] inb_S1x2x256x5632_S1x1x256x512_0_1_0_3072)) (View.ld x12 (Rect.unit ![1, 3072] ![1, 512] inb_S2x5632_S1x512_1_3072)) (View.ld x10 (Rect.unit ![1, 0, 3072] ![1, 2048, 512] inb_S2x2048x5632_S1x2048x512_1_0_3072))) (k0_pay13 (View.ld x0 (Rect.unit ![0, 1, 0, 3584] ![1, 1, 256, 512] inb_S1x2x256x5632_S1x1x256x512_0_1_0_3584)) (View.ld x12 (Rect.unit ![1, 3584] ![1, 512] inb_S2x5632_S1x512_1_3584)) (View.ld x10 (Rect.unit ![1, 0, 3584] ![1, 2048, 512] inb_S2x2048x5632_S1x2048x512_1_0_3584))) (View.ld x0 (Rect.unit ![0, 1, 0, 4096] ![1, 1, 256, 512] inb_S1x2x256x5632_S1x1x256x512_0_1_0_4096)) (View.ld x12 (Rect.unit ![1, 4096] ![1, 512] inb_S2x5632_S1x512_1_4096)) (View.ld x10 (Rect.unit ![1, 0, 4096] ![1, 2048, 512] inb_S2x2048x5632_S1x2048x512_1_0_4096)) (View.ld x0 (Rect.unit ![0, 1, 0, 4608] ![1, 1, 256, 512] inb_S1x2x256x5632_S1x1x256x512_0_1_0_4608)) (View.ld x12 (Rect.unit ![1, 4608] ![1, 512] inb_S2x5632_S1x512_1_4608)) (View.ld x10 (Rect.unit ![1, 0, 4608] ![1, 2048, 512] inb_S2x2048x5632_S1x2048x512_1_0_4608))) (k0_pay15 (View.ld x0 (Rect.unit ![0, 1, 0, 5120] ![1, 1, 256, 512] inb_S1x2x256x5632_S1x1x256x512_0_1_0_5120)) (View.ld x12 (Rect.unit ![1, 5120] ![1, 512] inb_S2x5632_S1x512_1_5120))) (View.ld x10 (Rect.unit ![1, 0, 5120] ![1, 2048, 512] inb_S2x2048x5632_S1x2048x512_1_0_5120)) x1 = mlp x0 x1 x10 x12 := by
  funext j
  idx_vars j
  pointwise [k0_pay1, k0_pay2, k0_pay3, k0_pay4, k0_pay5, k0_pay6, k0_pay7, k0_pay8, k0_pay9, k0_pay10, k0_pay11, k0_pay12, k0_pay13, k0_pay14, k0_pay15, k0_pay16, mlp]
  rw [Fin.sum_univ_two, DhMath.sum_11, DhMath.sum_11]
  simp only [add_assoc]

/-- The 12 products of the attention branch, chunk by chunk, add up to the whole sum. -/
theorem dh_eq (x0 : Vec Ideal S1x2x256x5632 .fp8e5m2) (x1 : Vec Ideal S256x1 .f32) (x10 : Vec Ideal S2x2048x5632 .fp8e4m3) (x12 : Vec Ideal S2x5632 .f32) (x2 : Vec Ideal S1x6144x256 .fp8e5m2) (x3 : Vec Ideal S256x1 .f32) (x11 : Vec Ideal S6144x2048 .fp8e4m3) (x13 : Vec Ideal S6144x1 .f32) :
    k0_pay24 (mlp x0 x1 x10 x12) (k0_pay22 (k0_pay19 (k0_pay18 (k0_pay17 (View.ld x2 (Rect.unit ![0, 0, 0] ![1, 512, 256] inb_S1x6144x256_S1x512x256_0_0_0)) (View.ld x13 (Rect.unit ![0, 0] ![512, 1] inb_S6144x1_S512x1_0_0)) (View.ld x11 (Rect.unit ![0, 0] ![512, 2048] inb_S6144x2048_S512x2048_0_0)) (View.ld x2 (Rect.unit ![0, 512, 0] ![1, 512, 256] inb_S1x6144x256_S1x512x256_0_512_0)) (View.ld x13 (Rect.unit ![512, 0] ![512, 1] inb_S6144x1_S512x1_512_0)) (View.ld x11 (Rect.unit ![512, 0] ![512, 2048] inb_S6144x2048_S512x2048_512_0))) (View.ld x2 (Rect.unit ![0, 1024, 0] ![1, 512, 256] inb_S1x6144x256_S1x512x256_0_1024_0)) (View.ld x13 (Rect.unit ![1024, 0] ![512, 1] inb_S6144x1_S512x1_1024_0)) (View.ld x11 (Rect.unit ![1024, 0] ![512, 2048] inb_S6144x2048_S512x2048_1024_0)) (View.ld x2 (Rect.unit ![0, 1536, 0] ![1, 512, 256] inb_S1x6144x256_S1x512x256_0_1536_0)) (View.ld x13 (Rect.unit ![1536, 0] ![512, 1] inb_S6144x1_S512x1_1536_0)) (View.ld x11 (Rect.unit ![1536, 0] ![512, 2048] inb_S6144x2048_S512x2048_1536_0)) (View.ld x2 (Rect.unit ![0, 2048, 0] ![1, 512, 256] inb_S1x6144x256_S1x512x256_0_2048_0)) (View.ld x13 (Rect.unit ![2048, 0] ![512, 1] inb_S6144x1_S512x1_2048_0)) (View.ld x11 (Rect.unit ![2048, 0] ![512, 2048] inb_S6144x2048_S512x2048_2048_0))) (View.ld x2 (Rect.unit ![0, 2560, 0] ![1, 512, 256] inb_S1x6144x256_S1x512x256_0_2560_0)) (View.ld x13 (Rect.unit ![2560, 0] ![512, 1] inb_S6144x1_S512x1_2560_0)) (View.ld x11 (Rect.unit ![2560, 0] ![512, 2048] inb_S6144x2048_S512x2048_2560_0)) (View.ld x2 (Rect.unit ![0, 3072, 0] ![1, 512, 256] inb_S1x6144x256_S1x512x256_0_3072_0)) (View.ld x13 (Rect.unit ![3072, 0] ![512, 1] inb_S6144x1_S512x1_3072_0)) (View.ld x11 (Rect.unit ![3072, 0] ![512, 2048] inb_S6144x2048_S512x2048_3072_0))) (k0_pay20 (View.ld x2 (Rect.unit ![0, 3584, 0] ![1, 512, 256] inb_S1x6144x256_S1x512x256_0_3584_0)) (View.ld x13 (Rect.unit ![3584, 0] ![512, 1] inb_S6144x1_S512x1_3584_0))) (k0_pay21 (View.ld x11 (Rect.unit ![3584, 0] ![512, 2048] inb_S6144x2048_S512x2048_3584_0))) (constant S256x2048 FTy.f32 0#32) (View.ld x2 (Rect.unit ![0, 4096, 0] ![1, 512, 256] inb_S1x6144x256_S1x512x256_0_4096_0)) (View.ld x13 (Rect.unit ![4096, 0] ![512, 1] inb_S6144x1_S512x1_4096_0)) (View.ld x11 (Rect.unit ![4096, 0] ![512, 2048] inb_S6144x2048_S512x2048_4096_0)) (View.ld x2 (Rect.unit ![0, 4608, 0] ![1, 512, 256] inb_S1x6144x256_S1x512x256_0_4608_0)) (View.ld x13 (Rect.unit ![4608, 0] ![512, 1] inb_S6144x1_S512x1_4608_0)) (View.ld x11 (Rect.unit ![4608, 0] ![512, 2048] inb_S6144x2048_S512x2048_4608_0))) (k0_pay23 (View.ld x2 (Rect.unit ![0, 5120, 0] ![1, 512, 256] inb_S1x6144x256_S1x512x256_0_5120_0)) (View.ld x13 (Rect.unit ![5120, 0] ![512, 1] inb_S6144x1_S512x1_5120_0))) (View.ld x11 (Rect.unit ![5120, 0] ![512, 2048] inb_S6144x2048_S512x2048_5120_0)) (View.ld x2 (Rect.unit ![0, 5632, 0] ![1, 512, 256] inb_S1x6144x256_S1x512x256_0_5632_0)) (View.ld x13 (Rect.unit ![5632, 0] ![512, 1] inb_S6144x1_S512x1_5632_0)) (View.ld x11 (Rect.unit ![5632, 0] ![512, 2048] inb_S6144x2048_S512x2048_5632_0)) x3 = dh x0 x1 x10 x12 x2 x3 x11 x13 := by
  funext j
  idx_vars j
  pointwise [k0_pay17, k0_pay18, k0_pay19, k0_pay20, k0_pay21, k0_pay22, k0_pay23, k0_pay24, dh]
  rw [DhMath.sum_12]

/-- One block's contribution to the gradient of gamma: the column sums of the gradient times the normalised input. -/
theorem dgamma_pay (a b : FVec Ideal S256x2048 .f32) (c : FVec Ideal S512x256 .bf16) (d : Vec Ideal S512x2048 .fp8e4m3) (e : Vec Ideal S1x512x256 .fp8e5m2) (f : Vec Ideal S512x1 .f32) (g : Vec Ideal S512x2048 .fp8e4m3) (h : Vec Ideal S256x1 .f32)
    (x4 : Vec Ideal S256x2048 .fp8e4m3) (x5 : Vec Ideal S256x1 .f32) (p : Vec Ideal S1x2048 .f32) (j : S1x2048.Idx) :
    k0_pay27 a b c d e f g h x4 x5 p j = p j + ∑ r : Fin 256, k0_pay24 a b c d e f g h (ix2 r (j 1)) * (x4 (ix2 r (j 1)) * x5 (ix2 r 0)) := by
  idx_vars j
  pointwise [k0_pay27, k0_pay25]

/-- The accumulator of gamma's gradient starts at zero. -/
theorem dgamma_zero (j : S1x2048.Idx) : (k0_pay26 (F := Ideal) : FVec Ideal S1x2048 .f32) j = 0 := by pointwise [k0_pay26]

/-- What a block's rows of the input's gradient are, from the gradient at the normalised input. -/
theorem dx_pay (v : FVec Ideal S256x2048 .f32) (x4 : Vec Ideal S256x2048 .fp8e4m3) (x5 : Vec Ideal S256x1 .f32) (g : Vec Ideal S1x2048 .f32) (rs : Vec Ideal S256x1 .f32) (dy : Vec Ideal S256x2048 .fp8e5m2) (dys : Vec Ideal S256x1 .f32) (j : S256x2048.Idx) :
    (k0_pay28 (F := Ideal) v (k0_pay25 x4 x5) g rs dy dys j : EReal)
      = dy (ix2 (j 0) (j 1)) * dys (ix2 (j 0) 0) + rs (ix2 (j 0) 0) * (v (ix2 (j 0) (j 1)) * g (ix2 0 (j 1))
        - Ideal.div (∑ x : Fin 2048, v (ix2 (j 0) x) * g (ix2 0 x)) (Ideal.ofBits FTy.f32 1157627904#32)
        - x4 (ix2 (j 0) (j 1)) * x5 (ix2 (j 0) 0) * Ideal.div (∑ x : Fin 2048, v (ix2 (j 0) x) * g (ix2 0 x) * (x4 (ix2 (j 0) x) * x5 (ix2 (j 0) 0)))
            (Ideal.ofBits FTy.f32 1157627904#32)) := by
  idx_vars j
  pointwise [k0_pay28, k0_pay25]

end Cert.DhIdeal.Val

end
-- ==== Proof.DhKer.lean ====
module

public import proofs.«01_k».proof.Proof.Gen.DhIdeal.Frame
public import proofs.«01_k».proof.Proof.DhPay
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.DhIdeal.Val

open Cert.DhIdeal Cert.DhIdeal.Gen Idealize.ShloMosaic Idealize.ShloMosaic.TcCoe Idealize.SL.Sem
open Idealize.ShloMosaic.Pipeline (Dat)

variable (m : (ℓ : Loc nD τ sig) → Buf (Elt Ideal) ℓ)

/-- Which blocks a grid point reads and writes. -/
theorem idx : ∀ t : Fin cfg0.N, win0_0.index t = ![t.val / 16, 0, t.val % 16, 0]
    ∧ win0_1.index t = ![t.val, 0]
    ∧ win0_2.index t = ![t.val / 16, 0, t.val % 16]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![0, 0]
    ∧ win0_10.index t = ![0, 0, 0]
    ∧ win0_11.index t = ![0, 0]
    ∧ win0_12.index t = ![0, 0]
    ∧ win0_13.index t = ![0, 0]
    ∧ win0_14.index t = ![t.val, 0]
    ∧ win0_15.index t = ![0, 0] :=
  (by decide +kernel : ∀ t : Fin grid0.N, _)

/-- The gradient at the normalised input for all tokens, from the kernel's own arrays. -/
def dhAll (x0 : FVec Ideal S6x2x4096x5632 .fp8e5m2) (x1 : FVec Ideal S24576x1 .f32) (x10 : FVec Ideal S2x2048x5632 .fp8e4m3) (x12 : FVec Ideal S2x5632 .f32) (x2 : FVec Ideal S6x6144x4096 .fp8e5m2) (x3 : FVec Ideal S24576x1 .f32) (x11 : FVec Ideal S6144x2048 .fp8e4m3) (x13 : FVec Ideal S6144x1 .f32) (t : Fin 24576) (k : Fin 2048) : EReal :=
  (∑ q : Fin 2, ∑ f : Fin 5632, (x0 (ix4 ⟨t.val / 4096, by omega⟩ q ⟨t.val % 4096, by omega⟩ f) * x12 (ix2 q f)) * x10 (ix3 q k f)) * x1 (ix2 t 0)
    + (∑ e : Fin 6144, (x2 (ix3 ⟨t.val / 4096, by omega⟩ e ⟨t.val % 4096, by omega⟩) * x13 (ix2 e 0)) * x11 (ix2 e k)) * x3 (ix2 t 0)

/-- A grid point's block of that gradient is its 256 rows of the whole. -/
theorem dh_blk (c : Dev nD) (t : Fin cfg0.N) (r : Fin 256) (k : Fin 2048) (hr : t.val * 256 + r.val < 24576) :
    dh (iblk m c 0 t) (iblk m c 1 t) (iblk m c 10 t) (iblk m c 12 t) (iblk m c 2 t) (iblk m c 3 t) (iblk m c 11 t) (iblk m c 13 t) (ix2 r k) = (dhAll (V m c main_arg0) (V m c main_arg1) (V m c main_v4) (V m c main_arg11) (V m c main_v3) (V m c main_v7) (V m c main_v6) (V m c main_v12)) ⟨t.val * 256 + r.val, hr⟩ k := by
  unfold dh mlp dhAll
  refine congrArg₂ (· + ·) (congrArg₂ (· * ·) ?_ ?_) (congrArg₂ (· * ·) ?_ ?_)
  · refine Fin.sum_fin_congr fun q => Fin.sum_fin_congr fun f => ?_
    blk_point [iblk, idx t]
  · blk_point [iblk, idx t]
  · refine Fin.sum_fin_congr fun e => ?_
    blk_point [iblk, idx t]
  · blk_point [iblk, idx t]

/-- What a grid point leaves in its block of the input's gradient. -/
theorem out_eq (c : Dev nD) (t : Fin cfg0.N) :
    (outsAt0 m c t.val t.isLt).1 = k0_pay28 (dh (iblk m c 0 t) (iblk m c 1 t) (iblk m c 10 t) (iblk m c 12 t) (iblk m c 2 t) (iblk m c 3 t) (iblk m c 11 t) (iblk m c 13 t)) (k0_pay25 (iblk m c 4 t) (iblk m c 5 t)) (iblk m c 9 t) (iblk m c 8 t) (iblk m c 6 t) (iblk m c 7 t) := by
  by_cases h : t.val % 96 = 0
  · rw [outsAt0_A m c t h]
    funext y
    frame_out
    simp only [mlp_eq, dh_eq]
  · rw [outsAt0_B m c t h]
    funext y
    frame_out
    simp only [mlp_eq, dh_eq]

/-- What the last point leaves of gamma's gradient: the sum over all blocks of their column sums. -/
theorem acc_eq (c : Dev nD) (t : Fin cfg0.N) (h : t.val % 96 = 95) (j : S1x2048.Idx) :
    (outsAt0 m c t.val t.isLt).2 j = ∑ s : Fin 96, ∑ r : Fin 256,
      dh (iblk m c 0 ⟨96 * (t.val / 96) + s.val, Pipeline.run_point_lt_of_flush t h s⟩) (iblk m c 1 ⟨96 * (t.val / 96) + s.val, Pipeline.run_point_lt_of_flush t h s⟩) (iblk m c 10 ⟨96 * (t.val / 96) + s.val, Pipeline.run_point_lt_of_flush t h s⟩) (iblk m c 12 ⟨96 * (t.val / 96) + s.val, Pipeline.run_point_lt_of_flush t h s⟩) (iblk m c 2 ⟨96 * (t.val / 96) + s.val, Pipeline.run_point_lt_of_flush t h s⟩) (iblk m c 3 ⟨96 * (t.val / 96) + s.val, Pipeline.run_point_lt_of_flush t h s⟩) (iblk m c 11 ⟨96 * (t.val / 96) + s.val, Pipeline.run_point_lt_of_flush t h s⟩) (iblk m c 13 ⟨96 * (t.val / 96) + s.val, Pipeline.run_point_lt_of_flush t h s⟩) (ix2 r (j 1))
        * ((show FVec Ideal S256x2048 .fp8e4m3 from iblk m c 4 ⟨96 * (t.val / 96) + s.val, Pipeline.run_point_lt_of_flush t h s⟩) (ix2 r (j 1)) * (show FVec Ideal S256x1 .f32 from iblk m c 5 ⟨96 * (t.val / 96) + s.val, Pipeline.run_point_lt_of_flush t h s⟩) (ix2 r 0)) := by
  rw [Pipeline.eq_sum_fin_of_reset_step_apply_of_flush (fun n h => (outsAt0 m c n h).2) 96 (fun _ => 0) _
    (fun t h j => by
      rw [outsAt0_A m c t (by omega)]; frame_out; simp only [mlp_eq, dh_eq]; rw [dgamma_pay, dgamma_zero, dh_eq])
    (fun t h j => by
      rw [outsAt0_B m c t h]; frame_out; simp only [mlp_eq, dh_eq]; rw [dgamma_pay, dh_eq])
    t h j, zero_add]

/-- The kernel's array of the input's gradient, from the arrays the call is given. -/
theorem final_dx (c : Dev nD) : (dats m 0 c).arrAt 14 cfg0.N
    = (show FVec Ideal S24576x2048 .bf16 from fun j => DhMath.dx (dhAll (V m c main_arg0) (V m c main_arg1) (V m c main_v4) (V m c main_arg11) (V m c main_v3) (V m c main_v7) (V m c main_v6) (V m c main_v12)) (DhMath.rows (V m c main_v1) (V m c main_v8)) (fun k => (V m c main_v11) (ix2 0 k)) (fun t => (V m c main_v10) (ix2 t 0)) (DhMath.rows (V m c main_v0) (V m c main_v9)) (j 0) (j 1)) := by
  refine (dats m 0 c).arrAt_eq_of_covers 14 _ (by decide +kernel) fun t hf y => ?_
  blk_simp
  have hr : t.val * 256 + (y 0).val < 24576 := by
    have h0 : t.val < 96 := t.isLt
    have h1 : (y 0).val < 256 := (y 0).isLt
    omega
  have e0 : (win0_14.blk t).view.emb y 0 = (⟨t.val * 256 + (y 0).val, hr⟩ : Fin 24576) := Fin.ext (by blk_point [idx t])
  have e1 : (win0_14.blk t).view.emb y 1 = (y 1 : Fin 2048) := Fin.ext (by blk_point [idx t])
  rw [after0_14, out_eq m c t, dx_pay]
  rw [e0, e1]
  refine DhMath.dx_eq (fun k => dh (iblk m c 0 t) (iblk m c 1 t) (iblk m c 10 t) (iblk m c 12 t) (iblk m c 2 t) (iblk m c 3 t) (iblk m c 11 t) (iblk m c 13 t) (ix2 (y 0) k)) (fun k => (show FVec Ideal S256x2048 .fp8e4m3 from iblk m c 4 t) (ix2 (y 0) k) * (show FVec Ideal S256x1 .f32 from iblk m c 5 t) (ix2 (y 0) 0))
    (fun k => iblk m c 9 t (ix2 0 k)) (fun k => (show FVec Ideal S256x2048 .fp8e5m2 from iblk m c 6 t) (ix2 (y 0) k) * (show FVec Ideal S256x1 .f32 from iblk m c 7 t) (ix2 (y 0) 0)) (iblk m c 8 t (ix2 (y 0) 0))
    (fun k => dh_blk m c t (y 0) k hr) (fun k => ?_) (fun k => ?_) ?_ (fun k => ?_) (y 1)
  · unfold DhMath.rows
    refine congrArg₂ (· * ·) ?_ ?_
    · blk_point [iblk, idx t]
    · blk_point [iblk, idx t]
  · blk_point [iblk, idx t]
  · blk_point [iblk, idx t]
  · unfold DhMath.rows
    refine congrArg₂ (· * ·) ?_ ?_
    · blk_point [iblk, idx t]
    · blk_point [iblk, idx t]

/-- The kernel's array of gamma's gradient, from the arrays the call is given. -/
theorem final_dgamma (c : Dev nD) : (dats m 0 c).arrAt 15 cfg0.N
    = (show FVec Ideal S1x2048 .f32 from fun j => DhMath.dgamma (dhAll (V m c main_arg0) (V m c main_arg1) (V m c main_v4) (V m c main_arg11) (V m c main_v3) (V m c main_v7) (V m c main_v6) (V m c main_v12)) (DhMath.rows (V m c main_v1) (V m c main_v8)) (j 1)) := by
  refine (dats m 0 c).arrAt_eq_of_covers 15 _ (by decide +kernel) fun t hf y => ?_
  have h := (flush0_15 t).mp hf
  blk_simp
  rw [after0_15, acc_eq m c t h]
  have e1 : (win0_15.blk t).view.emb y 1 = (y 1 : Fin 2048) := Fin.ext (by blk_point [idx t])
  have h0 : t.val < 96 := t.isLt
  unfold DhMath.dgamma
  rw [e1]
  refine Fin.sum_mul_add_congr fun s r hl => ?_
  have hs : (⟨96 * (t.val / 96) + s.val, Pipeline.run_point_lt_of_flush t h s⟩ : Fin cfg0.N) = ⟨s.val, s.isLt⟩ := Fin.ext (by show 96 * (t.val / 96) + s.val = s.val; omega)
  rw [hs]
  refine congrArg₂ (· * ·) (dh_blk m c ⟨s.val, s.isLt⟩ r (y 1) hl) ?_
  unfold DhMath.rows
  refine congrArg₂ (· * ·) ?_ ?_
  · blk_point [iblk, idx ⟨s.val, s.isLt⟩]
  · blk_point [iblk, idx ⟨s.val, s.isLt⟩]

/-- The incoming gradient's codes, one row per token, from the argument. -/
theorem V_v0 (c : Dev nD) : V m c main_v0 = shapeCast S24576x2048 (m ((c : Thread nD τ).loc main_arg6)) shapeCasts_S6x4096x2048_S24576x2048 := by
  entry_read
  try rfl

/-- The input's codes, one row per token, from the argument. -/
theorem V_v1 (c : Dev nD) : V m c main_v1 = shapeCast S24576x2048 (m ((c : Thread nD τ).loc main_arg4)) shapeCasts_S6x4096x2048_S24576x2048 := by
  entry_read
  try rfl

/-- The attention gradient's codes with tokens along the last axis, from the argument. -/
theorem V_v3 (c : Dev nD) : V m c main_v3 = shapeCast S6x6144x4096 (transpose S6x3x32x64x4096 [0, 2, 3, 4, 1] (m ((c : Thread nD τ).loc main_arg2)) transposes_S6x4096x3x32x64_S6x3x32x64x4096_0_2_3_4_1) shapeCasts_S6x3x32x64x4096_S6x6144x4096 := by
  entry_read
  try rfl

/-- The input projection's weights, one half after the other, from the argument. -/
theorem V_v4 (c : Dev nD) : V m c main_v4 = transpose S2x2048x5632 [1, 0, 2] (m ((c : Thread nD τ).loc main_arg10)) transposes_S2048x2x5632_S2x2048x5632_1_0_2 := by
  entry_read
  try rfl

/-- The attention projection's weights, one row per output, from the argument. -/
theorem V_v6 (c : Dev nD) : V m c main_v6 = shapeCast S6144x2048 (transpose S3x32x64x2048 [1, 2, 3, 0] (m ((c : Thread nD τ).loc main_arg12)) transposes_S2048x3x32x64_S3x32x64x2048_1_2_3_0) shapeCasts_S3x32x64x2048_S6144x2048 := by
  entry_read
  try rfl

/-- The attention gradient's scales as a column, from the argument. -/
theorem V_v7 (c : Dev nD) : V m c main_v7 = shapeCast S24576x1 (m ((c : Thread nD τ).loc main_arg3)) shapeCasts_S6x4096_S24576x1 := by
  entry_read
  try rfl

/-- The input's scales as a column, from the argument. -/
theorem V_v8 (c : Dev nD) : V m c main_v8 = shapeCast S24576x1 (m ((c : Thread nD τ).loc main_arg5)) shapeCasts_S6x4096_S24576x1 := by
  entry_read
  try rfl

/-- The incoming gradient's scales as a column, from the argument. -/
theorem V_v9 (c : Dev nD) : V m c main_v9 = shapeCast S24576x1 (m ((c : Thread nD τ).loc main_arg7)) shapeCasts_S6x4096_S24576x1 := by
  entry_read
  try rfl

/-- The normalisation's row factors as a column, from the argument. -/
theorem V_v10 (c : Dev nD) : V m c main_v10 = shapeCast S24576x1 (m ((c : Thread nD τ).loc main_arg8)) shapeCasts_S6x4096_S24576x1 := by
  entry_read
  try rfl

/-- Gamma as a row, from the argument. -/
theorem V_v11 (c : Dev nD) : V m c main_v11 = shapeCast S1x2048 (m ((c : Thread nD τ).loc main_arg9)) shapeCasts_S2048_S1x2048 := by
  entry_read
  try rfl

/-- The attention projection's scales as a column, from the argument. -/
theorem V_v12 (c : Dev nD) : V m c main_v12 = shapeCast S6144x1 (m ((c : Thread nD τ).loc main_arg13)) shapeCasts_S3x32x64_S6144x1 := by
  entry_read
  try rfl

end Cert.DhIdeal.Val

end
-- ==== Proof.DhClaim.lean ====
module

public import proofs.«01_k».proof.Defs
public import proofs.«01_k».proof.Proof.DhRef
public import proofs.«01_k».proof.Proof.DhKer
public import Idealize.ShloMosaic.Lib.Claim
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert

open Idealize.ShloMosaic Idealize.ShloMosaic.TcCoe Idealize.SL.Sem

/-- The codes as the kernel reads them and as the reference's one row per token. -/
theorem dh_codes (x : FVec Ideal RefDhIdeal.S6x2x4096x5632 .fp8e5m2) (t : Fin 24576) (q : Fin 2) (f : Fin 5632) (h : q.val * 5632 + f.val < 11264) (hh0 hh1) :
    shapeCast RefDhIdeal.S24576x11264 (transpose RefDhIdeal.S6x4096x2x5632 [0, 2, 1, 3] x hh0) hh1 (ix2 t ⟨q.val * 5632 + f.val, h⟩)
      = x (ix4 ⟨t.val / 4096, by omega⟩ q ⟨t.val % 4096, by omega⟩ f) := by
  pointwise

/-- The input projection's weights in the kernel's order and in the reference's. -/
theorem dh_win (x : FVec Ideal DhIdeal.S2048x2x5632 .fp8e4m3) (k : Fin 2048) (q : Fin 2) (f : Fin 5632) (h : q.val * 5632 + f.val < 11264) (hh0 hh1) :
    shapeCast RefDhIdeal.S2048x11264 x hh0 (ix2 k ⟨q.val * 5632 + f.val, h⟩)
      = transpose DhIdeal.S2x2048x5632 [1, 0, 2] x hh1 (ix3 q k f) := by
  pointwise

/-- The input projection's scales as the reference's row. -/
theorem dh_sin (x : FVec Ideal DhIdeal.S2x5632 .f32) (q : Fin 2) (f : Fin 5632) (h : q.val * 5632 + f.val < 11264) (hh0) :
    shapeCast RefDhIdeal.S1x11264 x hh0 (ix2 0 ⟨q.val * 5632 + f.val, h⟩) = x (ix2 q f) := by
  pointwise

/-- The attention gradient's codes in the reference's order and in the kernel's. -/
theorem dh_dqkv (x : FVec Ideal DhIdeal.S6x4096x3x32x64 .fp8e5m2) (t : Fin 24576) (e : Fin 6144) (hh0 hh1 hh2) :
    shapeCast RefDhIdeal.S24576x6144 x hh0 (ix2 t e)
      = shapeCast DhIdeal.S6x6144x4096 (transpose DhIdeal.S6x3x32x64x4096 [0, 2, 3, 4, 1] x hh1) hh2
          (ix3 ⟨t.val / 4096, by omega⟩ e ⟨t.val % 4096, by omega⟩) := by
  pointwise

/-- The attention projection's weights in the reference's order and in the kernel's. -/
theorem dh_wqkv (x : FVec Ideal DhIdeal.S2048x3x32x64 .fp8e4m3) (k : Fin 2048) (e : Fin 6144) (hh0 hh1 hh2) :
    shapeCast RefDhIdeal.S2048x6144 x hh0 (ix2 k e)
      = shapeCast DhIdeal.S6144x2048 (transpose DhIdeal.S3x32x64x2048 [1, 2, 3, 0] x hh1) hh2 (ix2 e k) := by
  pointwise

/-- The attention projection's scales as the reference's row and the kernel's column. -/
theorem dh_sqkv (x : FVec Ideal DhIdeal.S3x32x64 .f32) (e : Fin 6144) (hh0 hh1) :
    shapeCast RefDhIdeal.S1x6144 x hh0 (ix2 0 e) = shapeCast DhIdeal.S6144x1 x hh1 (ix2 e 0) := by
  pointwise

/-- The gradient at the normalised input: the kernel multiplies the scales into the codes, the reference into the weights. -/
theorem dh_all_eq (a0 : FVec Ideal RefDhIdeal.S6x2x4096x5632 .fp8e5m2) (a1 : FVec Ideal RefDhIdeal.S24576x1 .f32) (a2 : FVec Ideal DhIdeal.S6x4096x3x32x64 .fp8e5m2)
    (a3 : FVec Ideal DhIdeal.S24576x1 .f32) (a10 : FVec Ideal DhIdeal.S2048x2x5632 .fp8e4m3) (a11 : FVec Ideal DhIdeal.S2x5632 .f32)
    (a12 : FVec Ideal DhIdeal.S2048x3x32x64 .fp8e4m3) (a13 : FVec Ideal DhIdeal.S3x32x64 .f32) (hh0 hh1 hh2 hh3 hh4 hh5 hh6 hh7 hh8 hh9 hh10 hh11 hh12) :
    RefDhIdeal.Val.dhAll (shapeCast RefDhIdeal.S24576x11264 (transpose RefDhIdeal.S6x4096x2x5632 [0, 2, 1, 3] a0 hh0) hh1)
      a1 (shapeCast RefDhIdeal.S24576x6144 a2 hh2) a3
      (shapeCast RefDhIdeal.S2048x11264 a10 hh3) (shapeCast RefDhIdeal.S1x11264 a11 hh4)
      (shapeCast RefDhIdeal.S2048x6144 a12 hh5) (shapeCast RefDhIdeal.S1x6144 a13 hh6)
    = DhIdeal.Val.dhAll a0 a1 (transpose DhIdeal.S2x2048x5632 [1, 0, 2] a10 hh7) a11
      (shapeCast DhIdeal.S6x6144x4096 (transpose DhIdeal.S6x3x32x64x4096 [0, 2, 3, 4, 1] a2 hh8) hh9) a3
      (shapeCast DhIdeal.S6144x2048 (transpose DhIdeal.S3x32x64x2048 [1, 2, 3, 0] a12 hh10) hh11)
      (shapeCast DhIdeal.S6144x1 a13 hh12) := by
  funext t k
  unfold RefDhIdeal.Val.dhAll DhIdeal.Val.dhAll
  refine congrArg₂ (· + ·) (congrArg (· * _) ?_) (congrArg (· * _) ?_)
  · refine Eq.symm (Fin.sum_mul_add_congr fun q f h => ?_)
    rw [dh_codes a0 t q f h _ _, dh_win a10 k q f h _ _, dh_sin a11 q f h _]
    show (_ : EReal) = _
    rw [mul_assoc, mul_comm (a11 _)]
  · refine Fin.sum_fin_congr fun e => ?_
    rw [dh_dqkv a2 t e _ _ _, dh_wqkv a12 k e _ _ _, dh_sqkv a13 e _ _]
    show (_ : EReal) = _
    rw [mul_assoc, mul_comm (shapeCast DhIdeal.S6144x1 _ _ _)]

set_option maxHeartbeats 4000000 in
/-- The gradients of the layer's input and of gamma: the kernel computes the reference's values. -/
theorem algebraic_Dh : algebraic_DhIdeal_RefDhIdeal (hDhIdeal := DhIdeal.Gen.facts) (hRefDhIdeal := RefDhIdeal.Gen.facts) := by
  pair_intro
  · run_from DhIdeal.Gen.run_main m g
  · run_from RefDhIdeal.Gen.run_main m' g'
    · refine (RefDhIdeal.Val.final_dx m' c).trans (Eq.trans ?_ (DhIdeal.Val.final_dx m c).symm)
      obtain ⟨e0, e1, e2, e3, e4, e5, e6, e7, e8, e9, e10, e11, e12, e13⟩ := hagree c
      have a1 : RefDhIdeal.Gen.V m' c RefDhIdeal.main_arg1 = DhIdeal.Gen.V m c DhIdeal.main_arg1 := ((RefDhIdeal.Gen.V_main_arg1 m' c).trans e1).trans (DhIdeal.Gen.V_main_arg1 m c).symm
      rw [a1, DhIdeal.Gen.V_main_arg0 m c, DhIdeal.Gen.V_main_arg11 m c, RefDhIdeal.Val.V_v1, RefDhIdeal.Val.V_v2, RefDhIdeal.Val.V_v3, RefDhIdeal.Val.V_v4, RefDhIdeal.Val.V_v5, RefDhIdeal.Val.V_v6, RefDhIdeal.Val.V_v7, RefDhIdeal.Val.V_v8, RefDhIdeal.Val.V_v9, RefDhIdeal.Val.V_v10, RefDhIdeal.Val.V_v11, RefDhIdeal.Val.V_v12, RefDhIdeal.Val.V_v13, DhIdeal.Val.V_v0, DhIdeal.Val.V_v1, DhIdeal.Val.V_v3, DhIdeal.Val.V_v4, DhIdeal.Val.V_v6, DhIdeal.Val.V_v7, DhIdeal.Val.V_v8, DhIdeal.Val.V_v9, DhIdeal.Val.V_v10, DhIdeal.Val.V_v11, DhIdeal.Val.V_v12, e0, e2, e3, e4, e5, e6, e7, e8, e9, e10, e11, e12, e13]
      rw [dh_all_eq]
    · refine (RefDhIdeal.Val.final_dgamma m' c).trans (Eq.trans ?_ (DhIdeal.Val.final_dgamma m c).symm)
      obtain ⟨e0, e1, e2, e3, e4, e5, e6, e7, e8, e9, e10, e11, e12, e13⟩ := hagree c
      have a1 : RefDhIdeal.Gen.V m' c RefDhIdeal.main_arg1 = DhIdeal.Gen.V m c DhIdeal.main_arg1 := ((RefDhIdeal.Gen.V_main_arg1 m' c).trans e1).trans (DhIdeal.Gen.V_main_arg1 m c).symm
      rw [a1, DhIdeal.Gen.V_main_arg0 m c, DhIdeal.Gen.V_main_arg11 m c, RefDhIdeal.Val.V_v1, RefDhIdeal.Val.V_v2, RefDhIdeal.Val.V_v3, RefDhIdeal.Val.V_v4, RefDhIdeal.Val.V_v5, RefDhIdeal.Val.V_v10, RefDhIdeal.Val.V_v11, RefDhIdeal.Val.V_v12, RefDhIdeal.Val.V_v13, DhIdeal.Val.V_v1, DhIdeal.Val.V_v3, DhIdeal.Val.V_v4, DhIdeal.Val.V_v6, DhIdeal.Val.V_v7, DhIdeal.Val.V_v8, DhIdeal.Val.V_v12, e0, e2, e3, e4, e5, e10, e11, e12, e13]
      rw [dh_all_eq]

end Cert

end
-- ==== Proof.GradRef.lean ====
module

public import proofs.«01_k».proof.Proof.Gen.RefGradIdeal.Frame
public import proofs.«01_k».proof.Proof.DaMath
public import proofs.«01_k».proof.Proof.DhMath
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.RefGradIdeal.Val

open Cert.RefGradIdeal Cert.RefGradIdeal.Gen Idealize.ShloMosaic Idealize.ShloMosaic.TcCoe Idealize.SL.Sem
open Idealize.ShloMosaic.Pipeline (Dat)

/-- A token's scale, from the arrays the reference's call is given. -/
def scaleAll (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) : EReal :=
  DaMath.rowScale (fun k => x0 (ix2 t k)) (fun k => x6 (ix2 0 k)) (fun f k => x5 (ix2 f k)) (x1 (ix2 t 0)) (x4 (ix2 t 0)) (fun f => x2 (ix2 t f)) (fun f => x3 (ix2 t f))

/-- A token's codes, from the arrays the reference's call is given. -/
def codeAll (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) (q : ℕ) (f : Fin 5632) : EReal :=
  DaMath.rowCode (fun k => x0 (ix2 t k)) (fun k => x6 (ix2 0 k)) (fun f k => x5 (ix2 f k)) (x1 (ix2 t 0)) (x4 (ix2 t 0)) (fun f => x2 (ix2 t f)) (fun f => x3 (ix2 t f)) q f

/-- The reference's matrix product, scaled by rows: it multiplies the weights' scales into the weights. -/
theorem dg_pay (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) (f : Fin 5632) :
    (k0_pay18 (F := Ideal) x0 x1 x5 x6 (ix2 t f) : EReal) = DaMath.rowDg (fun k => x0 (ix2 t k)) (fun k => x6 (ix2 0 k)) (fun f k => x5 (ix2 f k)) (x1 (ix2 t 0)) f := by
  pointwise [k0_pay18, DaMath.rowDg]
  refine congrArg (· * _) (Fin.sum_fin_congr fun k => ?_)
  show (_ : EReal) = _
  rw [mul_assoc, mul_comm (x6 (ix2 0 k))]

/-- The reference's gradient at the gate. -/
theorem gate_pay (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) (f : Fin 5632) :
    (k0_pay21 (F := Ideal) x0 x1 x2 x3 x4 x5 x6 (ix2 t f) : EReal) = DaMath.rowDa (fun k => x0 (ix2 t k)) (fun k => x6 (ix2 0 k)) (fun f k => x5 (ix2 f k)) (x1 (ix2 t 0)) (x4 (ix2 t 0)) (fun f => x2 (ix2 t f)) (fun f => x3 (ix2 t f)) 0 f := by
  unfold DaMath.rowDa
  rw [if_pos rfl, ← dg_pay x0 x1 x2 x3 x4 x5 x6]
  unfold k0_pay21
  generalize k0_pay18 (F := Ideal) x0 x1 x5 x6 = D
  pointwise [k0_pay20, k0_pay19, DaMath.dGate]

/-- The reference's gradient at the up projection. -/
theorem up_pay (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) (f : Fin 5632) :
    (k0_pay22 (F := Ideal) x0 x1 x2 x4 x5 x6 (ix2 t f) : EReal) = DaMath.rowDa (fun k => x0 (ix2 t k)) (fun k => x6 (ix2 0 k)) (fun f k => x5 (ix2 f k)) (x1 (ix2 t 0)) (x4 (ix2 t 0)) (fun f => x2 (ix2 t f)) (fun f => x3 (ix2 t f)) 1 f := by
  unfold DaMath.rowDa
  rw [if_neg one_ne_zero, ← dg_pay x0 x1 x2 x3 x4 x5 x6]
  unfold k0_pay22
  generalize k0_pay18 (F := Ideal) x0 x1 x5 x6 = D
  pointwise [k0_pay20, k0_pay19, DaMath.dUp]

/-- The reference's largest absolute value of a row, for any array. -/
theorem row_max (G : FVec Ideal S24576x5632 .f32) (t : Fin 24576) :
    (shapeCast S24576x1 (multiReduction .maximumf [1] S24576 (absf G) 0xFF800000#32 reduces_S24576x5632_S24576 (.inl rfl) rfl) shapeCasts_S24576_S24576x1 (ix2 t 0) : EReal)
      = (Finset.univ : Finset (Fin 5632)).fold max ⊥ fun f => DaMath.abs (G (ix2 t f)) := by
  rw [← DaMath.neg_inf]
  pointwise [DaMath.absf_eq]

/-- The larger of two columns, element by element. -/
theorem max_two (P Q : FVec Ideal S24576x1 .f32) (j : S24576x1.Idx) : (maximumf P Q j : EReal) = max (P j : EReal) (Q j) := rfl

/-- The reference's largest absolute value of a token's row is the larger of its two halves'. -/
theorem max_split (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) :
    (k0_pay23 (F := Ideal) x0 x1 x2 x3 x4 x5 x6 (ix2 t 0) : EReal) = max ((Finset.univ : Finset (Fin 5632)).fold max ⊥ fun f => DaMath.abs (k0_pay21 (F := Ideal) x0 x1 x2 x3 x4 x5 x6 (ix2 t f))) ((Finset.univ : Finset (Fin 5632)).fold max ⊥ fun f => DaMath.abs (k0_pay22 (F := Ideal) x0 x1 x2 x4 x5 x6 (ix2 t f))) := by
  rw [k0_pay23]
  exact (max_two _ _ _).trans (congrArg₂ max (row_max _ t) (row_max _ t))

/-- The reference's largest absolute value of a token's row. -/
theorem max_pay (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) :
    (k0_pay23 (F := Ideal) x0 x1 x2 x3 x4 x5 x6 (ix2 t 0) : EReal) = DaMath.rowMax (fun k => x0 (ix2 t k)) (fun k => x6 (ix2 0 k)) (fun f k => x5 (ix2 f k)) (x1 (ix2 t 0)) (x4 (ix2 t 0)) (fun f => x2 (ix2 t f)) (fun f => x3 (ix2 t f)) := by
  rw [max_split]
  unfold DaMath.rowMax
  refine congrArg₂ max (congrArg (fun g => Finset.fold max ⊥ g Finset.univ) (funext fun f => ?_)) (congrArg (fun g => Finset.fold max ⊥ g Finset.univ) (funext fun f => ?_))
  · rw [gate_pay]
  · rw [up_pay x0 x1 x2 x3]

/-- The exponents of the reference's table, as integers. -/
theorem table_word : ∀ k : Fin 253, (IntOp.subi (BitVec.ofNat 32 k.val) 126#32).toInt = (k.val : ℤ) - 126 := by decide +kernel

/-- The reference's table of powers of two. -/
theorem table_pay (k : Fin 253) :
    (FloatOps.exp2 (F := Ideal) (φ := .f32) (FloatOps.sitofp .f32 (IntOp.subi (BitVec.ofNat 32 k.val) 126#32)) : EReal) = DaMath.pow (k.val + 1) := by
  rw [DaMath.pow_eq _ (by omega) (by omega)]
  show Ideal.exp2 (((IntOp.subi (BitVec.ofNat 32 k.val) 126#32).toInt : ℝ) : EReal) = _
  rw [table_word]
  show (((2 : ℝ) ^ (((k.val : ℤ) - 126 : ℤ) : ℝ) : ℝ) : EReal) = _
  rw [Real.rpow_intCast]
  congr 2
  push_cast
  ring

/-- The reference's scale from its maxima. -/
theorem scale_pay (v : FVec Ideal S24576x1 .f32) (t : Fin 24576) :
    (k0_pay26 (F := Ideal) v k0_pay24 k0_pay25 (ix2 t 0) : EReal) = DaMath.scale (v (ix2 t 0)) := by
  unfold DaMath.scale
  rw [← DaMath.least_power, ← DaMath.pos_inf]
  pointwise [k0_pay26, k0_pay24, k0_pay25]
  simp only [table_pay]
  rfl

/-- The reference's code of one element of the gate's half. -/
theorem cgate_pay (g : FVec Ideal S24576x5632 .f32) (v : FVec Ideal S24576x1 .f32) (T : FVec Ideal S1x253 .f32) (w : FVec Ideal S24576x1 .f32) (t : Fin 24576) (f : Fin 5632) :
    (k0_pay28 (F := Ideal) g v T w (ix2 t f) : EReal) = DaMath.clip (g (ix2 t f) * Ideal.div 1 (k0_pay26 (F := Ideal) v T w (ix2 t 0))) := by
  pointwise [k0_pay28, k0_pay27, DaMath.clip]

/-- The reference's code of one element of the up projection's half. -/
theorem cup_pay (g : FVec Ideal S24576x5632 .f32) (v : FVec Ideal S24576x1 .f32) (T : FVec Ideal S1x253 .f32) (w : FVec Ideal S24576x1 .f32) (t : Fin 24576) (f : Fin 5632) :
    (k0_pay29 (F := Ideal) g v T w (ix2 t f) : EReal) = DaMath.clip (g (ix2 t f) * Ideal.div 1 (k0_pay26 (F := Ideal) v T w (ix2 t 0))) := by
  pointwise [k0_pay29, k0_pay27, DaMath.clip]

/-- The reference's array of codes holds the gate's half and the up projection's half. -/
theorem code_pay (g u : FVec Ideal S24576x5632 .f32) (v : FVec Ideal S24576x1 .f32) (T : FVec Ideal S1x253 .f32) (w : FVec Ideal S24576x1 .f32) (j : S6x2x4096x5632.Idx) (hj : (j 0).val * 4096 + (j 2).val < 24576) :
    (k0_pay30 (F := Ideal) g u v T w j : EReal)
      = if (j 1).val = 0 then k0_pay28 (F := Ideal) g v T w (ix2 ⟨(j 0).val * 4096 + (j 2).val, hj⟩ (j 3)) else k0_pay29 (F := Ideal) u v T w (ix2 ⟨(j 0).val * 4096 + (j 2).val, hj⟩ (j 3)) := by
  idx_vars j
  fin_cases j1
  · pointwise [k0_pay30]
  · pointwise [k0_pay30]

/-- The reference's scale of a token. -/
theorem scale_eq (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) :
    (k0_pay26 (F := Ideal) (k0_pay23 (F := Ideal) x0 x1 x2 x3 x4 x5 x6) k0_pay24 k0_pay25 (ix2 t 0) : EReal) = scaleAll x0 x1 x2 x3 x4 x5 x6 t := by
  rw [scale_pay, max_pay]
  rfl

/-- The reference's gate code of one element of a token's row. -/
theorem cgate_eq (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) (f : Fin 5632) :
    (k0_pay28 (F := Ideal) (k0_pay21 (F := Ideal) x0 x1 x2 x3 x4 x5 x6) (k0_pay23 (F := Ideal) x0 x1 x2 x3 x4 x5 x6) k0_pay24 k0_pay25 (ix2 t f) : EReal) = codeAll x0 x1 x2 x3 x4 x5 x6 t 0 f := by
  rw [cgate_pay, scale_eq, gate_pay]
  unfold scaleAll DaMath.rowScale codeAll DaMath.rowCode
  rw [DaMath.div_scale]

/-- The reference's up projection's code of one element of a token's row. -/
theorem cup_eq (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) (f : Fin 5632) :
    (k0_pay29 (F := Ideal) (k0_pay22 (F := Ideal) x0 x1 x2 x4 x5 x6) (k0_pay23 (F := Ideal) x0 x1 x2 x3 x4 x5 x6) k0_pay24 k0_pay25 (ix2 t f) : EReal) = codeAll x0 x1 x2 x3 x4 x5 x6 t 1 f := by
  rw [cup_pay, scale_eq, up_pay x0 x1 x2 x3]
  unfold scaleAll DaMath.rowScale codeAll DaMath.rowCode
  rw [DaMath.div_scale]

/-- The reference's code of one element, of either half. -/
theorem code_row (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (t : Fin 24576) (q : ℕ) (f : Fin 5632) (hq : q < 2) :
    (if q = 0 then (k0_pay28 (F := Ideal) (k0_pay21 (F := Ideal) x0 x1 x2 x3 x4 x5 x6) (k0_pay23 (F := Ideal) x0 x1 x2 x3 x4 x5 x6) k0_pay24 k0_pay25 (ix2 t f) : EReal) else k0_pay29 (F := Ideal) (k0_pay22 (F := Ideal) x0 x1 x2 x4 x5 x6) (k0_pay23 (F := Ideal) x0 x1 x2 x3 x4 x5 x6) k0_pay24 k0_pay25 (ix2 t f))
      = codeAll x0 x1 x2 x3 x4 x5 x6 t q f := by
  rw [cgate_eq, cup_eq]
  have h : q = 0 ∨ q = 1 := by omega
  rcases h with h | h
  · rw [h, if_pos rfl]
  · rw [h, if_neg one_ne_zero]

/-- The reference's codes. -/
theorem code_eq (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (j : S6x2x4096x5632.Idx) (hj : (j 0).val * 4096 + (j 2).val < 24576) :
    (k0_pay30 (F := Ideal) (k0_pay21 (F := Ideal) x0 x1 x2 x3 x4 x5 x6) (k0_pay22 (F := Ideal) x0 x1 x2 x4 x5 x6) (k0_pay23 (F := Ideal) x0 x1 x2 x3 x4 x5 x6) k0_pay24 k0_pay25 j : EReal)
      = codeAll x0 x1 x2 x3 x4 x5 x6 ⟨(j 0).val * 4096 + (j 2).val, hj⟩ (j 1).val (j 3) :=
  (code_pay _ _ _ _ _ j hj).trans (code_row x0 x1 x2 x3 x4 x5 x6 _ _ (j 3) (j 1).isLt)

/-- The gradient at the normalised input, as the reference's three matrix products and their scales. -/
def dhAll (cg cu : Fin 24576 → Fin 5632 → EReal) (cs : Fin 24576 → EReal) (wg wu : FVec Ideal S2048x5632 .fp8e4m3) (sg su : FVec Ideal S1x5632 .f32)
    (d : FVec Ideal S24576x6144 .fp8e5m2) (ds : FVec Ideal S24576x1 .f32) (w : FVec Ideal S2048x6144 .fp8e4m3) (ws : FVec Ideal S1x6144 .f32) (t : Fin 24576) (k : Fin 2048) : EReal :=
  ((∑ f : Fin 5632, cg t f * (wg (ix2 k f) * sg (ix2 0 f))) + ∑ f : Fin 5632, cu t f * (wu (ix2 k f) * su (ix2 0 f))) * cs t
    + (∑ e : Fin 6144, d (ix2 t e) * (w (ix2 k e) * ws (ix2 0 e))) * ds (ix2 t 0)

/-- The reference's product of the codes and the input projection's weights, a sum over the two halves. -/
theorem mlp_pay (wg wu : FVec Ideal S2048x5632 .fp8e4m3) (sg su : FVec Ideal S1x5632 .f32) (g u : FVec Ideal S24576x5632 .f32) (v : FVec Ideal S24576x1 .f32) (T : FVec Ideal S1x253 .f32) (w : FVec Ideal S24576x1 .f32) (t : Fin 24576) (k : Fin 2048) :
    (k0_pay31 (F := Ideal) wg wu sg su g u v T w (ix2 t k) : EReal)
      = (∑ f : Fin 5632, k0_pay28 (F := Ideal) g v T w (ix2 t f) * (wg (ix2 k f) * sg (ix2 0 f))) + ∑ f : Fin 5632, k0_pay29 (F := Ideal) u v T w (ix2 t f) * (wu (ix2 k f) * su (ix2 0 f)) := by
  pointwise [k0_pay31]

/-- The reference's term for the gradient at the normalised input. -/
theorem dh_pay (d : FVec Ideal S24576x6144 .fp8e5m2) (ds : FVec Ideal S24576x1 .f32) (w : FVec Ideal S2048x6144 .fp8e4m3) (ws : FVec Ideal S1x6144 .f32) (p q : FVec Ideal S24576x2048 .f32) (t : Fin 24576) (k : Fin 2048) :
    (k0_pay33 (F := Ideal) d ds w ws p q (ix2 t k) : EReal)
      = p (ix2 t k) * q (ix2 t k) + (∑ e : Fin 6144, d (ix2 t e) * (w (ix2 k e) * ws (ix2 0 e))) * ds (ix2 t 0) := by
  pointwise [k0_pay33]

/-- The reference's row scales spread over the columns. -/
theorem spread_pay (v : FVec Ideal S24576x1 .f32) (T : FVec Ideal S1x253 .f32) (w : FVec Ideal S24576x1 .f32) (t : Fin 24576) (k : Fin 2048) :
    (k0_pay32 (F := Ideal) v T w (ix2 t k) : EReal) = k0_pay26 (F := Ideal) v T w (ix2 t 0) := by
  pointwise [k0_pay32]

/-- The reference's gradient at the normalised input. -/
theorem dh_eq (x0 : FVec Ideal S24576x2048 .fp8e5m2) (x1 : FVec Ideal S24576x1 .f32) (x2 : FVec Ideal S24576x5632 .fp8e4m3) (x3 : FVec Ideal S24576x5632 .fp8e4m3) (x4 : FVec Ideal S24576x1 .f32) (x5 : FVec Ideal S5632x2048 .fp8e4m3) (x6 : FVec Ideal S1x2048 .f32) (wg wu : FVec Ideal S2048x5632 .fp8e4m3) (sg su : FVec Ideal S1x5632 .f32) (d : FVec Ideal S24576x6144 .fp8e5m2) (ds : FVec Ideal S24576x1 .f32) (w : FVec Ideal S2048x6144 .fp8e4m3) (ws : FVec Ideal S1x6144 .f32) :
    (fun (t : Fin 24576) (k : Fin 2048) => (k0_pay33 (F := Ideal) d ds w ws (k0_pay31 wg wu sg su (k0_pay21 (F := Ideal) x0 x1 x2 x3 x4 x5 x6) (k0_pay22 (F := Ideal) x0 x1 x2 x4 x5 x6) (k0_pay23 (F := Ideal) x0 x1 x2 x3 x4 x5 x6) k0_pay24 k0_pay25) (k0_pay32 (k0_pay23 (F := Ideal) x0 x1 x2 x3 x4 x5 x6) k0_pay24 k0_pay25) (ix2 t k) : EReal))
      = dhAll (fun t f => codeAll x0 x1 x2 x3 x4 x5 x6 t 0 f) (fun t f => codeAll x0 x1 x2 x3 x4 x5 x6 t 1 f) (scaleAll x0 x1 x2 x3 x4 x5 x6) wg wu sg su d ds w ws := by
  funext t k
  rw [dh_pay, mlp_pay, spread_pay, scale_eq]
  simp only [cgate_eq, cup_eq]
  rfl

/-- The reference's term for the input's gradient. -/
theorem dx_pay (dy : FVec Ideal S24576x2048 .fp8e5m2) (dys : FVec Ideal S24576x1 .f32) (d : FVec Ideal S24576x6144 .fp8e5m2) (ds : FVec Ideal S24576x1 .f32) (x : FVec Ideal S24576x2048 .fp8e4m3) (xs rs : FVec Ideal S24576x1 .f32) (g : FVec Ideal S1x2048 .f32) (w : FVec Ideal S2048x6144 .fp8e4m3) (ws : FVec Ideal S1x6144 .f32) (p q : FVec Ideal S24576x2048 .f32) (j : S24576x2048.Idx) :
    (k0_pay36 (F := Ideal) dy dys d ds x xs rs g w ws p q j : EReal)
      = DhMath.dx (fun (t : Fin 24576) (k : Fin 2048) => (k0_pay33 (F := Ideal) d ds w ws p q (ix2 t k) : EReal)) (DhMath.rows x xs) (fun k => g (ix2 0 k)) (fun t => rs (ix2 t 0)) (DhMath.rows dy dys) (j 0) (j 1) := by
  idx_vars j
  pointwise [k0_pay36, k0_pay34, DhMath.dx, DhMath.rows]

/-- The reference's term for gamma's gradient. -/
theorem dgamma_pay (d : FVec Ideal S24576x6144 .fp8e5m2) (ds : FVec Ideal S24576x1 .f32) (x : FVec Ideal S24576x2048 .fp8e4m3) (xs : FVec Ideal S24576x1 .f32) (w : FVec Ideal S2048x6144 .fp8e4m3) (ws : FVec Ideal S1x6144 .f32) (p q : FVec Ideal S24576x2048 .f32) (j : S1x2048.Idx) :
    (k0_pay35 (F := Ideal) d ds x xs w ws p q j : EReal)
      = DhMath.dgamma (fun (t : Fin 24576) (k : Fin 2048) => (k0_pay33 (F := Ideal) d ds w ws p q (ix2 t k) : EReal)) (DhMath.rows x xs) (j 1) := by
  idx_vars j
  pointwise [k0_pay35, k0_pay34, DhMath.dgamma, DhMath.rows]

/-- Load 1 leaves its array as it is. -/
theorem load_1 (x : FVec Ideal S24576x2048 .fp8e5m2) : k0_pay1 (F := Ideal) x = x := by
  funext j
  idx_vars j
  pointwise [k0_pay1]

/-- Load 2 leaves its array as it is. -/
theorem load_2 (x : FVec Ideal S24576x1 .f32) : k0_pay2 (F := Ideal) x = x := by
  funext j
  idx_vars j
  pointwise [k0_pay2]

/-- Load 3 leaves its array as it is. -/
theorem load_3 (x : FVec Ideal S24576x6144 .fp8e5m2) : k0_pay3 (F := Ideal) x = x := by
  funext j
  idx_vars j
  pointwise [k0_pay3]

/-- Load 4 leaves its array as it is. -/
theorem load_4 (x : FVec Ideal S24576x1 .f32) : k0_pay4 (F := Ideal) x = x := by
  funext j
  idx_vars j
  pointwise [k0_pay4]

/-- Load 5 leaves its array as it is. -/
theorem load_5 (x : FVec Ideal S24576x2048 .fp8e4m3) : k0_pay5 (F := Ideal) x = x := by
  funext j
  idx_vars j
  pointwise [k0_pay5]

/-- Load 6 leaves its array as it is. -/
theorem load_6 (x : FVec Ideal S24576x1 .f32) : k0_pay6 (F := Ideal) x = x := by
  funext j
  idx_vars j
  pointwise [k0_pay6]

/-- Load 7 leaves its array as it is. -/
theorem load_7 (x : FVec Ideal S24576x1 .f32) : k0_pay7 (F := Ideal) x = x := by
  funext j
  idx_vars j
  pointwise [k0_pay7]

/-- Load 8 leaves its array as it is. -/
theorem load_8 (x : FVec Ideal S1x2048 .f32) : k0_pay8 (F := Ideal) x = x := by
  funext j
  idx_vars j
  pointwise [k0_pay8]

/-- Load 9 leaves its array as it is. -/
theorem load_9 (x : FVec Ideal S24576x5632 .fp8e4m3) : k0_pay9 (F := Ideal) x = x := by
  funext j
  idx_vars j
  pointwise [k0_pay9]

/-- Load 10 leaves its array as it is. -/
theorem load_10 (x : FVec Ideal S24576x5632 .fp8e4m3) : k0_pay10 (F := Ideal) x = x := by
  funext j
  idx_vars j
  pointwise [k0_pay10]

/-- Load 11 leaves its array as it is. -/
theorem load_11 (x : FVec Ideal S24576x1 .f32) : k0_pay11 (F := Ideal) x = x := by
  funext j
  idx_vars j
  pointwise [k0_pay11]

/-- Load 12 leaves its array as it is. -/
theorem load_12 (x : FVec Ideal S2048x5632 .fp8e4m3) : k0_pay12 (F := Ideal) x = x := by
  funext j
  idx_vars j
  pointwise [k0_pay12]

/-- Load 13 leaves its array as it is. -/
theorem load_13 (x : FVec Ideal S2048x5632 .fp8e4m3) : k0_pay13 (F := Ideal) x = x := by
  funext j
  idx_vars j
  pointwise [k0_pay13]

/-- Load 14 leaves its array as it is. -/
theorem load_14 (x : FVec Ideal S1x5632 .f32) : k0_pay14 (F := Ideal) x = x := by
  funext j
  idx_vars j
  pointwise [k0_pay14]

/-- Load 15 leaves its array as it is. -/
theorem load_15 (x : FVec Ideal S1x5632 .f32) : k0_pay15 (F := Ideal) x = x := by
  funext j
  idx_vars j
  pointwise [k0_pay15]

/-- Load 16 leaves its array as it is. -/
theorem load_16 (x : FVec Ideal S2048x6144 .fp8e4m3) : k0_pay16 (F := Ideal) x = x := by
  funext j
  idx_vars j
  pointwise [k0_pay16]

/-- Load 17 leaves its array as it is. -/
theorem load_17 (x : FVec Ideal S1x6144 .f32) : k0_pay17 (F := Ideal) x = x := by
  funext j
  idx_vars j
  pointwise [k0_pay17]

variable (m : (ℓ : Loc nD τ sig) → Buf (Elt Ideal) ℓ)

/-- The one grid point reads and writes whole arrays. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![0, 0, 0, 0]
    ∧ win0_22.index t = ![0, 0] :=
  (by decide +kernel : ∀ t : Fin grid0.N, _)

/-- The block of window 0 is its whole array. -/
theorem blk_0 (c : Dev nD) : iblk m c 0 t0_0 = V m c main_v0 := by
  funext i
  blk_ext [iblk, idx t0_0]

/-- The block of window 1 is its whole array. -/
theorem blk_1 (c : Dev nD) : iblk m c 1 t0_0 = V m c main_v1 := by
  funext i
  blk_ext [iblk, idx t0_0]

/-- The block of window 2 is its whole array. -/
theorem blk_2 (c : Dev nD) : iblk m c 2 t0_0 = V m c main_v2 := by
  funext i
  blk_ext [iblk, idx t0_0]

/-- The block of window 3 is its whole array. -/
theorem blk_3 (c : Dev nD) : iblk m c 3 t0_0 = V m c main_v3 := by
  funext i
  blk_ext [iblk, idx t0_0]

/-- The block of window 4 is its whole array. -/
theorem blk_4 (c : Dev nD) : iblk m c 4 t0_0 = V m c main_v4 := by
  funext i
  blk_ext [iblk, idx t0_0]

/-- The block of window 5 is its whole array. -/
theorem blk_5 (c : Dev nD) : iblk m c 5 t0_0 = V m c main_v5 := by
  funext i
  blk_ext [iblk, idx t0_0]

/-- The block of window 6 is its whole array. -/
theorem blk_6 (c : Dev nD) : iblk m c 6 t0_0 = V m c main_v6 := by
  funext i
  blk_ext [iblk, idx t0_0]

/-- The block of window 7 is its whole array. -/
theorem blk_7 (c : Dev nD) : iblk m c 7 t0_0 = V m c main_v7 := by
  funext i
  blk_ext [iblk, idx t0_0]

/-- The block of window 8 is its whole array. -/
theorem blk_8 (c : Dev nD) : iblk m c 8 t0_0 = V m c main_v10 := by
  funext i
  blk_ext [iblk, idx t0_0]

/-- The block of window 9 is its whole array. -/
theorem blk_9 (c : Dev nD) : iblk m c 9 t0_0 = V m c main_v13 := by
  funext i
  blk_ext [iblk, idx t0_0]

/-- The block of window 10 is its whole array. -/
theorem blk_10 (c : Dev nD) : iblk m c 10 t0_0 = V m c main_v14 := by
  funext i
  blk_ext [iblk, idx t0_0]

/-- The block of window 11 is its whole array. -/
theorem blk_11 (c : Dev nD) : iblk m c 11 t0_0 = V m c main_v16 := by
  funext i
  blk_ext [iblk, idx t0_0]

/-- The block of window 12 is its whole array. -/
theorem blk_12 (c : Dev nD) : iblk m c 12 t0_0 = V m c main_v18 := by
  funext i
  blk_ext [iblk, idx t0_0]

/-- The block of window 13 is its whole array. -/
theorem blk_13 (c : Dev nD) : iblk m c 13 t0_0 = V m c main_v19 := by
  funext i
  blk_ext [iblk, idx t0_0]

/-- The block of window 14 is its whole array. -/
theorem blk_14 (c : Dev nD) : iblk m c 14 t0_0 = V m c main_v20 := by
  funext i
  blk_ext [iblk, idx t0_0]

/-- The block of window 15 is its whole array. -/
theorem blk_15 (c : Dev nD) : iblk m c 15 t0_0 = V m c main_arg12 := by
  funext i
  blk_ext [iblk, idx t0_0]

/-- The block of window 16 is its whole array. -/
theorem blk_16 (c : Dev nD) : iblk m c 16 t0_0 = V m c main_v21 := by
  funext i
  blk_ext [iblk, idx t0_0]

/-- The block of window 17 is its whole array. -/
theorem blk_17 (c : Dev nD) : iblk m c 17 t0_0 = V m c main_v22 := by
  funext i
  blk_ext [iblk, idx t0_0]

/-- The block of window 18 is its whole array. -/
theorem blk_18 (c : Dev nD) : iblk m c 18 t0_0 = V m c main_v23 := by
  funext i
  blk_ext [iblk, idx t0_0]

/-- The reference's array of codes, from the arrays its call is given. -/
theorem final_codes (c : Dev nD) : (dats m 0 c).arrAt 21 cfg0.N
    = (show FVec Ideal S6x2x4096x5632 .fp8e5m2 from fun j => codeAll (V m c main_v0) (V m c main_v1) (V m c main_v10) (V m c main_v13) (V m c main_v14) (V m c main_arg12) (V m c main_v21) ⟨(j 0).val * 4096 + (j 2).val, by
        have h0 : (j 0).val < 6 := (j 0).isLt
        have h2 : (j 2).val < 4096 := (j 2).isLt
        omega⟩ (j 1).val (j 3)) := by
  refine (dats m 0 c).arrAt_eq_of_after_last 21 t0_0 (by decide +kernel) _ fun j => ?_
  blk_simp
  rw [after0_21]
  frame_out
  simp (disch := decide) only [blk_0 m c, blk_1 m c, blk_2 m c, blk_3 m c, blk_4 m c, blk_5 m c, blk_6 m c, blk_7 m c, blk_8 m c, blk_9 m c, blk_10 m c, blk_11 m c, blk_12 m c, blk_13 m c, blk_14 m c, blk_15 m c, blk_16 m c, blk_17 m c, blk_18 m c, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, View.ld_unit_lit', load_1, load_2, load_3, load_4, load_5, load_6, load_7, load_8, load_9, load_10, load_11, load_12, load_13, load_14, load_15, load_16, load_17]
  exact code_eq _ _ _ _ _ _ _ j _

/-- The reference's array of scales, from the arrays its call is given. -/
theorem final_scale (c : Dev nD) : (dats m 0 c).arrAt 22 cfg0.N
    = (show FVec Ideal S24576x1 .f32 from fun j => scaleAll (V m c main_v0) (V m c main_v1) (V m c main_v10) (V m c main_v13) (V m c main_v14) (V m c main_arg12) (V m c main_v21) (j 0)) := by
  refine (dats m 0 c).arrAt_eq_of_after_last 22 t0_0 (by decide +kernel) _ fun j => ?_
  blk_simp
  rw [after0_22]
  frame_out
  simp (disch := decide) only [blk_0 m c, blk_1 m c, blk_2 m c, blk_3 m c, blk_4 m c, blk_5 m c, blk_6 m c, blk_7 m c, blk_8 m c, blk_9 m c, blk_10 m c, blk_11 m c, blk_12 m c, blk_13 m c, blk_14 m c, blk_15 m c, blk_16 m c, blk_17 m c, blk_18 m c, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, View.ld_unit_lit', load_1, load_2, load_3, load_4, load_5, load_6, load_7, load_8, load_9, load_10, load_11, load_12, load_13, load_14, load_15, load_16, load_17]
  idx_vars j
  fin_cases j1
  exact scale_eq _ _ _ _ _ _ _ _

/-- The reference's array of the input's gradient, from the arrays its call is given. -/
theorem final_dx (c : Dev nD) : (dats m 0 c).arrAt 19 cfg0.N
    = (show FVec Ideal S24576x2048 .bf16 from fun j => DhMath.dx (dhAll (fun t f => codeAll (V m c main_v0) (V m c main_v1) (V m c main_v10) (V m c main_v13) (V m c main_v14) (V m c main_arg12) (V m c main_v21) t 0 f) (fun t f => codeAll (V m c main_v0) (V m c main_v1) (V m c main_v10) (V m c main_v13) (V m c main_v14) (V m c main_arg12) (V m c main_v21) t 1 f) (scaleAll (V m c main_v0) (V m c main_v1) (V m c main_v10) (V m c main_v13) (V m c main_v14) (V m c main_arg12) (V m c main_v21)) (V m c main_v16) (V m c main_v18) (V m c main_v19) (V m c main_v20) (V m c main_v2) (V m c main_v3) (V m c main_v22) (V m c main_v23)) (DhMath.rows (V m c main_v4) (V m c main_v5)) (fun k => (V m c main_v7) (ix2 0 k)) (fun t => (V m c main_v6) (ix2 t 0)) (DhMath.rows (V m c main_v0) (V m c main_v1)) (j 0) (j 1)) := by
  refine (dats m 0 c).arrAt_eq_of_after_last 19 t0_0 (by decide +kernel) _ fun j => ?_
  blk_simp
  rw [after0_19]
  frame_out
  simp (disch := decide) only [blk_0 m c, blk_1 m c, blk_2 m c, blk_3 m c, blk_4 m c, blk_5 m c, blk_6 m c, blk_7 m c, blk_8 m c, blk_9 m c, blk_10 m c, blk_11 m c, blk_12 m c, blk_13 m c, blk_14 m c, blk_15 m c, blk_16 m c, blk_17 m c, blk_18 m c, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, View.ld_unit_lit', load_1, load_2, load_3, load_4, load_5, load_6, load_7, load_8, load_9, load_10, load_11, load_12, load_13, load_14, load_15, load_16, load_17]
  rw [← dh_eq]
  exact dx_pay _ _ _ _ _ _ _ _ _ _ _ _ j

/-- The reference's array of gamma's gradient, from the arrays its call is given. -/
theorem final_dgamma (c : Dev nD) : (dats m 0 c).arrAt 20 cfg0.N
    = (show FVec Ideal S1x2048 .f32 from fun j => DhMath.dgamma (dhAll (fun t f => codeAll (V m c main_v0) (V m c main_v1) (V m c main_v10) (V m c main_v13) (V m c main_v14) (V m c main_arg12) (V m c main_v21) t 0 f) (fun t f => codeAll (V m c main_v0) (V m c main_v1) (V m c main_v10) (V m c main_v13) (V m c main_v14) (V m c main_arg12) (V m c main_v21) t 1 f) (scaleAll (V m c main_v0) (V m c main_v1) (V m c main_v10) (V m c main_v13) (V m c main_v14) (V m c main_arg12) (V m c main_v21)) (V m c main_v16) (V m c main_v18) (V m c main_v19) (V m c main_v20) (V m c main_v2) (V m c main_v3) (V m c main_v22) (V m c main_v23)) (DhMath.rows (V m c main_v4) (V m c main_v5)) (j 1)) := by
  refine (dats m 0 c).arrAt_eq_of_after_last 20 t0_0 (by decide +kernel) _ fun j => ?_
  blk_simp
  rw [after0_20]
  frame_out
  simp (disch := decide) only [blk_0 m c, blk_1 m c, blk_2 m c, blk_3 m c, blk_4 m c, blk_5 m c, blk_6 m c, blk_7 m c, blk_8 m c, blk_9 m c, blk_10 m c, blk_11 m c, blk_12 m c, blk_13 m c, blk_14 m c, blk_15 m c, blk_16 m c, blk_17 m c, blk_18 m c, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, View.ld_unit_lit', load_1, load_2, load_3, load_4, load_5, load_6, load_7, load_8, load_9, load_10, load_11, load_12, load_13, load_14, load_15, load_16, load_17]
  rw [← dh_eq]
  exact dgamma_pay _ _ _ _ _ _ _ _ j

/-- The incoming gradient's codes, one row per token, from the argument. -/
theorem V_v0 (c : Dev nD) : V m c main_v0 = shapeCast S24576x2048 (m ((c : Thread nD τ).loc main_arg0)) shapeCasts_S6x4096x2048_S24576x2048 := by
  entry_read
  try rfl

/-- The incoming gradient's scales as a column, from the argument. -/
theorem V_v1 (c : Dev nD) : V m c main_v1 = shapeCast S24576x1 (m ((c : Thread nD τ).loc main_arg1)) shapeCasts_S6x4096_S24576x1 := by
  entry_read
  try rfl

/-- The attention gradient's codes, one row per token, from the argument. -/
theorem V_v2 (c : Dev nD) : V m c main_v2 = shapeCast S24576x6144 (m ((c : Thread nD τ).loc main_arg2)) shapeCasts_S6x4096x3x32x64_S24576x6144 := by
  entry_read
  try rfl

/-- The attention gradient's scales as a column, from the argument. -/
theorem V_v3 (c : Dev nD) : V m c main_v3 = shapeCast S24576x1 (m ((c : Thread nD τ).loc main_arg3)) shapeCasts_S6x4096_S24576x1 := by
  entry_read
  try rfl

/-- The input's codes, one row per token, from the argument. -/
theorem V_v4 (c : Dev nD) : V m c main_v4 = shapeCast S24576x2048 (m ((c : Thread nD τ).loc main_arg4)) shapeCasts_S6x4096x2048_S24576x2048 := by
  entry_read
  try rfl

/-- The input's scales as a column, from the argument. -/
theorem V_v5 (c : Dev nD) : V m c main_v5 = shapeCast S24576x1 (m ((c : Thread nD τ).loc main_arg5)) shapeCasts_S6x4096_S24576x1 := by
  entry_read
  try rfl

/-- The normalisation's row factors as a column, from the argument. -/
theorem V_v6 (c : Dev nD) : V m c main_v6 = shapeCast S24576x1 (m ((c : Thread nD τ).loc main_arg6)) shapeCasts_S6x4096_S24576x1 := by
  entry_read
  try rfl

/-- Gamma as a row, from the argument. -/
theorem V_v7 (c : Dev nD) : V m c main_v7 = shapeCast S1x2048 (m ((c : Thread nD τ).loc main_arg7)) shapeCasts_S2048_S1x2048 := by
  entry_read
  try rfl

/-- The gate's codes, one row per token, from the argument. -/
theorem V_v10 (c : Dev nD) : V m c main_v10 = shapeCast S24576x5632 (shapeCast S6x4096x5632 (extractStridedSlice S6x4096x1x5632 ![0, 0, 0, 0] (m ((c : Thread nD τ).loc main_arg8)) slices_S6x4096x2x5632_S6x4096x1x5632_0_0_0_0) shapeCasts_S6x4096x1x5632_S6x4096x5632) shapeCasts_S6x4096x5632_S24576x5632 := by
  entry_read
  try rfl

/-- The up projection's codes, one row per token, from the argument. -/
theorem V_v13 (c : Dev nD) : V m c main_v13 = shapeCast S24576x5632 (shapeCast S6x4096x5632 (extractStridedSlice S6x4096x1x5632 ![0, 0, 1, 0] (m ((c : Thread nD τ).loc main_arg8)) slices_S6x4096x2x5632_S6x4096x1x5632_0_0_1_0) shapeCasts_S6x4096x1x5632_S6x4096x5632) shapeCasts_S6x4096x5632_S24576x5632 := by
  entry_read
  try rfl

/-- The activation's scales as a column, from the argument. -/
theorem V_v14 (c : Dev nD) : V m c main_v14 = shapeCast S24576x1 (m ((c : Thread nD τ).loc main_arg9)) shapeCasts_S6x4096_S24576x1 := by
  entry_read
  try rfl

/-- The gate's half of the input projection's weights, from the argument. -/
theorem V_v16 (c : Dev nD) : V m c main_v16 = shapeCast S2048x5632 (extractStridedSlice S2048x1x5632 ![0, 0, 0] (m ((c : Thread nD τ).loc main_arg10)) slices_S2048x2x5632_S2048x1x5632_0_0_0) shapeCasts_S2048x1x5632_S2048x5632 := by
  entry_read
  try rfl

/-- The up projection's half of the input projection's weights, from the argument. -/
theorem V_v18 (c : Dev nD) : V m c main_v18 = shapeCast S2048x5632 (extractStridedSlice S2048x1x5632 ![0, 1, 0] (m ((c : Thread nD τ).loc main_arg10)) slices_S2048x2x5632_S2048x1x5632_0_1_0) shapeCasts_S2048x1x5632_S2048x5632 := by
  entry_read
  try rfl

/-- The gate's half of the input projection's scales, from the argument. -/
theorem V_v19 (c : Dev nD) : V m c main_v19 = extractStridedSlice S1x5632 ![0, 0] (m ((c : Thread nD τ).loc main_arg11)) slices_S2x5632_S1x5632_0_0 := by
  entry_read
  try rfl

/-- The up projection's half of the input projection's scales, from the argument. -/
theorem V_v20 (c : Dev nD) : V m c main_v20 = extractStridedSlice S1x5632 ![1, 0] (m ((c : Thread nD τ).loc main_arg11)) slices_S2x5632_S1x5632_1_0 := by
  entry_read
  try rfl

/-- The output projection's scales as a row, from the argument. -/
theorem V_v21 (c : Dev nD) : V m c main_v21 = shapeCast S1x2048 (m ((c : Thread nD τ).loc main_arg13)) shapeCasts_S2048_S1x2048 := by
  entry_read
  try rfl

/-- The attention projection's weights, one row per input feature, from the argument. -/
theorem V_v22 (c : Dev nD) : V m c main_v22 = shapeCast S2048x6144 (m ((c : Thread nD τ).loc main_arg14)) shapeCasts_S2048x3x32x64_S2048x6144 := by
  entry_read
  try rfl

/-- The attention projection's scales as a row, from the argument. -/
theorem V_v23 (c : Dev nD) : V m c main_v23 = shapeCast S1x6144 (m ((c : Thread nD τ).loc main_arg15)) shapeCasts_S3x32x64_S1x6144 := by
  entry_read
  try rfl

end Cert.RefGradIdeal.Val

end
-- ==== Proof.GradRefRun.lean ====
module

public import proofs.«01_k».proof.Proof.GradRef
public import Idealize.ShloMosaic.Lib.Claim

@[expose] public section

set_option maxRecDepth 16384

noncomputable section

namespace Cert.RefGradIdeal.Val

open Cert.RefGradIdeal Cert.RefGradIdeal.Gen Idealize.ShloMosaic Idealize.ShloMosaic.TcCoe Idealize.ShloMosaic.Tactic Idealize.SL.Sem

variable (m : (ℓ : Loc nD τ sig) → Buf (Elt Ideal) ℓ) (ρ : Dev nD → PrngReg)

/-- The reference's run: every fair execution ends with the four results holding what its call leaves in their arrays, and
    with the arguments as they were. -/
theorem run :
    θ_run defs (onTc (τ := τ) (main (F := Ideal))) ⟨m, fun _ => 0, ρ⟩ (fun r => ∀ c : Dev nD,
      r.2.mem ((c.tc : Thread nD τ).loc main_v24_0) = (dats m 0 c).arrAt 19 cfg0.N
      ∧ r.2.mem ((c.tc : Thread nD τ).loc main_v24_1) = (dats m 0 c).arrAt 20 cfg0.N
      ∧ r.2.mem ((c.tc : Thread nD τ).loc main_v24_2) = (dats m 0 c).arrAt 21 cfg0.N
      ∧ r.2.mem ((c.tc : Thread nD τ).loc main_v24_3) = (dats m 0 c).arrAt 22 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c).1 19,
      (h c).1 20,
      (h c).1 21,
      (h c).1 22,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 15).trans (((dats m 0 c).arrAt_in 15 rfl _).trans ((A_eq m c 15).trans (V_main_arg12 m c))),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) (run_main m ρ)

end Cert.RefGradIdeal.Val

end
-- ==== Proof.GradAPay.lean ====
module

public import proofs.«01_k».proof.Proof.Gen.GradIdeal.Skeleton
public import proofs.«01_k».proof.Proof.DaMath
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.GradIdeal.ValA

open Cert.GradIdeal Cert.GradIdeal.Gen Idealize.ShloMosaic Idealize.ShloMosaic.TcCoe Idealize.SL.Sem
open Idealize.ShloMosaic.Pipeline (Dat)

/-- A block's gradient at the activation's product. -/
def dgB (x0 : Vec Ideal S256x2048 .fp8e5m2) (x1 : Vec Ideal S256x1 .f32) (x3 : Vec Ideal S1x2048 .f32) (x5 : Vec Ideal S5632x2048 .fp8e4m3) (r : Fin 256) (f : Fin 5632) : EReal :=
  (∑ k : Fin 2048, (x0 (ix2 r k) * x3 (ix2 0 k)) * x5 (ix2 f k)) * x1 (ix2 r 0)

/-- A block's gate (half 0) and up projection (half 1). -/
def aB (x2 : Vec Ideal S256x1 .f32) (x4 : Vec Ideal S1x2x256x5632 .fp8e4m3) (q : Fin 2) (r : Fin 256) (f : Fin 5632) : EReal :=
  x4 (ix4 0 q r f) * x2 (ix2 r 0)

/-- A block's gradient at the gate. -/
def gateB (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) (r : Fin 256) (f : Fin 5632) : EReal :=
  DaMath.dGate (dgB x0 x1 x3 x5 r f) (aB x2 x4 0 r f) (aB x2 x4 1 r f)

/-- A block's gradient at the up projection. -/
def upB (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) (r : Fin 256) (f : Fin 5632) : EReal :=
  DaMath.dUp (dgB x0 x1 x3 x5 r f) (aB x2 x4 0 r f)

/-- Both, as the kernel's scratch array holds them. -/
def daS (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) : Vec Ideal S2x256x5632 .f32 := fun j =>
  if (j 0).val = 0 then gateB x0 x1 x2 x3 x4 x5 (j 1) (j 2) else upB x0 x1 x2 x3 x4 x5 (j 1) (j 2)

/-- The running maximum of every lane after `n` chunks. -/
def lanesV (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) (n : ℕ) : FVec Ideal S256x128 .f32 := fun j =>
  DaMath.lanes (fun f => max (DaMath.abs (gateB x0 x1 x2 x3 x4 x5 (j 0) f)) (DaMath.abs (upB x0 x1 x2 x3 x4 x5 (j 0) f))) (j 1) n

/-- A block's rows' largest absolute value. -/
def amaxB (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) (r : Fin 256) : EReal :=
  max ((Finset.univ : Finset (Fin 5632)).fold max ⊥ fun f => DaMath.abs (gateB x0 x1 x2 x3 x4 x5 r f)) ((Finset.univ : Finset (Fin 5632)).fold max ⊥ fun f => DaMath.abs (upB x0 x1 x2 x3 x4 x5 r f))

/-- What the kernel stores for chunk 0 of the gradient at the gate. -/
theorem scratch_0_0 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay13 (k0_pay8 x2 (View.ld x4 (Rect.unit ![0, 0, 0, 0] ![1, 1, 256, 512] inb_S1x2x256x5632_S1x1x256x512_0_0_0_0))) (k0_pay9 x2 (View.ld x4 (Rect.unit ![0, 0, 0, 0] ![1, 1, 256, 512] inb_S1x2x256x5632_S1x1x256x512_0_0_0_0))) (k0_pay10 x0 x3 x1 x2 (View.ld x5 (Rect.unit ![0, 0] ![512, 2048] inb_S5632x2048_S512x2048_0_0)) (View.ld x4 (Rect.unit ![0, 1, 0, 0] ![1, 1, 256, 512] inb_S1x2x256x5632_S1x1x256x512_0_1_0_0))) = View.ld (daS x0 x1 x2 x3 x4 x5) (Rect.unit ![0, 0, 0] ![1, 256, 512] inb_S2x256x5632_S1x256x512_0_0_0) := by
  funext j
  idx_vars j
  pointwise [k0_pay3, k0_pay4, k0_pay5, k0_pay7, k0_pay8, k0_pay9, k0_pay10, k0_pay11, k0_pay13, daS, gateB, dgB, aB, DaMath.dGate, DaMath.logistic_eq]

/-- What the kernel stores for chunk 0 of the gradient at the up projection. -/
theorem scratch_1_0 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay14 (k0_pay7 x0 x3 x1 (View.ld x5 (Rect.unit ![0, 0] ![512, 2048] inb_S5632x2048_S512x2048_0_0))) (k0_pay8 x2 (View.ld x4 (Rect.unit ![0, 0, 0, 0] ![1, 1, 256, 512] inb_S1x2x256x5632_S1x1x256x512_0_0_0_0))) (k0_pay9 x2 (View.ld x4 (Rect.unit ![0, 0, 0, 0] ![1, 1, 256, 512] inb_S1x2x256x5632_S1x1x256x512_0_0_0_0))) = View.ld (daS x0 x1 x2 x3 x4 x5) (Rect.unit ![1, 0, 0] ![1, 256, 512] inb_S2x256x5632_S1x256x512_1_0_0) := by
  funext j
  idx_vars j
  pointwise [k0_pay3, k0_pay4, k0_pay5, k0_pay7, k0_pay8, k0_pay9, k0_pay12, k0_pay14, daS, upB, dgB, aB, DaMath.dUp, DaMath.logistic_eq]

/-- What the kernel stores for chunk 1 of the gradient at the gate. -/
theorem scratch_0_1 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay22 (k0_pay5 x2) (k0_pay16 (k0_pay3 x0 x3) (k0_pay4 x1) (View.ld x5 (Rect.unit ![512, 0] ![512, 2048] inb_S5632x2048_S512x2048_512_0))) (k0_pay17 (k0_pay5 x2) (View.ld x4 (Rect.unit ![0, 0, 0, 512] ![1, 1, 256, 512] inb_S1x2x256x5632_S1x1x256x512_0_0_0_512))) (k0_pay18 (View.ld x4 (Rect.unit ![0, 1, 0, 512] ![1, 1, 256, 512] inb_S1x2x256x5632_S1x1x256x512_0_1_0_512))) = View.ld (daS x0 x1 x2 x3 x4 x5) (Rect.unit ![0, 0, 512] ![1, 256, 512] inb_S2x256x5632_S1x256x512_0_0_512) := by
  funext j
  idx_vars j
  pointwise [k0_pay3, k0_pay4, k0_pay5, k0_pay16, k0_pay17, k0_pay18, k0_pay19, k0_pay20, k0_pay22, daS, gateB, dgB, aB, DaMath.dGate, DaMath.logistic_eq]

/-- What the kernel stores for chunk 1 of the gradient at the up projection. -/
theorem scratch_1_1 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay23 (k0_pay16 (k0_pay3 x0 x3) (k0_pay4 x1) (View.ld x5 (Rect.unit ![512, 0] ![512, 2048] inb_S5632x2048_S512x2048_512_0))) (k0_pay17 (k0_pay5 x2) (View.ld x4 (Rect.unit ![0, 0, 0, 512] ![1, 1, 256, 512] inb_S1x2x256x5632_S1x1x256x512_0_0_0_512))) = View.ld (daS x0 x1 x2 x3 x4 x5) (Rect.unit ![1, 0, 512] ![1, 256, 512] inb_S2x256x5632_S1x256x512_1_0_512) := by
  funext j
  idx_vars j
  pointwise [k0_pay3, k0_pay4, k0_pay5, k0_pay16, k0_pay17, k0_pay19, k0_pay21, k0_pay23, daS, upB, dgB, aB, DaMath.dUp, DaMath.logistic_eq]

/-- What the kernel stores for chunk 2 of the gradient at the gate. -/
theorem scratch_0_2 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay30 (k0_pay5 x2) (k0_pay25 (k0_pay3 x0 x3) (k0_pay4 x1) (View.ld x5 (Rect.unit ![1024, 0] ![512, 2048] inb_S5632x2048_S512x2048_1024_0))) (View.ld x4 (Rect.unit ![0, 0, 0, 1024] ![1, 1, 256, 512] inb_S1x2x256x5632_S1x1x256x512_0_0_0_1024)) (View.ld x4 (Rect.unit ![0, 1, 0, 1024] ![1, 1, 256, 512] inb_S1x2x256x5632_S1x1x256x512_0_1_0_1024)) = View.ld (daS x0 x1 x2 x3 x4 x5) (Rect.unit ![0, 0, 1024] ![1, 256, 512] inb_S2x256x5632_S1x256x512_0_0_1024) := by
  funext j
  idx_vars j
  pointwise [k0_pay3, k0_pay4, k0_pay5, k0_pay25, k0_pay26, k0_pay27, k0_pay28, k0_pay30, daS, gateB, dgB, aB, DaMath.dGate, DaMath.logistic_eq]

/-- What the kernel stores for chunk 2 of the gradient at the up projection. -/
theorem scratch_1_2 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay31 (k0_pay5 x2) (k0_pay25 (k0_pay3 x0 x3) (k0_pay4 x1) (View.ld x5 (Rect.unit ![1024, 0] ![512, 2048] inb_S5632x2048_S512x2048_1024_0))) (View.ld x4 (Rect.unit ![0, 0, 0, 1024] ![1, 1, 256, 512] inb_S1x2x256x5632_S1x1x256x512_0_0_0_1024)) = View.ld (daS x0 x1 x2 x3 x4 x5) (Rect.unit ![1, 0, 1024] ![1, 256, 512] inb_S2x256x5632_S1x256x512_1_0_1024) := by
  funext j
  idx_vars j
  pointwise [k0_pay3, k0_pay4, k0_pay5, k0_pay25, k0_pay26, k0_pay27, k0_pay29, k0_pay31, daS, upB, dgB, aB, DaMath.dUp, DaMath.logistic_eq]

/-- What the kernel stores for chunk 3 of the gradient at the gate. -/
theorem scratch_0_3 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay40 (k0_pay3 x0 x3) (k0_pay4 x1) (k0_pay5 x2) (View.ld x5 (Rect.unit ![1536, 0] ![512, 2048] inb_S5632x2048_S512x2048_1536_0)) (View.ld x4 (Rect.unit ![0, 0, 0, 1536] ![1, 1, 256, 512] inb_S1x2x256x5632_S1x1x256x512_0_0_0_1536)) (View.ld x4 (Rect.unit ![0, 1, 0, 1536] ![1, 1, 256, 512] inb_S1x2x256x5632_S1x1x256x512_0_1_0_1536)) = View.ld (daS x0 x1 x2 x3 x4 x5) (Rect.unit ![0, 0, 1536] ![1, 256, 512] inb_S2x256x5632_S1x256x512_0_0_1536) := by
  funext j
  idx_vars j
  pointwise [k0_pay3, k0_pay4, k0_pay5, k0_pay35, k0_pay36, k0_pay37, k0_pay38, k0_pay40, daS, gateB, dgB, aB, DaMath.dGate, DaMath.logistic_eq]

/-- What the kernel stores for chunk 3 of the gradient at the up projection. -/
theorem scratch_1_3 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay41 (k0_pay39 (k0_pay3 x0 x3) (k0_pay4 x1) (k0_pay5 x2) (View.ld x5 (Rect.unit ![1536, 0] ![512, 2048] inb_S5632x2048_S512x2048_1536_0)) (View.ld x4 (Rect.unit ![0, 0, 0, 1536] ![1, 1, 256, 512] inb_S1x2x256x5632_S1x1x256x512_0_0_0_1536))) = View.ld (daS x0 x1 x2 x3 x4 x5) (Rect.unit ![1, 0, 1536] ![1, 256, 512] inb_S2x256x5632_S1x256x512_1_0_1536) := by
  funext j
  idx_vars j
  pointwise [k0_pay3, k0_pay4, k0_pay5, k0_pay35, k0_pay36, k0_pay37, k0_pay39, k0_pay41, daS, upB, dgB, aB, DaMath.dUp, DaMath.logistic_eq]

/-- What the kernel stores for chunk 4 of the gradient at the gate. -/
theorem scratch_0_4 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay50 (k0_pay46 (k0_pay3 x0 x3) (k0_pay4 x1) (k0_pay5 x2) (View.ld x5 (Rect.unit ![2048, 0] ![512, 2048] inb_S5632x2048_S512x2048_2048_0)) (View.ld x4 (Rect.unit ![0, 0, 0, 2048] ![1, 1, 256, 512] inb_S1x2x256x5632_S1x1x256x512_0_0_0_2048)) (View.ld x4 (Rect.unit ![0, 1, 0, 2048] ![1, 1, 256, 512] inb_S1x2x256x5632_S1x1x256x512_0_1_0_2048))) (k0_pay47 (k0_pay5 x2) (View.ld x4 (Rect.unit ![0, 0, 0, 2048] ![1, 1, 256, 512] inb_S1x2x256x5632_S1x1x256x512_0_0_0_2048))) = View.ld (daS x0 x1 x2 x3 x4 x5) (Rect.unit ![0, 0, 2048] ![1, 256, 512] inb_S2x256x5632_S1x256x512_0_0_2048) := by
  funext j
  idx_vars j
  pointwise [k0_pay3, k0_pay4, k0_pay5, k0_pay43, k0_pay44, k0_pay45, k0_pay46, k0_pay47, k0_pay48, k0_pay50, daS, gateB, dgB, aB, DaMath.dGate, DaMath.logistic_eq]

/-- What the kernel stores for chunk 4 of the gradient at the up projection. -/
theorem scratch_1_4 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay51 (k0_pay43 (k0_pay3 x0 x3) (k0_pay4 x1) (View.ld x5 (Rect.unit ![2048, 0] ![512, 2048] inb_S5632x2048_S512x2048_2048_0))) (k0_pay44 (k0_pay5 x2) (View.ld x4 (Rect.unit ![0, 0, 0, 2048] ![1, 1, 256, 512] inb_S1x2x256x5632_S1x1x256x512_0_0_0_2048))) (k0_pay45 (k0_pay5 x2) (View.ld x4 (Rect.unit ![0, 0, 0, 2048] ![1, 1, 256, 512] inb_S1x2x256x5632_S1x1x256x512_0_0_0_2048))) = View.ld (daS x0 x1 x2 x3 x4 x5) (Rect.unit ![1, 0, 2048] ![1, 256, 512] inb_S2x256x5632_S1x256x512_1_0_2048) := by
  funext j
  idx_vars j
  pointwise [k0_pay3, k0_pay4, k0_pay5, k0_pay43, k0_pay44, k0_pay45, k0_pay49, k0_pay51, daS, upB, dgB, aB, DaMath.dUp, DaMath.logistic_eq]

/-- What the kernel stores for chunk 5 of the gradient at the gate. -/
theorem scratch_0_5 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay61 (k0_pay53 (k0_pay3 x0 x3) (k0_pay4 x1) (View.ld x5 (Rect.unit ![2560, 0] ![512, 2048] inb_S5632x2048_S512x2048_2560_0))) (k0_pay54 (k0_pay5 x2) (View.ld x4 (Rect.unit ![0, 0, 0, 2560] ![1, 1, 256, 512] inb_S1x2x256x5632_S1x1x256x512_0_0_0_2560))) (k0_pay55 (k0_pay5 x2) (View.ld x4 (Rect.unit ![0, 1, 0, 2560] ![1, 1, 256, 512] inb_S1x2x256x5632_S1x1x256x512_0_1_0_2560))) (k0_pay56 (k0_pay5 x2) (View.ld x4 (Rect.unit ![0, 0, 0, 2560] ![1, 1, 256, 512] inb_S1x2x256x5632_S1x1x256x512_0_0_0_2560))) k0_pay57 = View.ld (daS x0 x1 x2 x3 x4 x5) (Rect.unit ![0, 0, 2560] ![1, 256, 512] inb_S2x256x5632_S1x256x512_0_0_2560) := by
  funext j
  idx_vars j
  pointwise [k0_pay3, k0_pay4, k0_pay5, k0_pay53, k0_pay54, k0_pay55, k0_pay56, k0_pay57, k0_pay58, k0_pay59, k0_pay61, daS, gateB, dgB, aB, DaMath.dGate, DaMath.logistic_eq]

/-- What the kernel stores for chunk 5 of the gradient at the up projection. -/
theorem scratch_1_5 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay62 (k0_pay53 (k0_pay3 x0 x3) (k0_pay4 x1) (View.ld x5 (Rect.unit ![2560, 0] ![512, 2048] inb_S5632x2048_S512x2048_2560_0))) (k0_pay54 (k0_pay5 x2) (View.ld x4 (Rect.unit ![0, 0, 0, 2560] ![1, 1, 256, 512] inb_S1x2x256x5632_S1x1x256x512_0_0_0_2560))) (k0_pay56 (k0_pay5 x2) (View.ld x4 (Rect.unit ![0, 0, 0, 2560] ![1, 1, 256, 512] inb_S1x2x256x5632_S1x1x256x512_0_0_0_2560))) k0_pay57 = View.ld (daS x0 x1 x2 x3 x4 x5) (Rect.unit ![1, 0, 2560] ![1, 256, 512] inb_S2x256x5632_S1x256x512_1_0_2560) := by
  funext j
  idx_vars j
  pointwise [k0_pay3, k0_pay4, k0_pay5, k0_pay53, k0_pay54, k0_pay56, k0_pay57, k0_pay58, k0_pay60, k0_pay62, daS, upB, dgB, aB, DaMath.dUp, DaMath.logistic_eq]

/-- What the kernel stores for chunk 6 of the gradient at the gate. -/
theorem scratch_0_6 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay69 (k0_pay5 x2) (k0_pay64 (k0_pay3 x0 x3) (k0_pay4 x1) (View.ld x5 (Rect.unit ![3072, 0] ![512, 2048] inb_S5632x2048_S512x2048_3072_0))) (k0_pay65 (k0_pay5 x2) (View.ld x4 (Rect.unit ![0, 0, 0, 3072] ![1, 1, 256, 512] inb_S1x2x256x5632_S1x1x256x512_0_0_0_3072))) (View.ld x4 (Rect.unit ![0, 1, 0, 3072] ![1, 1, 256, 512] inb_S1x2x256x5632_S1x1x256x512_0_1_0_3072)) = View.ld (daS x0 x1 x2 x3 x4 x5) (Rect.unit ![0, 0, 3072] ![1, 256, 512] inb_S2x256x5632_S1x256x512_0_0_3072) := by
  funext j
  idx_vars j
  pointwise [k0_pay3, k0_pay4, k0_pay5, k0_pay64, k0_pay65, k0_pay66, k0_pay67, k0_pay69, daS, gateB, dgB, aB, DaMath.dGate, DaMath.logistic_eq]

/-- What the kernel stores for chunk 6 of the gradient at the up projection. -/
theorem scratch_1_6 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay70 (k0_pay64 (k0_pay3 x0 x3) (k0_pay4 x1) (View.ld x5 (Rect.unit ![3072, 0] ![512, 2048] inb_S5632x2048_S512x2048_3072_0))) (k0_pay65 (k0_pay5 x2) (View.ld x4 (Rect.unit ![0, 0, 0, 3072] ![1, 1, 256, 512] inb_S1x2x256x5632_S1x1x256x512_0_0_0_3072))) = View.ld (daS x0 x1 x2 x3 x4 x5) (Rect.unit ![1, 0, 3072] ![1, 256, 512] inb_S2x256x5632_S1x256x512_1_0_3072) := by
  funext j
  idx_vars j
  pointwise [k0_pay3, k0_pay4, k0_pay5, k0_pay64, k0_pay65, k0_pay66, k0_pay68, k0_pay70, daS, upB, dgB, aB, DaMath.dUp, DaMath.logistic_eq]

/-- What the kernel stores for chunk 7 of the gradient at the gate. -/
theorem scratch_0_7 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay78 (k0_pay4 x1) (k0_pay5 x2) (k0_pay72 (k0_pay3 x0 x3) (View.ld x5 (Rect.unit ![3584, 0] ![512, 2048] inb_S5632x2048_S512x2048_3584_0))) (View.ld x4 (Rect.unit ![0, 0, 0, 3584] ![1, 1, 256, 512] inb_S1x2x256x5632_S1x1x256x512_0_0_0_3584)) (View.ld x4 (Rect.unit ![0, 1, 0, 3584] ![1, 1, 256, 512] inb_S1x2x256x5632_S1x1x256x512_0_1_0_3584)) = View.ld (daS x0 x1 x2 x3 x4 x5) (Rect.unit ![0, 0, 3584] ![1, 256, 512] inb_S2x256x5632_S1x256x512_0_0_3584) := by
  funext j
  idx_vars j
  pointwise [k0_pay3, k0_pay4, k0_pay5, k0_pay72, k0_pay73, k0_pay74, k0_pay75, k0_pay76, k0_pay78, daS, gateB, dgB, aB, DaMath.dGate, DaMath.logistic_eq]

/-- What the kernel stores for chunk 7 of the gradient at the up projection. -/
theorem scratch_1_7 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay79 (k0_pay4 x1) (k0_pay5 x2) (k0_pay72 (k0_pay3 x0 x3) (View.ld x5 (Rect.unit ![3584, 0] ![512, 2048] inb_S5632x2048_S512x2048_3584_0))) (View.ld x4 (Rect.unit ![0, 0, 0, 3584] ![1, 1, 256, 512] inb_S1x2x256x5632_S1x1x256x512_0_0_0_3584)) = View.ld (daS x0 x1 x2 x3 x4 x5) (Rect.unit ![1, 0, 3584] ![1, 256, 512] inb_S2x256x5632_S1x256x512_1_0_3584) := by
  funext j
  idx_vars j
  pointwise [k0_pay3, k0_pay4, k0_pay5, k0_pay72, k0_pay73, k0_pay74, k0_pay75, k0_pay77, k0_pay79, daS, upB, dgB, aB, DaMath.dUp, DaMath.logistic_eq]

/-- What the kernel stores for chunk 8 of the gradient at the gate. -/
theorem scratch_0_8 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay88 (k0_pay86 (k0_pay3 x0 x3) (k0_pay4 x1) (k0_pay5 x2) (View.ld x5 (Rect.unit ![4096, 0] ![512, 2048] inb_S5632x2048_S512x2048_4096_0)) (View.ld x4 (Rect.unit ![0, 0, 0, 4096] ![1, 1, 256, 512] inb_S1x2x256x5632_S1x1x256x512_0_0_0_4096)) (View.ld x4 (Rect.unit ![0, 1, 0, 4096] ![1, 1, 256, 512] inb_S1x2x256x5632_S1x1x256x512_0_1_0_4096))) = View.ld (daS x0 x1 x2 x3 x4 x5) (Rect.unit ![0, 0, 4096] ![1, 256, 512] inb_S2x256x5632_S1x256x512_0_0_4096) := by
  funext j
  idx_vars j
  pointwise [k0_pay3, k0_pay4, k0_pay5, k0_pay83, k0_pay84, k0_pay85, k0_pay86, k0_pay88, daS, gateB, dgB, aB, DaMath.dGate, DaMath.logistic_eq]

/-- What the kernel stores for chunk 8 of the gradient at the up projection. -/
theorem scratch_1_8 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay89 (k0_pay87 (k0_pay3 x0 x3) (k0_pay4 x1) (k0_pay5 x2) (View.ld x5 (Rect.unit ![4096, 0] ![512, 2048] inb_S5632x2048_S512x2048_4096_0)) (View.ld x4 (Rect.unit ![0, 0, 0, 4096] ![1, 1, 256, 512] inb_S1x2x256x5632_S1x1x256x512_0_0_0_4096))) = View.ld (daS x0 x1 x2 x3 x4 x5) (Rect.unit ![1, 0, 4096] ![1, 256, 512] inb_S2x256x5632_S1x256x512_1_0_4096) := by
  funext j
  idx_vars j
  pointwise [k0_pay3, k0_pay4, k0_pay5, k0_pay83, k0_pay84, k0_pay85, k0_pay87, k0_pay89, daS, upB, dgB, aB, DaMath.dUp, DaMath.logistic_eq]

/-- What the kernel stores for chunk 9 of the gradient at the gate. -/
theorem scratch_0_9 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay98 (k0_pay92 (k0_pay5 x2) (View.ld x4 (Rect.unit ![0, 0, 0, 4608] ![1, 1, 256, 512] inb_S1x2x256x5632_S1x1x256x512_0_0_0_4608))) (k0_pay93 (k0_pay5 x2) (View.ld x4 (Rect.unit ![0, 0, 0, 4608] ![1, 1, 256, 512] inb_S1x2x256x5632_S1x1x256x512_0_0_0_4608))) (k0_pay94 (k0_pay3 x0 x3) (k0_pay4 x1) (k0_pay5 x2) (View.ld x5 (Rect.unit ![4608, 0] ![512, 2048] inb_S5632x2048_S512x2048_4608_0)) (View.ld x4 (Rect.unit ![0, 0, 0, 4608] ![1, 1, 256, 512] inb_S1x2x256x5632_S1x1x256x512_0_0_0_4608)) (View.ld x4 (Rect.unit ![0, 1, 0, 4608] ![1, 1, 256, 512] inb_S1x2x256x5632_S1x1x256x512_0_1_0_4608))) k0_pay95 = View.ld (daS x0 x1 x2 x3 x4 x5) (Rect.unit ![0, 0, 4608] ![1, 256, 512] inb_S2x256x5632_S1x256x512_0_0_4608) := by
  funext j
  idx_vars j
  pointwise [k0_pay3, k0_pay4, k0_pay5, k0_pay91, k0_pay92, k0_pay93, k0_pay94, k0_pay95, k0_pay96, k0_pay98, daS, gateB, dgB, aB, DaMath.dGate, DaMath.logistic_eq]

/-- What the kernel stores for chunk 9 of the gradient at the up projection. -/
theorem scratch_1_9 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay99 (k0_pay91 (k0_pay3 x0 x3) (k0_pay4 x1) (View.ld x5 (Rect.unit ![4608, 0] ![512, 2048] inb_S5632x2048_S512x2048_4608_0))) (k0_pay92 (k0_pay5 x2) (View.ld x4 (Rect.unit ![0, 0, 0, 4608] ![1, 1, 256, 512] inb_S1x2x256x5632_S1x1x256x512_0_0_0_4608))) (k0_pay93 (k0_pay5 x2) (View.ld x4 (Rect.unit ![0, 0, 0, 4608] ![1, 1, 256, 512] inb_S1x2x256x5632_S1x1x256x512_0_0_0_4608))) = View.ld (daS x0 x1 x2 x3 x4 x5) (Rect.unit ![1, 0, 4608] ![1, 256, 512] inb_S2x256x5632_S1x256x512_1_0_4608) := by
  funext j
  idx_vars j
  pointwise [k0_pay3, k0_pay4, k0_pay5, k0_pay91, k0_pay92, k0_pay93, k0_pay97, k0_pay99, daS, upB, dgB, aB, DaMath.dUp, DaMath.logistic_eq]

/-- What the kernel stores for chunk 10 of the gradient at the gate. -/
theorem scratch_0_10 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay107 (k0_pay101 (k0_pay3 x0 x3) (k0_pay4 x1) (View.ld x5 (Rect.unit ![5120, 0] ![512, 2048] inb_S5632x2048_S512x2048_5120_0))) (k0_pay102 (k0_pay5 x2) (View.ld x4 (Rect.unit ![0, 0, 0, 5120] ![1, 1, 256, 512] inb_S1x2x256x5632_S1x1x256x512_0_0_0_5120))) (k0_pay103 (k0_pay5 x2) (View.ld x4 (Rect.unit ![0, 1, 0, 5120] ![1, 1, 256, 512] inb_S1x2x256x5632_S1x1x256x512_0_1_0_5120))) (FloatOps.ofBits FTy.f32 0#32) = View.ld (daS x0 x1 x2 x3 x4 x5) (Rect.unit ![0, 0, 5120] ![1, 256, 512] inb_S2x256x5632_S1x256x512_0_0_5120) := by
  funext j
  idx_vars j
  pointwise [k0_pay3, k0_pay4, k0_pay5, k0_pay101, k0_pay102, k0_pay103, k0_pay104, k0_pay105, k0_pay107, daS, gateB, dgB, aB, DaMath.dGate, DaMath.logistic_eq]

/-- What the kernel stores for chunk 10 of the gradient at the up projection. -/
theorem scratch_1_10 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay108 (k0_pay101 (k0_pay3 x0 x3) (k0_pay4 x1) (View.ld x5 (Rect.unit ![5120, 0] ![512, 2048] inb_S5632x2048_S512x2048_5120_0))) (k0_pay102 (k0_pay5 x2) (View.ld x4 (Rect.unit ![0, 0, 0, 5120] ![1, 1, 256, 512] inb_S1x2x256x5632_S1x1x256x512_0_0_0_5120))) (FloatOps.ofBits FTy.f32 0#32) = View.ld (daS x0 x1 x2 x3 x4 x5) (Rect.unit ![1, 0, 5120] ![1, 256, 512] inb_S2x256x5632_S1x256x512_1_0_5120) := by
  funext j
  idx_vars j
  pointwise [k0_pay3, k0_pay4, k0_pay5, k0_pay101, k0_pay102, k0_pay104, k0_pay106, k0_pay108, daS, upB, dgB, aB, DaMath.dUp, DaMath.logistic_eq]

/-- The lanes' maxima after chunk 0. -/
theorem lane_0 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay15 k0_pay6 (k0_pay7 x0 x3 x1 (View.ld x5 (Rect.unit ![0, 0] ![512, 2048] inb_S5632x2048_S512x2048_0_0))) (k0_pay8 x2 (View.ld x4 (Rect.unit ![0, 0, 0, 0] ![1, 1, 256, 512] inb_S1x2x256x5632_S1x1x256x512_0_0_0_0))) (k0_pay9 x2 (View.ld x4 (Rect.unit ![0, 0, 0, 0] ![1, 1, 256, 512] inb_S1x2x256x5632_S1x1x256x512_0_0_0_0))) (k0_pay10 x0 x3 x1 x2 (View.ld x5 (Rect.unit ![0, 0] ![512, 2048] inb_S5632x2048_S512x2048_0_0)) (View.ld x4 (Rect.unit ![0, 1, 0, 0] ![1, 1, 256, 512] inb_S1x2x256x5632_S1x1x256x512_0_1_0_0))) = lanesV x0 x1 x2 x3 x4 x5 1 := by
  funext j
  idx_vars j
  pointwise [k0_pay3, k0_pay4, k0_pay5, k0_pay6, k0_pay7, k0_pay8, k0_pay9, k0_pay10, k0_pay11, k0_pay12, k0_pay15, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The lanes' maxima after chunk 1. -/
theorem lane_1 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay24 (k0_pay5 x2) (lanesV x0 x1 x2 x3 x4 x5 1) (k0_pay16 (k0_pay3 x0 x3) (k0_pay4 x1) (View.ld x5 (Rect.unit ![512, 0] ![512, 2048] inb_S5632x2048_S512x2048_512_0))) (k0_pay17 (k0_pay5 x2) (View.ld x4 (Rect.unit ![0, 0, 0, 512] ![1, 1, 256, 512] inb_S1x2x256x5632_S1x1x256x512_0_0_0_512))) (k0_pay18 (View.ld x4 (Rect.unit ![0, 1, 0, 512] ![1, 1, 256, 512] inb_S1x2x256x5632_S1x1x256x512_0_1_0_512))) = lanesV x0 x1 x2 x3 x4 x5 2 := by
  funext j
  idx_vars j
  pointwise [k0_pay3, k0_pay4, k0_pay5, k0_pay16, k0_pay17, k0_pay18, k0_pay19, k0_pay20, k0_pay21, k0_pay24, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The lanes' maxima after chunk 2. -/
theorem lane_2 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay34 (k0_pay32 (k0_pay5 x2) (k0_pay25 (k0_pay3 x0 x3) (k0_pay4 x1) (View.ld x5 (Rect.unit ![1024, 0] ![512, 2048] inb_S5632x2048_S512x2048_1024_0))) (View.ld x4 (Rect.unit ![0, 0, 0, 1024] ![1, 1, 256, 512] inb_S1x2x256x5632_S1x1x256x512_0_0_0_1024)) (View.ld x4 (Rect.unit ![0, 1, 0, 1024] ![1, 1, 256, 512] inb_S1x2x256x5632_S1x1x256x512_0_1_0_1024))) (k0_pay33 (k0_pay5 x2) (lanesV x0 x1 x2 x3 x4 x5 2) (k0_pay25 (k0_pay3 x0 x3) (k0_pay4 x1) (View.ld x5 (Rect.unit ![1024, 0] ![512, 2048] inb_S5632x2048_S512x2048_1024_0))) (View.ld x4 (Rect.unit ![0, 0, 0, 1024] ![1, 1, 256, 512] inb_S1x2x256x5632_S1x1x256x512_0_0_0_1024)) (View.ld x4 (Rect.unit ![0, 1, 0, 1024] ![1, 1, 256, 512] inb_S1x2x256x5632_S1x1x256x512_0_1_0_1024))) = lanesV x0 x1 x2 x3 x4 x5 3 := by
  funext j
  idx_vars j
  pointwise [k0_pay3, k0_pay4, k0_pay5, k0_pay25, k0_pay26, k0_pay27, k0_pay28, k0_pay29, k0_pay32, k0_pay33, k0_pay34, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The lanes' maxima after chunk 3. -/
theorem lane_3 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay42 (lanesV x0 x1 x2 x3 x4 x5 3) (k0_pay38 (k0_pay3 x0 x3) (k0_pay4 x1) (k0_pay5 x2) (View.ld x5 (Rect.unit ![1536, 0] ![512, 2048] inb_S5632x2048_S512x2048_1536_0)) (View.ld x4 (Rect.unit ![0, 0, 0, 1536] ![1, 1, 256, 512] inb_S1x2x256x5632_S1x1x256x512_0_0_0_1536)) (View.ld x4 (Rect.unit ![0, 1, 0, 1536] ![1, 1, 256, 512] inb_S1x2x256x5632_S1x1x256x512_0_1_0_1536))) (k0_pay39 (k0_pay3 x0 x3) (k0_pay4 x1) (k0_pay5 x2) (View.ld x5 (Rect.unit ![1536, 0] ![512, 2048] inb_S5632x2048_S512x2048_1536_0)) (View.ld x4 (Rect.unit ![0, 0, 0, 1536] ![1, 1, 256, 512] inb_S1x2x256x5632_S1x1x256x512_0_0_0_1536))) = lanesV x0 x1 x2 x3 x4 x5 4 := by
  funext j
  idx_vars j
  pointwise [k0_pay3, k0_pay4, k0_pay5, k0_pay35, k0_pay36, k0_pay37, k0_pay38, k0_pay39, k0_pay42, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The lanes' maxima after chunk 4. -/
theorem lane_4 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay52 (lanesV x0 x1 x2 x3 x4 x5 4) (k0_pay43 (k0_pay3 x0 x3) (k0_pay4 x1) (View.ld x5 (Rect.unit ![2048, 0] ![512, 2048] inb_S5632x2048_S512x2048_2048_0))) (k0_pay44 (k0_pay5 x2) (View.ld x4 (Rect.unit ![0, 0, 0, 2048] ![1, 1, 256, 512] inb_S1x2x256x5632_S1x1x256x512_0_0_0_2048))) (k0_pay45 (k0_pay5 x2) (View.ld x4 (Rect.unit ![0, 0, 0, 2048] ![1, 1, 256, 512] inb_S1x2x256x5632_S1x1x256x512_0_0_0_2048))) (k0_pay46 (k0_pay3 x0 x3) (k0_pay4 x1) (k0_pay5 x2) (View.ld x5 (Rect.unit ![2048, 0] ![512, 2048] inb_S5632x2048_S512x2048_2048_0)) (View.ld x4 (Rect.unit ![0, 0, 0, 2048] ![1, 1, 256, 512] inb_S1x2x256x5632_S1x1x256x512_0_0_0_2048)) (View.ld x4 (Rect.unit ![0, 1, 0, 2048] ![1, 1, 256, 512] inb_S1x2x256x5632_S1x1x256x512_0_1_0_2048))) (k0_pay47 (k0_pay5 x2) (View.ld x4 (Rect.unit ![0, 0, 0, 2048] ![1, 1, 256, 512] inb_S1x2x256x5632_S1x1x256x512_0_0_0_2048))) = lanesV x0 x1 x2 x3 x4 x5 5 := by
  funext j
  idx_vars j
  pointwise [k0_pay3, k0_pay4, k0_pay5, k0_pay43, k0_pay44, k0_pay45, k0_pay46, k0_pay47, k0_pay48, k0_pay49, k0_pay52, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The lanes' maxima after chunk 5. -/
theorem lane_5 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay63 (lanesV x0 x1 x2 x3 x4 x5 5) (k0_pay53 (k0_pay3 x0 x3) (k0_pay4 x1) (View.ld x5 (Rect.unit ![2560, 0] ![512, 2048] inb_S5632x2048_S512x2048_2560_0))) (k0_pay54 (k0_pay5 x2) (View.ld x4 (Rect.unit ![0, 0, 0, 2560] ![1, 1, 256, 512] inb_S1x2x256x5632_S1x1x256x512_0_0_0_2560))) (k0_pay55 (k0_pay5 x2) (View.ld x4 (Rect.unit ![0, 1, 0, 2560] ![1, 1, 256, 512] inb_S1x2x256x5632_S1x1x256x512_0_1_0_2560))) (k0_pay56 (k0_pay5 x2) (View.ld x4 (Rect.unit ![0, 0, 0, 2560] ![1, 1, 256, 512] inb_S1x2x256x5632_S1x1x256x512_0_0_0_2560))) k0_pay57 = lanesV x0 x1 x2 x3 x4 x5 6 := by
  funext j
  idx_vars j
  pointwise [k0_pay3, k0_pay4, k0_pay5, k0_pay53, k0_pay54, k0_pay55, k0_pay56, k0_pay57, k0_pay58, k0_pay59, k0_pay60, k0_pay63, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The lanes' maxima after chunk 6. -/
theorem lane_6 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay71 (k0_pay5 x2) (lanesV x0 x1 x2 x3 x4 x5 6) (k0_pay64 (k0_pay3 x0 x3) (k0_pay4 x1) (View.ld x5 (Rect.unit ![3072, 0] ![512, 2048] inb_S5632x2048_S512x2048_3072_0))) (k0_pay65 (k0_pay5 x2) (View.ld x4 (Rect.unit ![0, 0, 0, 3072] ![1, 1, 256, 512] inb_S1x2x256x5632_S1x1x256x512_0_0_0_3072))) (View.ld x4 (Rect.unit ![0, 1, 0, 3072] ![1, 1, 256, 512] inb_S1x2x256x5632_S1x1x256x512_0_1_0_3072)) = lanesV x0 x1 x2 x3 x4 x5 7 := by
  funext j
  idx_vars j
  pointwise [k0_pay3, k0_pay4, k0_pay5, k0_pay64, k0_pay65, k0_pay66, k0_pay67, k0_pay68, k0_pay71, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The lanes' maxima after chunk 7. -/
theorem lane_7 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay82 (lanesV x0 x1 x2 x3 x4 x5 7) (k0_pay80 (k0_pay4 x1) (k0_pay5 x2) (k0_pay72 (k0_pay3 x0 x3) (View.ld x5 (Rect.unit ![3584, 0] ![512, 2048] inb_S5632x2048_S512x2048_3584_0))) (View.ld x4 (Rect.unit ![0, 0, 0, 3584] ![1, 1, 256, 512] inb_S1x2x256x5632_S1x1x256x512_0_0_0_3584)) (View.ld x4 (Rect.unit ![0, 1, 0, 3584] ![1, 1, 256, 512] inb_S1x2x256x5632_S1x1x256x512_0_1_0_3584))) (k0_pay81 (k0_pay4 x1) (k0_pay5 x2) (k0_pay72 (k0_pay3 x0 x3) (View.ld x5 (Rect.unit ![3584, 0] ![512, 2048] inb_S5632x2048_S512x2048_3584_0))) (View.ld x4 (Rect.unit ![0, 0, 0, 3584] ![1, 1, 256, 512] inb_S1x2x256x5632_S1x1x256x512_0_0_0_3584)) (View.ld x4 (Rect.unit ![0, 1, 0, 3584] ![1, 1, 256, 512] inb_S1x2x256x5632_S1x1x256x512_0_1_0_3584))) = lanesV x0 x1 x2 x3 x4 x5 8 := by
  funext j
  idx_vars j
  pointwise [k0_pay3, k0_pay4, k0_pay5, k0_pay72, k0_pay73, k0_pay74, k0_pay75, k0_pay76, k0_pay77, k0_pay80, k0_pay81, k0_pay82, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The lanes' maxima after chunk 8. -/
theorem lane_8 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay90 (lanesV x0 x1 x2 x3 x4 x5 8) (k0_pay86 (k0_pay3 x0 x3) (k0_pay4 x1) (k0_pay5 x2) (View.ld x5 (Rect.unit ![4096, 0] ![512, 2048] inb_S5632x2048_S512x2048_4096_0)) (View.ld x4 (Rect.unit ![0, 0, 0, 4096] ![1, 1, 256, 512] inb_S1x2x256x5632_S1x1x256x512_0_0_0_4096)) (View.ld x4 (Rect.unit ![0, 1, 0, 4096] ![1, 1, 256, 512] inb_S1x2x256x5632_S1x1x256x512_0_1_0_4096))) (k0_pay87 (k0_pay3 x0 x3) (k0_pay4 x1) (k0_pay5 x2) (View.ld x5 (Rect.unit ![4096, 0] ![512, 2048] inb_S5632x2048_S512x2048_4096_0)) (View.ld x4 (Rect.unit ![0, 0, 0, 4096] ![1, 1, 256, 512] inb_S1x2x256x5632_S1x1x256x512_0_0_0_4096))) = lanesV x0 x1 x2 x3 x4 x5 9 := by
  funext j
  idx_vars j
  pointwise [k0_pay3, k0_pay4, k0_pay5, k0_pay83, k0_pay84, k0_pay85, k0_pay86, k0_pay87, k0_pay90, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The lanes' maxima after chunk 9. -/
theorem lane_9 (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay100 (lanesV x0 x1 x2 x3 x4 x5 9) (k0_pay91 (k0_pay3 x0 x3) (k0_pay4 x1) (View.ld x5 (Rect.unit ![4608, 0] ![512, 2048] inb_S5632x2048_S512x2048_4608_0))) (k0_pay92 (k0_pay5 x2) (View.ld x4 (Rect.unit ![0, 0, 0, 4608] ![1, 1, 256, 512] inb_S1x2x256x5632_S1x1x256x512_0_0_0_4608))) (k0_pay93 (k0_pay5 x2) (View.ld x4 (Rect.unit ![0, 0, 0, 4608] ![1, 1, 256, 512] inb_S1x2x256x5632_S1x1x256x512_0_0_0_4608))) (k0_pay94 (k0_pay3 x0 x3) (k0_pay4 x1) (k0_pay5 x2) (View.ld x5 (Rect.unit ![4608, 0] ![512, 2048] inb_S5632x2048_S512x2048_4608_0)) (View.ld x4 (Rect.unit ![0, 0, 0, 4608] ![1, 1, 256, 512] inb_S1x2x256x5632_S1x1x256x512_0_0_0_4608)) (View.ld x4 (Rect.unit ![0, 1, 0, 4608] ![1, 1, 256, 512] inb_S1x2x256x5632_S1x1x256x512_0_1_0_4608))) k0_pay95 = lanesV x0 x1 x2 x3 x4 x5 10 := by
  funext j
  idx_vars j
  pointwise [k0_pay3, k0_pay4, k0_pay5, k0_pay91, k0_pay92, k0_pay93, k0_pay94, k0_pay95, k0_pay96, k0_pay97, k0_pay100, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]

/-- The maximum over the lanes after the last chunk is the rows' largest absolute value. -/
theorem amax_pay (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay109 (lanesV x0 x1 x2 x3 x4 x5 10) (k0_pay101 (k0_pay3 x0 x3) (k0_pay4 x1) (View.ld x5 (Rect.unit ![5120, 0] ![512, 2048] inb_S5632x2048_S512x2048_5120_0))) (k0_pay102 (k0_pay5 x2) (View.ld x4 (Rect.unit ![0, 0, 0, 5120] ![1, 1, 256, 512] inb_S1x2x256x5632_S1x1x256x512_0_0_0_5120))) (k0_pay103 (k0_pay5 x2) (View.ld x4 (Rect.unit ![0, 1, 0, 5120] ![1, 1, 256, 512] inb_S1x2x256x5632_S1x1x256x512_0_1_0_5120))) (FloatOps.ofBits FTy.f32 0#32) = fun j => amaxB x0 x1 x2 x3 x4 x5 (j 0) := by
  funext j
  idx_vars j
  unfold amaxB
  rw [← DaMath.lanes_eq]
  pointwise [k0_pay3, k0_pay4, k0_pay5, k0_pay101, k0_pay102, k0_pay103, k0_pay104, k0_pay105, k0_pay106, k0_pay109, lanesV, DaMath.lanes, DaMath.lane, gateB, upB, dgB, aB, DaMath.dGate, DaMath.dUp, DaMath.absf_eq, DaMath.logistic_eq]
  simp (disch := omega) only [DaMath.col_eq, Nat.reduceMul, zero_add, Nat.reduceAdd, ← add_assoc]
  rw [DaMath.neg_inf]

/-- Times the inverse of the codes' largest value. -/
theorem top_pay (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) :
    k0_pay110 (lanesV x0 x1 x2 x3 x4 x5 10) (k0_pay101 (k0_pay3 x0 x3) (k0_pay4 x1) (View.ld x5 (Rect.unit ![5120, 0] ![512, 2048] inb_S5632x2048_S512x2048_5120_0))) (k0_pay102 (k0_pay5 x2) (View.ld x4 (Rect.unit ![0, 0, 0, 5120] ![1, 1, 256, 512] inb_S1x2x256x5632_S1x1x256x512_0_0_0_5120))) (k0_pay103 (k0_pay5 x2) (View.ld x4 (Rect.unit ![0, 1, 0, 5120] ![1, 1, 256, 512] inb_S1x2x256x5632_S1x1x256x512_0_1_0_5120))) (FloatOps.ofBits FTy.f32 0#32) = fun j => amaxB x0 x1 x2 x3 x4 x5 (j 0) * Ideal.ofBits .f32 0x37924925#32 := by
  funext j
  rw [← congrFun (amax_pay x0 x1 x2 x3 x4 x5) j]
  rfl

end Cert.GradIdeal.ValA
-- ==== Proof.GradAScale.lean ====
module

public import proofs.«01_k».proof.Proof.Gen.GradIdeal.Skeleton
public import proofs.«01_k».proof.Proof.DaMath
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.GradIdeal.ValA

open Cert.GradIdeal Cert.GradIdeal.Gen Idealize.ShloMosaic Idealize.ShloMosaic.TcCoe Idealize.SL.Sem
open Idealize.ShloMosaic.Pipeline (Dat)

/-- One step of the kernel's search: try the bit `d`, where `c` is `d` less the exponent's bias. -/
def stepV (T : FVec Ideal S256x1 .f32) (d c : BitVec 32) (w : IVec S256x1 32) : IVec S256x1 32 :=
  select (cmpf .oge T (bitcastToFloat .f32 (shli (addi (addi w (broadcast S256x1 c)) (broadcast S256x1 127#32)) (broadcast S256x1 23#32))))
    (addi w (broadcast S256x1 d)) w

/-- The kernel's search is eight such steps. -/
theorem search_pay (T : FVec Ideal S256x1 .f32) :
    k0_pay115 T (k0_pay113 T k0_pay111 k0_pay112) (k0_pay114 T k0_pay111 k0_pay112)
      = minsi (stepV T 1#32 4294967170#32 (stepV T 2#32 4294967171#32 (stepV T 4#32 4294967173#32 (stepV T 8#32 4294967177#32
          (stepV T 16#32 4294967185#32 (stepV T 32#32 4294967201#32 (stepV T 64#32 4294967233#32 (stepV T 128#32 1#32 (broadcast S256x1 0#32))))))))) (broadcast S256x1 252#32) := rfl

/-- A small number shifted to the exponent's place. -/
theorem shift_word (k : ℕ) : IntOp.shli .vector (BitVec.ofNat 32 k) 23#32 = BitVec.ofNat 32 (k * 2 ^ 23) := by
  show (if (23#32).toNat < 32 then BitVec.ofNat 32 k <<< 23#32 else _) = _
  rw [if_pos (by decide)]
  apply BitVec.eq_of_toNat_eq
  rw [BitVec.shiftLeft_eq', BitVec.toNat_shiftLeft, Nat.shiftLeft_eq, BitVec.toNat_ofNat, BitVec.toNat_ofNat, BitVec.toNat_ofNat, show 23 % 2 ^ 32 = 23 from rfl, Nat.mod_mul_mod]

/-- The smaller of a field and 252, on words. -/
theorem cap_word : ∀ n : Fin 256, IntOp.minsi (BitVec.ofNat 32 n.val) 252#32 = BitVec.ofNat 32 (min n.val 252) := by decide +kernel

/-- The scale's word from the field. -/
theorem scale_word : ∀ n : Fin 253, IntOp.shli .vector (IntOp.addi (IntOp.subi (BitVec.ofNat 32 n.val) 126#32) 127#32) 23#32 = BitVec.ofNat 32 ((n.val + 1) * 2 ^ 23) := by decide +kernel

/-- The inverse scale's word from the field. -/
theorem inv_word : ∀ n : Fin 253, IntOp.shli .vector (IntOp.addi (IntOp.subi 0#32 (IntOp.subi (BitVec.ofNat 32 n.val) 126#32)) 127#32) 23#32 = BitVec.ofNat 32 ((253 - n.val) * 2 ^ 23) := by decide +kernel

/-- A step on the words of natural numbers is a step of the search. -/
theorem step_pay (T : FVec Ideal S256x1 .f32) (d c : BitVec 32) (D : ℕ) (w : IVec S256x1 32) (n : ℕ) (j : S256x1.Idx)
    (hw : w j = BitVec.ofNat 32 n) (hd : d = BitVec.ofNat 32 D) (hc : c + 127#32 = BitVec.ofNat 32 D) :
    stepV T d c w j = BitVec.ofNat 32 (DaMath.step (T j) D n) := by
  idx_vars j
  pointwise [stepV]
  rw [hw, hd]
  have hk : IntOp.addi (IntOp.addi (BitVec.ofNat 32 n) c) 127#32 = BitVec.ofNat 32 (n + D) := by
    show BitVec.ofNat 32 n + c + 127#32 = _
    rw [BitVec.add_assoc, hc, ← BitVec.ofNat_add]
  rw [hk, shift_word]
  show (if DaMath.pow (n + D) ≤ T (ix2 j0 j1) then BitVec.ofNat 32 n + BitVec.ofNat 32 D else BitVec.ofNat 32 n) = BitVec.ofNat 32 (DaMath.step (T (ix2 j0 j1)) D n)
  unfold DaMath.step
  split
  · rw [← BitVec.ofNat_add]
  · rfl

/-- The kernel's search finds the exponent field. -/
theorem field_pay (T : FVec Ideal S256x1 .f32) :
    k0_pay115 T (k0_pay113 T k0_pay111 k0_pay112) (k0_pay114 T k0_pay111 k0_pay112) = fun j => BitVec.ofNat 32 (DaMath.field (T j)) := by
  rw [search_pay]
  funext j
  have h := step_pay T 1#32 4294967170#32 1 _ _ j (step_pay T 2#32 4294967171#32 2 _ _ j (step_pay T 4#32 4294967173#32 4 _ _ j (step_pay T 8#32 4294967177#32 8 _ _ j
    (step_pay T 16#32 4294967185#32 16 _ _ j (step_pay T 32#32 4294967201#32 32 _ _ j (step_pay T 64#32 4294967233#32 64 _ _ j (step_pay T 128#32 1#32 128 (broadcast S256x1 0#32) 0 j
      rfl rfl (by decide)) rfl (by decide)) rfl (by decide)) rfl (by decide)) rfl (by decide)) rfl (by decide)) rfl (by decide)) rfl (by decide)
  have hb := (DaMath.search_between (T j)).1
  unfold DaMath.field
  generalize hn : DaMath.step (T j) 1 _ = n at h hb
  show IntOp.minsi _ 252#32 = _
  rw [h]
  exact cap_word ⟨n, by omega⟩

/-- The kernel's scale. -/
theorem scale_pay (a T : FVec Ideal S256x1 .f32) (h : ∀ j, T j = a j * Ideal.ofBits .f32 0x37924925#32) :
    k0_pay118 (F := Ideal) (fun j => BitVec.ofNat 32 (DaMath.field (T j))) (k0_pay116 a) = fun j => DaMath.scale (a j) := by
  funext j
  idx_vars j
  pointwise [k0_pay116, k0_pay117, k0_pay118]
  unfold DaMath.scale
  split
  · rw [show IntOp.shli .vector (IntOp.addi 0#32 127#32) 23#32 = BitVec.ofNat 32 (127 * 2 ^ 23) from by decide]
    exact DaMath.pow_127
  · rw [← h (ix2 j0 j1)]
    exact congrArg (Ideal.ofBits .f32) (scale_word ⟨DaMath.field (T (ix2 j0 j1)), by have := DaMath.field_le (T (ix2 j0 j1)); omega⟩)

/-- The kernel's inverse scale. -/
theorem inv_pay (a T : FVec Ideal S256x1 .f32) (h : ∀ j, T j = a j * Ideal.ofBits .f32 0x37924925#32) :
    k0_pay119 (F := Ideal) (fun j => BitVec.ofNat 32 (DaMath.field (T j))) (k0_pay116 a) = fun j => DaMath.inv (a j) := by
  funext j
  idx_vars j
  pointwise [k0_pay116, k0_pay117, k0_pay119]
  unfold DaMath.inv
  split
  · rw [show IntOp.shli .vector (IntOp.addi (IntOp.subi 0#32 0#32) 127#32) 23#32 = BitVec.ofNat 32 (127 * 2 ^ 23) from by decide]
    exact DaMath.pow_127
  · rw [← h (ix2 j0 j1)]
    exact congrArg (Ideal.ofBits .f32) (inv_word ⟨DaMath.field (T (ix2 j0 j1)), by have := DaMath.field_le (T (ix2 j0 j1)); omega⟩)

end Cert.GradIdeal.ValA
-- ==== Proof.GradAOut.lean ====
module

public import proofs.«01_k».proof.Proof.Gen.GradIdeal.Frame
public import proofs.«01_k».proof.Proof.GradAPay
public import proofs.«01_k».proof.Proof.GradAScale
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.GradIdeal.ValA

open Cert.GradIdeal Cert.GradIdeal.Gen Idealize.ShloMosaic Idealize.ShloMosaic.TcCoe Idealize.SL.Sem
open Idealize.ShloMosaic.Pipeline (Dat)

/-- The scratch array after its 22 stores, read back: where every store left the block of one array `G`, a load reads `G`. -/
theorem read_scratch (G : Vec Ideal S2x256x5632 .f32) (r : Rect S2x256x5632) :
    (View.whole cc0_scratch0 : View sig _ _ S2x256x5632 _).readCov (Val := Elt Ideal) [⟨Rect.unit ![1, 0, 5120] ![1, 256, 512] inb_S2x256x5632_S1x256x512_1_0_5120, View.ld G (Rect.unit ![1, 0, 5120] ![1, 256, 512] inb_S2x256x5632_S1x256x512_1_0_5120)⟩,
      ⟨Rect.unit ![0, 0, 5120] ![1, 256, 512] inb_S2x256x5632_S1x256x512_0_0_5120, View.ld G (Rect.unit ![0, 0, 5120] ![1, 256, 512] inb_S2x256x5632_S1x256x512_0_0_5120)⟩,
      ⟨Rect.unit ![1, 0, 4608] ![1, 256, 512] inb_S2x256x5632_S1x256x512_1_0_4608, View.ld G (Rect.unit ![1, 0, 4608] ![1, 256, 512] inb_S2x256x5632_S1x256x512_1_0_4608)⟩,
      ⟨Rect.unit ![0, 0, 4608] ![1, 256, 512] inb_S2x256x5632_S1x256x512_0_0_4608, View.ld G (Rect.unit ![0, 0, 4608] ![1, 256, 512] inb_S2x256x5632_S1x256x512_0_0_4608)⟩,
      ⟨Rect.unit ![1, 0, 4096] ![1, 256, 512] inb_S2x256x5632_S1x256x512_1_0_4096, View.ld G (Rect.unit ![1, 0, 4096] ![1, 256, 512] inb_S2x256x5632_S1x256x512_1_0_4096)⟩,
      ⟨Rect.unit ![0, 0, 4096] ![1, 256, 512] inb_S2x256x5632_S1x256x512_0_0_4096, View.ld G (Rect.unit ![0, 0, 4096] ![1, 256, 512] inb_S2x256x5632_S1x256x512_0_0_4096)⟩,
      ⟨Rect.unit ![1, 0, 3584] ![1, 256, 512] inb_S2x256x5632_S1x256x512_1_0_3584, View.ld G (Rect.unit ![1, 0, 3584] ![1, 256, 512] inb_S2x256x5632_S1x256x512_1_0_3584)⟩,
      ⟨Rect.unit ![0, 0, 3584] ![1, 256, 512] inb_S2x256x5632_S1x256x512_0_0_3584, View.ld G (Rect.unit ![0, 0, 3584] ![1, 256, 512] inb_S2x256x5632_S1x256x512_0_0_3584)⟩,
      ⟨Rect.unit ![1, 0, 3072] ![1, 256, 512] inb_S2x256x5632_S1x256x512_1_0_3072, View.ld G (Rect.unit ![1, 0, 3072] ![1, 256, 512] inb_S2x256x5632_S1x256x512_1_0_3072)⟩,
      ⟨Rect.unit ![0, 0, 3072] ![1, 256, 512] inb_S2x256x5632_S1x256x512_0_0_3072, View.ld G (Rect.unit ![0, 0, 3072] ![1, 256, 512] inb_S2x256x5632_S1x256x512_0_0_3072)⟩,
      ⟨Rect.unit ![1, 0, 2560] ![1, 256, 512] inb_S2x256x5632_S1x256x512_1_0_2560, View.ld G (Rect.unit ![1, 0, 2560] ![1, 256, 512] inb_S2x256x5632_S1x256x512_1_0_2560)⟩,
      ⟨Rect.unit ![0, 0, 2560] ![1, 256, 512] inb_S2x256x5632_S1x256x512_0_0_2560, View.ld G (Rect.unit ![0, 0, 2560] ![1, 256, 512] inb_S2x256x5632_S1x256x512_0_0_2560)⟩,
      ⟨Rect.unit ![1, 0, 2048] ![1, 256, 512] inb_S2x256x5632_S1x256x512_1_0_2048, View.ld G (Rect.unit ![1, 0, 2048] ![1, 256, 512] inb_S2x256x5632_S1x256x512_1_0_2048)⟩,
      ⟨Rect.unit ![0, 0, 2048] ![1, 256, 512] inb_S2x256x5632_S1x256x512_0_0_2048, View.ld G (Rect.unit ![0, 0, 2048] ![1, 256, 512] inb_S2x256x5632_S1x256x512_0_0_2048)⟩,
      ⟨Rect.unit ![1, 0, 1536] ![1, 256, 512] inb_S2x256x5632_S1x256x512_1_0_1536, View.ld G (Rect.unit ![1, 0, 1536] ![1, 256, 512] inb_S2x256x5632_S1x256x512_1_0_1536)⟩,
      ⟨Rect.unit ![0, 0, 1536] ![1, 256, 512] inb_S2x256x5632_S1x256x512_0_0_1536, View.ld G (Rect.unit ![0, 0, 1536] ![1, 256, 512] inb_S2x256x5632_S1x256x512_0_0_1536)⟩,
      ⟨Rect.unit ![1, 0, 1024] ![1, 256, 512] inb_S2x256x5632_S1x256x512_1_0_1024, View.ld G (Rect.unit ![1, 0, 1024] ![1, 256, 512] inb_S2x256x5632_S1x256x512_1_0_1024)⟩,
      ⟨Rect.unit ![0, 0, 1024] ![1, 256, 512] inb_S2x256x5632_S1x256x512_0_0_1024, View.ld G (Rect.unit ![0, 0, 1024] ![1, 256, 512] inb_S2x256x5632_S1x256x512_0_0_1024)⟩,
      ⟨Rect.unit ![1, 0, 512] ![1, 256, 512] inb_S2x256x5632_S1x256x512_1_0_512, View.ld G (Rect.unit ![1, 0, 512] ![1, 256, 512] inb_S2x256x5632_S1x256x512_1_0_512)⟩,
      ⟨Rect.unit ![0, 0, 512] ![1, 256, 512] inb_S2x256x5632_S1x256x512_0_0_512, View.ld G (Rect.unit ![0, 0, 512] ![1, 256, 512] inb_S2x256x5632_S1x256x512_0_0_512)⟩,
      ⟨Rect.unit ![1, 0, 0] ![1, 256, 512] inb_S2x256x5632_S1x256x512_1_0_0, View.ld G (Rect.unit ![1, 0, 0] ![1, 256, 512] inb_S2x256x5632_S1x256x512_1_0_0)⟩,
      ⟨Rect.unit ![0, 0, 0] ![1, 256, 512] inb_S2x256x5632_S1x256x512_0_0_0, View.ld G (Rect.unit ![0, 0, 0] ![1, 256, 512] inb_S2x256x5632_S1x256x512_0_0_0)⟩] r.toLoadRect = View.ld G r := by
  rw [View.readCov_eq_canon']
  funext j
  refine View.canon_apply_of_pieces G _ (View.PiecesOf.mem ?_) _ ?_
  · exact ⟨fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, trivial⟩
  · exact View.cover_of_tiledL _ ![1, 256, 512] (by sl_kernel_rfl) _

/-- The inverse scale as the kernel computes it from the rows' maxima. -/
theorem inv_out (a : FVec Ideal S256x1 .f32) :
    k0_pay119 (F := Ideal) (fun j => BitVec.ofNat 32 (DaMath.field (a j * Ideal.ofBits .f32 0x37924925#32))) (k0_pay116 a) = fun j => DaMath.inv (a j) :=
  inv_pay a _ fun _ => rfl

/-- The codes of one array `G` whose rows have the maxima `A`. -/
def codesV (G : Vec Ideal S2x256x5632 .f32) (A : Fin 256 → EReal) : Vec Ideal S1x2x256x5632 .fp8e5m2 := fun j => DaMath.clip (G (ix3 (j 1) (j 2) (j 3)) * DaMath.inv (A (j 2)))

/-- What the kernel stores for chunk 0 of half 0 of the codes. -/
theorem code_0_0 (G : Vec Ideal S2x256x5632 .f32) (A : Fin 256 → EReal) :
    k0_pay120 (F := Ideal) (fun j => BitVec.ofNat 32 (DaMath.field (A (j 0) * Ideal.ofBits FTy.f32 932333861#32))) (k0_pay116 (F := Ideal) fun j => A (j 0)) (View.ld G (Rect.unit ![0, 0, 0] ![1, 256, 512] inb_S2x256x5632_S1x256x512_0_0_0)) = View.ld (codesV G A) (Rect.unit ![0, 0, 0, 0] ![1, 1, 256, 512] inb_S1x2x256x5632_S1x1x256x512_0_0_0_0) := by
  funext j
  idx_vars j
  have hi := congrFun (inv_out fun j => A (j 0)) (ix2 j2 0)
  pointwise [k0_pay120, codesV, DaMath.clip] at hi ⊢
  rw [hi]

/-- What the kernel stores for chunk 0 of half 1 of the codes. -/
theorem code_1_0 (G : Vec Ideal S2x256x5632 .f32) (A : Fin 256 → EReal) :
    k0_pay122 (F := Ideal) (FloatOps.ofBits FTy.f32 1197473792#32) (k0_pay121 (F := Ideal) (fun j => BitVec.ofNat 32 (DaMath.field (A (j 0) * Ideal.ofBits FTy.f32 932333861#32))) (k0_pay116 (F := Ideal) fun j => A (j 0)) (View.ld G (Rect.unit ![1, 0, 0] ![1, 256, 512] inb_S2x256x5632_S1x256x512_1_0_0))) = View.ld (codesV G A) (Rect.unit ![0, 1, 0, 0] ![1, 1, 256, 512] inb_S1x2x256x5632_S1x1x256x512_0_1_0_0) := by
  funext j
  idx_vars j
  have hi := congrFun (inv_out fun j => A (j 0)) (ix2 j2 0)
  pointwise [k0_pay121, k0_pay122, codesV, DaMath.clip] at hi ⊢
  rw [hi]

/-- What the kernel stores for chunk 1 of half 0 of the codes. -/
theorem code_0_1 (G : Vec Ideal S2x256x5632 .f32) (A : Fin 256 → EReal) :
    k0_pay123 (fun j => DaMath.inv (A (j 0))) (View.ld G (Rect.unit ![0, 0, 512] ![1, 256, 512] inb_S2x256x5632_S1x256x512_0_0_512)) = View.ld (codesV G A) (Rect.unit ![0, 0, 0, 512] ![1, 1, 256, 512] inb_S1x2x256x5632_S1x1x256x512_0_0_0_512) := by
  funext j
  idx_vars j
  pointwise [k0_pay123, codesV, DaMath.clip]

/-- What the kernel stores for chunk 1 of half 1 of the codes. -/
theorem code_1_1 (G : Vec Ideal S2x256x5632 .f32) (A : Fin 256 → EReal) :
    k0_pay124 (fun j => DaMath.inv (A (j 0))) (View.ld G (Rect.unit ![1, 0, 512] ![1, 256, 512] inb_S2x256x5632_S1x256x512_1_0_512)) = View.ld (codesV G A) (Rect.unit ![0, 1, 0, 512] ![1, 1, 256, 512] inb_S1x2x256x5632_S1x1x256x512_0_1_0_512) := by
  funext j
  idx_vars j
  pointwise [k0_pay124, codesV, DaMath.clip]

/-- What the kernel stores for chunk 2 of half 0 of the codes. -/
theorem code_0_2 (G : Vec Ideal S2x256x5632 .f32) (A : Fin 256 → EReal) :
    k0_pay126 (fun j => DaMath.inv (A (j 0))) (k0_pay125 (View.ld G (Rect.unit ![0, 0, 1024] ![1, 256, 512] inb_S2x256x5632_S1x256x512_0_0_1024))) = View.ld (codesV G A) (Rect.unit ![0, 0, 0, 1024] ![1, 1, 256, 512] inb_S1x2x256x5632_S1x1x256x512_0_0_0_1024) := by
  funext j
  idx_vars j
  pointwise [k0_pay125, k0_pay126, codesV, DaMath.clip]

/-- What the kernel stores for chunk 2 of half 1 of the codes. -/
theorem code_1_2 (G : Vec Ideal S2x256x5632 .f32) (A : Fin 256 → EReal) :
    k0_pay127 (fun j => DaMath.inv (A (j 0))) (View.ld G (Rect.unit ![1, 0, 1024] ![1, 256, 512] inb_S2x256x5632_S1x256x512_1_0_1024)) = View.ld (codesV G A) (Rect.unit ![0, 1, 0, 1024] ![1, 1, 256, 512] inb_S1x2x256x5632_S1x1x256x512_0_1_0_1024) := by
  funext j
  idx_vars j
  pointwise [k0_pay127, codesV, DaMath.clip]

/-- What the kernel stores for chunk 3 of half 0 of the codes. -/
theorem code_0_3 (G : Vec Ideal S2x256x5632 .f32) (A : Fin 256 → EReal) :
    k0_pay128 (fun j => DaMath.inv (A (j 0))) (View.ld G (Rect.unit ![0, 0, 1536] ![1, 256, 512] inb_S2x256x5632_S1x256x512_0_0_1536)) = View.ld (codesV G A) (Rect.unit ![0, 0, 0, 1536] ![1, 1, 256, 512] inb_S1x2x256x5632_S1x1x256x512_0_0_0_1536) := by
  funext j
  idx_vars j
  pointwise [k0_pay128, codesV, DaMath.clip]

/-- What the kernel stores for chunk 3 of half 1 of the codes. -/
theorem code_1_3 (G : Vec Ideal S2x256x5632 .f32) (A : Fin 256 → EReal) :
    k0_pay129 (fun j => DaMath.inv (A (j 0))) (View.ld G (Rect.unit ![1, 0, 1536] ![1, 256, 512] inb_S2x256x5632_S1x256x512_1_0_1536)) = View.ld (codesV G A) (Rect.unit ![0, 1, 0, 1536] ![1, 1, 256, 512] inb_S1x2x256x5632_S1x1x256x512_0_1_0_1536) := by
  funext j
  idx_vars j
  pointwise [k0_pay129, codesV, DaMath.clip]

/-- What the kernel stores for chunk 4 of half 0 of the codes. -/
theorem code_0_4 (G : Vec Ideal S2x256x5632 .f32) (A : Fin 256 → EReal) :
    k0_pay130 (fun j => DaMath.inv (A (j 0))) (View.ld G (Rect.unit ![0, 0, 2048] ![1, 256, 512] inb_S2x256x5632_S1x256x512_0_0_2048)) = View.ld (codesV G A) (Rect.unit ![0, 0, 0, 2048] ![1, 1, 256, 512] inb_S1x2x256x5632_S1x1x256x512_0_0_0_2048) := by
  funext j
  idx_vars j
  pointwise [k0_pay130, codesV, DaMath.clip]

/-- What the kernel stores for chunk 4 of half 1 of the codes. -/
theorem code_1_4 (G : Vec Ideal S2x256x5632 .f32) (A : Fin 256 → EReal) :
    k0_pay132 (k0_pay131 (fun j => DaMath.inv (A (j 0))) (View.ld G (Rect.unit ![1, 0, 2048] ![1, 256, 512] inb_S2x256x5632_S1x256x512_1_0_2048))) = View.ld (codesV G A) (Rect.unit ![0, 1, 0, 2048] ![1, 1, 256, 512] inb_S1x2x256x5632_S1x1x256x512_0_1_0_2048) := by
  funext j
  idx_vars j
  pointwise [k0_pay131, k0_pay132, codesV, DaMath.clip]

/-- What the kernel stores for chunk 5 of half 0 of the codes. -/
theorem code_0_5 (G : Vec Ideal S2x256x5632 .f32) (A : Fin 256 → EReal) :
    k0_pay133 (fun j => DaMath.inv (A (j 0))) (View.ld G (Rect.unit ![0, 0, 2560] ![1, 256, 512] inb_S2x256x5632_S1x256x512_0_0_2560)) = View.ld (codesV G A) (Rect.unit ![0, 0, 0, 2560] ![1, 1, 256, 512] inb_S1x2x256x5632_S1x1x256x512_0_0_0_2560) := by
  funext j
  idx_vars j
  pointwise [k0_pay133, codesV, DaMath.clip]

/-- What the kernel stores for chunk 5 of half 1 of the codes. -/
theorem code_1_5 (G : Vec Ideal S2x256x5632 .f32) (A : Fin 256 → EReal) :
    k0_pay134 (fun j => DaMath.inv (A (j 0))) (View.ld G (Rect.unit ![1, 0, 2560] ![1, 256, 512] inb_S2x256x5632_S1x256x512_1_0_2560)) = View.ld (codesV G A) (Rect.unit ![0, 1, 0, 2560] ![1, 1, 256, 512] inb_S1x2x256x5632_S1x1x256x512_0_1_0_2560) := by
  funext j
  idx_vars j
  pointwise [k0_pay134, codesV, DaMath.clip]

/-- What the kernel stores for chunk 6 of half 0 of the codes. -/
theorem code_0_6 (G : Vec Ideal S2x256x5632 .f32) (A : Fin 256 → EReal) :
    k0_pay136 (k0_pay135 (fun j => DaMath.inv (A (j 0))) (View.ld G (Rect.unit ![0, 0, 3072] ![1, 256, 512] inb_S2x256x5632_S1x256x512_0_0_3072))) (FloatOps.ofBits FTy.f32 3344957440#32) (FloatOps.ofBits FTy.f32 1197473792#32) = View.ld (codesV G A) (Rect.unit ![0, 0, 0, 3072] ![1, 1, 256, 512] inb_S1x2x256x5632_S1x1x256x512_0_0_0_3072) := by
  funext j
  idx_vars j
  pointwise [k0_pay135, k0_pay136, codesV, DaMath.clip]

/-- What the kernel stores for chunk 6 of half 1 of the codes. -/
theorem code_1_6 (G : Vec Ideal S2x256x5632 .f32) (A : Fin 256 → EReal) :
    k0_pay137 (fun j => DaMath.inv (A (j 0))) (View.ld G (Rect.unit ![1, 0, 3072] ![1, 256, 512] inb_S2x256x5632_S1x256x512_1_0_3072)) = View.ld (codesV G A) (Rect.unit ![0, 1, 0, 3072] ![1, 1, 256, 512] inb_S1x2x256x5632_S1x1x256x512_0_1_0_3072) := by
  funext j
  idx_vars j
  pointwise [k0_pay137, codesV, DaMath.clip]

/-- What the kernel stores for chunk 7 of half 0 of the codes. -/
theorem code_0_7 (G : Vec Ideal S2x256x5632 .f32) (A : Fin 256 → EReal) :
    k0_pay138 (fun j => DaMath.inv (A (j 0))) (View.ld G (Rect.unit ![0, 0, 3584] ![1, 256, 512] inb_S2x256x5632_S1x256x512_0_0_3584)) = View.ld (codesV G A) (Rect.unit ![0, 0, 0, 3584] ![1, 1, 256, 512] inb_S1x2x256x5632_S1x1x256x512_0_0_0_3584) := by
  funext j
  idx_vars j
  pointwise [k0_pay138, codesV, DaMath.clip]

/-- What the kernel stores for chunk 7 of half 1 of the codes. -/
theorem code_1_7 (G : Vec Ideal S2x256x5632 .f32) (A : Fin 256 → EReal) :
    k0_pay139 (fun j => DaMath.inv (A (j 0))) (View.ld G (Rect.unit ![1, 0, 3584] ![1, 256, 512] inb_S2x256x5632_S1x256x512_1_0_3584)) = View.ld (codesV G A) (Rect.unit ![0, 1, 0, 3584] ![1, 1, 256, 512] inb_S1x2x256x5632_S1x1x256x512_0_1_0_3584) := by
  funext j
  idx_vars j
  pointwise [k0_pay139, codesV, DaMath.clip]

/-- What the kernel stores for chunk 8 of half 0 of the codes. -/
theorem code_0_8 (G : Vec Ideal S2x256x5632 .f32) (A : Fin 256 → EReal) :
    k0_pay140 (fun j => DaMath.inv (A (j 0))) (View.ld G (Rect.unit ![0, 0, 4096] ![1, 256, 512] inb_S2x256x5632_S1x256x512_0_0_4096)) = View.ld (codesV G A) (Rect.unit ![0, 0, 0, 4096] ![1, 1, 256, 512] inb_S1x2x256x5632_S1x1x256x512_0_0_0_4096) := by
  funext j
  idx_vars j
  pointwise [k0_pay140, codesV, DaMath.clip]

/-- What the kernel stores for chunk 8 of half 1 of the codes. -/
theorem code_1_8 (G : Vec Ideal S2x256x5632 .f32) (A : Fin 256 → EReal) :
    k0_pay142 (k0_pay141 (fun j => DaMath.inv (A (j 0))) (View.ld G (Rect.unit ![1, 0, 4096] ![1, 256, 512] inb_S2x256x5632_S1x256x512_1_0_4096))) = View.ld (codesV G A) (Rect.unit ![0, 1, 0, 4096] ![1, 1, 256, 512] inb_S1x2x256x5632_S1x1x256x512_0_1_0_4096) := by
  funext j
  idx_vars j
  pointwise [k0_pay141, k0_pay142, codesV, DaMath.clip]

/-- What the kernel stores for chunk 9 of half 0 of the codes. -/
theorem code_0_9 (G : Vec Ideal S2x256x5632 .f32) (A : Fin 256 → EReal) :
    k0_pay143 (fun j => DaMath.inv (A (j 0))) (View.ld G (Rect.unit ![0, 0, 4608] ![1, 256, 512] inb_S2x256x5632_S1x256x512_0_0_4608)) = View.ld (codesV G A) (Rect.unit ![0, 0, 0, 4608] ![1, 1, 256, 512] inb_S1x2x256x5632_S1x1x256x512_0_0_0_4608) := by
  funext j
  idx_vars j
  pointwise [k0_pay143, codesV, DaMath.clip]

/-- What the kernel stores for chunk 9 of half 1 of the codes. -/
theorem code_1_9 (G : Vec Ideal S2x256x5632 .f32) (A : Fin 256 → EReal) :
    k0_pay144 (fun j => DaMath.inv (A (j 0))) (View.ld G (Rect.unit ![1, 0, 4608] ![1, 256, 512] inb_S2x256x5632_S1x256x512_1_0_4608)) = View.ld (codesV G A) (Rect.unit ![0, 1, 0, 4608] ![1, 1, 256, 512] inb_S1x2x256x5632_S1x1x256x512_0_1_0_4608) := by
  funext j
  idx_vars j
  pointwise [k0_pay144, codesV, DaMath.clip]

/-- What the kernel stores for chunk 10 of half 0 of the codes. -/
theorem code_0_10 (G : Vec Ideal S2x256x5632 .f32) (A : Fin 256 → EReal) :
    k0_pay1 (k0_pay145 (fun j => DaMath.inv (A (j 0))) (View.ld G (Rect.unit ![0, 0, 5120] ![1, 256, 512] inb_S2x256x5632_S1x256x512_0_0_5120))) = View.ld (codesV G A) (Rect.unit ![0, 0, 0, 5120] ![1, 1, 256, 512] inb_S1x2x256x5632_S1x1x256x512_0_0_0_5120) := by
  funext j
  idx_vars j
  pointwise [k0_pay1, k0_pay145, codesV, DaMath.clip]

/-- What the kernel stores for chunk 10 of half 1 of the codes. -/
theorem code_1_10 (G : Vec Ideal S2x256x5632 .f32) (A : Fin 256 → EReal) :
    k0_pay2 (fun j => DaMath.inv (A (j 0))) (View.ld G (Rect.unit ![1, 0, 5120] ![1, 256, 512] inb_S2x256x5632_S1x256x512_1_0_5120)) = View.ld (codesV G A) (Rect.unit ![0, 1, 0, 5120] ![1, 1, 256, 512] inb_S1x2x256x5632_S1x1x256x512_0_1_0_5120) := by
  funext j
  idx_vars j
  pointwise [k0_pay2, codesV, DaMath.clip]

variable (V : (c : Dev nD) → (b : Ref sig .tc) → Buf (Elt Ideal) ((c : Thread nD τ).loc b))

/-- What a grid point leaves in its block of the scales. -/
theorem scale_out (c : Dev nD) (t : Fin cfg0.N) :
    (outsAt0 V c t).2 = (show FVec Ideal S256x1 .f32 from fun j => DaMath.scale (amaxB (iblk0 V c 0 t) (iblk0 V c 1 t) (iblk0 V c 2 t) (iblk0 V c 3 t) (iblk0 V c 4 t) (iblk0 V c 5 t) (j 0))) := by
  unfold outsAt0
  funext y
  frame_out
  simp only [lane_0, lane_1, lane_2, lane_3, lane_4, lane_5, lane_6, lane_7, lane_8, lane_9, amax_pay, top_pay, field_pay]
  rw [scale_pay _ _ fun _ => rfl]

/-- What a grid point leaves in its block of the codes. -/
theorem codes_out (c : Dev nD) (t : Fin cfg0.N) :
    (outsAt0 V c t).1 = codesV (daS (iblk0 V c 0 t) (iblk0 V c 1 t) (iblk0 V c 2 t) (iblk0 V c 3 t) (iblk0 V c 4 t) (iblk0 V c 5 t)) (amaxB (iblk0 V c 0 t) (iblk0 V c 1 t) (iblk0 V c 2 t) (iblk0 V c 3 t) (iblk0 V c 4 t) (iblk0 V c 5 t)) := by
  unfold outsAt0
  funext y
  frame_out
  simp only [lane_0, lane_1, lane_2, lane_3, lane_4, lane_5, lane_6, lane_7, lane_8, lane_9, scratch_0_0, scratch_1_0, scratch_0_1, scratch_1_1, scratch_0_2, scratch_1_2, scratch_0_3, scratch_1_3, scratch_0_4, scratch_1_4, scratch_0_5, scratch_1_5, scratch_0_6, scratch_1_6, scratch_0_7, scratch_1_7, scratch_0_8, scratch_1_8, scratch_0_9, scratch_1_9, scratch_0_10, scratch_1_10, amax_pay, top_pay, field_pay, inv_out]
  iterate 22 rw [read_scratch (daS (iblk0 V c 0 t) (iblk0 V c 1 t) (iblk0 V c 2 t) (iblk0 V c 3 t) (iblk0 V c 4 t) (iblk0 V c 5 t))]
  generalize daS (iblk0 V c 0 t) (iblk0 V c 1 t) (iblk0 V c 2 t) (iblk0 V c 3 t) (iblk0 V c 4 t) (iblk0 V c 5 t) = G
  generalize amaxB (iblk0 V c 0 t) (iblk0 V c 1 t) (iblk0 V c 2 t) (iblk0 V c 3 t) (iblk0 V c 4 t) (iblk0 V c 5 t) = A
  refine View.canon_apply_of_pieces (codesV G A) _ (View.PiecesOf.mem ?_) y (View.cover_of_tiledL _ ![1, 1, 256, 512] (by sl_kernel_rfl) y)
  exact ⟨congrFun (code_1_10 G A), congrFun (code_0_10 G A), congrFun (code_1_9 G A), congrFun (code_0_9 G A), congrFun (code_1_8 G A), congrFun (code_0_8 G A), congrFun (code_1_7 G A), congrFun (code_0_7 G A), congrFun (code_1_6 G A), congrFun (code_0_6 G A), congrFun (code_1_5 G A), congrFun (code_0_5 G A), congrFun (code_1_4 G A), congrFun (code_0_4 G A), congrFun (code_1_3 G A), congrFun (code_0_3 G A), congrFun (code_1_2 G A), congrFun (code_0_2 G A), congrFun (code_1_1 G A), congrFun (code_0_1 G A), congrFun (code_1_0 G A), congrFun (code_0_0 G A), trivial⟩

end Cert.GradIdeal.ValA
-- ==== Proof.GradAKer.lean ====
module

public import proofs.«01_k».proof.Proof.GradAOut
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.GradIdeal.ValA

open Cert.GradIdeal Cert.GradIdeal.Gen Idealize.ShloMosaic Idealize.ShloMosaic.TcCoe Idealize.SL.Sem
open Idealize.ShloMosaic.Pipeline (Dat)

/-- A token's scale, from the arrays the call is given. -/
def scaleAll (x0 : FVec Ideal S24576x2048 .fp8e5m2) (x1 : FVec Ideal S24576x1 .f32) (x2 : FVec Ideal S24576x1 .f32) (x3 : FVec Ideal S1x2048 .f32) (x4 : FVec Ideal S6x2x4096x5632 .fp8e4m3) (x5 : FVec Ideal S5632x2048 .fp8e4m3) (t : Fin 24576) : EReal :=
  DaMath.rowScale (fun k => x0 (ix2 t k)) (fun k => x3 (ix2 0 k)) (fun f k => x5 (ix2 f k)) (x1 (ix2 t 0)) (x2 (ix2 t 0)) (fun f => x4 (ix4 ⟨t.val / 4096, by omega⟩ 0 ⟨t.val % 4096, by omega⟩ f)) (fun f => x4 (ix4 ⟨t.val / 4096, by omega⟩ 1 ⟨t.val % 4096, by omega⟩ f))

/-- A token's codes, from the arrays the call is given. -/
def codeAll (x0 : FVec Ideal S24576x2048 .fp8e5m2) (x1 : FVec Ideal S24576x1 .f32) (x2 : FVec Ideal S24576x1 .f32) (x3 : FVec Ideal S1x2048 .f32) (x4 : FVec Ideal S6x2x4096x5632 .fp8e4m3) (x5 : FVec Ideal S5632x2048 .fp8e4m3) (t : Fin 24576) (q : ℕ) (f : Fin 5632) : EReal :=
  DaMath.rowCode (fun k => x0 (ix2 t k)) (fun k => x3 (ix2 0 k)) (fun f k => x5 (ix2 f k)) (x1 (ix2 t 0)) (x2 (ix2 t 0)) (fun f => x4 (ix4 ⟨t.val / 4096, by omega⟩ 0 ⟨t.val % 4096, by omega⟩ f)) (fun f => x4 (ix4 ⟨t.val / 4096, by omega⟩ 1 ⟨t.val % 4096, by omega⟩ f)) q f

/-- A block's maxima are its rows'. -/
theorem amaxB_eq (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) (r : Fin 256) :
    amaxB x0 x1 x2 x3 x4 x5 r = DaMath.rowMax (fun k => x0 (ix2 r k)) (fun k => x3 (ix2 0 k)) (fun f k => x5 (ix2 f k)) (x1 (ix2 r 0)) (x2 (ix2 r 0)) (fun f => x4 (ix4 0 0 r f)) (fun f => x4 (ix4 0 1 r f)) := rfl

/-- A block's gradient is its rows'. -/
theorem daS_eq (x0 : Vec Ideal S256x2048 .fp8e5m2) (x1 : Vec Ideal S256x1 .f32) (x2 : Vec Ideal S256x1 .f32) (x3 : Vec Ideal S1x2048 .f32) (x4 : Vec Ideal S1x2x256x5632 .fp8e4m3) (x5 : Vec Ideal S5632x2048 .fp8e4m3) (q : Fin 2) (r : Fin 256) (f : Fin 5632) :
    daS x0 x1 x2 x3 x4 x5 (ix3 q r f) = DaMath.rowDa (fun k => x0 (ix2 r k)) (fun k => x3 (ix2 0 k)) (fun f k => x5 (ix2 f k)) (x1 (ix2 r 0)) (x2 (ix2 r 0)) (fun f => x4 (ix4 0 0 r f)) (fun f => x4 (ix4 0 1 r f)) q.val f := rfl

variable (V : (c : Dev nD) → (b : Ref sig .tc) → Buf (Elt Ideal) ((c : Thread nD τ).loc b))

/-- Which blocks a grid point reads and writes. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![t.val / 16, 0, t.val % 16, 0]
    ∧ win0_5.index t = ![0, 0]
    ∧ win0_6.index t = ![t.val / 16, 0, t.val % 16, 0]
    ∧ win0_7.index t = ![t.val, 0] :=
  (by decide +kernel : ∀ t : Fin grid0.N, _)

/-- A grid point's block of codes is its 256 rows of the whole. -/
theorem code_blk (c : Dev nD) (t : Fin cfg0.N) (r : Fin 256) (q : ℕ) (f : Fin 5632) (hr : t.val * 256 + r.val < 24576) :
    DaMath.rowCode (fun k => (show FVec Ideal S256x2048 .fp8e5m2 from iblk0 V c 0 t) (ix2 r k)) (fun k => (show FVec Ideal S1x2048 .f32 from iblk0 V c 3 t) (ix2 0 k)) (fun f k => (show FVec Ideal S5632x2048 .fp8e4m3 from iblk0 V c 5 t) (ix2 f k)) ((show FVec Ideal S256x1 .f32 from iblk0 V c 1 t) (ix2 r 0)) ((show FVec Ideal S256x1 .f32 from iblk0 V c 2 t) (ix2 r 0)) (fun f => (show FVec Ideal S1x2x256x5632 .fp8e4m3 from iblk0 V c 4 t) (ix4 0 0 r f)) (fun f => (show FVec Ideal S1x2x256x5632 .fp8e4m3 from iblk0 V c 4 t) (ix4 0 1 r f)) q f
      = codeAll (V c main_v0) (V c main_v8) (V c main_v9) (V c main_v10) (V c main_v2) (V c main_arg12) ⟨t.val * 256 + r.val, hr⟩ q f := by
  have e0 : (fun k => (show FVec Ideal S256x2048 .fp8e5m2 from iblk0 V c 0 t) (ix2 r k)) = fun k : Fin 2048 => (show FVec Ideal S24576x2048 .fp8e5m2 from V c main_v0) (ix2 ⟨t.val * 256 + r.val, hr⟩ k) := by
    funext k
    blk_point [iblk0, idx t]
  have e1 : (show FVec Ideal S256x1 .f32 from iblk0 V c 1 t) (ix2 r 0) = (show FVec Ideal S24576x1 .f32 from V c main_v8) (ix2 ⟨t.val * 256 + r.val, hr⟩ 0) := by
    blk_point [iblk0, idx t]
  have e2 : (show FVec Ideal S256x1 .f32 from iblk0 V c 2 t) (ix2 r 0) = (show FVec Ideal S24576x1 .f32 from V c main_v9) (ix2 ⟨t.val * 256 + r.val, hr⟩ 0) := by
    blk_point [iblk0, idx t]
  have e3 : (fun k => (show FVec Ideal S1x2048 .f32 from iblk0 V c 3 t) (ix2 0 k)) = fun k : Fin 2048 => (show FVec Ideal S1x2048 .f32 from V c main_v10) (ix2 0 k) := by
    funext k
    blk_point [iblk0, idx t]
  have e4 : (fun f => (show FVec Ideal S1x2x256x5632 .fp8e4m3 from iblk0 V c 4 t) (ix4 0 0 r f)) = fun f : Fin 5632 => (show FVec Ideal S6x2x4096x5632 .fp8e4m3 from V c main_v2) (ix4 ⟨(t.val * 256 + r.val) / 4096, by omega⟩ 0 ⟨(t.val * 256 + r.val) % 4096, by omega⟩ f) := by
    funext k
    blk_point [iblk0, idx t]
  have e4' : (fun f => (show FVec Ideal S1x2x256x5632 .fp8e4m3 from iblk0 V c 4 t) (ix4 0 1 r f)) = fun f : Fin 5632 => (show FVec Ideal S6x2x4096x5632 .fp8e4m3 from V c main_v2) (ix4 ⟨(t.val * 256 + r.val) / 4096, by omega⟩ 1 ⟨(t.val * 256 + r.val) % 4096, by omega⟩ f) := by
    funext k
    blk_point [iblk0, idx t]
  have e5 : (fun f k => (show FVec Ideal S5632x2048 .fp8e4m3 from iblk0 V c 5 t) (ix2 f k)) = fun (f : Fin 5632) (k : Fin 2048) => (show FVec Ideal S5632x2048 .fp8e4m3 from V c main_arg12) (ix2 f k) := by
    funext f k
    blk_point [iblk0, idx t]
  rw [e0, e1, e2, e3, e4, e4', e5]
  rfl

/-- A grid point's block of scales is its 256 rows of the whole. -/
theorem scale_blk (c : Dev nD) (t : Fin cfg0.N) (r : Fin 256) (hr : t.val * 256 + r.val < 24576) :
    DaMath.rowScale (fun k => (show FVec Ideal S256x2048 .fp8e5m2 from iblk0 V c 0 t) (ix2 r k)) (fun k => (show FVec Ideal S1x2048 .f32 from iblk0 V c 3 t) (ix2 0 k)) (fun f k => (show FVec Ideal S5632x2048 .fp8e4m3 from iblk0 V c 5 t) (ix2 f k)) ((show FVec Ideal S256x1 .f32 from iblk0 V c 1 t) (ix2 r 0)) ((show FVec Ideal S256x1 .f32 from iblk0 V c 2 t) (ix2 r 0)) (fun f => (show FVec Ideal S1x2x256x5632 .fp8e4m3 from iblk0 V c 4 t) (ix4 0 0 r f)) (fun f => (show FVec Ideal S1x2x256x5632 .fp8e4m3 from iblk0 V c 4 t) (ix4 0 1 r f))
      = scaleAll (V c main_v0) (V c main_v8) (V c main_v9) (V c main_v10) (V c main_v2) (V c main_arg12) ⟨t.val * 256 + r.val, hr⟩ := by
  have e0 : (fun k => (show FVec Ideal S256x2048 .fp8e5m2 from iblk0 V c 0 t) (ix2 r k)) = fun k : Fin 2048 => (show FVec Ideal S24576x2048 .fp8e5m2 from V c main_v0) (ix2 ⟨t.val * 256 + r.val, hr⟩ k) := by
    funext k
    blk_point [iblk0, idx t]
  have e1 : (show FVec Ideal S256x1 .f32 from iblk0 V c 1 t) (ix2 r 0) = (show FVec Ideal S24576x1 .f32 from V c main_v8) (ix2 ⟨t.val * 256 + r.val, hr⟩ 0) := by
    blk_point [iblk0, idx t]
  have e2 : (show FVec Ideal S256x1 .f32 from iblk0 V c 2 t) (ix2 r 0) = (show FVec Ideal S24576x1 .f32 from V c main_v9) (ix2 ⟨t.val * 256 + r.val, hr⟩ 0) := by
    blk_point [iblk0, idx t]
  have e3 : (fun k => (show FVec Ideal S1x2048 .f32 from iblk0 V c 3 t) (ix2 0 k)) = fun k : Fin 2048 => (show FVec Ideal S1x2048 .f32 from V c main_v10) (ix2 0 k) := by
    funext k
    blk_point [iblk0, idx t]
  have e4 : (fun f => (show FVec Ideal S1x2x256x5632 .fp8e4m3 from iblk0 V c 4 t) (ix4 0 0 r f)) = fun f : Fin 5632 => (show FVec Ideal S6x2x4096x5632 .fp8e4m3 from V c main_v2) (ix4 ⟨(t.val * 256 + r.val) / 4096, by omega⟩ 0 ⟨(t.val * 256 + r.val) % 4096, by omega⟩ f) := by
    funext k
    blk_point [iblk0, idx t]
  have e4' : (fun f => (show FVec Ideal S1x2x256x5632 .fp8e4m3 from iblk0 V c 4 t) (ix4 0 1 r f)) = fun f : Fin 5632 => (show FVec Ideal S6x2x4096x5632 .fp8e4m3 from V c main_v2) (ix4 ⟨(t.val * 256 + r.val) / 4096, by omega⟩ 1 ⟨(t.val * 256 + r.val) % 4096, by omega⟩ f) := by
    funext k
    blk_point [iblk0, idx t]
  have e5 : (fun f k => (show FVec Ideal S5632x2048 .fp8e4m3 from iblk0 V c 5 t) (ix2 f k)) = fun (f : Fin 5632) (k : Fin 2048) => (show FVec Ideal S5632x2048 .fp8e4m3 from V c main_arg12) (ix2 f k) := by
    funext f k
    blk_point [iblk0, idx t]
  rw [e0, e1, e2, e3, e4, e4', e5]
  rfl

/-- The kernel's array of codes, from the arrays the call is given. -/
theorem final_codes (c : Dev nD) : (dat0 V c).arrAt 6 cfg0.N
    = (show FVec Ideal S6x2x4096x5632 .fp8e5m2 from fun j => codeAll (V c main_v0) (V c main_v8) (V c main_v9) (V c main_v10) (V c main_v2) (V c main_arg12) ⟨(j 0).val * 4096 + (j 2).val, by
        have h0 : (j 0).val < 6 := (j 0).isLt
        have h2 : (j 2).val < 4096 := (j 2).isLt
        omega⟩ (j 1).val (j 3)) := by
  refine (dat0 V c).arrAt_eq_of_covers 6 _ (by decide +kernel) fun t hf y => ?_
  blk_simp
  have h0 : t.val < 96 := t.isLt
  have h1 : (y 2).val < 256 := (y 2).isLt
  have hr : t.val * 256 + (y 2).val < 24576 := by omega
  have i0 : win0_6.index t 0 = t.val / 16 := congrFun (idx t).2.2.2.2.2.2.1 0
  have i1 : win0_6.index t 1 = 0 := congrFun (idx t).2.2.2.2.2.2.1 1
  have i2 : win0_6.index t 2 = t.val % 16 := congrFun (idx t).2.2.2.2.2.2.1 2
  have e3 : (win0_6.blk t).view.emb y 3 = (y 3 : Fin 5632) := Fin.ext (by blk_point [idx t])
  rw [after0_6, codes_out V c t]
  refine (code_blk V c t (y 2) (y 1).val (y 3) hr).trans ?_
  rw [e3]
  have key : ∀ (a b : Fin 24576) (p q : ℕ) (f : Fin 5632), a.val = b.val → p = q →
      codeAll (V c main_v0) (V c main_v8) (V c main_v9) (V c main_v10) (V c main_v2) (V c main_arg12) a p f = codeAll (V c main_v0) (V c main_v8) (V c main_v9) (V c main_v10) (V c main_v2) (V c main_arg12) b q f := by
    intro a b p q f h h'
    rw [Fin.ext h, h']
  exact key _ _ _ _ _ (by dsimp only; rw [i0, i2]; omega) (by rw [i1]; omega)

/-- The kernel's array of scales, from the arrays the call is given. -/
theorem final_scale (c : Dev nD) : (dat0 V c).arrAt 7 cfg0.N
    = (show FVec Ideal S24576x1 .f32 from fun j => scaleAll (V c main_v0) (V c main_v8) (V c main_v9) (V c main_v10) (V c main_v2) (V c main_arg12) (j 0)) := by
  refine (dat0 V c).arrAt_eq_of_covers 7 _ (by decide +kernel) fun t hf y => ?_
  blk_simp
  have hr : t.val * 256 + (y 0).val < 24576 := by
    have h0 : t.val < 96 := t.isLt
    have h1 : (y 0).val < 256 := (y 0).isLt
    omega
  have e0 : (win0_7.blk t).view.emb y 0 = (⟨t.val * 256 + (y 0).val, hr⟩ : Fin 24576) := Fin.ext (by blk_point [idx t])
  rw [after0_7, scale_out V c t, e0]
  exact scale_blk V c t (y 0) hr

end Cert.GradIdeal.ValA
-- ==== Proof.GradBPay.lean ====
module

public import proofs.«01_k».proof.Proof.Gen.GradIdeal.Skeleton
public import proofs.«01_k».proof.Proof.DhMath
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.GradIdeal.ValB

open Cert.GradIdeal Cert.GradIdeal.Gen Idealize.ShloMosaic Idealize.ShloMosaic.TcCoe Idealize.SL.Sem
open Idealize.ShloMosaic.Pipeline (Dat)

/-- A block's gradient through the MLP branch: the codes times the weights, both halves and all columns, times the row's scale. -/
def mlp (x0 : Vec Ideal S1x2x256x5632 .fp8e5m2) (x1 : Vec Ideal S256x1 .f32) (x10 : Vec Ideal S2x2048x5632 .fp8e4m3) (x12 : Vec Ideal S2x5632 .f32) : FVec Ideal S256x2048 .f32 :=
  fun j => (∑ q : Fin 2, ∑ f : Fin 5632, (x0 (ix4 0 q (j 0) f) * x12 (ix2 q f)) * x10 (ix3 q (j 1) f)) * x1 (ix2 (j 0) 0)

/-- A block's gradient at the layer's normalised input: the MLP branch plus the attention branch. -/
def dh (x0 : Vec Ideal S1x2x256x5632 .fp8e5m2) (x1 : Vec Ideal S256x1 .f32) (x10 : Vec Ideal S2x2048x5632 .fp8e4m3) (x12 : Vec Ideal S2x5632 .f32) (x2 : Vec Ideal S1x6144x256 .fp8e5m2) (x3 : Vec Ideal S256x1 .f32) (x11 : Vec Ideal S6144x2048 .fp8e4m3) (x13 : Vec Ideal S6144x1 .f32) : FVec Ideal S256x2048 .f32 :=
  fun j => mlp x0 x1 x10 x12 j + (∑ e : Fin 6144, (x2 (ix3 0 e (j 0)) * x13 (ix2 e 0)) * x11 (ix2 e (j 1))) * x3 (ix2 (j 0) 0)

/-- The 22 products of the MLP branch, chunk by chunk, add up to the whole sum. -/
theorem mlp_eq (x0 : Vec Ideal S1x2x256x5632 .fp8e5m2) (x1 : Vec Ideal S256x1 .f32) (x10 : Vec Ideal S2x2048x5632 .fp8e4m3) (x12 : Vec Ideal S2x5632 .f32) :
    k1_pay16 (k1_pay14 (k1_pay12 (k1_pay11 (k1_pay8 (k1_pay6 (k1_pay5 (k1_pay3 (k1_pay1 (View.ld x0 (Rect.unit ![0, 0, 0, 0] ![1, 1, 256, 512] inb_S1x2x256x5632_S1x1x256x512_0_0_0_0)) (View.ld x12 (Rect.unit ![0, 0] ![1, 512] inb_S2x5632_S1x512_0_0)) (View.ld x10 (Rect.unit ![0, 0, 0] ![1, 2048, 512] inb_S2x2048x5632_S1x2048x512_0_0_0)) (View.ld x0 (Rect.unit ![0, 0, 0, 512] ![1, 1, 256, 512] inb_S1x2x256x5632_S1x1x256x512_0_0_0_512)) (View.ld x12 (Rect.unit ![0, 512] ![1, 512] inb_S2x5632_S1x512_0_512)) (View.ld x10 (Rect.unit ![0, 0, 512] ![1, 2048, 512] inb_S2x2048x5632_S1x2048x512_0_0_512))) (k1_pay2 (View.ld x0 (Rect.unit ![0, 0, 0, 1024] ![1, 1, 256, 512] inb_S1x2x256x5632_S1x1x256x512_0_0_0_1024)) (View.ld x12 (Rect.unit ![0, 1024] ![1, 512] inb_S2x5632_S1x512_0_1024))) (View.ld x10 (Rect.unit ![0, 0, 1024] ![1, 2048, 512] inb_S2x2048x5632_S1x2048x512_0_0_1024)) (View.ld x0 (Rect.unit ![0, 0, 0, 1536] ![1, 1, 256, 512] inb_S1x2x256x5632_S1x1x256x512_0_0_0_1536)) (View.ld x12 (Rect.unit ![0, 1536] ![1, 512] inb_S2x5632_S1x512_0_1536)) (View.ld x10 (Rect.unit ![0, 0, 1536] ![1, 2048, 512] inb_S2x2048x5632_S1x2048x512_0_0_1536)) (View.ld x0 (Rect.unit ![0, 0, 0, 2048] ![1, 1, 256, 512] inb_S1x2x256x5632_S1x1x256x512_0_0_0_2048)) (View.ld x12 (Rect.unit ![0, 2048] ![1, 512] inb_S2x5632_S1x512_0_2048)) (View.ld x10 (Rect.unit ![0, 0, 2048] ![1, 2048, 512] inb_S2x2048x5632_S1x2048x512_0_0_2048))) (k1_pay4 (View.ld x0 (Rect.unit ![0, 0, 0, 2560] ![1, 1, 256, 512] inb_S1x2x256x5632_S1x1x256x512_0_0_0_2560))) (View.ld x12 (Rect.unit ![0, 2560] ![1, 512] inb_S2x5632_S1x512_0_2560)) (View.ld x10 (Rect.unit ![0, 0, 2560] ![1, 2048, 512] inb_S2x2048x5632_S1x2048x512_0_0_2560)) (View.ld x0 (Rect.unit ![0, 0, 0, 3072] ![1, 1, 256, 512] inb_S1x2x256x5632_S1x1x256x512_0_0_0_3072)) (View.ld x12 (Rect.unit ![0, 3072] ![1, 512] inb_S2x5632_S1x512_0_3072)) (View.ld x10 (Rect.unit ![0, 0, 3072] ![1, 2048, 512] inb_S2x2048x5632_S1x2048x512_0_0_3072)) (View.ld x0 (Rect.unit ![0, 0, 0, 3584] ![1, 1, 256, 512] inb_S1x2x256x5632_S1x1x256x512_0_0_0_3584)) (View.ld x12 (Rect.unit ![0, 3584] ![1, 512] inb_S2x5632_S1x512_0_3584)) (View.ld x10 (Rect.unit ![0, 0, 3584] ![1, 2048, 512] inb_S2x2048x5632_S1x2048x512_0_0_3584))) (View.ld x0 (Rect.unit ![0, 0, 0, 4096] ![1, 1, 256, 512] inb_S1x2x256x5632_S1x1x256x512_0_0_0_4096)) (View.ld x12 (Rect.unit ![0, 4096] ![1, 512] inb_S2x5632_S1x512_0_4096)) (View.ld x10 (Rect.unit ![0, 0, 4096] ![1, 2048, 512] inb_S2x2048x5632_S1x2048x512_0_0_4096)) (View.ld x0 (Rect.unit ![0, 0, 0, 4608] ![1, 1, 256, 512] inb_S1x2x256x5632_S1x1x256x512_0_0_0_4608)) (View.ld x12 (Rect.unit ![0, 4608] ![1, 512] inb_S2x5632_S1x512_0_4608)) (View.ld x10 (Rect.unit ![0, 0, 4608] ![1, 2048, 512] inb_S2x2048x5632_S1x2048x512_0_0_4608))) (k1_pay7 (View.ld x0 (Rect.unit ![0, 0, 0, 5120] ![1, 1, 256, 512] inb_S1x2x256x5632_S1x1x256x512_0_0_0_5120)) (View.ld x12 (Rect.unit ![0, 5120] ![1, 512] inb_S2x5632_S1x512_0_5120))) (View.ld x10 (Rect.unit ![0, 0, 5120] ![1, 2048, 512] inb_S2x2048x5632_S1x2048x512_0_0_5120)) (View.ld x0 (Rect.unit ![0, 1, 0, 0] ![1, 1, 256, 512] inb_S1x2x256x5632_S1x1x256x512_0_1_0_0)) (View.ld x12 (Rect.unit ![1, 0] ![1, 512] inb_S2x5632_S1x512_1_0)) (View.ld x10 (Rect.unit ![1, 0, 0] ![1, 2048, 512] inb_S2x2048x5632_S1x2048x512_1_0_0)) (View.ld x0 (Rect.unit ![0, 1, 0, 512] ![1, 1, 256, 512] inb_S1x2x256x5632_S1x1x256x512_0_1_0_512)) (View.ld x12 (Rect.unit ![1, 512] ![1, 512] inb_S2x5632_S1x512_1_512)) (View.ld x10 (Rect.unit ![1, 0, 512] ![1, 2048, 512] inb_S2x2048x5632_S1x2048x512_1_0_512))) (k1_pay9 (View.ld x0 (Rect.unit ![0, 1, 0, 1024] ![1, 1, 256, 512] inb_S1x2x256x5632_S1x1x256x512_0_1_0_1024))) (k1_pay10 (View.ld x12 (Rect.unit ![1, 1024] ![1, 512] inb_S2x5632_S1x512_1_1024))) (View.ld x10 (Rect.unit ![1, 0, 1024] ![1, 2048, 512] inb_S2x2048x5632_S1x2048x512_1_0_1024)) (View.ld x0 (Rect.unit ![0, 1, 0, 1536] ![1, 1, 256, 512] inb_S1x2x256x5632_S1x1x256x512_0_1_0_1536)) (View.ld x12 (Rect.unit ![1, 1536] ![1, 512] inb_S2x5632_S1x512_1_1536)) (View.ld x10 (Rect.unit ![1, 0, 1536] ![1, 2048, 512] inb_S2x2048x5632_S1x2048x512_1_0_1536)) (View.ld x0 (Rect.unit ![0, 1, 0, 2048] ![1, 1, 256, 512] inb_S1x2x256x5632_S1x1x256x512_0_1_0_2048)) (View.ld x12 (Rect.unit ![1, 2048] ![1, 512] inb_S2x5632_S1x512_1_2048)) (View.ld x10 (Rect.unit ![1, 0, 2048] ![1, 2048, 512] inb_S2x2048x5632_S1x2048x512_1_0_2048))) (View.ld x0 (Rect.unit ![0, 1, 0, 2560] ![1, 1, 256, 512] inb_S1x2x256x5632_S1x1x256x512_0_1_0_2560)) (View.ld x12 (Rect.unit ![1, 2560] ![1, 512] inb_S2x5632_S1x512_1_2560)) (View.ld x10 (Rect.unit ![1, 0, 2560] ![1, 2048, 512] inb_S2x2048x5632_S1x2048x512_1_0_2560)) (View.ld x0 (Rect.unit ![0, 1, 0, 3072] ![1, 1, 256, 512] inb_S1x2x256x5632_S1x1x256x512_0_1_0_3072)) (View.ld x12 (Rect.unit ![1, 3072] ![1, 512] inb_S2x5632_S1x512_1_3072)) (View.ld x10 (Rect.unit ![1, 0, 3072] ![1, 2048, 512] inb_S2x2048x5632_S1x2048x512_1_0_3072))) (k1_pay13 (View.ld x0 (Rect.unit ![0, 1, 0, 3584] ![1, 1, 256, 512] inb_S1x2x256x5632_S1x1x256x512_0_1_0_3584)) (View.ld x12 (Rect.unit ![1, 3584] ![1, 512] inb_S2x5632_S1x512_1_3584)) (View.ld x10 (Rect.unit ![1, 0, 3584] ![1, 2048, 512] inb_S2x2048x5632_S1x2048x512_1_0_3584))) (View.ld x0 (Rect.unit ![0, 1, 0, 4096] ![1, 1, 256, 512] inb_S1x2x256x5632_S1x1x256x512_0_1_0_4096)) (View.ld x12 (Rect.unit ![1, 4096] ![1, 512] inb_S2x5632_S1x512_1_4096)) (View.ld x10 (Rect.unit ![1, 0, 4096] ![1, 2048, 512] inb_S2x2048x5632_S1x2048x512_1_0_4096)) (View.ld x0 (Rect.unit ![0, 1, 0, 4608] ![1, 1, 256, 512] inb_S1x2x256x5632_S1x1x256x512_0_1_0_4608)) (View.ld x12 (Rect.unit ![1, 4608] ![1, 512] inb_S2x5632_S1x512_1_4608)) (View.ld x10 (Rect.unit ![1, 0, 4608] ![1, 2048, 512] inb_S2x2048x5632_S1x2048x512_1_0_4608))) (k1_pay15 (View.ld x0 (Rect.unit ![0, 1, 0, 5120] ![1, 1, 256, 512] inb_S1x2x256x5632_S1x1x256x512_0_1_0_5120)) (View.ld x12 (Rect.unit ![1, 5120] ![1, 512] inb_S2x5632_S1x512_1_5120))) (View.ld x10 (Rect.unit ![1, 0, 5120] ![1, 2048, 512] inb_S2x2048x5632_S1x2048x512_1_0_5120)) x1 = mlp x0 x1 x10 x12 := by
  funext j
  idx_vars j
  pointwise [k1_pay1, k1_pay2, k1_pay3, k1_pay4, k1_pay5, k1_pay6, k1_pay7, k1_pay8, k1_pay9, k1_pay10, k1_pay11, k1_pay12, k1_pay13, k1_pay14, k1_pay15, k1_pay16, mlp]
  rw [Fin.sum_univ_two, DhMath.sum_11, DhMath.sum_11]
  simp only [add_assoc]

/-- The 12 products of the attention branch, chunk by chunk, add up to the whole sum. -/
theorem dh_eq (x0 : Vec Ideal S1x2x256x5632 .fp8e5m2) (x1 : Vec Ideal S256x1 .f32) (x10 : Vec Ideal S2x2048x5632 .fp8e4m3) (x12 : Vec Ideal S2x5632 .f32) (x2 : Vec Ideal S1x6144x256 .fp8e5m2) (x3 : Vec Ideal S256x1 .f32) (x11 : Vec Ideal S6144x2048 .fp8e4m3) (x13 : Vec Ideal S6144x1 .f32) :
    k1_pay24 (mlp x0 x1 x10 x12) (k1_pay22 (k1_pay19 (k1_pay18 (k1_pay17 (View.ld x2 (Rect.unit ![0, 0, 0] ![1, 512, 256] inb_S1x6144x256_S1x512x256_0_0_0)) (View.ld x13 (Rect.unit ![0, 0] ![512, 1] inb_S6144x1_S512x1_0_0)) (View.ld x11 (Rect.unit ![0, 0] ![512, 2048] inb_S6144x2048_S512x2048_0_0)) (View.ld x2 (Rect.unit ![0, 512, 0] ![1, 512, 256] inb_S1x6144x256_S1x512x256_0_512_0)) (View.ld x13 (Rect.unit ![512, 0] ![512, 1] inb_S6144x1_S512x1_512_0)) (View.ld x11 (Rect.unit ![512, 0] ![512, 2048] inb_S6144x2048_S512x2048_512_0))) (View.ld x2 (Rect.unit ![0, 1024, 0] ![1, 512, 256] inb_S1x6144x256_S1x512x256_0_1024_0)) (View.ld x13 (Rect.unit ![1024, 0] ![512, 1] inb_S6144x1_S512x1_1024_0)) (View.ld x11 (Rect.unit ![1024, 0] ![512, 2048] inb_S6144x2048_S512x2048_1024_0)) (View.ld x2 (Rect.unit ![0, 1536, 0] ![1, 512, 256] inb_S1x6144x256_S1x512x256_0_1536_0)) (View.ld x13 (Rect.unit ![1536, 0] ![512, 1] inb_S6144x1_S512x1_1536_0)) (View.ld x11 (Rect.unit ![1536, 0] ![512, 2048] inb_S6144x2048_S512x2048_1536_0)) (View.ld x2 (Rect.unit ![0, 2048, 0] ![1, 512, 256] inb_S1x6144x256_S1x512x256_0_2048_0)) (View.ld x13 (Rect.unit ![2048, 0] ![512, 1] inb_S6144x1_S512x1_2048_0)) (View.ld x11 (Rect.unit ![2048, 0] ![512, 2048] inb_S6144x2048_S512x2048_2048_0))) (View.ld x2 (Rect.unit ![0, 2560, 0] ![1, 512, 256] inb_S1x6144x256_S1x512x256_0_2560_0)) (View.ld x13 (Rect.unit ![2560, 0] ![512, 1] inb_S6144x1_S512x1_2560_0)) (View.ld x11 (Rect.unit ![2560, 0] ![512, 2048] inb_S6144x2048_S512x2048_2560_0)) (View.ld x2 (Rect.unit ![0, 3072, 0] ![1, 512, 256] inb_S1x6144x256_S1x512x256_0_3072_0)) (View.ld x13 (Rect.unit ![3072, 0] ![512, 1] inb_S6144x1_S512x1_3072_0)) (View.ld x11 (Rect.unit ![3072, 0] ![512, 2048] inb_S6144x2048_S512x2048_3072_0))) (k1_pay20 (View.ld x2 (Rect.unit ![0, 3584, 0] ![1, 512, 256] inb_S1x6144x256_S1x512x256_0_3584_0)) (View.ld x13 (Rect.unit ![3584, 0] ![512, 1] inb_S6144x1_S512x1_3584_0))) (k1_pay21 (View.ld x11 (Rect.unit ![3584, 0] ![512, 2048] inb_S6144x2048_S512x2048_3584_0))) (View.ld x2 (Rect.unit ![0, 4096, 0] ![1, 512, 256] inb_S1x6144x256_S1x512x256_0_4096_0)) (View.ld x13 (Rect.unit ![4096, 0] ![512, 1] inb_S6144x1_S512x1_4096_0)) (View.ld x11 (Rect.unit ![4096, 0] ![512, 2048] inb_S6144x2048_S512x2048_4096_0)) (View.ld x2 (Rect.unit ![0, 4608, 0] ![1, 512, 256] inb_S1x6144x256_S1x512x256_0_4608_0)) (View.ld x13 (Rect.unit ![4608, 0] ![512, 1] inb_S6144x1_S512x1_4608_0)) (View.ld x11 (Rect.unit ![4608, 0] ![512, 2048] inb_S6144x2048_S512x2048_4608_0))) (k1_pay23 (View.ld x2 (Rect.unit ![0, 5120, 0] ![1, 512, 256] inb_S1x6144x256_S1x512x256_0_5120_0)) (View.ld x13 (Rect.unit ![5120, 0] ![512, 1] inb_S6144x1_S512x1_5120_0))) (View.ld x11 (Rect.unit ![5120, 0] ![512, 2048] inb_S6144x2048_S512x2048_5120_0)) (View.ld x2 (Rect.unit ![0, 5632, 0] ![1, 512, 256] inb_S1x6144x256_S1x512x256_0_5632_0)) (View.ld x13 (Rect.unit ![5632, 0] ![512, 1] inb_S6144x1_S512x1_5632_0)) (View.ld x11 (Rect.unit ![5632, 0] ![512, 2048] inb_S6144x2048_S512x2048_5632_0)) x3 = dh x0 x1 x10 x12 x2 x3 x11 x13 := by
  funext j
  idx_vars j
  pointwise [k1_pay17, k1_pay18, k1_pay19, k1_pay20, k1_pay21, k1_pay22, k1_pay23, k1_pay24, dh]
  rw [DhMath.sum_12]

/-- One block's contribution to the gradient of gamma: the column sums of the gradient times the normalised input. -/
theorem dgamma_pay (a b : FVec Ideal S256x2048 .f32) (c : FVec Ideal S512x256 .bf16) (d : Vec Ideal S512x2048 .fp8e4m3) (e : Vec Ideal S1x512x256 .fp8e5m2) (f : Vec Ideal S512x1 .f32) (g : Vec Ideal S512x2048 .fp8e4m3) (h : Vec Ideal S256x1 .f32)
    (x4 : Vec Ideal S256x2048 .fp8e4m3) (x5 : Vec Ideal S256x1 .f32) (p : Vec Ideal S1x2048 .f32) (j : S1x2048.Idx) :
    k1_pay27 a b c d e f g h x4 x5 p j = p j + ∑ r : Fin 256, k1_pay24 a b c d e f g h (ix2 r (j 1)) * (x4 (ix2 r (j 1)) * x5 (ix2 r 0)) := by
  idx_vars j
  pointwise [k1_pay27, k1_pay25]

/-- The accumulator of gamma's gradient starts at zero. -/
theorem dgamma_zero (j : S1x2048.Idx) : (k1_pay26 (F := Ideal) : FVec Ideal S1x2048 .f32) j = 0 := by pointwise [k1_pay26]

/-- What a block's rows of the input's gradient are, from the gradient at the normalised input. -/
theorem dx_pay (v : FVec Ideal S256x2048 .f32) (x4 : Vec Ideal S256x2048 .fp8e4m3) (x5 : Vec Ideal S256x1 .f32) (g : Vec Ideal S1x2048 .f32) (rs : Vec Ideal S256x1 .f32) (dy : Vec Ideal S256x2048 .fp8e5m2) (dys : Vec Ideal S256x1 .f32) (j : S256x2048.Idx) :
    (k1_pay28 (F := Ideal) v (k1_pay25 x4 x5) g rs dy dys j : EReal)
      = dy (ix2 (j 0) (j 1)) * dys (ix2 (j 0) 0) + rs (ix2 (j 0) 0) * (v (ix2 (j 0) (j 1)) * g (ix2 0 (j 1))
        - Ideal.div (∑ x : Fin 2048, v (ix2 (j 0) x) * g (ix2 0 x)) (Ideal.ofBits FTy.f32 1157627904#32)
        - x4 (ix2 (j 0) (j 1)) * x5 (ix2 (j 0) 0) * Ideal.div (∑ x : Fin 2048, v (ix2 (j 0) x) * g (ix2 0 x) * (x4 (ix2 (j 0) x) * x5 (ix2 (j 0) 0)))
            (Ideal.ofBits FTy.f32 1157627904#32)) := by
  idx_vars j
  pointwise [k1_pay28, k1_pay25]

end Cert.GradIdeal.ValB

end
-- ==== Proof.GradBKer.lean ====
module

public import proofs.«01_k».proof.Proof.Gen.GradIdeal.Frame
public import proofs.«01_k».proof.Proof.GradBPay
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.GradIdeal.ValB

open Cert.GradIdeal Cert.GradIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Which blocks a grid point reads and writes. -/
theorem idx : ∀ t : Fin cfg1.N, win1_0.index t = ![t.val / 16, 0, t.val % 16, 0]
    ∧ win1_1.index t = ![t.val, 0]
    ∧ win1_2.index t = ![t.val / 16, 0, t.val % 16]
    ∧ win1_3.index t = ![t.val, 0]
    ∧ win1_4.index t = ![t.val, 0]
    ∧ win1_5.index t = ![t.val, 0]
    ∧ win1_6.index t = ![t.val, 0]
    ∧ win1_7.index t = ![t.val, 0]
    ∧ win1_8.index t = ![t.val, 0]
    ∧ win1_9.index t = ![0, 0]
    ∧ win1_10.index t = ![0, 0, 0]
    ∧ win1_11.index t = ![0, 0]
    ∧ win1_12.index t = ![0, 0]
    ∧ win1_13.index t = ![0, 0]
    ∧ win1_14.index t = ![t.val, 0]
    ∧ win1_15.index t = ![0, 0] :=
  (by decide +kernel : ∀ t : Fin grid1.N, _)

/-- The gradient at the normalised input for all tokens, from the kernel's own arrays. -/
def dhAll (x0 : FVec Ideal S6x2x4096x5632 .fp8e5m2) (x1 : FVec Ideal S24576x1 .f32) (x10 : FVec Ideal S2x2048x5632 .fp8e4m3) (x12 : FVec Ideal S2x5632 .f32) (x2 : FVec Ideal S6x6144x4096 .fp8e5m2) (x3 : FVec Ideal S24576x1 .f32) (x11 : FVec Ideal S6144x2048 .fp8e4m3) (x13 : FVec Ideal S6144x1 .f32) (t : Fin 24576) (k : Fin 2048) : EReal :=
  (∑ q : Fin 2, ∑ f : Fin 5632, (x0 (ix4 ⟨t.val / 4096, by omega⟩ q ⟨t.val % 4096, by omega⟩ f) * x12 (ix2 q f)) * x10 (ix3 q k f)) * x1 (ix2 t 0)
    + (∑ e : Fin 6144, (x2 (ix3 ⟨t.val / 4096, by omega⟩ e ⟨t.val % 4096, by omega⟩) * x13 (ix2 e 0)) * x11 (ix2 e k)) * x3 (ix2 t 0)

/-- A grid point's block of that gradient is its 256 rows of the whole. -/
theorem dh_blk (c : Dev nD) (t : Fin cfg1.N) (r : Fin 256) (k : Fin 2048) (hr : t.val * 256 + r.val < 24576) :
    dh (iblk1 V c 0 t) (iblk1 V c 1 t) (iblk1 V c 10 t) (iblk1 V c 12 t) (iblk1 V c 2 t) (iblk1 V c 3 t) (iblk1 V c 11 t) (iblk1 V c 13 t) (ix2 r k) = (dhAll (V c main_v11_0) (V c main_v11_1) (V c main_v5) (V c main_arg11) (V c main_v4) (V c main_v12) (V c main_v7) (V c main_v17)) ⟨t.val * 256 + r.val, hr⟩ k := by
  unfold dh mlp dhAll
  refine congrArg₂ (· + ·) (congrArg₂ (· * ·) ?_ ?_) (congrArg₂ (· * ·) ?_ ?_)
  · refine Fin.sum_fin_congr fun q => Fin.sum_fin_congr fun f => ?_
    blk_point [iblk1, idx t]
  · blk_point [iblk1, idx t]
  · refine Fin.sum_fin_congr fun e => ?_
    blk_point [iblk1, idx t]
  · blk_point [iblk1, idx t]

set_option maxHeartbeats 4000000 in
/-- What a grid point leaves in its block of the input's gradient. -/
theorem out_eq (c : Dev nD) (t : Fin cfg1.N) :
    (outsAt1 V c t.val t.isLt).1 = k1_pay28 (dh (iblk1 V c 0 t) (iblk1 V c 1 t) (iblk1 V c 10 t) (iblk1 V c 12 t) (iblk1 V c 2 t) (iblk1 V c 3 t) (iblk1 V c 11 t) (iblk1 V c 13 t)) (k1_pay25 (iblk1 V c 4 t) (iblk1 V c 5 t)) (iblk1 V c 9 t) (iblk1 V c 8 t) (iblk1 V c 6 t) (iblk1 V c 7 t) := by
  by_cases h : t.val % 96 = 0
  · rw [outsAt1_A V c t h]
    funext y
    frame_out
    simp only [mlp_eq, dh_eq]
  · rw [outsAt1_B V c t h]
    funext y
    frame_out
    simp only [mlp_eq, dh_eq]

set_option maxHeartbeats 4000000 in
/-- What the last point leaves of gamma's gradient: the sum over all blocks of their column sums. -/
theorem acc_eq (c : Dev nD) (t : Fin cfg1.N) (h : t.val % 96 = 95) (j : S1x2048.Idx) :
    (outsAt1 V c t.val t.isLt).2 j = ∑ s : Fin 96, ∑ r : Fin 256,
      dh (iblk1 V c 0 ⟨96 * (t.val / 96) + s.val, Pipeline.run_point_lt_of_flush t h s⟩) (iblk1 V c 1 ⟨96 * (t.val / 96) + s.val, Pipeline.run_point_lt_of_flush t h s⟩) (iblk1 V c 10 ⟨96 * (t.val / 96) + s.val, Pipeline.run_point_lt_of_flush t h s⟩) (iblk1 V c 12 ⟨96 * (t.val / 96) + s.val, Pipeline.run_point_lt_of_flush t h s⟩) (iblk1 V c 2 ⟨96 * (t.val / 96) + s.val, Pipeline.run_point_lt_of_flush t h s⟩) (iblk1 V c 3 ⟨96 * (t.val / 96) + s.val, Pipeline.run_point_lt_of_flush t h s⟩) (iblk1 V c 11 ⟨96 * (t.val / 96) + s.val, Pipeline.run_point_lt_of_flush t h s⟩) (iblk1 V c 13 ⟨96 * (t.val / 96) + s.val, Pipeline.run_point_lt_of_flush t h s⟩) (ix2 r (j 1))
        * ((show FVec Ideal S256x2048 .fp8e4m3 from iblk1 V c 4 ⟨96 * (t.val / 96) + s.val, Pipeline.run_point_lt_of_flush t h s⟩) (ix2 r (j 1)) * (show FVec Ideal S256x1 .f32 from iblk1 V c 5 ⟨96 * (t.val / 96) + s.val, Pipeline.run_point_lt_of_flush t h s⟩) (ix2 r 0)) := by
  rw [Pipeline.eq_sum_fin_of_reset_step_apply_of_flush (fun n h => (outsAt1 V c n h).2) 96 (fun _ => 0) _
    (fun t h j => by
      rw [outsAt1_A V c t (by omega)]; frame_out; simp only [mlp_eq, dh_eq]; rw [dgamma_pay, dgamma_zero, dh_eq])
    (fun t h j => by
      rw [outsAt1_B V c t h]; frame_out; simp only [mlp_eq, dh_eq]; rw [dgamma_pay, dh_eq])
    t h j, zero_add]

/-- The kernel's array of the input's gradient, from the arrays the call is given. -/
theorem final_dx (c : Dev nD) : (dat1 V c).arrAt 14 cfg1.N
    = (show FVec Ideal S24576x2048 .bf16 from fun j => DhMath.dx (dhAll (V c main_v11_0) (V c main_v11_1) (V c main_v5) (V c main_arg11) (V c main_v4) (V c main_v12) (V c main_v7) (V c main_v17)) (DhMath.rows (V c main_v1) (V c main_v13)) (fun k => (V c main_v16) (ix2 0 k)) (fun t => (V c main_v15) (ix2 t 0)) (DhMath.rows (V c main_v0) (V c main_v14)) (j 0) (j 1)) := by
  refine (dat1 V c).arrAt_eq_of_covers 14 _ (by decide +kernel) fun t hf y => ?_
  blk_simp
  have hr : t.val * 256 + (y 0).val < 24576 := by
    have h0 : t.val < 96 := t.isLt
    have h1 : (y 0).val < 256 := (y 0).isLt
    omega
  have e0 : (win1_14.blk t).view.emb y 0 = (⟨t.val * 256 + (y 0).val, hr⟩ : Fin 24576) := Fin.ext (by blk_point [idx t])
  have e1 : (win1_14.blk t).view.emb y 1 = (y 1 : Fin 2048) := Fin.ext (by blk_point [idx t])
  rw [after1_14, out_eq V c t, dx_pay]
  rw [e0, e1]
  refine DhMath.dx_eq (fun k => dh (iblk1 V c 0 t) (iblk1 V c 1 t) (iblk1 V c 10 t) (iblk1 V c 12 t) (iblk1 V c 2 t) (iblk1 V c 3 t) (iblk1 V c 11 t) (iblk1 V c 13 t) (ix2 (y 0) k)) (fun k => (show FVec Ideal S256x2048 .fp8e4m3 from iblk1 V c 4 t) (ix2 (y 0) k) * (show FVec Ideal S256x1 .f32 from iblk1 V c 5 t) (ix2 (y 0) 0))
    (fun k => iblk1 V c 9 t (ix2 0 k)) (fun k => (show FVec Ideal S256x2048 .fp8e5m2 from iblk1 V c 6 t) (ix2 (y 0) k) * (show FVec Ideal S256x1 .f32 from iblk1 V c 7 t) (ix2 (y 0) 0)) (iblk1 V c 8 t (ix2 (y 0) 0))
    (fun k => dh_blk V c t (y 0) k hr) (fun k => ?_) (fun k => ?_) ?_ (fun k => ?_) (y 1)
  · unfold DhMath.rows
    refine congrArg₂ (· * ·) ?_ ?_
    · blk_point [iblk1, idx t]
    · blk_point [iblk1, idx t]
  · blk_point [iblk1, idx t]
  · blk_point [iblk1, idx t]
  · unfold DhMath.rows
    refine congrArg₂ (· * ·) ?_ ?_
    · blk_point [iblk1, idx t]
    · blk_point [iblk1, idx t]

/-- The kernel's array of gamma's gradient, from the arrays the call is given. -/
theorem final_dgamma (c : Dev nD) : (dat1 V c).arrAt 15 cfg1.N
    = (show FVec Ideal S1x2048 .f32 from fun j => DhMath.dgamma (dhAll (V c main_v11_0) (V c main_v11_1) (V c main_v5) (V c main_arg11) (V c main_v4) (V c main_v12) (V c main_v7) (V c main_v17)) (DhMath.rows (V c main_v1) (V c main_v13)) (j 1)) := by
  refine (dat1 V c).arrAt_eq_of_covers 15 _ (by decide +kernel) fun t hf y => ?_
  have h := (flush1_15 t).mp hf
  blk_simp
  rw [after1_15, acc_eq V c t h]
  have e1 : (win1_15.blk t).view.emb y 1 = (y 1 : Fin 2048) := Fin.ext (by blk_point [idx t])
  have h0 : t.val < 96 := t.isLt
  unfold DhMath.dgamma
  rw [e1]
  refine Fin.sum_mul_add_congr fun s r hl => ?_
  have hs : (⟨96 * (t.val / 96) + s.val, Pipeline.run_point_lt_of_flush t h s⟩ : Fin cfg1.N) = ⟨s.val, s.isLt⟩ := Fin.ext (by show 96 * (t.val / 96) + s.val = s.val; omega)
  rw [hs]
  refine congrArg₂ (· * ·) (dh_blk V c ⟨s.val, s.isLt⟩ r (y 1) hl) ?_
  unfold DhMath.rows
  refine congrArg₂ (· * ·) ?_ ?_
  · blk_point [iblk1, idx ⟨s.val, s.isLt⟩]
  · blk_point [iblk1, idx ⟨s.val, s.isLt⟩]

end Cert.GradIdeal.ValB

end
-- ==== Proof.GradRun.lean ====
module

public import proofs.«01_k».proof.Proof.Gen.GradIdeal.Frame
public import proofs.«01_k».proof.Proof.GradAKer
public import proofs.«01_k».proof.Proof.GradBKer
public import Idealize.ShloMosaic.Lib.Claim

@[expose] public section

set_option maxRecDepth 16384

noncomputable section

namespace Cert.GradIdeal.Val

open Cert.GradIdeal Cert.GradIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second call and the host lines before it leave the first call's codes as they are. -/
theorem W3_codes (c : Dev nD) : W3 m ρ c (Proc.devRef .tc main_v11_0) = (dat0 (V1 m ρ) c).arrAt 6 cfg0.N :=
  (W3_of m ρ c main_v11_0 (by decide)).trans (W2_arr m ρ c 6)

/-- The same for the first call's scales. -/
theorem W3_scale (c : Dev nD) : W3 m ρ c (Proc.devRef .tc main_v11_1) = (dat0 (V1 m ρ) c).arrAt 7 cfg0.N :=
  (W3_of m ρ c main_v11_1 (by decide)).trans (W2_arr m ρ c 7)

/-- At the end the codes are what the first call left. -/
theorem W4_codes (c : Dev nD) : W4 m ρ c (Proc.devRef .tc main_v11_0) = (dat0 (V1 m ρ) c).arrAt 6 cfg0.N :=
  (W4_of m ρ c main_v11_0 (by decide +kernel)).trans (W3_codes m ρ c)

/-- At the end the scales are what the first call left. -/
theorem W4_scale (c : Dev nD) : W4 m ρ c (Proc.devRef .tc main_v11_1) = (dat0 (V1 m ρ) c).arrAt 7 cfg0.N :=
  (W4_of m ρ c main_v11_1 (by decide +kernel)).trans (W3_scale m ρ c)

set_option backward.isDefEq.respectTransparency.types false in
/-- The run of the two calls: every fair execution ends with the four results holding what the two calls leave in their
    arrays, and with the arguments as they were. -/
theorem run : θ_run defs (onTc (τ := τ) (main (F := F))) ⟨m, fun _ => 0, ρ⟩ (fun r => (∀ c : Dev nD,
      r.2.mem ((c.tc : Thread nD τ).loc main_v18_0) = (dat1 (V3 m ρ) c).arrAt 14 cfg1.N
      ∧ r.2.mem ((c.tc : Thread nD τ).loc main_v18_1) = (dat1 (V3 m ρ) c).arrAt 15 cfg1.N
      ∧ r.2.mem ((c.tc : Thread nD τ).loc main_v11_0) = (dat0 (V1 m ρ) c).arrAt 6 cfg0.N
      ∧ r.2.mem ((c.tc : Thread nD τ).loc main_v11_1) = (dat0 (V1 m ρ) c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v18_0 (by decide))).trans (W4_arr m ρ c 14),
       (h c _ (mem_uc main_v18_1 (by decide))).trans (W4_arr m ρ c 15),
       (h c _ (mem_uc main_v11_0 (by decide))).trans (W4_codes m ρ c),
       (h c _ (mem_uc main_v11_1 (by decide))).trans (W4_scale m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩), funext fun g => hz g (.inr (no_unscoped g.2))⟩)

end Run

variable (m : (ℓ : Loc nD τ sig) → Buf (Elt Ideal) ℓ) (ρ : Dev nD → PrngReg)

/-- The incoming gradient's codes, one row per token, when the first call starts. -/
theorem V1_v0 (c : Dev nD) : V1 m ρ c main_v0 = shapeCast S24576x2048 (m ((c : Thread nD τ).loc main_arg0)) shapeCasts_S6x4096x2048_S24576x2048 := by
  show StableHlo.after hostOps0 (W0 m ρ c) (Proc.devRef .tc main_v0) = _
  entry_read
  try rfl

/-- The input's codes, one row per token, when the first call starts. -/
theorem V1_v1 (c : Dev nD) : V1 m ρ c main_v1 = shapeCast S24576x2048 (m ((c : Thread nD τ).loc main_arg4)) shapeCasts_S6x4096x2048_S24576x2048 := by
  show StableHlo.after hostOps0 (W0 m ρ c) (Proc.devRef .tc main_v1) = _
  entry_read
  try rfl

/-- The activation's codes, one half after the other, when the first call starts. -/
theorem V1_v2 (c : Dev nD) : V1 m ρ c main_v2 = transpose S6x2x4096x5632 [0, 2, 1, 3] (m ((c : Thread nD τ).loc main_arg8)) transposes_S6x4096x2x5632_S6x2x4096x5632_0_2_1_3 := by
  show StableHlo.after hostOps0 (W0 m ρ c) (Proc.devRef .tc main_v2) = _
  entry_read
  try rfl

/-- The attention gradient's codes with tokens along the last axis, when the first call starts. -/
theorem V1_v4 (c : Dev nD) : V1 m ρ c main_v4 = shapeCast S6x6144x4096 (transpose S6x3x32x64x4096 [0, 2, 3, 4, 1] (m ((c : Thread nD τ).loc main_arg2)) transposes_S6x4096x3x32x64_S6x3x32x64x4096_0_2_3_4_1) shapeCasts_S6x3x32x64x4096_S6x6144x4096 := by
  show StableHlo.after hostOps0 (W0 m ρ c) (Proc.devRef .tc main_v4) = _
  entry_read
  try rfl

/-- The input projection's weights, one half after the other, when the first call starts. -/
theorem V1_v5 (c : Dev nD) : V1 m ρ c main_v5 = transpose S2x2048x5632 [1, 0, 2] (m ((c : Thread nD τ).loc main_arg10)) transposes_S2048x2x5632_S2x2048x5632_1_0_2 := by
  show StableHlo.after hostOps0 (W0 m ρ c) (Proc.devRef .tc main_v5) = _
  entry_read
  try rfl

/-- The attention projection's weights, one row per output, when the first call starts. -/
theorem V1_v7 (c : Dev nD) : V1 m ρ c main_v7 = shapeCast S6144x2048 (transpose S3x32x64x2048 [1, 2, 3, 0] (m ((c : Thread nD τ).loc main_arg14)) transposes_S2048x3x32x64_S3x32x64x2048_1_2_3_0) shapeCasts_S3x32x64x2048_S6144x2048 := by
  show StableHlo.after hostOps0 (W0 m ρ c) (Proc.devRef .tc main_v7) = _
  entry_read
  try rfl

/-- The incoming gradient's scales as a column, when the first call starts. -/
theorem V1_v8 (c : Dev nD) : V1 m ρ c main_v8 = shapeCast S24576x1 (m ((c : Thread nD τ).loc main_arg1)) shapeCasts_S6x4096_S24576x1 := by
  show StableHlo.after hostOps0 (W0 m ρ c) (Proc.devRef .tc main_v8) = _
  entry_read
  try rfl

/-- The activation's scales as a column, when the first call starts. -/
theorem V1_v9 (c : Dev nD) : V1 m ρ c main_v9 = shapeCast S24576x1 (m ((c : Thread nD τ).loc main_arg9)) shapeCasts_S6x4096_S24576x1 := by
  show StableHlo.after hostOps0 (W0 m ρ c) (Proc.devRef .tc main_v9) = _
  entry_read
  try rfl

/-- The output projection's scales as a row, when the first call starts. -/
theorem V1_v10 (c : Dev nD) : V1 m ρ c main_v10 = shapeCast S1x2048 (m ((c : Thread nD τ).loc main_arg13)) shapeCasts_S2048_S1x2048 := by
  show StableHlo.after hostOps0 (W0 m ρ c) (Proc.devRef .tc main_v10) = _
  entry_read
  try rfl

/-- The output projection's weights when the first call starts. -/
theorem V1_arg12 (c : Dev nD) : V1 m ρ c main_arg12 = m ((c : Thread nD τ).loc main_arg12) := W1_args m ρ c main_arg12 (by decide)

/-- The input projection's scales when the second call starts. -/
theorem V3_arg11 (c : Dev nD) : V3 m ρ c main_arg11 = m ((c : Thread nD τ).loc main_arg11) := W3_args m ρ c main_arg11 (by decide)

/-- The incoming gradient's codes, one row per token, when the second call starts. -/
theorem V3_v0 (c : Dev nD) : V3 m ρ c main_v0 = shapeCast S24576x2048 (m ((c : Thread nD τ).loc main_arg0)) shapeCasts_S6x4096x2048_S24576x2048 :=
  (W3_of m ρ c main_v0 (by decide)).trans ((W2_of m ρ c main_v0 (by decide +kernel)).trans (V1_v0 m ρ c))

/-- The input's codes, one row per token, when the second call starts. -/
theorem V3_v1 (c : Dev nD) : V3 m ρ c main_v1 = shapeCast S24576x2048 (m ((c : Thread nD τ).loc main_arg4)) shapeCasts_S6x4096x2048_S24576x2048 :=
  (W3_of m ρ c main_v1 (by decide)).trans ((W2_of m ρ c main_v1 (by decide +kernel)).trans (V1_v1 m ρ c))

/-- The attention gradient's codes with tokens along the last axis, when the second call starts. -/
theorem V3_v4 (c : Dev nD) : V3 m ρ c main_v4 = shapeCast S6x6144x4096 (transpose S6x3x32x64x4096 [0, 2, 3, 4, 1] (m ((c : Thread nD τ).loc main_arg2)) transposes_S6x4096x3x32x64_S6x3x32x64x4096_0_2_3_4_1) shapeCasts_S6x3x32x64x4096_S6x6144x4096 :=
  (W3_of m ρ c main_v4 (by decide)).trans ((W2_of m ρ c main_v4 (by decide +kernel)).trans (V1_v4 m ρ c))

/-- The input projection's weights, one half after the other, when the second call starts. -/
theorem V3_v5 (c : Dev nD) : V3 m ρ c main_v5 = transpose S2x2048x5632 [1, 0, 2] (m ((c : Thread nD τ).loc main_arg10)) transposes_S2048x2x5632_S2x2048x5632_1_0_2 :=
  (W3_of m ρ c main_v5 (by decide)).trans ((W2_of m ρ c main_v5 (by decide +kernel)).trans (V1_v5 m ρ c))

/-- The attention projection's weights, one row per output, when the second call starts. -/
theorem V3_v7 (c : Dev nD) : V3 m ρ c main_v7 = shapeCast S6144x2048 (transpose S3x32x64x2048 [1, 2, 3, 0] (m ((c : Thread nD τ).loc main_arg14)) transposes_S2048x3x32x64_S3x32x64x2048_1_2_3_0) shapeCasts_S3x32x64x2048_S6144x2048 :=
  (W3_of m ρ c main_v7 (by decide)).trans ((W2_of m ρ c main_v7 (by decide +kernel)).trans (V1_v7 m ρ c))

/-- The attention gradient's scales as a column, when the second call starts. -/
theorem V3_v12 (c : Dev nD) : V3 m ρ c main_v12 = shapeCast S24576x1 (m ((c : Thread nD τ).loc main_arg3)) shapeCasts_S6x4096_S24576x1 := by
  have h : V3 m ρ c main_v12 = shapeCast S24576x1 (W2 m ρ c (Proc.devRef .tc main_arg3)) shapeCasts_S6x4096_S24576x1 := by
    show StableHlo.after hostOps1 (W2 m ρ c) (Proc.devRef .tc main_v12) = _
    entry_read
    try rfl
  rw [h, W2_args m ρ c main_arg3 (by decide)]

/-- The input's scales as a column, when the second call starts. -/
theorem V3_v13 (c : Dev nD) : V3 m ρ c main_v13 = shapeCast S24576x1 (m ((c : Thread nD τ).loc main_arg5)) shapeCasts_S6x4096_S24576x1 := by
  have h : V3 m ρ c main_v13 = shapeCast S24576x1 (W2 m ρ c (Proc.devRef .tc main_arg5)) shapeCasts_S6x4096_S24576x1 := by
    show StableHlo.after hostOps1 (W2 m ρ c) (Proc.devRef .tc main_v13) = _
    entry_read
    try rfl
  rw [h, W2_args m ρ c main_arg5 (by decide)]

/-- The incoming gradient's scales as a column, when the second call starts. -/
theorem V3_v14 (c : Dev nD) : V3 m ρ c main_v14 = shapeCast S24576x1 (m ((c : Thread nD τ).loc main_arg1)) shapeCasts_S6x4096_S24576x1 := by
  have h : V3 m ρ c main_v14 = shapeCast S24576x1 (W2 m ρ c (Proc.devRef .tc main_arg1)) shapeCasts_S6x4096_S24576x1 := by
    show StableHlo.after hostOps1 (W2 m ρ c) (Proc.devRef .tc main_v14) = _
    entry_read
    try rfl
  rw [h, W2_args m ρ c main_arg1 (by decide)]

/-- The normalisation's row factors as a column, when the second call starts. -/
theorem V3_v15 (c : Dev nD) : V3 m ρ c main_v15 = shapeCast S24576x1 (m ((c : Thread nD τ).loc main_arg6)) shapeCasts_S6x4096_S24576x1 := by
  have h : V3 m ρ c main_v15 = shapeCast S24576x1 (W2 m ρ c (Proc.devRef .tc main_arg6)) shapeCasts_S6x4096_S24576x1 := by
    show StableHlo.after hostOps1 (W2 m ρ c) (Proc.devRef .tc main_v15) = _
    entry_read
    try rfl
  rw [h, W2_args m ρ c main_arg6 (by decide)]

/-- Gamma as a row, when the second call starts. -/
theorem V3_v16 (c : Dev nD) : V3 m ρ c main_v16 = shapeCast S1x2048 (m ((c : Thread nD τ).loc main_arg7)) shapeCasts_S2048_S1x2048 := by
  have h : V3 m ρ c main_v16 = shapeCast S1x2048 (W2 m ρ c (Proc.devRef .tc main_arg7)) shapeCasts_S2048_S1x2048 := by
    show StableHlo.after hostOps1 (W2 m ρ c) (Proc.devRef .tc main_v16) = _
    entry_read
    try rfl
  rw [h, W2_args m ρ c main_arg7 (by decide)]

/-- The attention projection's scales as a column, when the second call starts. -/
theorem V3_v17 (c : Dev nD) : V3 m ρ c main_v17 = shapeCast S6144x1 (m ((c : Thread nD τ).loc main_arg15)) shapeCasts_S3x32x64_S6144x1 := by
  have h : V3 m ρ c main_v17 = shapeCast S6144x1 (W2 m ρ c (Proc.devRef .tc main_arg15)) shapeCasts_S3x32x64_S6144x1 := by
    show StableHlo.after hostOps1 (W2 m ρ c) (Proc.devRef .tc main_v17) = _
    entry_read
    try rfl
  rw [h, W2_args m ρ c main_arg15 (by decide)]

/-- The first call's codes when the second call starts. -/
theorem V3_v11_0 (c : Dev nD) : V3 m ρ c main_v11_0
    = (show FVec Ideal S6x2x4096x5632 .fp8e5m2 from fun j => ValA.codeAll (V1 m ρ c main_v0) (V1 m ρ c main_v8) (V1 m ρ c main_v9) (V1 m ρ c main_v10) (V1 m ρ c main_v2) (V1 m ρ c main_arg12) ⟨(j 0).val * 4096 + (j 2).val, by
        have h0 : (j 0).val < 6 := (j 0).isLt
        have h2 : (j 2).val < 4096 := (j 2).isLt
        omega⟩ (j 1).val (j 3)) := (W3_codes m ρ c).trans (ValA.final_codes (V1 m ρ) c)

/-- The first call's scales when the second call starts. -/
theorem V3_v11_1 (c : Dev nD) : V3 m ρ c main_v11_1
    = (show FVec Ideal S24576x1 .f32 from fun j => ValA.scaleAll (V1 m ρ c main_v0) (V1 m ρ c main_v8) (V1 m ρ c main_v9) (V1 m ρ c main_v10) (V1 m ρ c main_v2) (V1 m ρ c main_arg12) (j 0)) := (W3_scale m ρ c).trans (ValA.final_scale (V1 m ρ) c)

end Cert.GradIdeal.Val

end
-- ==== Proof.GradClaim.lean ====
module

public import proofs.«01_k».proof.Defs
public import proofs.«01_k».proof.Proof.Gen.Grad.Frame
public import proofs.«01_k».proof.Proof.GradRefRun
public import proofs.«01_k».proof.Proof.GradRun
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert

open Idealize.ShloMosaic Idealize.ShloMosaic.TcCoe Idealize.SL.Sem

/-- The gate's codes in the reference's order and in the kernel's. -/
theorem grad_gate (x : FVec Ideal GradIdeal.S6x4096x2x5632 .fp8e4m3) (t : Fin 24576) (f : Fin 5632) (hh0 hh1 hh2 hh3) :
    shapeCast RefGradIdeal.S24576x5632 (shapeCast RefGradIdeal.S6x4096x5632 (extractStridedSlice RefGradIdeal.S6x4096x1x5632 ![0, 0, 0, 0] x hh0) hh1) hh2 (ix2 t f)
      = transpose GradIdeal.S6x2x4096x5632 [0, 2, 1, 3] x hh3 (ix4 ⟨t.val / 4096, by omega⟩ 0 ⟨t.val % 4096, by omega⟩ f) := by
  pointwise

/-- The up projection's codes in the reference's order and in the kernel's. -/
theorem grad_up (x : FVec Ideal GradIdeal.S6x4096x2x5632 .fp8e4m3) (t : Fin 24576) (f : Fin 5632) (hh0 hh1 hh2 hh3) :
    shapeCast RefGradIdeal.S24576x5632 (shapeCast RefGradIdeal.S6x4096x5632 (extractStridedSlice RefGradIdeal.S6x4096x1x5632 ![0, 0, 1, 0] x hh0) hh1) hh2 (ix2 t f)
      = transpose GradIdeal.S6x2x4096x5632 [0, 2, 1, 3] x hh3 (ix4 ⟨t.val / 4096, by omega⟩ 1 ⟨t.val % 4096, by omega⟩ f) := by
  pointwise

/-- The scales: the kernel's arrays and the reference's hold the same rows. -/
theorem grad_scale_eq (a0 : FVec Ideal GradIdeal.S24576x2048 .fp8e5m2) (a1 : FVec Ideal GradIdeal.S24576x1 .f32) (a2 : FVec Ideal GradIdeal.S6x4096x2x5632 .fp8e4m3) (a3 : FVec Ideal GradIdeal.S24576x1 .f32) (a4 : FVec Ideal GradIdeal.S5632x2048 .fp8e4m3) (a5 : FVec Ideal GradIdeal.S1x2048 .f32) (hh0 hh1 hh2 hh3 hh4 hh5 hh6) :
    RefGradIdeal.Val.scaleAll a0 a1 (shapeCast RefGradIdeal.S24576x5632 (shapeCast RefGradIdeal.S6x4096x5632 (extractStridedSlice RefGradIdeal.S6x4096x1x5632 ![0, 0, 0, 0] a2 hh0) hh1) hh2)
      (shapeCast RefGradIdeal.S24576x5632 (shapeCast RefGradIdeal.S6x4096x5632 (extractStridedSlice RefGradIdeal.S6x4096x1x5632 ![0, 0, 1, 0] a2 hh3) hh4) hh5) a3 a4 a5
    = GradIdeal.ValA.scaleAll a0 a1 a3 a5 (transpose GradIdeal.S6x2x4096x5632 [0, 2, 1, 3] a2 hh6) a4 := by
  funext t
  unfold RefGradIdeal.Val.scaleAll GradIdeal.ValA.scaleAll
  have hg := funext fun f => grad_gate a2 t f hh0 hh1 hh2 hh6
  have hu := funext fun f => grad_up a2 t f hh3 hh4 hh5 hh6
  rw [hg, hu]

/-- The codes: the kernel's arrays and the reference's hold the same rows. -/
theorem grad_code_eq (a0 : FVec Ideal GradIdeal.S24576x2048 .fp8e5m2) (a1 : FVec Ideal GradIdeal.S24576x1 .f32) (a2 : FVec Ideal GradIdeal.S6x4096x2x5632 .fp8e4m3) (a3 : FVec Ideal GradIdeal.S24576x1 .f32) (a4 : FVec Ideal GradIdeal.S5632x2048 .fp8e4m3) (a5 : FVec Ideal GradIdeal.S1x2048 .f32) (hh0 hh1 hh2 hh3 hh4 hh5 hh6) :
    RefGradIdeal.Val.codeAll a0 a1 (shapeCast RefGradIdeal.S24576x5632 (shapeCast RefGradIdeal.S6x4096x5632 (extractStridedSlice RefGradIdeal.S6x4096x1x5632 ![0, 0, 0, 0] a2 hh0) hh1) hh2)
      (shapeCast RefGradIdeal.S24576x5632 (shapeCast RefGradIdeal.S6x4096x5632 (extractStridedSlice RefGradIdeal.S6x4096x1x5632 ![0, 0, 1, 0] a2 hh3) hh4) hh5) a3 a4 a5
    = GradIdeal.ValA.codeAll a0 a1 a3 a5 (transpose GradIdeal.S6x2x4096x5632 [0, 2, 1, 3] a2 hh6) a4 := by
  funext t
  unfold RefGradIdeal.Val.codeAll GradIdeal.ValA.codeAll
  have hg := funext fun f => grad_gate a2 t f hh0 hh1 hh2 hh6
  have hu := funext fun f => grad_up a2 t f hh3 hh4 hh5 hh6
  rw [hg, hu]

/-- The attention gradient's codes in the reference's order and in the kernel's. -/
theorem grad_dqkv (x : FVec Ideal GradIdeal.S6x4096x3x32x64 .fp8e5m2) (t : Fin 24576) (e : Fin 6144) (hh0 hh1 hh2) :
    shapeCast RefGradIdeal.S24576x6144 x hh0 (ix2 t e)
      = shapeCast GradIdeal.S6x6144x4096 (transpose GradIdeal.S6x3x32x64x4096 [0, 2, 3, 4, 1] x hh1) hh2
          (ix3 ⟨t.val / 4096, by omega⟩ e ⟨t.val % 4096, by omega⟩) := by
  pointwise

/-- The attention projection's weights in the reference's order and in the kernel's. -/
theorem grad_wqkv (x : FVec Ideal GradIdeal.S2048x3x32x64 .fp8e4m3) (k : Fin 2048) (e : Fin 6144) (hh0 hh1 hh2) :
    shapeCast RefGradIdeal.S2048x6144 x hh0 (ix2 k e)
      = shapeCast GradIdeal.S6144x2048 (transpose GradIdeal.S3x32x64x2048 [1, 2, 3, 0] x hh1) hh2 (ix2 e k) := by
  pointwise

/-- The attention projection's scales as the reference's row and the kernel's column. -/
theorem grad_sqkv (x : FVec Ideal GradIdeal.S3x32x64 .f32) (e : Fin 6144) (hh0 hh1) :
    shapeCast RefGradIdeal.S1x6144 x hh0 (ix2 0 e) = shapeCast GradIdeal.S6144x1 x hh1 (ix2 e 0) := by
  pointwise

/-- The gate's half of the input projection's weights in the reference's order and in the kernel's. -/
theorem grad_wgate (x : FVec Ideal GradIdeal.S2048x2x5632 .fp8e4m3) (k : Fin 2048) (f : Fin 5632) (hh0 hh1 hh2) :
    shapeCast RefGradIdeal.S2048x5632 (extractStridedSlice RefGradIdeal.S2048x1x5632 ![0, 0, 0] x hh0) hh1 (ix2 k f)
      = transpose GradIdeal.S2x2048x5632 [1, 0, 2] x hh2 (ix3 0 k f) := by
  pointwise

/-- The gate's half of the input projection's scales. -/
theorem grad_sgate (x : FVec Ideal GradIdeal.S2x5632 .f32) (f : Fin 5632) (hh0) :
    extractStridedSlice RefGradIdeal.S1x5632 ![0, 0] x hh0 (ix2 0 f) = x (ix2 0 f) := by
  pointwise

/-- The up projection's half of the input projection's weights in the reference's order and in the kernel's. -/
theorem grad_wup (x : FVec Ideal GradIdeal.S2048x2x5632 .fp8e4m3) (k : Fin 2048) (f : Fin 5632) (hh0 hh1 hh2) :
    shapeCast RefGradIdeal.S2048x5632 (extractStridedSlice RefGradIdeal.S2048x1x5632 ![0, 1, 0] x hh0) hh1 (ix2 k f)
      = transpose GradIdeal.S2x2048x5632 [1, 0, 2] x hh2 (ix3 1 k f) := by
  pointwise

/-- The up projection's half of the input projection's scales. -/
theorem grad_sup (x : FVec Ideal GradIdeal.S2x5632 .f32) (f : Fin 5632) (hh0) :
    extractStridedSlice RefGradIdeal.S1x5632 ![1, 0] x hh0 (ix2 0 f) = x (ix2 1 f) := by
  pointwise

/-- Moving a factor from the last place to the middle. -/
theorem grad_mul (a b c : EReal) : a * (b * c) = (a * c) * b := by
  rw [mul_assoc, mul_comm c b]

/-- The kernel's array of codes read at a token's sequence and place. -/
theorem grad_code_at (C : Fin 24576 → ℕ → Fin 5632 → EReal) (hj : ∀ j : GradIdeal.S6x2x4096x5632.Idx, (j 0).val * 4096 + (j 2).val < 24576)
    (t : Fin 24576) (q : Fin 2) (f : Fin 5632) (h0 : t.val / 4096 < 6) (h1 : t.val % 4096 < 4096) :
    (show FVec Ideal GradIdeal.S6x2x4096x5632 .fp8e5m2 from fun j => C ⟨(j 0).val * 4096 + (j 2).val, hj j⟩ (j 1).val (j 3))
      (ix4 ⟨t.val / 4096, h0⟩ q ⟨t.val % 4096, h1⟩ f) = C t q.val f :=
  congrArg (fun z => C z q.val f) (Fin.ext (Nat.div_add_mod' t.val 4096))

/-- The gradient at the normalised input, from the same codes and scales: the kernel sums over both halves at once and
    multiplies the weights' scales into the codes, the reference takes one product per half and multiplies them into the weights. -/
theorem grad_dh_eq (C : Fin 24576 → ℕ → Fin 5632 → EReal) (S : Fin 24576 → EReal) (a2 : FVec Ideal GradIdeal.S6x4096x3x32x64 .fp8e5m2)
    (a3 : FVec Ideal GradIdeal.S24576x1 .f32) (a10 : FVec Ideal GradIdeal.S2048x2x5632 .fp8e4m3) (a11 : FVec Ideal GradIdeal.S2x5632 .f32)
    (a14 : FVec Ideal GradIdeal.S2048x3x32x64 .fp8e4m3) (a15 : FVec Ideal GradIdeal.S3x32x64 .f32)
    (hh0 hh1 hh2 hh3 hh4 hh5 hh6 hh7 hh8 hh9 hh10 hh11 hh12 hh13 hh14) (hj : ∀ j : GradIdeal.S6x2x4096x5632.Idx, (j 0).val * 4096 + (j 2).val < 24576) :
    RefGradIdeal.Val.dhAll (fun t f => C t 0 f) (fun t f => C t 1 f) S
      (shapeCast RefGradIdeal.S2048x5632 (extractStridedSlice RefGradIdeal.S2048x1x5632 ![0, 0, 0] a10 hh0) hh1)
      (shapeCast RefGradIdeal.S2048x5632 (extractStridedSlice RefGradIdeal.S2048x1x5632 ![0, 1, 0] a10 hh2) hh3)
      (extractStridedSlice RefGradIdeal.S1x5632 ![0, 0] a11 hh4) (extractStridedSlice RefGradIdeal.S1x5632 ![1, 0] a11 hh5)
      (shapeCast RefGradIdeal.S24576x6144 a2 hh6) a3 (shapeCast RefGradIdeal.S2048x6144 a14 hh7) (shapeCast RefGradIdeal.S1x6144 a15 hh8)
    = GradIdeal.ValB.dhAll (show FVec Ideal GradIdeal.S6x2x4096x5632 .fp8e5m2 from fun j => C ⟨(j 0).val * 4096 + (j 2).val, hj j⟩ (j 1).val (j 3))
      (show FVec Ideal GradIdeal.S24576x1 .f32 from fun j => S (j 0)) (transpose GradIdeal.S2x2048x5632 [1, 0, 2] a10 hh9) a11
      (shapeCast GradIdeal.S6x6144x4096 (transpose GradIdeal.S6x3x32x64x4096 [0, 2, 3, 4, 1] a2 hh10) hh11) a3
      (shapeCast GradIdeal.S6144x2048 (transpose GradIdeal.S3x32x64x2048 [1, 2, 3, 0] a14 hh12) hh13)
      (shapeCast GradIdeal.S6144x1 a15 hh14) := by
  funext t k
  unfold RefGradIdeal.Val.dhAll GradIdeal.ValB.dhAll
  refine congrArg₂ (· + ·) (congrArg (· * S t) ?_) (congrArg (· * _) ?_)
  · rw [Fin.sum_univ_two]
    refine congrArg₂ (· + ·) (Fin.sum_fin_congr fun f => ?_) (Fin.sum_fin_congr fun f => ?_)
    · rw [grad_wgate a10 k f _ _ hh9, grad_sgate a11 f _]
      show (_ : EReal) = _
      exact (grad_mul (C t 0 f) _ _).trans (congrArg (fun z : EReal => z * a11 (ix2 0 f) * transpose GradIdeal.S2x2048x5632 [1, 0, 2] a10 hh9 (ix3 0 k f))
        (grad_code_at C hj t 0 f _ _).symm)
    · rw [grad_wup a10 k f _ _ hh9, grad_sup a11 f _]
      show (_ : EReal) = _
      exact (grad_mul (C t 1 f) _ _).trans (congrArg (fun z : EReal => z * a11 (ix2 1 f) * transpose GradIdeal.S2x2048x5632 [1, 0, 2] a10 hh9 (ix3 1 k f))
        (grad_code_at C hj t 1 f _ _).symm)
  · refine Fin.sum_fin_congr fun e => ?_
    rw [grad_dqkv a2 t e _ hh10 hh11, grad_wqkv a14 k e _ hh12 hh13, grad_sqkv a15 e _ hh14]
    show (_ : EReal) = _
    rw [mul_assoc, mul_comm (shapeCast GradIdeal.S6144x1 _ _ _)]

set_option maxHeartbeats 4000000 in
/-- The two chained calls, from the incoming gradients and the layer's saved values to the gradients of the layer's input and of
    gamma and to the activation gradient's codes and scales: the kernel computes the reference's values. -/
theorem algebraic_Grad : algebraic_GradIdeal_RefGradIdeal (hGradIdeal := GradIdeal.Gen.facts) (hRefGradIdeal := RefGradIdeal.Gen.facts) := by
  pair_intro
  · run_from GradIdeal.Val.run m g
  · refine Idealize.ShloMosaic.θ_run_mono (RefGradIdeal.Val.run m' g') ?_
    intro r hr c
    obtain ⟨h0, h1, h2, h3, hargs⟩ := hr c
    refine ⟨h0.trans ?_, h1.trans ?_, h2.trans ?_, h3.trans ?_, hargs⟩
    · refine (RefGradIdeal.Val.final_dx m' c).trans (Eq.trans ?_ (GradIdeal.ValB.final_dx (GradIdeal.Gen.V3 m g) c).symm)
      obtain ⟨e0, e1, e2, e3, e4, e5, e6, e7, e8, e9, e10, e11, e12, e13, e14, e15⟩ := hagree c
      have a12 : RefGradIdeal.Gen.V m' c RefGradIdeal.main_arg12 = m ((c : Thread GradIdeal.nD GradIdeal.τ).loc GradIdeal.main_arg12) := (RefGradIdeal.Gen.V_main_arg12 m' c).trans e12
      rw [a12, RefGradIdeal.Val.V_v0, RefGradIdeal.Val.V_v1, RefGradIdeal.Val.V_v2, RefGradIdeal.Val.V_v3, RefGradIdeal.Val.V_v4, RefGradIdeal.Val.V_v5, RefGradIdeal.Val.V_v6, RefGradIdeal.Val.V_v7, RefGradIdeal.Val.V_v10, RefGradIdeal.Val.V_v13, RefGradIdeal.Val.V_v14, RefGradIdeal.Val.V_v16, RefGradIdeal.Val.V_v18, RefGradIdeal.Val.V_v19, RefGradIdeal.Val.V_v20, RefGradIdeal.Val.V_v21, RefGradIdeal.Val.V_v22, RefGradIdeal.Val.V_v23]
      rw [GradIdeal.Val.V3_v11_0, GradIdeal.Val.V3_v11_1, GradIdeal.Val.V3_v1, GradIdeal.Val.V3_v4, GradIdeal.Val.V3_v5, GradIdeal.Val.V3_v7, GradIdeal.Val.V3_v12, GradIdeal.Val.V3_v13, GradIdeal.Val.V3_v17, GradIdeal.Val.V3_arg11, GradIdeal.Val.V3_v0, GradIdeal.Val.V3_v14, GradIdeal.Val.V3_v15, GradIdeal.Val.V3_v16]
      rw [GradIdeal.Val.V1_v0, GradIdeal.Val.V1_v2, GradIdeal.Val.V1_v8, GradIdeal.Val.V1_v9, GradIdeal.Val.V1_v10, GradIdeal.Val.V1_arg12]
      rw [e0, e1, e2, e3, e4, e5, e6, e7, e8, e9, e10, e11, e13, e14, e15]
      rw [grad_code_eq, grad_scale_eq, grad_dh_eq (GradIdeal.ValA.codeAll _ _ _ _ _ _) (GradIdeal.ValA.scaleAll _ _ _ _ _ _)]
    · refine (RefGradIdeal.Val.final_dgamma m' c).trans (Eq.trans ?_ (GradIdeal.ValB.final_dgamma (GradIdeal.Gen.V3 m g) c).symm)
      obtain ⟨e0, e1, e2, e3, e4, e5, e6, e7, e8, e9, e10, e11, e12, e13, e14, e15⟩ := hagree c
      have a12 : RefGradIdeal.Gen.V m' c RefGradIdeal.main_arg12 = m ((c : Thread GradIdeal.nD GradIdeal.τ).loc GradIdeal.main_arg12) := (RefGradIdeal.Gen.V_main_arg12 m' c).trans e12
      rw [a12, RefGradIdeal.Val.V_v0, RefGradIdeal.Val.V_v1, RefGradIdeal.Val.V_v2, RefGradIdeal.Val.V_v3, RefGradIdeal.Val.V_v4, RefGradIdeal.Val.V_v5, RefGradIdeal.Val.V_v10, RefGradIdeal.Val.V_v13, RefGradIdeal.Val.V_v14, RefGradIdeal.Val.V_v16, RefGradIdeal.Val.V_v18, RefGradIdeal.Val.V_v19, RefGradIdeal.Val.V_v20, RefGradIdeal.Val.V_v21, RefGradIdeal.Val.V_v22, RefGradIdeal.Val.V_v23]
      rw [GradIdeal.Val.V3_v11_0, GradIdeal.Val.V3_v11_1, GradIdeal.Val.V3_v1, GradIdeal.Val.V3_v4, GradIdeal.Val.V3_v5, GradIdeal.Val.V3_v7, GradIdeal.Val.V3_v12, GradIdeal.Val.V3_v13, GradIdeal.Val.V3_v17, GradIdeal.Val.V3_arg11]
      rw [GradIdeal.Val.V1_v0, GradIdeal.Val.V1_v2, GradIdeal.Val.V1_v8, GradIdeal.Val.V1_v9, GradIdeal.Val.V1_v10, GradIdeal.Val.V1_arg12]
      rw [e0, e1, e2, e3, e4, e5, e8, e9, e10, e11, e13, e14, e15]
      rw [grad_code_eq, grad_scale_eq, grad_dh_eq (GradIdeal.ValA.codeAll _ _ _ _ _ _) (GradIdeal.ValA.scaleAll _ _ _ _ _ _)]
    · refine (RefGradIdeal.Val.final_codes m' c).trans (Eq.trans ?_ (GradIdeal.ValA.final_codes (GradIdeal.Gen.V1 m g) c).symm)
      obtain ⟨e0, e1, e2, e3, e4, e5, e6, e7, e8, e9, e10, e11, e12, e13, e14, e15⟩ := hagree c
      have a12 : RefGradIdeal.Gen.V m' c RefGradIdeal.main_arg12 = m ((c : Thread GradIdeal.nD GradIdeal.τ).loc GradIdeal.main_arg12) := (RefGradIdeal.Gen.V_main_arg12 m' c).trans e12
      rw [a12, RefGradIdeal.Val.V_v0, RefGradIdeal.Val.V_v1, RefGradIdeal.Val.V_v10, RefGradIdeal.Val.V_v13, RefGradIdeal.Val.V_v14, RefGradIdeal.Val.V_v21, GradIdeal.Val.V1_v0, GradIdeal.Val.V1_v2, GradIdeal.Val.V1_v8, GradIdeal.Val.V1_v9, GradIdeal.Val.V1_v10, GradIdeal.Val.V1_arg12, e0, e1, e8, e9, e13]
      rw [grad_code_eq]
    · refine (RefGradIdeal.Val.final_scale m' c).trans (Eq.trans ?_ (GradIdeal.ValA.final_scale (GradIdeal.Gen.V1 m g) c).symm)
      obtain ⟨e0, e1, e2, e3, e4, e5, e6, e7, e8, e9, e10, e11, e12, e13, e14, e15⟩ := hagree c
      have a12 : RefGradIdeal.Gen.V m' c RefGradIdeal.main_arg12 = m ((c : Thread GradIdeal.nD GradIdeal.τ).loc GradIdeal.main_arg12) := (RefGradIdeal.Gen.V_main_arg12 m' c).trans e12
      rw [a12, RefGradIdeal.Val.V_v0, RefGradIdeal.Val.V_v1, RefGradIdeal.Val.V_v10, RefGradIdeal.Val.V_v13, RefGradIdeal.Val.V_v14, RefGradIdeal.Val.V_v21, GradIdeal.Val.V1_v0, GradIdeal.Val.V1_v2, GradIdeal.Val.V1_v8, GradIdeal.Val.V1_v9, GradIdeal.Val.V1_v10, GradIdeal.Val.V1_arg12, e0, e1, e8, e9, e13]
      rw [grad_scale_eq]

end Cert

end
-- ==== Proof.DwInRef.lean ====
module

public import proofs.«01_k».proof.Proof.Gen.RefDwInIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.RefDwInIdeal.Val

open Cert.RefDwInIdeal Cert.RefDwInIdeal.Gen Idealize.ShloMosaic Idealize.ShloMosaic.TcCoe Idealize.SL.Sem
open Idealize.ShloMosaic.Pipeline (Dat)

variable (m : (ℓ : Loc nD τ sig) → Buf (Elt Ideal) ℓ)

/-- The gradient of the input projection, times gamma, as one sum over all tokens. -/
def sum (x : FVec Ideal S24576x2048 .fp8e4m3) (xs : FVec Ideal S24576x1 .f32) (y : FVec Ideal S24576x11264 .fp8e5m2) (ys : FVec Ideal S24576x1 .f32) (g : FVec Ideal S2048x1 .f32) : FVec Ideal S2048x11264 .bf16 :=
  fun j => g (ix2 (j 0) 0) * ∑ t : Fin 24576, (x (ix2 t (j 0)) * xs (ix2 t 0)) * (y (ix2 t (j 1)) * ys (ix2 t 0))

/-- The reference's stored block is that sum. -/
theorem pay_eq (x : FVec Ideal S24576x2048 .fp8e4m3) (xs : FVec Ideal S24576x1 .f32) (y : FVec Ideal S24576x11264 .fp8e5m2) (ys : FVec Ideal S24576x1 .f32) (g : FVec Ideal S2048x1 .f32) :
    k0_pay1 x xs y ys g = sum x xs y ys g := by
  funext j
  idx_vars j
  pointwise [k0_pay1, sum]

/-- The one grid point reads and writes whole arrays. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0] :=
  (by decide +kernel : ∀ t : Fin grid0.N, _)

/-- Window 0 holds the whole array. -/
theorem blk_0 (c : Dev nD) : (iblk m c 0 t0_0 : _) = V m c main_v0 := by
  funext i
  blk_ext [iblk, idx t0_0]

/-- Window 1 holds the whole array. -/
theorem blk_1 (c : Dev nD) : (iblk m c 1 t0_0 : _) = V m c main_v1 := by
  funext i
  blk_ext [iblk, idx t0_0]

/-- Window 2 holds the whole array. -/
theorem blk_2 (c : Dev nD) : (iblk m c 2 t0_0 : _) = V m c main_v3 := by
  funext i
  blk_ext [iblk, idx t0_0]

/-- Window 3 holds the whole array. -/
theorem blk_3 (c : Dev nD) : (iblk m c 3 t0_0 : _) = V m c main_arg3 := by
  funext i
  blk_ext [iblk, idx t0_0]

/-- Window 4 holds the whole array. -/
theorem blk_4 (c : Dev nD) : (iblk m c 4 t0_0 : _) = V m c main_v4 := by
  funext i
  blk_ext [iblk, idx t0_0]

/-- The reference's result array, from the arrays the call is given. -/
theorem final (c : Dev nD) : (dats m 0 c).arrAt 5 cfg0.N
    = sum (V m c main_v0) (V m c main_v1) (V m c main_v3) (V m c main_arg3) (V m c main_v4) := by
  refine (dats m 0 c).arrAt_eq_of_after_last 5 t0_0 (by decide +kernel) _ fun j => ?_
  blk_simp
  rw [after0_5]
  frame_out
  rw [← pay_eq, blk_0, blk_1, blk_2, blk_3, blk_4]

/-- The call's array of codes, from its argument. -/
theorem V_v0 (c : Dev nD) : V m c main_v0 = shapeCast S24576x2048 (m ((c : Thread nD τ).loc main_arg0)) shapeCasts_S6x4096x2048_S24576x2048 := by
  entry_read
  try rfl

/-- The call's column of scales, from its argument. -/
theorem V_v1 (c : Dev nD) : V m c main_v1 = shapeCast S24576x1 (m ((c : Thread nD τ).loc main_arg1)) shapeCasts_S6x4096_S24576x1 := by
  entry_read
  try rfl

/-- Both halves of the gradient codes side by side, from the argument. -/
theorem V_v3 (c : Dev nD) : V m c main_v3 = shapeCast S24576x11264 (transpose S6x4096x2x5632 [0, 2, 1, 3] (m ((c : Thread nD τ).loc main_arg2)) transposes_S6x2x4096x5632_S6x4096x2x5632_0_2_1_3) shapeCasts_S6x4096x2x5632_S24576x11264 := by
  entry_read
  try rfl

/-- Gamma as a column, from the argument. -/
theorem V_v4 (c : Dev nD) : V m c main_v4 = shapeCast S2048x1 (m ((c : Thread nD τ).loc main_arg4)) shapeCasts_S2048_S2048x1 := by
  entry_read
  try rfl

end Cert.RefDwInIdeal.Val

end
-- ==== Proof.DwInKer.lean ====
module

public import proofs.«01_k».proof.Proof.Gen.DwInIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.DwInIdeal.Val

open Cert.DwInIdeal Cert.DwInIdeal.Gen Idealize.ShloMosaic Idealize.ShloMosaic.TcCoe Idealize.SL.Sem
open Idealize.ShloMosaic.Pipeline (Dat)

variable (m : (ℓ : Loc nD τ sig) → Buf (Elt Ideal) ℓ)

/-- The accumulator starts at zero. -/
theorem hzero (j : S2048x512.Idx) : (k0_pay1 (F := Ideal) : FVec Ideal S2048x512 .f32) j = 0 := by pointwise [k0_pay1]

/-- One block of tokens adds its partial products to the accumulator. -/
theorem hpay (x : FVec Ideal S512x2048 .fp8e4m3) (xs : FVec Ideal S512x1 .f32) (ys : FVec Ideal S512x1 .f32) (acc : FVec Ideal S2048x512 .f32) (y : FVec Ideal S1x1x512x512 .fp8e5m2) (j : S2048x512.Idx) :
    k0_pay2 x xs ys acc y j = acc j + ∑ k : Fin 512, (x (ix2 k (j 0)) * (xs (ix2 k 0) * ys (ix2 k 0))) * y (ix4 0 0 k (j 1)) := by
  idx_vars j
  pointwise [k0_pay2]

/-- The last point multiplies the accumulator by the factors of gamma. -/
theorem pay_out (acc : FVec Ideal S2048x512 .f32) (r : FVec Ideal S2048x1 .f32) (j : S2048x512.Idx) :
    (k0_pay3 (F := Ideal) acc r j : EReal) = acc j * r (ix2 (j 0) 0) := by
  idx_vars j
  pointwise [k0_pay3]

/-- Which blocks a grid point reads and writes. -/
theorem idx : ∀ t : Fin cfg0.N, win0_0.index t = ![t.val % 48, 0] ∧ win0_1.index t = ![t.val % 48, 0]
    ∧ win0_2.index t = ![t.val % 48 / 8, t.val / 48 / 11, t.val % 48 % 8, t.val / 48 % 11] ∧ win0_3.index t = ![t.val % 48, 0]
    ∧ win0_4.index t = ![0, 0] ∧ win0_5.index t = ![0, t.val / 48] :=
  (by decide +kernel : ∀ t : Fin grid0.N, _)

/-- The gradient of the input projection from the kernel's own arrays: products summed over all tokens, times gamma. -/
def sum (x : FVec Ideal S24576x2048 .fp8e4m3) (xs : FVec Ideal S24576x1 .f32) (y : FVec Ideal S6x2x4096x5632 .fp8e5m2) (ys : FVec Ideal S24576x1 .f32) (g : FVec Ideal S2048x1 .f32) : FVec Ideal S2048x11264 .bf16 :=
  fun j => (∑ t : Fin 24576, (x (ix2 t (j 0)) * (xs (ix2 t 0) * ys (ix2 t 0)))
    * y (ix4 ⟨t.val / 4096, by omega⟩ ⟨(j 1).val / 5632, by have h : (j 1).val < 11264 := (j 1).isLt; omega⟩ ⟨t.val % 4096, by omega⟩ ⟨(j 1).val % 5632, by omega⟩)) * g (ix2 (j 0) 0)

/-- The accumulator after a writing point: the sum over its run of 48 blocks of tokens. -/
theorem acc_eq (c : Dev nD) (t : Fin cfg0.N) (h : t.val % 48 = 47) (j : S2048x512.Idx) :
    (outsAt0 m c t.val t.isLt).2 j = ∑ s : Fin 48, ∑ k : Fin 512,
      ((show FVec Ideal S512x2048 .fp8e4m3 from iblk m c 0 ⟨48 * (t.val / 48) + s.val, Pipeline.run_point_lt_of_flush t h s⟩) (ix2 k (j 0)) * ((show FVec Ideal S512x1 .f32 from iblk m c 1 ⟨48 * (t.val / 48) + s.val, Pipeline.run_point_lt_of_flush t h s⟩) (ix2 k 0) * (show FVec Ideal S512x1 .f32 from iblk m c 3 ⟨48 * (t.val / 48) + s.val, Pipeline.run_point_lt_of_flush t h s⟩) (ix2 k 0))) * (show FVec Ideal S1x1x512x512 .fp8e5m2 from iblk m c 2 ⟨48 * (t.val / 48) + s.val, Pipeline.run_point_lt_of_flush t h s⟩) (ix4 0 0 k (j 1)) := by
  rw [Pipeline.eq_sum_fin_of_reset_step_apply_of_flush (fun n h => (outsAt0 m c n h).2) 48 (fun _ => 0) _
    (fun t h j => by
      rw [outsAt0_A m c t h (by omega)]; frame_out; rw [hpay, hzero])
    (fun t h j => by
      by_cases h1 : t.val % 48 = 47
      · rw [outsAt0_C m c t h h1]; frame_out; simp only [read_unread_whole]; rw [hpay]
      · rw [outsAt0_B m c t h h1]; frame_out; simp only [read_unread_whole]; rw [hpay])
    t h j, zero_add]

/-- What a writing point writes back: the accumulator it leaves, times the factors of gamma. -/
theorem out_eq (c : Dev nD) (t : Fin cfg0.N) (h : t.val % 48 = 47) :
    (outsAt0 m c t.val t.isLt).1 = k0_pay3 (outsAt0 m c t.val t.isLt).2 (iblk m c 4 t) := by
  rw [outsAt0_C m c t (by omega) h]
  funext y
  frame_out

/-- The kernel's result array, from the arrays the call is given. -/
theorem final (c : Dev nD) : (dats m 0 c).arrAt 5 cfg0.N
    = sum (V m c main_v0) (V m c main_v1) (V m c main_arg2) (V m c main_arg3) (V m c main_v2) := by
  refine (dats m 0 c).arrAt_eq_of_covers 5 _ (by decide +kernel) fun t hf y => ?_
  have h := (flush0_5 t).mp hf
  blk_simp
  rw [after0_5, out_eq m c t h, pay_out, acc_eq m c t h]
  unfold sum
  refine congrArg₂ (· * ·) ?_ ?_
  · refine Fin.sum_mul_add_congr fun s k hl => ?_
    blk_point [iblk, idx t, idx ⟨_, Pipeline.run_point_lt_of_flush t h s⟩]
  · blk_point [iblk, idx t]

/-- The call's array of codes, from its argument. -/
theorem V_v0 (c : Dev nD) : V m c main_v0 = shapeCast S24576x2048 (m ((c : Thread nD τ).loc main_arg0)) shapeCasts_S6x4096x2048_S24576x2048 := by
  entry_read
  try rfl

/-- The call's column of scales, from its argument. -/
theorem V_v1 (c : Dev nD) : V m c main_v1 = shapeCast S24576x1 (m ((c : Thread nD τ).loc main_arg1)) shapeCasts_S6x4096_S24576x1 := by
  entry_read
  try rfl

/-- Gamma as a column, from the argument. -/
theorem V_v2 (c : Dev nD) : V m c main_v2 = shapeCast S2048x1 (m ((c : Thread nD τ).loc main_arg4)) shapeCasts_S2048_S2048x1 := by
  entry_read
  try rfl

end Cert.DwInIdeal.Val

end
-- ==== Proof.DwInClaim.lean ====
module

public import proofs.«01_k».proof.Defs
public import proofs.«01_k».proof.Proof.DwInRef
public import proofs.«01_k».proof.Proof.DwInKer

@[expose] public section

set_option maxRecDepth 16384

noncomputable section

namespace Cert

open Idealize.ShloMosaic Idealize.ShloMosaic.TcCoe Idealize.SL.Sem

/-- The kernel's grouping of the scales and the reference's give the same sum, the codes read where the reference's
    row-and-column picture of them has them. -/
theorem dwIn_sum_eq (x : FVec Ideal DwInIdeal.S24576x2048 .fp8e4m3) (xs : FVec Ideal DwInIdeal.S24576x1 .f32)
    (y : FVec Ideal DwInIdeal.S6x2x4096x5632 .fp8e5m2) (y' : FVec Ideal RefDwInIdeal.S24576x11264 .fp8e5m2)
    (ys : FVec Ideal DwInIdeal.S24576x1 .f32) (g : FVec Ideal DwInIdeal.S2048x1 .f32)
    (hy : ∀ (t : Fin 24576) (j : Fin 11264), y' (ix2 t j)
      = y (ix4 ⟨t.val / 4096, by omega⟩ ⟨j.val / 5632, by omega⟩ ⟨t.val % 4096, by omega⟩ ⟨j.val % 5632, by omega⟩)) :
    DwInIdeal.Val.sum x xs y ys g = RefDwInIdeal.Val.sum x xs y' ys g := by
  funext j
  unfold DwInIdeal.Val.sum RefDwInIdeal.Val.sum
  show (_ : EReal) = _
  rw [mul_comm]
  refine congrArg₂ (· * ·) rfl (Finset.sum_congr rfl fun t _ => ?_)
  show (_ : EReal) = _
  rw [← mul_assoc, mul_assoc, mul_comm (ys _)]
  exact congrArg (fun z : EReal => x (ix2 t (j 0)) * xs (ix2 t 0) * (z * ys (ix2 t 0))) (hy t (j 1)).symm

/-- The gradient of the input projection: the kernel computes the reference's sum. -/
theorem algebraic_DwIn : algebraic_DwInIdeal_RefDwInIdeal (hDwInIdeal := DwInIdeal.Gen.facts) (hRefDwInIdeal := RefDwInIdeal.Gen.facts) := by
  pair_intro
  · run_from DwInIdeal.Gen.run_main m g
  · run_from RefDwInIdeal.Gen.run_main m' g'
    refine (RefDwInIdeal.Val.final m' c).trans (Eq.trans ?_ (DwInIdeal.Val.final m c).symm)
    obtain ⟨e0, e1, e2, e3, e4⟩ := hagree c
    rw [RefDwInIdeal.Val.V_v0, RefDwInIdeal.Val.V_v1, RefDwInIdeal.Val.V_v3, RefDwInIdeal.Val.V_v4, RefDwInIdeal.Gen.V_main_arg3,
      DwInIdeal.Val.V_v0, DwInIdeal.Val.V_v1, DwInIdeal.Val.V_v2, DwInIdeal.Gen.V_main_arg2, DwInIdeal.Gen.V_main_arg3, e0, e1, e2, e3, e4]
    exact (dwIn_sum_eq _ _ _ _ _ _ (fun t j => by pointwise)).symm

end Cert

end
-- ==== Proof.DwOutRef.lean ====
module

public import proofs.«01_k».proof.Proof.Gen.RefDwOutIdeal.Value
public import Idealize.ShloMosaic.Lib.Pipeline.ValueKit
public import Idealize.ShloMosaic.Lib.Pointwise
public import Idealize.ShloMosaic.Lib.Claim

@[expose] public section

set_option maxRecDepth 16384

noncomputable section

namespace Cert.RefDwOutIdeal.Val

open Cert.RefDwOutIdeal Cert.RefDwOutIdeal.Gen Idealize.ShloMosaic Idealize.ShloMosaic.TcCoe Idealize.SL.Sem
open Idealize.ShloMosaic.Pipeline (Dat)

variable (m : (ℓ : Loc nD τ sig) → Buf (Elt Ideal) ℓ)

/-- The gradient of the output projection as one sum over all tokens. -/
def sum (x : FVec Ideal S24576x5632 .fp8e4m3) (xs : FVec Ideal S24576x1 .f32) (y : FVec Ideal S24576x2048 .fp8e5m2)
    (ys : FVec Ideal S24576x1 .f32) : FVec Ideal S5632x2048 .bf16 :=
  fun j => ∑ t : Fin 24576, (x (ix2 t (j 0)) * xs (ix2 t 0)) * (y (ix2 t (j 1)) * ys (ix2 t 0))

/-- The reference's stored block is that sum. -/
theorem pay_eq (x : FVec Ideal S24576x5632 .fp8e4m3) (xs : FVec Ideal S24576x1 .f32) (y : FVec Ideal S24576x2048 .fp8e5m2)
    (ys : FVec Ideal S24576x1 .f32) : k0_pay1 x xs y ys = sum x xs y ys := by
  funext j
  idx_vars j
  pointwise [k0_pay1, sum]

/-- The one grid point reads and writes whole arrays. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The reference's result array, from the arrays the call is given. -/
theorem final (c : Dev nD) : (dats m 0 c).arrAt 4 cfg0.N
    = sum (V m c main_v0) (V m c main_v1) (V m c main_v2) (V m c main_v3) := by
  refine (dats m 0 c).arrAt_eq_of_after_last 4 t0_0 (by decide +kernel) _ fun j => ?_
  blk_simp
  rw [after0_4]
  frame_out
  rw [← pay_eq]
  congr 1 <;> (funext i; blk_ext [iblk, idx t0_0])

/-- The call's array `v0` is its argument, reshaped. -/
theorem V_v0 (c : Dev nD) : V m c main_v0 = shapeCast S24576x5632 (m ((c : Thread nD τ).loc main_arg0)) shapeCasts_S6x4096x5632_S24576x5632 := by
  entry_read
  try rfl

/-- The call's array `v1` is its argument, reshaped. -/
theorem V_v1 (c : Dev nD) : V m c main_v1 = shapeCast S24576x1 (m ((c : Thread nD τ).loc main_arg1)) shapeCasts_S6x4096_S24576x1 := by
  entry_read
  try rfl

/-- The call's array `v2` is its argument, reshaped. -/
theorem V_v2 (c : Dev nD) : V m c main_v2 = shapeCast S24576x2048 (m ((c : Thread nD τ).loc main_arg2)) shapeCasts_S6x4096x2048_S24576x2048 := by
  entry_read
  try rfl

/-- The call's array `v3` is its argument, reshaped. -/
theorem V_v3 (c : Dev nD) : V m c main_v3 = shapeCast S24576x1 (m ((c : Thread nD τ).loc main_arg3)) shapeCasts_S6x4096_S24576x1 := by
  entry_read
  try rfl

end Cert.RefDwOutIdeal.Val

end
-- ==== Proof.DwOutKer.lean ====
module

public import proofs.«01_k».proof.Proof.Gen.DwOutIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.DwOutIdeal.Val

open Cert.DwOutIdeal Cert.DwOutIdeal.Gen Idealize.ShloMosaic Idealize.ShloMosaic.TcCoe Idealize.SL.Sem
open Idealize.ShloMosaic.Pipeline (Dat)

variable (m : (ℓ : Loc nD τ sig) → Buf (Elt Ideal) ℓ)

/-- The accumulator starts at zero. -/
theorem hzero (j : S512x2048.Idx) : (k0_pay1 (F := Ideal) : FVec Ideal S512x2048 .f32) j = 0 := by pointwise [k0_pay1]

/-- One block of tokens adds its partial products to the accumulator. -/
theorem hpay (x : FVec Ideal S512x512 .fp8e4m3) (xs ys : FVec Ideal S512x1 .f32) (acc : FVec Ideal S512x2048 .f32)
    (y : FVec Ideal S512x2048 .fp8e5m2) (j : S512x2048.Idx) :
    k0_pay2 x xs ys acc y j = acc j + ∑ k : Fin 512, (x (ix2 k (j 0)) * (xs (ix2 k 0) * ys (ix2 k 0))) * y (ix2 k (j 1)) := by
  idx_vars j
  pointwise [k0_pay2]

/-- The last point multiplies the accumulator's rows by the row factors. -/
theorem pay_out (acc : FVec Ideal S512x2048 .f32) (r : FVec Ideal S512x1 .f32) (j : S512x2048.Idx) :
    (k0_pay3 (F := Ideal) acc r j : EReal) = acc j * r (ix2 (j 0) 0) := by
  idx_vars j
  pointwise [k0_pay3]

/-- Which blocks a grid point reads and writes. -/
theorem idx : ∀ t : Fin cfg0.N, win0_0.index t = ![t.val % 48, t.val / 48] ∧ win0_1.index t = ![t.val % 48, 0]
    ∧ win0_2.index t = ![t.val % 48, 0] ∧ win0_3.index t = ![t.val % 48, 0] ∧ win0_4.index t = ![t.val / 48, 0]
    ∧ win0_5.index t = ![t.val / 48, 0] :=
  (by decide +kernel : ∀ t : Fin grid0.N, _)

/-- The gradient of the output projection from the kernel's own arrays: products summed over all tokens, times the row factor. -/
def sum (x : FVec Ideal S24576x5632 .fp8e4m3) (xs : FVec Ideal S24576x1 .f32) (y : FVec Ideal S24576x2048 .fp8e5m2)
    (ys : FVec Ideal S24576x1 .f32) (r : FVec Ideal S5632x1 .f32) : FVec Ideal S5632x2048 .bf16 :=
  fun j => (∑ t : Fin 24576, (x (ix2 t (j 0)) * (xs (ix2 t 0) * ys (ix2 t 0))) * y (ix2 t (j 1))) * r (ix2 (j 0) 0)

/-- The accumulator after a writing point: the sum over its run of 48 blocks of tokens. -/
theorem acc_eq (c : Dev nD) (t : Fin cfg0.N) (h : t.val % 48 = 47) (j : S512x2048.Idx) :
    (outsAt0 m c t.val t.isLt).2 j = ∑ s : Fin 48, ∑ k : Fin 512,
      ((show FVec Ideal S512x512 .fp8e4m3 from iblk m c 0 ⟨48 * (t.val / 48) + s.val, Pipeline.run_point_lt_of_flush t h s⟩) (ix2 k (j 0))
        * ((show FVec Ideal S512x1 .f32 from iblk m c 1 ⟨48 * (t.val / 48) + s.val, Pipeline.run_point_lt_of_flush t h s⟩) (ix2 k 0)
          * (show FVec Ideal S512x1 .f32 from iblk m c 3 ⟨48 * (t.val / 48) + s.val, Pipeline.run_point_lt_of_flush t h s⟩) (ix2 k 0)))
        * (show FVec Ideal S512x2048 .fp8e5m2 from iblk m c 2 ⟨48 * (t.val / 48) + s.val, Pipeline.run_point_lt_of_flush t h s⟩) (ix2 k (j 1)) := by
  rw [Pipeline.eq_sum_fin_of_reset_step_apply_of_flush (fun n h => (outsAt0 m c n h).2) 48 (fun _ => 0) _
    (fun t h j => by
      rw [outsAt0_A m c t h (by omega)]; frame_out; rw [hpay, hzero])
    (fun t h j => by
      by_cases h1 : t.val % 48 = 47
      · rw [outsAt0_C m c t h h1]; frame_out; simp only [read_unread_whole]; rw [hpay]
      · rw [outsAt0_B m c t h h1]; frame_out; simp only [read_unread_whole]; rw [hpay])
    t h j, zero_add]

/-- What a writing point writes back: the accumulator it leaves, times the row factors. -/
theorem out_eq (c : Dev nD) (t : Fin cfg0.N) (h : t.val % 48 = 47) :
    (outsAt0 m c t.val t.isLt).1 = k0_pay3 (outsAt0 m c t.val t.isLt).2 (iblk m c 4 t) := by
  rw [outsAt0_C m c t (by omega) h]
  funext y
  frame_out

/-- The kernel's result array, from the arrays the call is given. -/
theorem final (c : Dev nD) : (dats m 0 c).arrAt 5 cfg0.N
    = sum (V m c main_v1) (V m c main_v2) (V m c main_v0) (V m c main_v3) (V m c main_v4) := by
  refine (dats m 0 c).arrAt_eq_of_covers 5 _ (by decide +kernel) fun t hf y => ?_
  have h := (flush0_5 t).mp hf
  blk_simp
  rw [after0_5, out_eq m c t h, pay_out, acc_eq m c t h]
  unfold sum
  refine congrArg₂ (· * ·) ?_ ?_
  · refine Fin.sum_mul_add_congr fun s k hl => ?_
    blk_point [iblk, idx t, idx ⟨_, Pipeline.run_point_lt_of_flush t h s⟩]
  · blk_point [iblk, idx t]

/-- The call's array `v1` is its argument, reshaped. -/
theorem V_v1 (c : Dev nD) : V m c main_v1 = shapeCast S24576x5632 (m ((c : Thread nD τ).loc main_arg0)) shapeCasts_S6x4096x5632_S24576x5632 := by
  entry_read
  try rfl

/-- The call's array `v2` is its argument, reshaped. -/
theorem V_v2 (c : Dev nD) : V m c main_v2 = shapeCast S24576x1 (m ((c : Thread nD τ).loc main_arg1)) shapeCasts_S6x4096_S24576x1 := by
  entry_read
  try rfl

/-- The call's array `v0` is its argument, reshaped. -/
theorem V_v0 (c : Dev nD) : V m c main_v0 = shapeCast S24576x2048 (m ((c : Thread nD τ).loc main_arg2)) shapeCasts_S6x4096x2048_S24576x2048 := by
  entry_read
  try rfl

/-- The call's array `v3` is its argument, reshaped. -/
theorem V_v3 (c : Dev nD) : V m c main_v3 = shapeCast S24576x1 (m ((c : Thread nD τ).loc main_arg3)) shapeCasts_S6x4096_S24576x1 := by
  entry_read
  try rfl

/-- The row factors of this call are all one. -/
theorem V_v4 (c : Dev nD) : V m c main_v4 = broadcastInDim S5632x1 ![] bcast_S_S5632x1 (constant (F := Ideal) S_ .f32 0x3F800000#32) := by
  entry_read
  try rfl

end Cert.DwOutIdeal.Val

end
-- ==== Proof.DwOutClaim.lean ====
module

public import proofs.«01_k».proof.Defs
public import proofs.«01_k».proof.Proof.DwOutRef
public import proofs.«01_k».proof.Proof.DwOutKer

@[expose] public section

set_option maxRecDepth 16384

noncomputable section

namespace Cert

open Idealize.ShloMosaic Idealize.ShloMosaic.TcCoe Idealize.SL.Sem

/-- The kernel's grouping of the scales and the reference's give the same sum. -/
theorem dwOut_sum_eq (x : FVec Ideal DwOutIdeal.S24576x5632 .fp8e4m3) (xs : FVec Ideal DwOutIdeal.S24576x1 .f32)
    (y : FVec Ideal DwOutIdeal.S24576x2048 .fp8e5m2) (ys : FVec Ideal DwOutIdeal.S24576x1 .f32) (r : FVec Ideal DwOutIdeal.S5632x1 .f32)
    (hr : ∀ j, r j = (1 : EReal)) : DwOutIdeal.Val.sum x xs y ys r = RefDwOutIdeal.Val.sum x xs y ys := by
  funext j
  unfold DwOutIdeal.Val.sum RefDwOutIdeal.Val.sum
  rw [hr, mul_one]
  refine Finset.sum_congr rfl fun t _ => ?_
  show (_ : EReal) = _
  rw [← mul_assoc, mul_assoc, mul_comm (ys _)]

/-- The gradient of the output projection: the kernel computes the reference's sum. -/
theorem algebraic_DwOut : algebraic_DwOutIdeal_RefDwOutIdeal (hDwOutIdeal := DwOutIdeal.Gen.facts) (hRefDwOutIdeal := RefDwOutIdeal.Gen.facts) := by
  pair_intro
  · run_from DwOutIdeal.Gen.run_main m g
  · run_from RefDwOutIdeal.Gen.run_main m' g'
    refine (RefDwOutIdeal.Val.final m' c).trans (Eq.trans ?_ (DwOutIdeal.Val.final m c).symm)
    obtain ⟨e0, e1, e2, e3⟩ := hagree c
    rw [RefDwOutIdeal.Val.V_v0, RefDwOutIdeal.Val.V_v1, RefDwOutIdeal.Val.V_v2, RefDwOutIdeal.Val.V_v3,
      DwOutIdeal.Val.V_v0, DwOutIdeal.Val.V_v1, DwOutIdeal.Val.V_v2, DwOutIdeal.Val.V_v3, DwOutIdeal.Val.V_v4, e0, e1, e2, e3]
    exact (dwOut_sum_eq _ _ _ _ _ (fun j => by idx_vars j; pointwise)).symm

end Cert

end
-- ==== Proof.DwQkvRef.lean ====
module

public import proofs.«01_k».proof.Proof.Gen.RefDwQkvIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.RefDwQkvIdeal.Val

open Cert.RefDwQkvIdeal Cert.RefDwQkvIdeal.Gen Idealize.ShloMosaic Idealize.ShloMosaic.TcCoe Idealize.SL.Sem
open Idealize.ShloMosaic.Pipeline (Dat)

variable (m : (ℓ : Loc nD τ sig) → Buf (Elt Ideal) ℓ)

/-- The gradient of the attention projection, times gamma, as one sum over all tokens. -/
def sum (d : FVec Ideal S24576x6144 .fp8e5m2) (ds : FVec Ideal S24576x1 .f32) (x : FVec Ideal S24576x2048 .fp8e4m3) (xs : FVec Ideal S24576x1 .f32) (g : FVec Ideal S1x2048 .f32) : FVec Ideal S6144x2048 .bf16 :=
  fun j => (∑ t : Fin 24576, (d (ix2 t (j 0)) * ds (ix2 t 0)) * (x (ix2 t (j 1)) * xs (ix2 t 0))) * g (ix2 0 (j 1))

/-- The reference's stored block is that sum. -/
theorem pay_eq (d : FVec Ideal S24576x6144 .fp8e5m2) (ds : FVec Ideal S24576x1 .f32) (x : FVec Ideal S24576x2048 .fp8e4m3) (xs : FVec Ideal S24576x1 .f32) (g : FVec Ideal S1x2048 .f32) :
    k0_pay1 d ds x xs g = sum d ds x xs g := by
  funext j
  idx_vars j
  pointwise [k0_pay1, sum]

/-- The one grid point reads and writes whole arrays. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0] :=
  (by decide +kernel : ∀ t : Fin grid0.N, _)

/-- Window 0 holds the whole array. -/
theorem blk_0 (c : Dev nD) : (iblk m c 0 t0_0 : _) = V m c main_v0 := by
  funext i
  blk_ext [iblk, idx t0_0]

/-- Window 1 holds the whole array. -/
theorem blk_1 (c : Dev nD) : (iblk m c 1 t0_0 : _) = V m c main_v1 := by
  funext i
  blk_ext [iblk, idx t0_0]

/-- Window 2 holds the whole array. -/
theorem blk_2 (c : Dev nD) : (iblk m c 2 t0_0 : _) = V m c main_v2 := by
  funext i
  blk_ext [iblk, idx t0_0]

/-- Window 3 holds the whole array. -/
theorem blk_3 (c : Dev nD) : (iblk m c 3 t0_0 : _) = V m c main_v3 := by
  funext i
  blk_ext [iblk, idx t0_0]

/-- Window 4 holds the whole array. -/
theorem blk_4 (c : Dev nD) : (iblk m c 4 t0_0 : _) = V m c main_v4 := by
  funext i
  blk_ext [iblk, idx t0_0]

/-- The reference's result array, from the arrays the call is given. -/
theorem final (c : Dev nD) : (dats m 0 c).arrAt 5 cfg0.N
    = sum (V m c main_v0) (V m c main_v1) (V m c main_v2) (V m c main_v3) (V m c main_v4) := by
  refine (dats m 0 c).arrAt_eq_of_after_last 5 t0_0 (by decide +kernel) _ fun j => ?_
  blk_simp
  rw [after0_5]
  frame_out
  rw [← pay_eq, blk_0, blk_1, blk_2, blk_3, blk_4]

/-- The gradient codes with one row per token, from the argument. -/
theorem V_v0 (c : Dev nD) : V m c main_v0 = shapeCast S24576x6144 (m ((c : Thread nD τ).loc main_arg0)) shapeCasts_S6x4096x3x32x64_S24576x6144 := by
  entry_read
  try rfl

/-- Their scales as a column, from the argument. -/
theorem V_v1 (c : Dev nD) : V m c main_v1 = shapeCast S24576x1 (m ((c : Thread nD τ).loc main_arg1)) shapeCasts_S6x4096_S24576x1 := by
  entry_read
  try rfl

/-- The input codes with one row per token, from the argument. -/
theorem V_v2 (c : Dev nD) : V m c main_v2 = shapeCast S24576x2048 (m ((c : Thread nD τ).loc main_arg2)) shapeCasts_S6x4096x2048_S24576x2048 := by
  entry_read
  try rfl

/-- Their scales as a column, from the argument. -/
theorem V_v3 (c : Dev nD) : V m c main_v3 = shapeCast S24576x1 (m ((c : Thread nD τ).loc main_arg3)) shapeCasts_S6x4096_S24576x1 := by
  entry_read
  try rfl

/-- Gamma as a row, from the argument. -/
theorem V_v4 (c : Dev nD) : V m c main_v4 = shapeCast S1x2048 (m ((c : Thread nD τ).loc main_arg4)) shapeCasts_S2048_S1x2048 := by
  entry_read
  try rfl

end Cert.RefDwQkvIdeal.Val

end
-- ==== Proof.DwQkvKer.lean ====
module

public import proofs.«01_k».proof.Proof.Gen.DwQkvIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.DwQkvIdeal.Val

open Cert.DwQkvIdeal Cert.DwQkvIdeal.Gen Idealize.ShloMosaic Idealize.ShloMosaic.TcCoe Idealize.SL.Sem
open Idealize.ShloMosaic.Pipeline (Dat)

variable (m : (ℓ : Loc nD τ sig) → Buf (Elt Ideal) ℓ)

/-- The accumulator starts at zero. -/
theorem hzero (j : S2048x2048.Idx) : (k0_pay1 (F := Ideal) : FVec Ideal S2048x2048 .f32) j = 0 := by pointwise [k0_pay1]

/-- One block of tokens adds its partial products to the accumulator. -/
theorem hpay (d : FVec Ideal S1x2048x512 .fp8e5m2) (ds : FVec Ideal S1x512 .f32) (xs : FVec Ideal S1x512 .f32) (acc : FVec Ideal S2048x2048 .f32) (x : FVec Ideal S512x2048 .fp8e4m3) (j : S2048x2048.Idx) :
    k0_pay2 d ds xs acc x j = acc j + ∑ k : Fin 512, (d (ix3 0 (j 0) k) * (ds (ix2 0 k) * xs (ix2 0 k))) * x (ix2 k (j 1)) := by
  idx_vars j
  pointwise [k0_pay2]

/-- The last point multiplies the accumulator by the factors of gamma. -/
theorem pay_out (acc : FVec Ideal S2048x2048 .f32) (r : FVec Ideal S1x2048 .f32) (j : S2048x2048.Idx) :
    (k0_pay3 (F := Ideal) acc r j : EReal) = acc j * r (ix2 0 (j 1)) := by
  idx_vars j
  pointwise [k0_pay3]

/-- Which blocks a grid point reads and writes. -/
theorem idx : ∀ t : Fin cfg0.N, win0_0.index t = ![t.val % 48 / 8, t.val / 48, t.val % 48 % 8] ∧ win0_1.index t = ![0, t.val % 48]
    ∧ win0_2.index t = ![0, t.val % 48] ∧ win0_3.index t = ![t.val % 48, 0]
    ∧ win0_4.index t = ![0, 0] ∧ win0_5.index t = ![t.val / 48, 0] :=
  (by decide +kernel : ∀ t : Fin grid0.N, _)

/-- The gradient of the attention projection from the kernel's own arrays: products summed over all tokens, times gamma. -/
def sum (d : FVec Ideal S6x6144x4096 .fp8e5m2) (ds : FVec Ideal S1x24576 .f32) (x : FVec Ideal S24576x2048 .fp8e4m3) (xs : FVec Ideal S1x24576 .f32) (g : FVec Ideal S1x2048 .f32) : FVec Ideal S6144x2048 .bf16 :=
  fun j => (∑ t : Fin 24576, (d (ix3 ⟨t.val / 4096, by omega⟩ (j 0) ⟨t.val % 4096, by omega⟩) * (ds (ix2 0 t) * xs (ix2 0 t)))
    * x (ix2 t (j 1))) * g (ix2 0 (j 1))

/-- The accumulator after a writing point: the sum over its run of 48 blocks of tokens. -/
theorem acc_eq (c : Dev nD) (t : Fin cfg0.N) (h : t.val % 48 = 47) (j : S2048x2048.Idx) :
    (outsAt0 m c t.val t.isLt).2 j = ∑ s : Fin 48, ∑ k : Fin 512,
      ((show FVec Ideal S1x2048x512 .fp8e5m2 from iblk m c 0 ⟨48 * (t.val / 48) + s.val, Pipeline.run_point_lt_of_flush t h s⟩) (ix3 0 (j 0) k) * ((show FVec Ideal S1x512 .f32 from iblk m c 1 ⟨48 * (t.val / 48) + s.val, Pipeline.run_point_lt_of_flush t h s⟩) (ix2 0 k) * (show FVec Ideal S1x512 .f32 from iblk m c 2 ⟨48 * (t.val / 48) + s.val, Pipeline.run_point_lt_of_flush t h s⟩) (ix2 0 k))) * (show FVec Ideal S512x2048 .fp8e4m3 from iblk m c 3 ⟨48 * (t.val / 48) + s.val, Pipeline.run_point_lt_of_flush t h s⟩) (ix2 k (j 1)) := by
  rw [Pipeline.eq_sum_fin_of_reset_step_apply_of_flush (fun n h => (outsAt0 m c n h).2) 48 (fun _ => 0) _
    (fun t h j => by
      rw [outsAt0_A m c t h (by omega)]; frame_out; rw [hpay, hzero])
    (fun t h j => by
      by_cases h1 : t.val % 48 = 47
      · rw [outsAt0_C m c t h h1]; frame_out; simp only [read_unread_whole]; rw [hpay]
      · rw [outsAt0_B m c t h h1]; frame_out; simp only [read_unread_whole]; rw [hpay])
    t h j, zero_add]

/-- What a writing point writes back: the accumulator it leaves, times the factors of gamma. -/
theorem out_eq (c : Dev nD) (t : Fin cfg0.N) (h : t.val % 48 = 47) :
    (outsAt0 m c t.val t.isLt).1 = k0_pay3 (outsAt0 m c t.val t.isLt).2 (iblk m c 4 t) := by
  rw [outsAt0_C m c t (by omega) h]
  funext y
  frame_out

/-- The kernel's result array, from the arrays the call is given. -/
theorem final (c : Dev nD) : (dats m 0 c).arrAt 5 cfg0.N
    = sum (V m c main_v2) (V m c main_v3) (V m c main_v0) (V m c main_v4) (V m c main_v5) := by
  refine (dats m 0 c).arrAt_eq_of_covers 5 _ (by decide +kernel) fun t hf y => ?_
  have h := (flush0_5 t).mp hf
  blk_simp
  rw [after0_5, out_eq m c t h, pay_out, acc_eq m c t h]
  unfold sum
  refine congrArg₂ (· * ·) ?_ ?_
  · refine Fin.sum_mul_add_congr fun s k hl => ?_
    blk_point [iblk, idx t, idx ⟨_, Pipeline.run_point_lt_of_flush t h s⟩]
  · blk_point [iblk, idx t]

/-- The input codes with one row per token, from the argument. -/
theorem V_v0 (c : Dev nD) : V m c main_v0 = shapeCast S24576x2048 (m ((c : Thread nD τ).loc main_arg2)) shapeCasts_S6x4096x2048_S24576x2048 := by
  entry_read
  try rfl

/-- The gradient codes with tokens along the last axis, from the argument. -/
theorem V_v2 (c : Dev nD) : V m c main_v2 = shapeCast S6x6144x4096 (transpose S6x3x32x64x4096 [0, 2, 3, 4, 1] (m ((c : Thread nD τ).loc main_arg0)) transposes_S6x4096x3x32x64_S6x3x32x64x4096_0_2_3_4_1) shapeCasts_S6x3x32x64x4096_S6x6144x4096 := by
  entry_read
  try rfl

/-- Their scales as a row, from the argument. -/
theorem V_v3 (c : Dev nD) : V m c main_v3 = shapeCast S1x24576 (m ((c : Thread nD τ).loc main_arg1)) shapeCasts_S6x4096_S1x24576 := by
  entry_read
  try rfl

/-- The input's scales as a row, from the argument. -/
theorem V_v4 (c : Dev nD) : V m c main_v4 = shapeCast S1x24576 (m ((c : Thread nD τ).loc main_arg3)) shapeCasts_S6x4096_S1x24576 := by
  entry_read
  try rfl

/-- Gamma as a row, from the argument. -/
theorem V_v5 (c : Dev nD) : V m c main_v5 = shapeCast S1x2048 (m ((c : Thread nD τ).loc main_arg4)) shapeCasts_S2048_S1x2048 := by
  entry_read
  try rfl

end Cert.DwQkvIdeal.Val

end
-- ==== Proof.DwQkvClaim.lean ====
module

public import proofs.«01_k».proof.Defs
public import proofs.«01_k».proof.Proof.DwQkvRef
public import proofs.«01_k».proof.Proof.DwQkvKer

@[expose] public section

set_option maxRecDepth 16384

noncomputable section

namespace Cert

open Idealize.ShloMosaic Idealize.ShloMosaic.TcCoe Idealize.SL.Sem

/-- The kernel's grouping of the scales and the reference's give the same sum, the codes and scales read where the
    reference's pictures of them have them. -/
theorem dwQkv_sum_eq (d : FVec Ideal DwQkvIdeal.S6x6144x4096 .fp8e5m2) (d' : FVec Ideal RefDwQkvIdeal.S24576x6144 .fp8e5m2)
    (ds : FVec Ideal DwQkvIdeal.S1x24576 .f32) (ds' : FVec Ideal RefDwQkvIdeal.S24576x1 .f32)
    (x : FVec Ideal DwQkvIdeal.S24576x2048 .fp8e4m3)
    (xs : FVec Ideal DwQkvIdeal.S1x24576 .f32) (xs' : FVec Ideal RefDwQkvIdeal.S24576x1 .f32) (g : FVec Ideal DwQkvIdeal.S1x2048 .f32)
    (hd : ∀ (t : Fin 24576) (j : Fin 6144), d' (ix2 t j) = d (ix3 ⟨t.val / 4096, by omega⟩ j ⟨t.val % 4096, by omega⟩))
    (hds : ∀ t : Fin 24576, ds' (ix2 t 0) = ds (ix2 0 t)) (hxs : ∀ t : Fin 24576, xs' (ix2 t 0) = xs (ix2 0 t)) :
    DwQkvIdeal.Val.sum d ds x xs g = RefDwQkvIdeal.Val.sum d' ds' x xs' g := by
  funext j
  unfold DwQkvIdeal.Val.sum RefDwQkvIdeal.Val.sum
  refine congrArg₂ (fun a b : EReal => a * b) (Finset.sum_congr rfl fun t _ => ?_) rfl
  show (_ : EReal) = _
  refine Eq.trans ?_ (congrArg₂ (fun a b : EReal => a * (x (ix2 t (j 1)) * b))
    (congrArg₂ (fun a b : EReal => a * b) (hd t (j 0)) (hds t)) (hxs t)).symm
  show (_ : EReal) = _
  rw [← mul_assoc, mul_assoc (_ * _), mul_comm (xs _)]

/-- The gradient codes, one row per token, against the same codes with tokens along the last axis. -/
theorem dwQkv_codes (A : FVec Ideal RefDwQkvIdeal.S6x4096x3x32x64 .fp8e5m2) (t : Fin 24576) (j : Fin 6144) (h h' h'') :
    shapeCast RefDwQkvIdeal.S24576x6144 A h (ix2 t j)
      = shapeCast DwQkvIdeal.S6x6144x4096 (transpose DwQkvIdeal.S6x3x32x64x4096 [0, 2, 3, 4, 1] A h') h''
          (ix3 ⟨t.val / 4096, by omega⟩ j ⟨t.val % 4096, by omega⟩) := by
  pointwise

/-- Scales as a column and as a row. -/
theorem dwQkv_scales (A : FVec Ideal RefDwQkvIdeal.S6x4096 .f32) (t : Fin 24576) (h h') :
    shapeCast RefDwQkvIdeal.S24576x1 A h (ix2 t 0) = shapeCast DwQkvIdeal.S1x24576 A h' (ix2 0 t) := by
  pointwise

/-- The gradient of the attention projection: the kernel computes the reference's sum. -/
theorem algebraic_DwQkv : algebraic_DwQkvIdeal_RefDwQkvIdeal (hDwQkvIdeal := DwQkvIdeal.Gen.facts) (hRefDwQkvIdeal := RefDwQkvIdeal.Gen.facts) := by
  pair_intro
  · run_from DwQkvIdeal.Gen.run_main m g
  · run_from RefDwQkvIdeal.Gen.run_main m' g'
    refine (RefDwQkvIdeal.Val.final m' c).trans (Eq.trans ?_ (DwQkvIdeal.Val.final m c).symm)
    obtain ⟨e0, e1, e2, e3, e4⟩ := hagree c
    rw [RefDwQkvIdeal.Val.V_v0, RefDwQkvIdeal.Val.V_v1, RefDwQkvIdeal.Val.V_v2, RefDwQkvIdeal.Val.V_v3, RefDwQkvIdeal.Val.V_v4,
      DwQkvIdeal.Val.V_v0, DwQkvIdeal.Val.V_v2, DwQkvIdeal.Val.V_v3, DwQkvIdeal.Val.V_v4, DwQkvIdeal.Val.V_v5, e0, e1, e2, e3, e4]
    exact (dwQkv_sum_eq _ _ _ _ _ _ _ _ (fun t j => dwQkv_codes _ t j _ _ _) (fun t => dwQkv_scales _ t _ _)
      (fun t => dwQkv_scales _ t _ _)).symm

end Cert

end
-- ==== Proof.lean ====
module

public import proofs.«01_k».proof.Defs
public import proofs.«01_k».proof.Proof.DaClaim
public import proofs.«01_k».proof.Proof.DhClaim
public import proofs.«01_k».proof.Proof.GradClaim
public import proofs.«01_k».proof.Proof.DwInClaim
public import proofs.«01_k».proof.Proof.DwOutClaim
public import proofs.«01_k».proof.Proof.DwQkvClaim
public import proofs.«01_k».proof.Proof.Gen.Da.Frame
public import proofs.«01_k».proof.Proof.Gen.DaIdeal.Frame
public import proofs.«01_k».proof.Proof.Gen.RefDaIdeal.Frame
public import proofs.«01_k».proof.Proof.Gen.Dh.Frame
public import proofs.«01_k».proof.Proof.Gen.DhIdeal.Frame
public import proofs.«01_k».proof.Proof.Gen.RefDhIdeal.Frame
public import proofs.«01_k».proof.Proof.Gen.Grad.Frame
public import proofs.«01_k».proof.Proof.Gen.GradIdeal.Frame
public import proofs.«01_k».proof.Proof.Gen.RefGradIdeal.Frame
public import proofs.«01_k».proof.Proof.Gen.DwIn.Frame
public import proofs.«01_k».proof.Proof.Gen.DwInIdeal.Frame
public import proofs.«01_k».proof.Proof.Gen.RefDwInIdeal.Frame
public import proofs.«01_k».proof.Proof.Gen.DwOut.Frame
public import proofs.«01_k».proof.Proof.Gen.DwOutIdeal.Frame
public import proofs.«01_k».proof.Proof.Gen.RefDwOutIdeal.Frame
public import proofs.«01_k».proof.Proof.Gen.DwQkv.Frame
public import proofs.«01_k».proof.Proof.Gen.DwQkvIdeal.Frame
public import proofs.«01_k».proof.Proof.Gen.RefDwQkvIdeal.Frame

@[expose] public section

set_option maxRecDepth 16384

noncomputable section

namespace Cert.Proof

open Idealize.ShloMosaic Idealize.SL.Sem

/-- Everything claimed: the stated facts of every program, the frames, and for each call the value claim. -/
theorem claim : Cert.Claim :=
  ⟨Cert.Da.Gen.facts,
    Cert.DaIdeal.Gen.facts,
    Cert.RefDaIdeal.Gen.facts,
    Cert.Dh.Gen.facts,
    Cert.DhIdeal.Gen.facts,
    Cert.RefDhIdeal.Gen.facts,
    Cert.Grad.Gen.facts,
    Cert.GradIdeal.Gen.facts,
    Cert.RefGradIdeal.Gen.facts,
    Cert.DwIn.Gen.facts,
    Cert.DwInIdeal.Gen.facts,
    Cert.RefDwInIdeal.Gen.facts,
    Cert.DwOut.Gen.facts,
    Cert.DwOutIdeal.Gen.facts,
    Cert.RefDwOutIdeal.Gen.facts,
    Cert.DwQkv.Gen.facts,
    Cert.DwQkvIdeal.Gen.facts,
    Cert.RefDwQkvIdeal.Gen.facts,
    fun m ρ _ => Cert.Da.Gen.frame m ρ,
    fun m ρ _ => Cert.DaIdeal.Gen.frame m ρ,
    fun m ρ _ => Cert.RefDaIdeal.Gen.frame m ρ,
    fun m ρ _ => Cert.Dh.Gen.frame m ρ,
    fun m ρ _ => Cert.DhIdeal.Gen.frame m ρ,
    fun m ρ _ => Cert.RefDhIdeal.Gen.frame m ρ,
    fun m ρ _ => Cert.Grad.Gen.frame m ρ,
    fun m ρ _ => Cert.GradIdeal.Gen.frame m ρ,
    fun m ρ _ => Cert.RefGradIdeal.Gen.frame m ρ,
    fun m ρ _ => Cert.DwIn.Gen.frame m ρ,
    fun m ρ _ => Cert.DwInIdeal.Gen.frame m ρ,
    fun m ρ _ => Cert.RefDwInIdeal.Gen.frame m ρ,
    fun m ρ _ => Cert.DwOut.Gen.frame m ρ,
    fun m ρ _ => Cert.DwOutIdeal.Gen.frame m ρ,
    fun m ρ _ => Cert.RefDwOutIdeal.Gen.frame m ρ,
    fun m ρ _ => Cert.DwQkv.Gen.frame m ρ,
    fun m ρ _ => Cert.DwQkvIdeal.Gen.frame m ρ,
    fun m ρ _ => Cert.RefDwQkvIdeal.Gen.frame m ρ,
    trivial,
    Cert.algebraic_Da,
    trivial,
    Cert.algebraic_Dh,
    trivial,
    Cert.algebraic_Grad,
    trivial,
    Cert.algebraic_DwIn,
    trivial,
    Cert.algebraic_DwOut,
    trivial,
    Cert.algebraic_DwQkv⟩

end Cert.Proof

end
